-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_d" .f32 0x38638E39#32 ((1 / 18432 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v81_0) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_v81_1) = v5 c
          ∧ r.2.mem ((c.tc : Thread Cert.ReferenceIdeal.nD Cert.ReferenceIdeal.τ).loc Cert.ReferenceIdeal.main_v79) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x3072x18432 : Shape := ⟨3, ![2, 3072, 18432]⟩
abbrev S2x3072 : Shape := ⟨2, ![2, 3072]⟩
abbrev S18432 : Shape := ⟨1, ![18432]⟩
abbrev S_ : Shape := ⟨0, ![]⟩

class Facts : Prop where
  bcast_S_S2x3072 : S_.BroadcastsInDim S2x3072 (![] : Fin 0 → Fin S2x3072.rank)
  reducesTo_S2x3072_S_d0_1 : S2x3072.ReducesTo [0, 1] S_
  h_S_ : 0 < S_.numel
  bcast_S_S18432 : S_.BroadcastsInDim S18432 (![] : Fin 0 → Fin S18432.rank)
  reducesTo_S18432_S_d0 : S18432.ReducesTo [0] S_
  bcast_S_S2x3072x18432 : S_.BroadcastsInDim S2x3072x18432 (![] : Fin 0 → Fin S2x3072x18432.rank)
  reducesTo_S2x3072x18432_S_d0_1_2 : S2x3072x18432.ReducesTo [0, 1, 2] S_

variable [Facts]

def fn_part1 {F : FTy → Type} [FloatOps F] (main_arg5 : FVec F S2x3072x18432 .bf16) (main_arg6 : FVec F S2x3072x18432 .bf16) (main_v13 : IVec S_ 1) (main_v16 : IVec S2x3072x18432 1) : IVec S_ 1 :=
  let main_c_5 : IVec S_ 1 := constantI S_ 1 1#1
  let main_v17 : IVec S_ 1 := (fun x v => Host.reduce IntOp.andi x v reducesTo_S2x3072x18432_S_d0_1_2 h_S_) main_v16 main_c_5
  let main_v18 : IVec S_ 1 := andi main_v13 main_v17
  let main_v19 : FVec F S2x3072x18432 .bf16 := Host.absf main_arg5
  let main_cst_6 : FVec F S_ .bf16 := constant S_ .bf16 0x7F80#16
  let main_v20 : FVec F S2x3072x18432 .bf16 := broadcastInDim S2x3072x18432 ![] bcast_S_S2x3072x18432 main_cst_6
  let main_v21 : IVec S2x3072x18432 1 := cmpf .olt main_v19 main_v20
  let main_c_7 : IVec S_ 1 := constantI S_ 1 1#1
  let main_v22 : IVec S_ 1 := (fun x v => Host.reduce IntOp.andi x v reducesTo_S2x3072x18432_S_d0_1_2 h_S_) main_v21 main_c_7
  let main_v23 : IVec S_ 1 := andi main_v18 main_v22
  let main_v24 : FVec F S2x3072x18432 .bf16 := Host.absf main_arg6
  let main_cst_8 : FVec F S_ .bf16 := constant S_ .bf16 0x7F80#16
  let main_v25 : FVec F S2x3072x18432 .bf16 := broadcastInDim S2x3072x18432 ![] bcast_S_S2x3072x18432 main_cst_8
  let main_v26 : IVec S2x3072x18432 1 := cmpf .olt main_v24 main_v25
  let main_c_9 : IVec S_ 1 := constantI S_ 1 1#1
  let main_v27 : IVec S_ 1 := (fun x v => Host.reduce IntOp.andi x v reducesTo_S2x3072x18432_S_d0_1_2 h_S_) main_v26 main_c_9
  let main_v28 : IVec S_ 1 := andi main_v23 main_v27
  main_v28

def fn {F : FTy → Type} [FloatOps F] (main_arg0 : FVec F S2x3072x18432 .bf16) (main_arg1 : FVec F S2x3072 .f32) (main_arg2 : FVec F S18432 .f32) (main_arg3 : FVec F S2x3072x18432 .bf16) (main_arg4 : FVec F S2x3072x18432 .bf16) (main_arg5 : FVec F S2x3072x18432 .bf16) (main_arg6 : FVec F S2x3072x18432 .bf16) : IVec S_ 1 :=
  let main_v0 : FVec F S2x3072 .f32 := Host.absf main_arg1
  let main_cst : FVec F S_ .f32 := constant S_ .f32 0x7F800000#32
  let main_v1 : FVec F S2x3072 .f32 := broadcastInDim S2x3072 ![] bcast_S_S2x3072 main_cst
  let main_v2 : IVec S2x3072 1 := cmpf .olt main_v0 main_v1
  let main_c : IVec S_ 1 := constantI S_ 1 1#1
  let main_v3 : IVec S_ 1 := (fun x v => Host.reduce IntOp.andi x v reducesTo_S2x3072_S_d0_1 h_S_) main_v2 main_c
  let main_v4 : FVec F S18432 .f32 := Host.absf main_arg2
  let main_cst_0 : FVec F S_ .f32 := constant S_ .f32 0x7F800000#32
  let main_v5 : FVec F S18432 .f32 := broadcastInDim S18432 ![] bcast_S_S18432 main_cst_0
  let main_v6 : IVec S18432 1 := cmpf .olt main_v4 main_v5
  let main_c_1 : IVec S_ 1 := constantI S_ 1 1#1
  let main_v7 : IVec S_ 1 := (fun x v => Host.reduce IntOp.andi x v reducesTo_S18432_S_d0 h_S_) main_v6 main_c_1
  let main_v8 : IVec S_ 1 := andi main_v3 main_v7
  let main_v9 : FVec F S2x3072x18432 .bf16 := Host.absf main_arg0
  let main_cst_2 : FVec F S_ .bf16 := constant S_ .bf16 0x7F80#16
  let main_v10 : FVec F S2x3072x18432 .bf16 := broadcastInDim S2x3072x18432 ![] bcast_S_S2x3072x18432 main_cst_2
  let main_v11 : IVec S2x3072x18432 1 := cmpf .olt main_v9 main_v10
  let main_c_3 : IVec S_ 1 := constantI S_ 1 1#1
  let main_v12 : IVec S_ 1 := (fun x v => Host.reduce IntOp.andi x v reducesTo_S2x3072x18432_S_d0_1_2 h_S_) main_v11 main_c_3
  let main_v13 : IVec S_ 1 := andi main_v8 main_v12
  let main_v14 : FVec F S2x3072x18432 .bf16 := Host.absf main_arg4
  let main_cst_4 : FVec F S_ .bf16 := constant S_ .bf16 0x7F80#16
  let main_v15 : FVec F S2x3072x18432 .bf16 := broadcastInDim S2x3072x18432 ![] bcast_S_S2x3072x18432 main_cst_4
  let main_v16 : IVec S2x3072x18432 1 := cmpf .olt main_v14 main_v15
  fn_part1 (F := F) main_arg5 main_arg6 main_v13 main_v16
-- ==== Kernel.lean ====
abbrev S2x3072x18432 : Shape := ⟨3, ![2, 3072, 18432]⟩
abbrev S2x3072 : Shape := ⟨2, ![2, 3072]⟩
abbrev S18432 : Shape := ⟨1, ![18432]⟩
abbrev S6144x18432 : Shape := ⟨2, ![6144, 18432]⟩
abbrev S1x18432 : Shape := ⟨2, ![1, 18432]⟩
abbrev S2x24x18432 : Shape := ⟨3, ![2, 24, 18432]⟩
abbrev S6144x144 : Shape := ⟨2, ![6144, 144]⟩
abbrev S18432x6144 : Shape := ⟨2, ![18432, 6144]⟩
abbrev S18432x48 : Shape := ⟨2, ![18432, 48]⟩
abbrev S128x2304 : Shape := ⟨2, ![128, 2304]⟩
abbrev S1x8x18432 : Shape := ⟨3, ![1, 8, 18432]⟩
abbrev S128x144 : Shape := ⟨2, ![128, 144]⟩
abbrev S2304x128 : Shape := ⟨2, ![2304, 128]⟩
abbrev S2304x48 : Shape := ⟨2, ![2304, 48]⟩
abbrev S8x128x2304 : Shape := ⟨3, ![8, 128, 2304]⟩
abbrev S128x128 : Shape := ⟨2, ![128, 128]⟩
abbrev S48x18432 : Shape := ⟨2, ![48, 18432]⟩
abbrev S8x128x128 : Shape := ⟨3, ![8, 128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩
abbrev S8x128 : Shape := ⟨2, ![8, 128]⟩
abbrev S1x8x128 : Shape := ⟨3, ![1, 8, 128]⟩
abbrev S1x128x18 : Shape := ⟨3, ![1, 128, 18]⟩
abbrev S128x18 : Shape := ⟨2, ![128, 18]⟩
abbrev S48x2304 : Shape := ⟨2, ![48, 2304]⟩

abbrev nBuf : Space → Nat
  | .hbm => 20
  | .vmem => 34
  | .smem => 0
  | _ => 0

abbrev bufTy : (tb : Table) → Fin (tcTables nBuf tb) → BufTy
  | .hbm, ⟨0, _⟩ => ⟨S2x3072x18432, .bf16⟩
  | .hbm, ⟨1, _⟩ => ⟨S2x3072, .f32⟩
  | .hbm, ⟨2, _⟩ => ⟨S18432, .f32⟩
  | .hbm, ⟨3, _⟩ => ⟨S2x3072x18432, .bf16⟩
  | .hbm, ⟨4, _⟩ => ⟨S2x3072x18432, .bf16⟩
  | .hbm, ⟨5, _⟩ => ⟨S2x3072x18432, .bf16⟩
  | .hbm, ⟨6, _⟩ => ⟨S2x3072x18432, .bf16⟩
  | .hbm, ⟨7, _⟩ => ⟨S6144x18432, .bf16⟩
  | .hbm, ⟨8, _⟩ => ⟨S6144x18432, .bf16⟩
  | .hbm, ⟨9, _⟩ => ⟨S6144x18432, .bf16⟩
  | .hbm, ⟨10, _⟩ => ⟨S6144x18432, .bf16⟩
  | .hbm, ⟨11, _⟩ => ⟨S6144x18432, .bf16⟩
  | .hbm, ⟨12, _⟩ => ⟨S1x18432, .f32⟩
  | .hbm, ⟨13, _⟩ => ⟨S6144x18432, .bf16⟩
  | .hbm, ⟨14, _⟩ => ⟨S1x18432, .f32⟩
  | .hbm, ⟨15, _⟩ => ⟨S2x24x18432, .f32⟩
  | .hbm, ⟨16, _⟩ => ⟨S6144x18432, .fp8e4m3⟩
  | .hbm, ⟨17, _⟩ => ⟨S6144x144, .f32⟩
  | .hbm, ⟨18, _⟩ => ⟨S18432x6144, .fp8e4m3⟩
  | .hbm, ⟨19, _⟩ => ⟨S18432x48, .f32⟩
  | .local _ .vmem, ⟨0, _⟩ => ⟨S128x2304, .bf16⟩
  | .local _ .vmem, ⟨1, _⟩ => ⟨S128x2304, .bf16⟩
  | .local _ .vmem, ⟨2, _⟩ => ⟨S128x2304, .bf16⟩
  | .local _ .vmem, ⟨3, _⟩ => ⟨S128x2304, .bf16⟩
  | .local _ .vmem, ⟨4, _⟩ => ⟨S128x2304, .bf16⟩
  | .local _ .vmem, ⟨5, _⟩ => ⟨S128x2304, .bf16⟩
  | .local _ .vmem, ⟨6, _⟩ => ⟨S128x2304, .bf16⟩
  | .local _ .vmem, ⟨7, _⟩ => ⟨S128x2304, .bf16⟩
  | .local _ .vmem, ⟨8, _⟩ => ⟨S128x2304, .bf16⟩
  | .local _ .vmem, ⟨9, _⟩ => ⟨S128x2304, .bf16⟩
  | .local _ .vmem, ⟨10, _⟩ => ⟨S1x18432, .f32⟩
  | .local _ .vmem, ⟨11, _⟩ => ⟨S2x3072, .f32⟩
  | .local _ .vmem, ⟨12, _⟩ => ⟨S128x2304, .bf16⟩
  | .local _ .vmem, ⟨13, _⟩ => ⟨S128x2304, .bf16⟩
  | .local _ .vmem, ⟨14, _⟩ => ⟨S1x18432, .f32⟩
  | .local _ .vmem, ⟨15, _⟩ => ⟨S1x8x18432, .f32⟩
  | .local _ .vmem, ⟨16, _⟩ => ⟨S1x8x18432, .f32⟩
  | .local _ .vmem, ⟨17, _⟩ => ⟨S128x2304, .fp8e4m3⟩
  | .local _ .vmem, ⟨18, _⟩ => ⟨S128x2304, .fp8e4m3⟩
  | .local _ .vmem, ⟨19, _⟩ => ⟨S128x144, .f32⟩
  | .local _ .vmem, ⟨20, _⟩ => ⟨S128x144, .f32⟩
  | .local _ .vmem, ⟨21, _⟩ => ⟨S2304x128, .fp8e4m3⟩
  | .local _ .vmem, ⟨22, _⟩ => ⟨S2304x128, .fp8e4m3⟩
  | .local _ .vmem, ⟨23, _⟩ => ⟨S2304x48, .f32⟩
  | .local _ .vmem, ⟨24, _⟩ => ⟨S2304x48, .f32⟩
  | .local _ .vmem, ⟨25, _⟩ => ⟨S8x128x2304, .f32⟩
  | .local _ .vmem, ⟨26, _⟩ => ⟨S8x128x2304, .bf16⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x2304, .f32⟩
  | .local _ .vmem, ⟨31, _⟩ => ⟨S128x128, .f32⟩
  | .local _ .vmem, ⟨32, _⟩ => ⟨S48x18432, .f32⟩
  | .local _ .vmem, ⟨33, _⟩ => ⟨S8x128x128, .f32⟩
  | _, _ => ⟨S2x3072x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![49, 8], ![false, false]⟩

def k0_cond2 (i : grid0.Coords) : BitVec 1 :=
  let arg0 : BitVec 32 := BitVec.ofNat 32 (i 0).val
  let c48_i32 : BitVec 32 := 48#32
  let v5 : BitVec 1 := Scalar.cmpi .slt arg0 c48_i32
  let arg1 : BitVec 32 := BitVec.ofNat 32 (i 1).val
  let c0_i32_2 : BitVec 32 := 0#32
  let v6 : BitVec 1 := Scalar.cmpi .eq arg1 c0_i32_2
  let v7 : BitVec 1 := Scalar.andi v5 v6
  let v8 : BitVec 32 := Scalar.extui v7
  let c0_i32_3 : BitVec 32 := 0#32
  let v9 : BitVec 1 := Scalar.cmpi .ne v8 c0_i32_3
  v9

def k0_mult1 (i : grid0.Coords) : BitVec 32 :=
  let arg0 : BitVec 32 := BitVec.ofNat 32 (i 0).val
  let c24_i32 : BitVec 32 := 24#32
  let c0_i32_15 : BitVec 32 := 0#32
  let v29 : BitVec 1 := Scalar.cmpi .eq c24_i32 c0_i32_15
  let c1_i32 : BitVec 32 := 1#32
  let v30 : BitVec 32 := Scalar.select v29 c1_i32 c24_i32
  let v31 : BitVec 32 := Scalar.remsi arg0 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c128_i32 : BitVec 32 := 128#32
  let v39 : BitVec 32 := Scalar.muli v38 c128_i32
  v39
def k0_off1 (i : grid0.Coords) : Fin 2 → Nat :=
  let c0 : Index := 0#32
  let arg0 : BitVec 32 := BitVec.ofNat 32 (i 0).val
  let c24_i32 : BitVec 32 := 24#32
  let c0_i32_15 : BitVec 32 := 0#32
  let v29 : BitVec 1 := Scalar.cmpi .eq c24_i32 c0_i32_15
  let c1_i32 : BitVec 32 := 1#32
  let v30 : BitVec 32 := Scalar.select v29 c1_i32 c24_i32
  let v31 : BitVec 32 := Scalar.remsi arg0 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c128_i32 : BitVec 32 := 128#32
  let v39 : BitVec 32 := Scalar.muli v38 c128_i32
  let v40 : BitVec 32 := v39
  let v41 : Index := Scalar.indexCast v40
  ![0, v41.toNat]
def k0_off2 (i : grid0.Coords) : Fin 2 → Nat :=
  let c1 : Index := 1#32
  let arg0 : BitVec 32 := BitVec.ofNat 32 (i 0).val
  let c24_i32 : BitVec 32 := 24#32
  let c0_i32_15 : BitVec 32 := 0#32
  let v29 : BitVec 1 := Scalar.cmpi .eq c24_i32 c0_i32_15
  let c1_i32 : BitVec 32 := 1#32
  let v30 : BitVec 32 := Scalar.select v29 c1_i32 c24_i32
  let v31 : BitVec 32 := Scalar.remsi arg0 v30
  let c0_i32_17 : BitVec 32 := 0#32
  let v33 : BitVec 1 := Scalar.cmpi .slt v31 c0_i32_17
  let c0_i32_18 : BitVec 32 := 0#32
  let v34 : BitVec 1 := Scalar.cmpi .slt v30 c0_i32_18
  let v35 : BitVec 1 := Scalar.xori v33 v34
  let c0_i32_16 : BitVec 32 := 0#32
  let v32 : BitVec 1 := Scalar.cmpi .ne v31 c0_i32_16
  let v36 : BitVec 1 := Scalar.andi v35 v32
  let v37 : BitVec 32 := Scalar.addi v31 v30
  let v38 : BitVec 32 := Scalar.select v36 v37 v31
  let c128_i32 : BitVec 32 := 128#32
  let v39 : BitVec 32 := Scalar.muli v38 c128_i32
  let v40 : BitVec 32 := v39
  let v61 : Index := Scalar.indexCast v40
  ![1, v61.toNat]
def k0_cond3 (i : grid0.Coords) : BitVec 1 :=
  let arg0 : BitVec 32 := BitVec.ofNat 32 (i 0).val
  let c0_i32_4 : BitVec 32 := 0#32
  let v10 : BitVec 1 := Scalar.cmpi .sgt arg0 c0_i32_4
  let v11 : BitVec 32 := Scalar.extui v10
  let c0_i32_5 : BitVec 32 := 0#32
  let v12 : BitVec 1 := Scalar.cmpi .ne v11 c0_i32_5
  v12

def k0_off3 (i : grid0.Coords) : Fin 3 → Nat :=
  let arg1 : BitVec 32 := BitVec.ofNat 32 (i 1).val
  let v30 : Index := Scalar.indexCast arg1
  let c0_16 : Index := 0#32
  let c0_17 : Index := 0#32
  ![v30.toNat, 0, 0]
def k0_mult2 (i : grid0.Coords) : BitVec 32 :=
  let arg1 : BitVec 32 := BitVec.ofNat 32 (i 1).val
  let c2304_i32 : BitVec 32 := 2304#32
  let v33 : BitVec 32 := Scalar.muli arg1 c2304_i32
  let c0_i32_18 : BitVec 32 := 0#32
  let v34 : BitVec 32 := Scalar.addi v33 c0_i32_18
  v34
def k0_off4 (i : grid0.Coords) (c0_i32_18 : BitVec 32) : Fin 2 → Nat :=
  let c0_19 : Index := 0#32
  let arg1 : BitVec 32 := BitVec.ofNat 32 (i 1).val
  let c2304_i32 : BitVec 32 := 2304#32
  let v33 : BitVec 32 := Scalar.muli arg1 c2304_i32
  let v34 : BitVec 32 := Scalar.addi v33 c0_i32_18
  let v35 : BitVec 32 := v34
  let v36 : Index := Scalar.indexCast v35
  ![0, v36.toNat]
def k0_mult3 (i : grid0.Coords) : BitVec 32 :=
  let arg1 : BitVec 32 := BitVec.ofNat 32 (i 1).val
  let c2304_i32_35 : BitVec 32 := 2304#32
  let v118 : BitVec 32 := Scalar.muli arg1 c2304_i32_35
  let c0_i32_36 : BitVec 32 := 0#32
  let v119 : BitVec 32 := Scalar.addi v118 c0_i32_36
  v119
def k0_mult4 (i : grid0.Coords) : BitVec 32 :=
  let arg0 : BitVec 32 := BitVec.ofNat 32 (i 0).val
  let c1_i32 : BitVec 32 := 1#32
  let v117 : BitVec 32 := Scalar.subi arg0 c1_i32
  let c0_i32_37 : BitVec 32 := 0#32
  let v122 : BitVec 1 := Scalar.cmpi .sgt v117 c0_i32_37
  let v123 : BitVec 32 := Scalar.extui v122
  let c0_i32_38 : BitVec 32 := 0#32
  let v124 : BitVec 1 := Scalar.cmpi .slt v117 c0_i32_38
  let v125 : BitVec 32 := Scalar.extui v124
  let v126 : BitVec 32 := Scalar.subi v123 v125
  let c8_i32 : BitVec 32 := 8#32
  let c0_i32_39 : BitVec 32 := 0#32
  let v127 : BitVec 1 := Scalar.cmpi .sgt c8_i32 c0_i32_39
  let v128 : BitVec 32 := Scalar.extui v127
  let c0_i32_40 : BitVec 32 := 0#32
  let v129 : BitVec 1 := Scalar.cmpi .slt c8_i32 c0_i32_40
  let v130 : BitVec 32 := Scalar.extui v129
  let v131 : BitVec 32 := Scalar.subi v128 v130
  let v132 : BitVec 1 := Scalar.cmpi .ne v126 v131
  let v133 : BitVec 32 := Scalar.remsi v117 c8_i32
  let c0_i32_41 : BitVec 32 := 0#32
  let v134 : BitVec 1 := Scalar.cmpi .ne v133 c0_i32_41
  let v135 : BitVec 1 := Scalar.andi v132 v134
  let v121 : BitVec 32 := Scalar.divsi v117 c8_i32
  let c1_i32_42 : BitVec 32 := 1#32
  let v136 : BitVec 32 := Scalar.subi v121 c1_i32_42
  let v137 : BitVec 32 := Scalar.select v135 v136 v121
  let c8_i32_43 : BitVec 32 := 8#32
  let v138 : BitVec 32 := Scalar.muli v137 c8_i32_43
  v138
def k0_off5 (i : grid0.Coords) (c0_i32_36 : BitVec 32) : Fin 2 → Nat :=
  let arg0 : BitVec 32 := BitVec.ofNat 32 (i 0).val
  let c1_i32 : BitVec 32 := 1#32
  let v117 : BitVec 32 := Scalar.subi arg0 c1_i32
  let c0_i32_37 : BitVec 32 := 0#32
  let v122 : BitVec 1 := Scalar.cmpi .sgt v117 c0_i32_37
  let v123 : BitVec 32 := Scalar.extui v122
  let c0_i32_38 : BitVec 32 := 0#32
  let v124 : BitVec 1 := Scalar.cmpi .slt v117 c0_i32_38
  let v125 : BitVec 32 := Scalar.extui v124
  let v126 : BitVec 32 := Scalar.subi v123 v125
  let c8_i32 : BitVec 32 := 8#32
  let c0_i32_39 : BitVec 32 := 0#32
  let v127 : BitVec 1 := Scalar.cmpi .sgt c8_i32 c0_i32_39
  let v128 : BitVec 32 := Scalar.extui v127
  let c0_i32_40 : BitVec 32 := 0#32
  let v129 : BitVec 1 := Scalar.cmpi .slt c8_i32 c0_i32_40
  let v130 : BitVec 32 := Scalar.extui v129
  let v131 : BitVec 32 := Scalar.subi v128 v130
  let v132 : BitVec 1 := Scalar.cmpi .ne v126 v131
  let v133 : BitVec 32 := Scalar.remsi v117 c8_i32
  let c0_i32_41 : BitVec 32 := 0#32
  let v134 : BitVec 1 := Scalar.cmpi .ne v133 c0_i32_41
  let v135 : BitVec 1 := Scalar.andi v132 v134
  let v121 : BitVec 32 := Scalar.divsi v117 c8_i32
  let c1_i32_42 : BitVec 32 := 1#32
  let v136 : BitVec 32 := Scalar.subi v121 c1_i32_42
  let v137 : BitVec 32 := Scalar.select v135 v136 v121
  let c8_i32_43 : BitVec 32 := 8#32
  let v138 : BitVec 32 := Scalar.muli v137 c8_i32_43
  let v139 : BitVec 32 := v138
  let v155 : Index := Scalar.indexCast v139
  let arg1 : BitVec 32 := BitVec.ofNat 32 (i 1).val
  let c2304_i32_35 : BitVec 32 := 2304#32
  let v118 : BitVec 32 := Scalar.muli arg1 c2304_i32_35
  let v119 : BitVec 32 := Scalar.addi v118 c0_i32_36
  let v120 : BitVec 32 := v119
  let v156 : Index := Scalar.indexCast v120
  ![v155.toNat, v156.toNat]
def k0_off6 (i : grid0.Coords) : Fin 3 → Nat :=
  let arg1 : BitVec 32 := BitVec.ofNat 32 (i 1).val
  let v172 : Index := Scalar.indexCast arg1
  let c0_54 : Index := 0#32
  let c128 : Index := 128#32
  ![v172.toNat, 0, 128]
def k0_mult5 (i : grid0.Coords) : BitVec 32 :=
  let arg1 : BitVec 32 := BitVec.ofNat 32 (i 1).val
  let c2304_i32_55 : BitVec 32 := 2304#32
  let v175 : BitVec 32 := Scalar.muli arg1 c2304_i32_55
  let c128_i32 : BitVec 32 := 128#32
  let v176 : BitVec 32 := Scalar.addi v175 c128_i32
  v176
def k0_mult6 (i : grid0.Coords) : BitVec 32 :=
  let arg1 : BitVec 32 := BitVec.ofNat 32 (i 1).val
  let c2304_i32_83 : BitVec 32 := 2304#32
  let v260 : BitVec 32 := Scalar.muli arg1 c2304_i32_83
  let c128_i32_84 : BitVec 32 := 128#32
  let v261 : BitVec 32 := Scalar.addi v260 c128_i32_84
  v261
def k0_mult7 (i : grid0.Coords) : BitVec 32 :=
  let arg0 : BitVec 32 := BitVec.ofNat 32 (i 0).val
  let c1_i32_82 : BitVec 32 := 1#32
  let v259 : BitVec 32 := Scalar.subi arg0 c1_i32_82
  let c0_i32_86 : BitVec 32 := 0#32
  let v264 : BitVec 1 := Scalar.cmpi .sgt v259 c0_i32_86
  let v265 : BitVec 32 := Scalar.extui v264
  let c0_i32_87 : BitVec 32 := 0#32
  let v266 : BitVec 1 := Scalar.cmpi .slt v259 c0_i32_87
  let v267 : BitVec 32 := Scalar.extui v266
  let v268 : BitVec 32 := Scalar.subi v265 v267
  let c8_i32_85 : BitVec 32 := 8#32
  let c0_i32_88 : BitVec 32 := 0#32
  let v269 : BitVec 1 := Scalar.cmpi .sgt c8_i32_85 c0_i32_88
  let v270 : BitVec 32 := Scalar.extui v269
  let c0_i32_89 : BitVec 32 := 0#32
  let v271 : BitVec 1 := Scalar.cmpi .slt c8_i32_85 c0_i32_89
  let v272 : BitVec 32 := Scalar.extui v271
  let v273 : BitVec 32 := Scalar.subi v270 v272
  let v274 : BitVec 1 := Scalar.cmpi .ne v268 v273
  let v275 : BitVec 32 := Scalar.remsi v259 c8_i32_85
  let c0_i32_90 : BitVec 32 := 0#32
  let v276 : BitVec 1 := Scalar.cmpi .ne v275 c0_i32_90
  let v277 : BitVec 1 := Scalar.andi v274 v276
  let v263 : BitVec 32 := Scalar.divsi v259 c8_i32_85
  let c1_i32_91 : BitVec 32 := 1#32
  let v278 : BitVec 32 := Scalar.subi v263 c1_i32_91
  let v279 : BitVec 32 := Scalar.select v277 v278 v263
  let c8_i32_92 : BitVec 32 := 8#32
  let v280 : BitVec 32 := Scalar.muli v279 c8_i32_92
  v280
def k0_off7 (i : grid0.Coords) : Fin 3 → Nat :=
  let arg1 : BitVec 32 := BitVec.ofNat 32 (i 1).val
  let v314 : Index := Scalar.indexCast arg1
  let c0_103 : Index := 0#32
  let c256 : Index := 256#32
  ![v314.toNat, 0, 256]
def k0_mult8 (i : grid0.Coords) : BitVec 32 :=
  let arg1 : BitVec 32 := BitVec.ofNat 32 (i 1).val
  let c2304_i32_104 : BitVec 32 := 2304#32
  let v317 : BitVec 32 := Scalar.muli arg1 c2304_i32_104
  let c256_i32 : BitVec 32 := 256#32
  let v318 : BitVec 32 := Scalar.addi v317 c256_i32
  v318
def k0_mult9 (i : grid0.Coords) : BitVec 32 :=
  let arg1 : BitVec 32 := BitVec.ofNat 32 (i 1).val
  let c2304_i32_132 : BitVec 32 := 2304#32
  let v402 : BitVec 32 := Scalar.muli arg1 c2304_i32_132
  let c256_i32_133 : BitVec 32 := 256#32
  let v403 : BitVec 32 := Scalar.addi v402 c256_i32_133
  v403
def k0_mult10 (i : grid0.Coords) : BitVec 32 :=
  let arg0 : BitVec 32 := BitVec.ofNat 32 (i 0).val
  let c1_i32_131 : BitVec 32 := 1#32
  let v401 : BitVec 32 := Scalar.subi arg0 c1_i32_131
  let c0_i32_135 : BitVec 32 := 0#32
  let v406 : BitVec 1 := Scalar.cmpi .sgt v401 c0_i32_135
  let v407 : BitVec 32 := Scalar.extui v406
  let c0_i32_136 : BitVec 32 := 0#32
  let v408 : BitVec 1 := Scalar.cmpi .slt v401 c0_i32_136
  let v409 : BitVec 32 := Scalar.extui v408
  let v410 : BitVec 32 := Scalar.subi v407 v409
  let c8_i32_134 : BitVec 32 := 8#32
  let c0_i32_137 : BitVec 32 := 0#32
  let v411 : BitVec 1 := Scalar.cmpi .sgt c8_i32_134 c0_i32_137
  let v412 : BitVec 32 := Scalar.extui v411
  let c0_i32_138 : BitVec 32 := 0#32
  let v413 : BitVec 1 := Scalar.cmpi .slt c8_i32_134 c0_i32_138
  let v414 : BitVec 32 := Scalar.extui v413
  let v415 : BitVec 32 := Scalar.subi v412 v414
  let v416 : BitVec 1 := Scalar.cmpi .ne v410 v415
  let v417 : BitVec 32 := Scalar.remsi v401 c8_i32_134
  let c0_i32_139 : BitVec 32 := 0#32
  let v418 : BitVec 1 := Scalar.cmpi .ne v417 c0_i32_139
  let v419 : BitVec 1 := Scalar.andi v416 v418
  let v405 : BitVec 32 := Scalar.divsi v401 c8_i32_134
  let c1_i32_140 : BitVec 32 := 1#32
  let v420 : BitVec 32 := Scalar.subi v405 c1_i32_140
  let v421 : BitVec 32 := Scalar.select v419 v420 v405
  let c8_i32_141 : BitVec 32 := 8#32
  let v422 : BitVec 32 := Scalar.muli v421 c8_i32_141
  v422
def k0_off8 (i : grid0.Coords) : Fin 3 → Nat :=
  let arg1 : BitVec 32 := BitVec.ofNat 32 (i 1).val
  let v456 : Index := Scalar.indexCast arg1
  let c0_152 : Index := 0#32
  let c384 : Index := 384#32
  ![v456.toNat, 0, 384]
def k0_mult11 (i : grid0.Coords) : BitVec 32 :=
  let arg1 : BitVec 32 := BitVec.ofNat 32 (i 1).val
  let c2304_i32_153 : BitVec 32 := 2304#32
  let v459 : BitVec 32 := Scalar.muli arg1 c2304_i32_153
  let c384_i32 : BitVec 32 := 384#32
  let v460 : BitVec 32 := Scalar.addi v459 c384_i32
  v460
def k0_mult12 (i : grid0.Coords) : BitVec 32 :=
  let arg1 : BitVec 32 := BitVec.ofNat 32 (i 1).val
  let c2304_i32_181 : BitVec 32 := 2304#32
  let v544 : BitVec 32 := Scalar.muli arg1 c2304_i32_181
  let c384_i32_182 : BitVec 32 := 384#32
  let v545 : BitVec 32 := Scalar.addi v544 c384_i32_182
  v545
def k0_mult13 (i : grid0.Coords) : BitVec 32 :=
  let arg0 : BitVec 32 := BitVec.ofNat 32 (i 0).val
  let c1_i32_180 : BitVec 32 := 1#32
  let v543 : BitVec 32 := Scalar.subi arg0 c1_i32_180
  let c0_i32_184 : BitVec 32 := 0#32
  let v548 : BitVec 1 := Scalar.cmpi .sgt v543 c0_i32_184
  let v549 : BitVec 32 := Scalar.extui v548
  let c0_i32_185 : BitVec 32 := 0#32
  let v550 : BitVec 1 := Scalar.cmpi .slt v543 c0_i32_185
  let v551 : BitVec 32 := Scalar.extui v550
  let v552 : BitVec 32 := Scalar.subi v549 v551
  let c8_i32_183 : BitVec 32 := 8#32
  let c0_i32_186 : BitVec 32 := 0#32
  let v553 : BitVec 1 := Scalar.cmpi .sgt c8_i32_183 c0_i32_186
  let v554 : BitVec 32 := Scalar.extui v553
  let c0_i32_187 : BitVec 32 := 0#32
  let v555 : BitVec 1 := Scalar.cmpi .slt c8_i32_183 c0_i32_187
  let v556 : BitVec 32 := Scalar.extui v555
  let v557 : BitVec 32 := Scalar.subi v554 v556
  let v558 : BitVec 1 := Scalar.cmpi .ne v552 v557
  let v559 : BitVec 32 := Scalar.remsi v543 c8_i32_183
  let c0_i32_188 : BitVec 32 := 0#32
  let v560 : BitVec 1 := Scalar.cmpi .ne v559 c0_i32_188
  let v561 : BitVec 1 := Scalar.andi v558 v560
  let v547 : BitVec 32 := Scalar.divsi v543 c8_i32_183
  let c1_i32_189 : BitVec 32 := 1#32
  let v562 : BitVec 32 := Scalar.subi v547 c1_i32_189
  let v563 : BitVec 32 := Scalar.select v561 v562 v547
  let c8_i32_190 : BitVec 32 := 8#32
  let v564 : BitVec 32 := Scalar.muli v563 c8_i32_190
  v564
def k0_off9 (i : grid0.Coords) : Fin 3 → Nat :=
  let arg1 : BitVec 32 := BitVec.ofNat 32 (i 1).val
  let v598 : Index := Scalar.indexCast arg1
  let c0_201 : Index := 0#32
  let c512 : Index := 512#32
  ![v598.toNat, 0, 512]
def k0_mult14 (i : grid0.Coords) : BitVec 32 :=
  let arg1 : BitVec 32 := BitVec.ofNat 32 (i 1).val
  let c2304_i32_202 : BitVec 32 := 2304#32
  let v601 : BitVec 32 := Scalar.muli arg1 c2304_i32_202
  let c512_i32 : BitVec 32 := 512#32
  let v602 : BitVec 32 := Scalar.addi v601 c512_i32
  v602
def k0_mult15 (i : grid0.Coords) : BitVec 32 :=
  let arg1 : BitVec 32 := BitVec.ofNat 32 (i 1).val
  let c2304_i32_230 : BitVec 32 := 2304#32
  let v686 : BitVec 32 := Scalar.muli arg1 c2304_i32_230
  let c512_i32_231 : BitVec 32 := 512#32
  let v687 : BitVec 32 := Scalar.addi v686 c512_i32_231
  v687
def k0_mult16 (i : grid0.Coords) : BitVec 32 :=
  let arg0 : BitVec 32 := BitVec.ofNat 32 (i 0).val
  let c1_i32_229 : BitVec 32 := 1#32
  let v685 : BitVec 32 := Scalar.subi arg0 c1_i32_229
  let c0_i32_233 : BitVec 32 := 0#32
  let v690 : BitVec 1 := Scalar.cmpi .sgt v685 c0_i32_233
  let v691 : BitVec 32 := Scalar.extui v690
  let c0_i32_234 : BitVec 32 := 0#32
  let v692 : BitVec 1 := Scalar.cmpi .slt v685 c0_i32_234
  let v693 : BitVec 32 := Scalar.extui v692
  let v694 : BitVec 32 := Scalar.subi v691 v693
  let c8_i32_232 : BitVec 32 := 8#32
  let c0_i32_235 : BitVec 32 := 0#32
  let v695 : BitVec 1 := Scalar.cmpi .sgt c8_i32_232 c0_i32_235
  let v696 : BitVec 32 := Scalar.extui v695
  let c0_i32_236 : BitVec 32 := 0#32
  let v697 : BitVec 1 := Scalar.cmpi .slt c8_i32_232 c0_i32_236
  let v698 : BitVec 32 := Scalar.extui v697
  let v699 : BitVec 32 := Scalar.subi v696 v698
  let v700 : BitVec 1 := Scalar.cmpi .ne v694 v699
  let v701 : BitVec 32 := Scalar.remsi v685 c8_i32_232
  let c0_i32_237 : BitVec 32 := 0#32
  let v702 : BitVec 1 := Scalar.cmpi .ne v701 c0_i32_237
  let v703 : BitVec 1 := Scalar.andi v700 v702
  let v689 : BitVec 32 := Scalar.divsi v685 c8_i32_232
  let c1_i32_238 : BitVec 32 := 1#32
  let v704 : BitVec 32 := Scalar.subi v689 c1_i32_238
  let v705 : BitVec 32 := Scalar.select v703 v704 v689
  let c8_i32_239 : BitVec 32 := 8#32
  let v706 : BitVec 32 := Scalar.muli v705 c8_i32_239
  v706
def k0_off10 (i : grid0.Coords) : Fin 3 → Nat :=
  let arg1 : BitVec 32 := BitVec.ofNat 32 (i 1).val
  let v740 : Index := Scalar.indexCast arg1
  let c0_250 : Index := 0#32
  let c640 : Index := 640#32
  ![v740.toNat, 0, 640]
def k0_mult17 (i : grid0.Coords) : BitVec 32 :=
  let arg1 : BitVec 32 := BitVec.ofNat 32 (i 1).val
  let c2304_i32_251 : BitVec 32 := 2304#32
  let v743 : BitVec 32 := Scalar.muli arg1 c2304_i32_251
  let c640_i32 : BitVec 32 := 640#32
  let v744 : BitVec 32 := Scalar.addi v743 c640_i32
  v744
def k0_mult18 (i : grid0.Coords) : BitVec 32 :=
  let arg1 : BitVec 32 := BitVec.ofNat 32 (i 1).val
  let c2304_i32_279 : BitVec 32 := 2304#32
  let v828 : BitVec 32 := Scalar.muli arg1 c2304_i32_279
  let c640_i32_280 : BitVec 32 := 640#32
  let v829 : BitVec 32 := Scalar.addi v828 c640_i32_280
  v829
def k0_mult19 (i : grid0.Coords) : BitVec 32 :=
  let arg0 : BitVec 32 := BitVec.ofNat 32 (i 0).val
  let c1_i32_278 : BitVec 32 := 1#32
  let v827 : BitVec 32 := Scalar.subi arg0 c1_i32_278
  let c0_i32_282 : BitVec 32 := 0#32
  let v832 : BitVec 1 := Scalar.cmpi .sgt v827 c0_i32_282
  let v833 : BitVec 32 := Scalar.extui v832
  let c0_i32_283 : BitVec 32 := 0#32
  let v834 : BitVec 1 := Scalar.cmpi .slt v827 c0_i32_283
  let v835 : BitVec 32 := Scalar.extui v834
  let v836 : BitVec 32 := Scalar.subi v833 v835
  let c8_i32_281 : BitVec 32 := 8#32
  let c0_i32_284 : BitVec 32 := 0#32
  let v837 : BitVec 1 := Scalar.cmpi .sgt c8_i32_281 c0_i32_284
  let v838 : BitVec 32 := Scalar.extui v837
  let c0_i32_285 : BitVec 32 := 0#32
  let v839 : BitVec 1 := Scalar.cmpi .slt c8_i32_281 c0_i32_285
  let v840 : BitVec 32 := Scalar.extui v839
  let v841 : BitVec 32 := Scalar.subi v838 v840
  let v842 : BitVec 1 := Scalar.cmpi .ne v836 v841
  let v843 : BitVec 32 := Scalar.remsi v827 c8_i32_281
  let c0_i32_286 : BitVec 32 := 0#32
  let v844 : BitVec 1 := Scalar.cmpi .ne v843 c0_i32_286
  let v845 : BitVec 1 := Scalar.andi v842 v844
  let v831 : BitVec 32 := Scalar.divsi v827 c8_i32_281
  let c1_i32_287 : BitVec 32 := 1#32
  let v846 : BitVec 32 := Scalar.subi v831 c1_i32_287
  let v847 : BitVec 32 := Scalar.select v845 v846 v831
  let c8_i32_288 : BitVec 32 := 8#32
  let v848 : BitVec 32 := Scalar.muli v847 c8_i32_288
  v848
def k0_off11 (i : grid0.Coords) : Fin 3 → Nat :=
  let arg1 : BitVec 32 := BitVec.ofNat 32 (i 1).val
  let v882 : Index := Scalar.indexCast arg1
  let c0_299 : Index := 0#32
  let c768 : Index := 768#32
  ![v882.toNat, 0, 768]
def k0_mult20 (i : grid0.Coords) : BitVec 32 :=
  let arg1 : BitVec 32 := BitVec.ofNat 32 (i 1).val
  let c2304_i32_300 : BitVec 32 := 2304#32
  let v885 : BitVec 32 := Scalar.muli arg1 c2304_i32_300
  let c768_i32 : BitVec 32 := 768#32
  let v886 : BitVec 32 := Scalar.addi v885 c768_i32
  v886
def k0_mult21 (i : grid0.Coords) : BitVec 32 :=
  let arg1 : BitVec 32 := BitVec.ofNat 32 (i 1).val
  let c2304_i32_328 : BitVec 32 := 2304#32
  let v970 : BitVec 32 := Scalar.muli arg1 c2304_i32_328
  let c768_i32_329 : BitVec 32 := 768#32
  let v971 : BitVec 32 := Scalar.addi v970 c768_i32_329
  v971
def k0_mult22 (i : grid0.Coords) : BitVec 32 :=
  let arg0 : BitVec 32 := BitVec.ofNat 32 (i 0).val
  let c1_i32_327 : BitVec 32 := 1#32
  let v969 : BitVec 32 := Scalar.subi arg0 c1_i32_327
  let c0_i32_331 : BitVec 32 := 0#32
  let v974 : BitVec 1 := Scalar.cmpi .sgt v969 c0_i32_331
  let v975 : BitVec 32 := Scalar.extui v974
  let c0_i32_332 : BitVec 32 := 0#32
  let v976 : BitVec 1 := Scalar.cmpi .slt v969 c0_i32_332
  let v977 : BitVec 32 := Scalar.extui v976
  let v978 : BitVec 32 := Scalar.subi v975 v977
  let c8_i32_330 : BitVec 32 := 8#32
  let c0_i32_333 : BitVec 32 := 0#32
  let v979 : BitVec 1 := Scalar.cmpi .sgt c8_i32_330 c0_i32_333
  let v980 : BitVec 32 := Scalar.extui v979
  let c0_i32_334 : BitVec 32 := 0#32
  let v981 : BitVec 1 := Scalar.cmpi .slt c8_i32_330 c0_i32_334
  let v982 : BitVec 32 := Scalar.extui v981
  let v983 : BitVec 32 := Scalar.subi v980 v982
  let v984 : BitVec 1 := Scalar.cmpi .ne v978 v983
  let v985 : BitVec 32 := Scalar.remsi v969 c8_i32_330
  let c0_i32_335 : BitVec 32 := 0#32
  let v986 : BitVec 1 := Scalar.cmpi .ne v985 c0_i32_335
  let v987 : BitVec 1 := Scalar.andi v984 v986
  let v973 : BitVec 32 := Scalar.divsi v969 c8_i32_330
  let c1_i32_336 : BitVec 32 := 1#32
  let v988 : BitVec 32 := Scalar.subi v973 c1_i32_336
  let v989 : BitVec 32 := Scalar.select v987 v988 v973
  let c8_i32_337 : BitVec 32 := 8#32
  let v990 : BitVec 32 := Scalar.muli v989 c8_i32_337
  v990
def k0_off12 (i : grid0.Coords) : Fin 3 → Nat :=
  let arg1 : BitVec 32 := BitVec.ofNat 32 (i 1).val
  let v1024 : Index := Scalar.indexCast arg1
  let c0_348 : Index := 0#32
  let c896 : Index := 896#32
  ![v1024.toNat, 0, 896]
def k0_mult23 (i : grid0.Coords) : BitVec 32 :=
  let arg1 : BitVec 32 := BitVec.ofNat 32 (i 1).val
  let c2304_i32_349 : BitVec 32 := 2304#32
  let v1027 : BitVec 32 := Scalar.muli arg1 c2304_i32_349
  let c896_i32 : BitVec 32 := 896#32
  let v1028 : BitVec 32 := Scalar.addi v1027 c896_i32
  v1028
def k0_mult24 (i : grid0.Coords) : BitVec 32 :=
  let arg1 : BitVec 32 := BitVec.ofNat 32 (i 1).val
  let c2304_i32_377 : BitVec 32 := 2304#32
  let v1112 : BitVec 32 := Scalar.muli arg1 c2304_i32_377
  let c896_i32_378 : BitVec 32 := 896#32
  let v1113 : BitVec 32 := Scalar.addi v1112 c896_i32_378
  v1113
def k0_mult25 (i : grid0.Coords) : BitVec 32 :=
  let arg0 : BitVec 32 := BitVec.ofNat 32 (i 0).val
  let c1_i32_376 : BitVec 32 := 1#32
  let v1111 : BitVec 32 := Scalar.subi arg0 c1_i32_376
  let c0_i32_380 : BitVec 32 := 0#32
  let v1116 : BitVec 1 := Scalar.cmpi .sgt v1111 c0_i32_380
  let v1117 : BitVec 32 := Scalar.extui v1116
  let c0_i32_381 : BitVec 32 := 0#32
  let v1118 : BitVec 1 := Scalar.cmpi .slt v1111 c0_i32_381
  let v1119 : BitVec 32 := Scalar.extui v1118
  let v1120 : BitVec 32 := Scalar.subi v1117 v1119
  let c8_i32_379 : BitVec 32 := 8#32
  let c0_i32_382 : BitVec 32 := 0#32
  let v1121 : BitVec 1 := Scalar.cmpi .sgt c8_i32_379 c0_i32_382
  let v1122 : BitVec 32 := Scalar.extui v1121
  let c0_i32_383 : BitVec 32 := 0#32
  let v1123 : BitVec 1 := Scalar.cmpi .slt c8_i32_379 c0_i32_383
  let v1124 : BitVec 32 := Scalar.extui v1123
  let v1125 : BitVec 32 := Scalar.subi v1122 v1124
  let v1126 : BitVec 1 := Scalar.cmpi .ne v1120 v1125
  let v1127 : BitVec 32 := Scalar.remsi v1111 c8_i32_379
  let c0_i32_384 : BitVec 32 := 0#32
  let v1128 : BitVec 1 := Scalar.cmpi .ne v1127 c0_i32_384
  let v1129 : BitVec 1 := Scalar.andi v1126 v1128
  let v1115 : BitVec 32 := Scalar.divsi v1111 c8_i32_379
  let c1_i32_385 : BitVec 32 := 1#32
  let v1130 : BitVec 32 := Scalar.subi v1115 c1_i32_385
  let v1131 : BitVec 32 := Scalar.select v1129 v1130 v1115
  let c8_i32_386 : BitVec 32 := 8#32
  let v1132 : BitVec 32 := Scalar.muli v1131 c8_i32_386
  v1132
def k0_off13 (i : grid0.Coords) : Fin 3 → Nat :=
  let arg1 : BitVec 32 := BitVec.ofNat 32 (i 1).val
  let v1166 : Index := Scalar.indexCast arg1
  let c0_397 : Index := 0#32
  let c1024 : Index := 1024#32
  ![v1166.toNat, 0, 1024]
def k0_mult26 (i : grid0.Coords) : BitVec 32 :=
  let arg1 : BitVec 32 := BitVec.ofNat 32 (i 1).val
  let c2304_i32_398 : BitVec 32 := 2304#32
  let v1169 : BitVec 32 := Scalar.muli arg1 c2304_i32_398
  let c1024_i32 : BitVec 32 := 1024#32
  let v1170 : BitVec 32 := Scalar.addi v1169 c1024_i32
  v1170
def k0_mult27 (i : grid0.Coords) : BitVec 32 :=
  let arg1 : BitVec 32 := BitVec.ofNat 32 (i 1).val
  let c2304_i32_426 : BitVec 32 := 2304#32
  let v1254 : BitVec 32 := Scalar.muli arg1 c2304_i32_426
  let c1024_i32_427 : BitVec 32 := 1024#32
  let v1255 : BitVec 32 := Scalar.addi v1254 c1024_i32_427
  v1255
def k0_mult28 (i : grid0.Coords) : BitVec 32 :=
  let arg0 : BitVec 32 := BitVec.ofNat 32 (i 0).val
  let c1_i32_425 : BitVec 32 := 1#32
  let v1253 : BitVec 32 := Scalar.subi arg0 c1_i32_425
  let c0_i32_429 : BitVec 32 := 0#32
  let v1258 : BitVec 1 := Scalar.cmpi .sgt v1253 c0_i32_429
  let v1259 : BitVec 32 := Scalar.extui v1258
  let c0_i32_430 : BitVec 32 := 0#32
  let v1260 : BitVec 1 := Scalar.cmpi .slt v1253 c0_i32_430
  let v1261 : BitVec 32 := Scalar.extui v1260
  let v1262 : BitVec 32 := Scalar.subi v1259 v1261
  let c8_i32_428 : BitVec 32 := 8#32
  let c0_i32_431 : BitVec 32 := 0#32
  let v1263 : BitVec 1 := Scalar.cmpi .sgt c8_i32_428 c0_i32_431
  let v1264 : BitVec 32 := Scalar.extui v1263
  let c0_i32_432 : BitVec 32 := 0#32
  let v1265 : BitVec 1 := Scalar.cmpi .slt c8_i32_428 c0_i32_432
  let v1266 : BitVec 32 := Scalar.extui v1265
  let v1267 : BitVec 32 := Scalar.subi v1264 v1266
  let v1268 : BitVec 1 := Scalar.cmpi .ne v1262 v1267
  let v1269 : BitVec 32 := Scalar.remsi v1253 c8_i32_428
  let c0_i32_433 : BitVec 32 := 0#32
  let v1270 : BitVec 1 := Scalar.cmpi .ne v1269 c0_i32_433
  let v1271 : BitVec 1 := Scalar.andi v1268 v1270
  let v1257 : BitVec 32 := Scalar.divsi v1253 c8_i32_428
  let c1_i32_434 : BitVec 32 := 1#32
  let v1272 : BitVec 32 := Scalar.subi v1257 c1_i32_434
  let v1273 : BitVec 32 := Scalar.select v1271 v1272 v1257
  let c8_i32_435 : BitVec 32 := 8#32
  let v1274 : BitVec 32 := Scalar.muli v1273 c8_i32_435
  v1274
def k0_off14 (i : grid0.Coords) : Fin 3 → Nat :=
  let arg1 : BitVec 32 := BitVec.ofNat 32 (i 1).val
  let v1308 : Index := Scalar.indexCast arg1
  let c0_446 : Index := 0#32
  let c1152 : Index := 1152#32
  ![v1308.toNat, 0, 1152]
def k0_mult29 (i : grid0.Coords) : BitVec 32 :=
  let arg1 : BitVec 32 := BitVec.ofNat 32 (i 1).val
  let c2304_i32_447 : BitVec 32 := 2304#32
  let v1311 : BitVec 32 := Scalar.muli arg1 c2304_i32_447
  let c1152_i32 : BitVec 32 := 1152#32
  let v1312 : BitVec 32 := Scalar.addi v1311 c1152_i32
  v1312
def k0_mult30 (i : grid0.Coords) : BitVec 32 :=
  let arg1 : BitVec 32 := BitVec.ofNat 32 (i 1).val
  let c2304_i32_475 : BitVec 32 := 2304#32
  let v1396 : BitVec 32 := Scalar.muli arg1 c2304_i32_475
  let c1152_i32_476 : BitVec 32 := 1152#32
  let v1397 : BitVec 32 := Scalar.addi v1396 c1152_i32_476
  v1397
def k0_mult31 (i : grid0.Coords) : BitVec 32 :=
  let arg0 : BitVec 32 := BitVec.ofNat 32 (i 0).val
  let c1_i32_474 : BitVec 32 := 1#32
  let v1395 : BitVec 32 := Scalar.subi arg0 c1_i32_474
  let c0_i32_478 : BitVec 32 := 0#32
  let v1400 : BitVec 1 := Scalar.cmpi .sgt v1395 c0_i32_478
  let v1401 : BitVec 32 := Scalar.extui v1400
  let c0_i32_479 : BitVec 32 := 0#32
  let v1402 : BitVec 1 := Scalar.cmpi .slt v1395 c0_i32_479
  let v1403 : BitVec 32 := Scalar.extui v1402
  let v1404 : BitVec 32 := Scalar.subi v1401 v1403
  let c8_i32_477 : BitVec 32 := 8#32
  let c0_i32_480 : BitVec 32 := 0#32
  let v1405 : BitVec 1 := Scalar.cmpi .sgt c8_i32_477 c0_i32_480
  let v1406 : BitVec 32 := Scalar.extui v1405
  let c0_i32_481 : BitVec 32 := 0#32
  let v1407 : BitVec 1 := Scalar.cmpi .slt c8_i32_477 c0_i32_481
  let v1408 : BitVec 32 := Scalar.extui v1407
  let v1409 : BitVec 32 := Scalar.subi v1406 v1408
  let v1410 : BitVec 1 := Scalar.cmpi .ne v1404 v1409
  let v1411 : BitVec 32 := Scalar.remsi v1395 c8_i32_477
  let c0_i32_482 : BitVec 32 := 0#32
  let v1412 : BitVec 1 := Scalar.cmpi .ne v1411 c0_i32_482
  let v1413 : BitVec 1 := Scalar.andi v1410 v1412
  let v1399 : BitVec 32 := Scalar.divsi v1395 c8_i32_477
  let c1_i32_483 : BitVec 32 := 1#32
  let v1414 : BitVec 32 := Scalar.subi v1399 c1_i32_483
  let v1415 : BitVec 32 := Scalar.select v1413 v1414 v1399
  let c8_i32_484 : BitVec 32 := 8#32
  let v1416 : BitVec 32 := Scalar.muli v1415 c8_i32_484
  v1416
def k0_off15 (i : grid0.Coords) : Fin 3 → Nat :=
  let arg1 : BitVec 32 := BitVec.ofNat 32 (i 1).val
  let v1450 : Index := Scalar.indexCast arg1
  let c0_495 : Index := 0#32
  let c1280 : Index := 1280#32
  ![v1450.toNat, 0, 1280]
def k0_mult32 (i : grid0.Coords) : BitVec 32 :=
  let arg1 : BitVec 32 := BitVec.ofNat 32 (i 1).val
  let c2304_i32_496 : BitVec 32 := 2304#32
  let v1453 : BitVec 32 := Scalar.muli arg1 c2304_i32_496
  let c1280_i32 : BitVec 32 := 1280#32
  let v1454 : BitVec 32 := Scalar.addi v1453 c1280_i32
  v1454
def k0_mult33 (i : grid0.Coords) : BitVec 32 :=
  let arg1 : BitVec 32 := BitVec.ofNat 32 (i 1).val
  let c2304_i32_524 : BitVec 32 := 2304#32
  let v1538 : BitVec 32 := Scalar.muli arg1 c2304_i32_524
  let c1280_i32_525 : BitVec 32 := 1280#32
  let v1539 : BitVec 32 := Scalar.addi v1538 c1280_i32_525
  v1539
def k0_mult34 (i : grid0.Coords) : BitVec 32 :=
  let arg0 : BitVec 32 := BitVec.ofNat 32 (i 0).val
  let c1_i32_523 : BitVec 32 := 1#32
  let v1537 : BitVec 32 := Scalar.subi arg0 c1_i32_523
  let c0_i32_527 : BitVec 32 := 0#32
  let v1542 : BitVec 1 := Scalar.cmpi .sgt v1537 c0_i32_527
  let v1543 : BitVec 32 := Scalar.extui v1542
  let c0_i32_528 : BitVec 32 := 0#32
  let v1544 : BitVec 1 := Scalar.cmpi .slt v1537 c0_i32_528
  let v1545 : BitVec 32 := Scalar.extui v1544
  let v1546 : BitVec 32 := Scalar.subi v1543 v1545
  let c8_i32_526 : BitVec 32 := 8#32
  let c0_i32_529 : BitVec 32 := 0#32
  let v1547 : BitVec 1 := Scalar.cmpi .sgt c8_i32_526 c0_i32_529
  let v1548 : BitVec 32 := Scalar.extui v1547
  let c0_i32_530 : BitVec 32 := 0#32
  let v1549 : BitVec 1 := Scalar.cmpi .slt c8_i32_526 c0_i32_530
  let v1550 : BitVec 32 := Scalar.extui v1549
  let v1551 : BitVec 32 := Scalar.subi v1548 v1550
  let v1552 : BitVec 1 := Scalar.cmpi .ne v1546 v1551
  let v1553 : BitVec 32 := Scalar.remsi v1537 c8_i32_526
  let c0_i32_531 : BitVec 32 := 0#32
  let v1554 : BitVec 1 := Scalar.cmpi .ne v1553 c0_i32_531
  let v1555 : BitVec 1 := Scalar.andi v1552 v1554
  let v1541 : BitVec 32 := Scalar.divsi v1537 c8_i32_526
  let c1_i32_532 : BitVec 32 := 1#32
  let v1556 : BitVec 32 := Scalar.subi v1541 c1_i32_532
  let v1557 : BitVec 32 := Scalar.select v1555 v1556 v1541
  let c8_i32_533 : BitVec 32 := 8#32
  let v1558 : BitVec 32 := Scalar.muli v1557 c8_i32_533
  v1558
def k0_off16 (i : grid0.Coords) : Fin 3 → Nat :=
  let arg1 : BitVec 32 := BitVec.ofNat 32 (i 1).val
  let v1592 : Index := Scalar.indexCast arg1
  let c0_544 : Index := 0#32
  let c1408 : Index := 1408#32
  ![v1592.toNat, 0, 1408]
def k0_mult35 (i : grid0.Coords) : BitVec 32 :=
  let arg1 : BitVec 32 := BitVec.ofNat 32 (i 1).val
  let c2304_i32_545 : BitVec 32 := 2304#32
  let v1595 : BitVec 32 := Scalar.muli arg1 c2304_i32_545
  let c1408_i32 : BitVec 32 := 1408#32
  let v1596 : BitVec 32 := Scalar.addi v1595 c1408_i32
  v1596
def k0_mult36 (i : grid0.Coords) : BitVec 32 :=
  let arg1 : BitVec 32 := BitVec.ofNat 32 (i 1).val
  let c2304_i32_573 : BitVec 32 := 2304#32
  let v1680 : BitVec 32 := Scalar.muli arg1 c2304_i32_573
  let c1408_i32_574 : BitVec 32 := 1408#32
  let v1681 : BitVec 32 := Scalar.addi v1680 c1408_i32_574
  v1681
def k0_mult37 (i : grid0.Coords) : BitVec 32 :=
  let arg0 : BitVec 32 := BitVec.ofNat 32 (i 0).val
  let c1_i32_572 : BitVec 32 := 1#32
  let v1679 : BitVec 32 := Scalar.subi arg0 c1_i32_572
  let c0_i32_576 : BitVec 32 := 0#32
  let v1684 : BitVec 1 := Scalar.cmpi .sgt v1679 c0_i32_576
  let v1685 : BitVec 32 := Scalar.extui v1684
  let c0_i32_577 : BitVec 32 := 0#32
  let v1686 : BitVec 1 := Scalar.cmpi .slt v1679 c0_i32_577
  let v1687 : BitVec 32 := Scalar.extui v1686
  let v1688 : BitVec 32 := Scalar.subi v1685 v1687
  let c8_i32_575 : BitVec 32 := 8#32
  let c0_i32_578 : BitVec 32 := 0#32
  let v1689 : BitVec 1 := Scalar.cmpi .sgt c8_i32_575 c0_i32_578
  let v1690 : BitVec 32 := Scalar.extui v1689
  let c0_i32_579 : BitVec 32 := 0#32
  let v1691 : BitVec 1 := Scalar.cmpi .slt c8_i32_575 c0_i32_579
  let v1692 : BitVec 32 := Scalar.extui v1691
  let v1693 : BitVec 32 := Scalar.subi v1690 v1692
  let v1694 : BitVec 1 := Scalar.cmpi .ne v1688 v1693
  let v1695 : BitVec 32 := Scalar.remsi v1679 c8_i32_575
  let c0_i32_580 : BitVec 32 := 0#32
  let v1696 : BitVec 1 := Scalar.cmpi .ne v1695 c0_i32_580
  let v1697 : BitVec 1 := Scalar.andi v1694 v1696
  let v1683 : BitVec 32 := Scalar.divsi v1679 c8_i32_575
  let c1_i32_581 : BitVec 32 := 1#32
  let v1698 : BitVec 32 := Scalar.subi v1683 c1_i32_581
  let v1699 : BitVec 32 := Scalar.select v1697 v1698 v1683
  let c8_i32_582 : BitVec 32 := 8#32
  let v1700 : BitVec 32 := Scalar.muli v1699 c8_i32_582
  v1700
def k0_off17 (i : grid0.Coords) : Fin 3 → Nat :=
  let arg1 : BitVec 32 := BitVec.ofNat 32 (i 1).val
  let v1734 : Index := Scalar.indexCast arg1
  let c0_593 : Index := 0#32
  let c1536 : Index := 1536#32
  ![v1734.toNat, 0, 1536]
def k0_mult38 (i : grid0.Coords) : BitVec 32 :=
  let arg1 : BitVec 32 := BitVec.ofNat 32 (i 1).val
  let c2304_i32_594 : BitVec 32 := 2304#32
  let v1737 : BitVec 32 := Scalar.muli arg1 c2304_i32_594
  let c1536_i32 : BitVec 32 := 1536#32
  let v1738 : BitVec 32 := Scalar.addi v1737 c1536_i32
  v1738
def k0_mult39 (i : grid0.Coords) : BitVec 32 :=
  let arg1 : BitVec 32 := BitVec.ofNat 32 (i 1).val
  let c2304_i32_622 : BitVec 32 := 2304#32
  let v1822 : BitVec 32 := Scalar.muli arg1 c2304_i32_622
  let c1536_i32_623 : BitVec 32 := 1536#32
  let v1823 : BitVec 32 := Scalar.addi v1822 c1536_i32_623
  v1823
def k0_mult40 (i : grid0.Coords) : BitVec 32 :=
  let arg0 : BitVec 32 := BitVec.ofNat 32 (i 0).val
  let c1_i32_621 : BitVec 32 := 1#32
  let v1821 : BitVec 32 := Scalar.subi arg0 c1_i32_621
  let c0_i32_625 : BitVec 32 := 0#32
  let v1826 : BitVec 1 := Scalar.cmpi .sgt v1821 c0_i32_625
  let v1827 : BitVec 32 := Scalar.extui v1826
  let c0_i32_626 : BitVec 32 := 0#32
  let v1828 : BitVec 1 := Scalar.cmpi .slt v1821 c0_i32_626
  let v1829 : BitVec 32 := Scalar.extui v1828
  let v1830 : BitVec 32 := Scalar.subi v1827 v1829
  let c8_i32_624 : BitVec 32 := 8#32
  let c0_i32_627 : BitVec 32 := 0#32
  let v1831 : BitVec 1 := Scalar.cmpi .sgt c8_i32_624 c0_i32_627
  let v1832 : BitVec 32 := Scalar.extui v1831
  let c0_i32_628 : BitVec 32 := 0#32
  let v1833 : BitVec 1 := Scalar.cmpi .slt c8_i32_624 c0_i32_628
  let v1834 : BitVec 32 := Scalar.extui v1833
  let v1835 : BitVec 32 := Scalar.subi v1832 v1834
  let v1836 : BitVec 1 := Scalar.cmpi .ne v1830 v1835
  let v1837 : BitVec 32 := Scalar.remsi v1821 c8_i32_624
  let c0_i32_629 : BitVec 32 := 0#32
  let v1838 : BitVec 1 := Scalar.cmpi .ne v1837 c0_i32_629
  let v1839 : BitVec 1 := Scalar.andi v1836 v1838
  let v1825 : BitVec 32 := Scalar.divsi v1821 c8_i32_624
  let c1_i32_630 : BitVec 32 := 1#32
  let v1840 : BitVec 32 := Scalar.subi v1825 c1_i32_630
  let v1841 : BitVec 32 := Scalar.select v1839 v1840 v1825
  let c8_i32_631 : BitVec 32 := 8#32
  let v1842 : BitVec 32 := Scalar.muli v1841 c8_i32_631
  v1842
def k0_off18 (i : grid0.Coords) : Fin 3 → Nat :=
  let arg1 : BitVec 32 := BitVec.ofNat 32 (i 1).val
  let v1876 : Index := Scalar.indexCast arg1
  let c0_642 : Index := 0#32
  let c1664 : Index := 1664#32
  ![v1876.toNat, 0, 1664]
def k0_mult41 (i : grid0.Coords) : BitVec 32 :=
  let arg1 : BitVec 32 := BitVec.ofNat 32 (i 1).val
  let c2304_i32_643 : BitVec 32 := 2304#32
  let v1879 : BitVec 32 := Scalar.muli arg1 c2304_i32_643
  let c1664_i32 : BitVec 32 := 1664#32
  let v1880 : BitVec 32 := Scalar.addi v1879 c1664_i32
  v1880
def k0_mult42 (i : grid0.Coords) : BitVec 32 :=
  let arg1 : BitVec 32 := BitVec.ofNat 32 (i 1).val
  let c2304_i32_671 : BitVec 32 := 2304#32
  let v1964 : BitVec 32 := Scalar.muli arg1 c2304_i32_671
  let c1664_i32_672 : BitVec 32 := 1664#32
  let v1965 : BitVec 32 := Scalar.addi v1964 c1664_i32_672
  v1965
def k0_mult43 (i : grid0.Coords) : BitVec 32 :=
  let arg0 : BitVec 32 := BitVec.ofNat 32 (i 0).val
  let c1_i32_670 : BitVec 32 := 1#32
  let v1963 : BitVec 32 := Scalar.subi arg0 c1_i32_670
  let c0_i32_674 : BitVec 32 := 0#32
  let v1968 : BitVec 1 := Scalar.cmpi .sgt v1963 c0_i32_674
  let v1969 : BitVec 32 := Scalar.extui v1968
  let c0_i32_675 : BitVec 32 := 0#32
  let v1970 : BitVec 1 := Scalar.cmpi .slt v1963 c0_i32_675
  let v1971 : BitVec 32 := Scalar.extui v1970
  let v1972 : BitVec 32 := Scalar.subi v1969 v1971
  let c8_i32_673 : BitVec 32 := 8#32
  let c0_i32_676 : BitVec 32 := 0#32
  let v1973 : BitVec 1 := Scalar.cmpi .sgt c8_i32_673 c0_i32_676
  let v1974 : BitVec 32 := Scalar.extui v1973
  let c0_i32_677 : BitVec 32 := 0#32
  let v1975 : BitVec 1 := Scalar.cmpi .slt c8_i32_673 c0_i32_677
  let v1976 : BitVec 32 := Scalar.extui v1975
  let v1977 : BitVec 32 := Scalar.subi v1974 v1976
  let v1978 : BitVec 1 := Scalar.cmpi .ne v1972 v1977
  let v1979 : BitVec 32 := Scalar.remsi v1963 c8_i32_673
  let c0_i32_678 : BitVec 32 := 0#32
  let v1980 : BitVec 1 := Scalar.cmpi .ne v1979 c0_i32_678
  let v1981 : BitVec 1 := Scalar.andi v1978 v1980
  let v1967 : BitVec 32 := Scalar.divsi v1963 c8_i32_673
  let c1_i32_679 : BitVec 32 := 1#32
  let v1982 : BitVec 32 := Scalar.subi v1967 c1_i32_679
  let v1983 : BitVec 32 := Scalar.select v1981 v1982 v1967
  let c8_i32_680 : BitVec 32 := 8#32
  let v1984 : BitVec 32 := Scalar.muli v1983 c8_i32_680
  v1984
def k0_off19 (i : grid0.Coords) : Fin 3 → Nat :=
  let arg1 : BitVec 32 := BitVec.ofNat 32 (i 1).val
  let v2018 : Index := Scalar.indexCast arg1
  let c0_691 : Index := 0#32
  let c1792 : Index := 1792#32
  ![v2018.toNat, 0, 1792]
def k0_mult44 (i : grid0.Coords) : BitVec 32 :=
  let arg1 : BitVec 32 := BitVec.ofNat 32 (i 1).val
  let c2304_i32_692 : BitVec 32 := 2304#32
  let v2021 : BitVec 32 := Scalar.muli arg1 c2304_i32_692
  let c1792_i32 : BitVec 32 := 1792#32
  let v2022 : BitVec 32 := Scalar.addi v2021 c1792_i32
  v2022
def k0_mult45 (i : grid0.Coords) : BitVec 32 :=
  let arg1 : BitVec 32 := BitVec.ofNat 32 (i 1).val
  let c2304_i32_720 : BitVec 32 := 2304#32
  let v2106 : BitVec 32 := Scalar.muli arg1 c2304_i32_720
  let c1792_i32_721 : BitVec 32 := 1792#32
  let v2107 : BitVec 32 := Scalar.addi v2106 c1792_i32_721
  v2107
def k0_mult46 (i : grid0.Coords) : BitVec 32 :=
  let arg0 : BitVec 32 := BitVec.ofNat 32 (i 0).val
  let c1_i32_719 : BitVec 32 := 1#32
  let v2105 : BitVec 32 := Scalar.subi arg0 c1_i32_719
  let c0_i32_723 : BitVec 32 := 0#32
  let v2110 : BitVec 1 := Scalar.cmpi .sgt v2105 c0_i32_723
  let v2111 : BitVec 32 := Scalar.extui v2110
  let c0_i32_724 : BitVec 32 := 0#32
  let v2112 : BitVec 1 := Scalar.cmpi .slt v2105 c0_i32_724
  let v2113 : BitVec 32 := Scalar.extui v2112
  let v2114 : BitVec 32 := Scalar.subi v2111 v2113
  let c8_i32_722 : BitVec 32 := 8#32
  let c0_i32_725 : BitVec 32 := 0#32
  let v2115 : BitVec 1 := Scalar.cmpi .sgt c8_i32_722 c0_i32_725
  let v2116 : BitVec 32 := Scalar.extui v2115
  let c0_i32_726 : BitVec 32 := 0#32
  let v2117 : BitVec 1 := Scalar.cmpi .slt c8_i32_722 c0_i32_726
  let v2118 : BitVec 32 := Scalar.extui v2117
  let v2119 : BitVec 32 := Scalar.subi v2116 v2118
  let v2120 : BitVec 1 := Scalar.cmpi .ne v2114 v2119
  let v2121 : BitVec 32 := Scalar.remsi v2105 c8_i32_722
  let c0_i32_727 : BitVec 32 := 0#32
  let v2122 : BitVec 1 := Scalar.cmpi .ne v2121 c0_i32_727
  let v2123 : BitVec 1 := Scalar.andi v2120 v2122
  let v2109 : BitVec 32 := Scalar.divsi v2105 c8_i32_722
  let c1_i32_728 : BitVec 32 := 1#32
  let v2124 : BitVec 32 := Scalar.subi v2109 c1_i32_728
  let v2125 : BitVec 32 := Scalar.select v2123 v2124 v2109
  let c8_i32_729 : BitVec 32 := 8#32
  let v2126 : BitVec 32 := Scalar.muli v2125 c8_i32_729
  v2126
def k0_off20 (i : grid0.Coords) : Fin 3 → Nat :=
  let arg1 : BitVec 32 := BitVec.ofNat 32 (i 1).val
  let v2160 : Index := Scalar.indexCast arg1
  let c0_740 : Index := 0#32
  let c1920 : Index := 1920#32
  ![v2160.toNat, 0, 1920]
def k0_mult47 (i : grid0.Coords) : BitVec 32 :=
  let arg1 : BitVec 32 := BitVec.ofNat 32 (i 1).val
  let c2304_i32_741 : BitVec 32 := 2304#32
  let v2163 : BitVec 32 := Scalar.muli arg1 c2304_i32_741
  let c1920_i32 : BitVec 32 := 1920#32
  let v2164 : BitVec 32 := Scalar.addi v2163 c1920_i32
  v2164
def k0_mult48 (i : grid0.Coords) : BitVec 32 :=
  let arg1 : BitVec 32 := BitVec.ofNat 32 (i 1).val
  let c2304_i32_769 : BitVec 32 := 2304#32
  let v2248 : BitVec 32 := Scalar.muli arg1 c2304_i32_769
  let c1920_i32_770 : BitVec 32 := 1920#32
  let v2249 : BitVec 32 := Scalar.addi v2248 c1920_i32_770
  v2249
def k0_mult49 (i : grid0.Coords) : BitVec 32 :=
  let arg0 : BitVec 32 := BitVec.ofNat 32 (i 0).val
  let c1_i32_768 : BitVec 32 := 1#32
  let v2247 : BitVec 32 := Scalar.subi arg0 c1_i32_768
  let c0_i32_772 : BitVec 32 := 0#32
  let v2252 : BitVec 1 := Scalar.cmpi .sgt v2247 c0_i32_772
  let v2253 : BitVec 32 := Scalar.extui v2252
  let c0_i32_773 : BitVec 32 := 0#32
  let v2254 : BitVec 1 := Scalar.cmpi .slt v2247 c0_i32_773
  let v2255 : BitVec 32 := Scalar.extui v2254
  let v2256 : BitVec 32 := Scalar.subi v2253 v2255
  let c8_i32_771 : BitVec 32 := 8#32
  let c0_i32_774 : BitVec 32 := 0#32
  let v2257 : BitVec 1 := Scalar.cmpi .sgt c8_i32_771 c0_i32_774
  let v2258 : BitVec 32 := Scalar.extui v2257
  let c0_i32_775 : BitVec 32 := 0#32
  let v2259 : BitVec 1 := Scalar.cmpi .slt c8_i32_771 c0_i32_775
  let v2260 : BitVec 32 := Scalar.extui v2259
  let v2261 : BitVec 32 := Scalar.subi v2258 v2260
  let v2262 : BitVec 1 := Scalar.cmpi .ne v2256 v2261
  let v2263 : BitVec 32 := Scalar.remsi v2247 c8_i32_771
  let c0_i32_776 : BitVec 32 := 0#32
  let v2264 : BitVec 1 := Scalar.cmpi .ne v2263 c0_i32_776
  let v2265 : BitVec 1 := Scalar.andi v2262 v2264
  let v2251 : BitVec 32 := Scalar.divsi v2247 c8_i32_771
  let c1_i32_777 : BitVec 32 := 1#32
  let v2266 : BitVec 32 := Scalar.subi v2251 c1_i32_777
  let v2267 : BitVec 32 := Scalar.select v2265 v2266 v2251
  let c8_i32_778 : BitVec 32 := 8#32
  let v2268 : BitVec 32 := Scalar.muli v2267 c8_i32_778
  v2268
def k0_off21 (i : grid0.Coords) : Fin 3 → Nat :=
  let arg1 : BitVec 32 := BitVec.ofNat 32 (i 1).val
  let v2302 : Index := Scalar.indexCast arg1
  let c0_789 : Index := 0#32
  let c2048 : Index := 2048#32
  ![v2302.toNat, 0, 2048]
def k0_mult50 (i : grid0.Coords) : BitVec 32 :=
  let arg1 : BitVec 32 := BitVec.ofNat 32 (i 1).val
  let c2304_i32_790 : BitVec 32 := 2304#32
  let v2305 : BitVec 32 := Scalar.muli arg1 c2304_i32_790
  let c2048_i32 : BitVec 32 := 2048#32
  let v2306 : BitVec 32 := Scalar.addi v2305 c2048_i32
  v2306
def k0_mult51 (i : grid0.Coords) : BitVec 32 :=
  let arg1 : BitVec 32 := BitVec.ofNat 32 (i 1).val
  let c2304_i32_818 : BitVec 32 := 2304#32
  let v2390 : BitVec 32 := Scalar.muli arg1 c2304_i32_818
  let c2048_i32_819 : BitVec 32 := 2048#32
  let v2391 : BitVec 32 := Scalar.addi v2390 c2048_i32_819
  v2391
def k0_mult52 (i : grid0.Coords) : BitVec 32 :=
  let arg0 : BitVec 32 := BitVec.ofNat 32 (i 0).val
  let c1_i32_817 : BitVec 32 := 1#32
  let v2389 : BitVec 32 := Scalar.subi arg0 c1_i32_817
  let c0_i32_821 : BitVec 32 := 0#32
  let v2394 : BitVec 1 := Scalar.cmpi .sgt v2389 c0_i32_821
  let v2395 : BitVec 32 := Scalar.extui v2394
  let c0_i32_822 : BitVec 32 := 0#32
  let v2396 : BitVec 1 := Scalar.cmpi .slt v2389 c0_i32_822
  let v2397 : BitVec 32 := Scalar.extui v2396
  let v2398 : BitVec 32 := Scalar.subi v2395 v2397
  let c8_i32_820 : BitVec 32 := 8#32
  let c0_i32_823 : BitVec 32 := 0#32
  let v2399 : BitVec 1 := Scalar.cmpi .sgt c8_i32_820 c0_i32_823
  let v2400 : BitVec 32 := Scalar.extui v2399
  let c0_i32_824 : BitVec 32 := 0#32
  let v2401 : BitVec 1 := Scalar.cmpi .slt c8_i32_820 c0_i32_824
  let v2402 : BitVec 32 := Scalar.extui v2401
  let v2403 : BitVec 32 := Scalar.subi v2400 v2402
  let v2404 : BitVec 1 := Scalar.cmpi .ne v2398 v2403
  let v2405 : BitVec 32 := Scalar.remsi v2389 c8_i32_820
  let c0_i32_825 : BitVec 32 := 0#32
  let v2406 : BitVec 1 := Scalar.cmpi .ne v2405 c0_i32_825
  let v2407 : BitVec 1 := Scalar.andi v2404 v2406
  let v2393 : BitVec 32 := Scalar.divsi v2389 c8_i32_820
  let c1_i32_826 : BitVec 32 := 1#32
  let v2408 : BitVec 32 := Scalar.subi v2393 c1_i32_826
  let v2409 : BitVec 32 := Scalar.select v2407 v2408 v2393
  let c8_i32_827 : BitVec 32 := 8#32
  let v2410 : BitVec 32 := Scalar.muli v2409 c8_i32_827
  v2410
def k0_off22 (i : grid0.Coords) : Fin 3 → Nat :=
  let arg1 : BitVec 32 := BitVec.ofNat 32 (i 1).val
  let v2444 : Index := Scalar.indexCast arg1
  let c0_838 : Index := 0#32
  let c2176 : Index := 2176#32
  ![v2444.toNat, 0, 2176]
def k0_mult53 (i : grid0.Coords) : BitVec 32 :=
  let arg1 : BitVec 32 := BitVec.ofNat 32 (i 1).val
  let c2304_i32_839 : BitVec 32 := 2304#32
  let v2447 : BitVec 32 := Scalar.muli arg1 c2304_i32_839
  let c2176_i32 : BitVec 32 := 2176#32
  let v2448 : BitVec 32 := Scalar.addi v2447 c2176_i32
  v2448
def k0_mult54 (i : grid0.Coords) : BitVec 32 :=
  let arg1 : BitVec 32 := BitVec.ofNat 32 (i 1).val
  let c2304_i32_867 : BitVec 32 := 2304#32
  let v2532 : BitVec 32 := Scalar.muli arg1 c2304_i32_867
  let c2176_i32_868 : BitVec 32 := 2176#32
  let v2533 : BitVec 32 := Scalar.addi v2532 c2176_i32_868
  v2533
def k0_mult55 (i : grid0.Coords) : BitVec 32 :=
  let arg0 : BitVec 32 := BitVec.ofNat 32 (i 0).val
  let c1_i32_866 : BitVec 32 := 1#32
  let v2531 : BitVec 32 := Scalar.subi arg0 c1_i32_866
  let c0_i32_870 : BitVec 32 := 0#32
  let v2536 : BitVec 1 := Scalar.cmpi .sgt v2531 c0_i32_870
  let v2537 : BitVec 32 := Scalar.extui v2536
  let c0_i32_871 : BitVec 32 := 0#32
  let v2538 : BitVec 1 := Scalar.cmpi .slt v2531 c0_i32_871
  let v2539 : BitVec 32 := Scalar.extui v2538
  let v2540 : BitVec 32 := Scalar.subi v2537 v2539
  let c8_i32_869 : BitVec 32 := 8#32
  let c0_i32_872 : BitVec 32 := 0#32
  let v2541 : BitVec 1 := Scalar.cmpi .sgt c8_i32_869 c0_i32_872
  let v2542 : BitVec 32 := Scalar.extui v2541
  let c0_i32_873 : BitVec 32 := 0#32
  let v2543 : BitVec 1 := Scalar.cmpi .slt c8_i32_869 c0_i32_873
  let v2544 : BitVec 32 := Scalar.extui v2543
  let v2545 : BitVec 32 := Scalar.subi v2542 v2544
  let v2546 : BitVec 1 := Scalar.cmpi .ne v2540 v2545
  let v2547 : BitVec 32 := Scalar.remsi v2531 c8_i32_869
  let c0_i32_874 : BitVec 32 := 0#32
  let v2548 : BitVec 1 := Scalar.cmpi .ne v2547 c0_i32_874
  let v2549 : BitVec 1 := Scalar.andi v2546 v2548
  let v2535 : BitVec 32 := Scalar.divsi v2531 c8_i32_869
  let c1_i32_875 : BitVec 32 := 1#32
  let v2550 : BitVec 32 := Scalar.subi v2535 c1_i32_875
  let v2551 : BitVec 32 := Scalar.select v2549 v2550 v2535
  let c8_i32_876 : BitVec 32 := 8#32
  let v2552 : BitVec 32 := Scalar.muli v2551 c8_i32_876
  v2552
def k0_off23 (i : grid0.Coords) : Fin 3 → Nat :=
  let arg1 : BitVec 32 := BitVec.ofNat 32 (i 1).val
  let v2640 : Index := Scalar.indexCast arg1
  let c0_903 : Index := 0#32
  let c0_904 : Index := 0#32
  ![v2640.toNat, 0, 0]
def k0_cond4 (i : grid0.Coords) : BitVec 1 :=
  let arg0 : BitVec 32 := BitVec.ofNat 32 (i 0).val
  let c48_i32_6 : BitVec 32 := 48#32
  let v13 : BitVec 1 := Scalar.cmpi .slt arg0 c48_i32_6
  let v14 : BitVec 32 := Scalar.extui v13
  let c0_i32_7 : BitVec 32 := 0#32
  let v15 : BitVec 1 := Scalar.cmpi .ne v14 c0_i32_7
  v15

def k0_off24 (i : grid0.Coords) : Fin 3 → Nat :=
  let arg1 : BitVec 32 := BitVec.ofNat 32 (i 1).val
  let v47 : Index := Scalar.indexCast arg1
  let c0_26 : Index := 0#32
  let c0_27 : Index := 0#32
  ![v47.toNat, 0, 0]
def k0_mult56 (i : grid0.Coords) : BitVec 32 :=
  let arg1 : BitVec 32 := BitVec.ofNat 32 (i 1).val
  let c2304_i32 : BitVec 32 := 2304#32
  let v67 : BitVec 32 := Scalar.muli arg1 c2304_i32
  let c0_i32_34 : BitVec 32 := 0#32
  let v68 : BitVec 32 := Scalar.addi v67 c0_i32_34
  v68
def k0_mult57 (i : grid0.Coords) : BitVec 32 :=
  let arg0 : BitVec 32 := BitVec.ofNat 32 (i 0).val
  let c8_i32 : BitVec 32 := 8#32
  let c0_i32_30 : BitVec 32 := 0#32
  let v57 : BitVec 1 := Scalar.cmpi .eq c8_i32 c0_i32_30
  let c1_i32 : BitVec 32 := 1#32
  let v58 : BitVec 32 := Scalar.select v57 c1_i32 c8_i32
  let v59 : BitVec 32 := Scalar.remsi arg0 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c0_i32_36 : BitVec 32 := 0#32
  let v71 : BitVec 1 := Scalar.cmpi .sgt v66 c0_i32_36
  let v72 : BitVec 32 := Scalar.extui v71
  let c0_i32_37 : BitVec 32 := 0#32
  let v73 : BitVec 1 := Scalar.cmpi .slt v66 c0_i32_37
  let v74 : BitVec 32 := Scalar.extui v73
  let v75 : BitVec 32 := Scalar.subi v72 v74
  let c8_i32_35 : BitVec 32 := 8#32
  let c0_i32_38 : BitVec 32 := 0#32
  let v76 : BitVec 1 := Scalar.cmpi .sgt c8_i32_35 c0_i32_38
  let v77 : BitVec 32 := Scalar.extui v76
  let c0_i32_39 : BitVec 32 := 0#32
  let v78 : BitVec 1 := Scalar.cmpi .slt c8_i32_35 c0_i32_39
  let v79 : BitVec 32 := Scalar.extui v78
  let v80 : BitVec 32 := Scalar.subi v77 v79
  let v81 : BitVec 1 := Scalar.cmpi .ne v75 v80
  let v82 : BitVec 32 := Scalar.remsi v66 c8_i32_35
  let c0_i32_40 : BitVec 32 := 0#32
  let v83 : BitVec 1 := Scalar.cmpi .ne v82 c0_i32_40
  let v84 : BitVec 1 := Scalar.andi v81 v83
  let v70 : BitVec 32 := Scalar.divsi v66 c8_i32_35
  let c1_i32_41 : BitVec 32 := 1#32
  let v85 : BitVec 32 := Scalar.subi v70 c1_i32_41
  let v86 : BitVec 32 := Scalar.select v84 v85 v70
  let c8_i32_42 : BitVec 32 := 8#32
  let v87 : BitVec 32 := Scalar.muli v86 c8_i32_42
  v87
def k0_off25 (i : grid0.Coords) (c0_i32_34 : BitVec 32) : Fin 3 → Nat :=
  let c0_49 : Index := 0#32
  let arg0 : BitVec 32 := BitVec.ofNat 32 (i 0).val
  let c8_i32 : BitVec 32 := 8#32
  let c0_i32_30 : BitVec 32 := 0#32
  let v57 : BitVec 1 := Scalar.cmpi .eq c8_i32 c0_i32_30
  let c1_i32 : BitVec 32 := 1#32
  let v58 : BitVec 32 := Scalar.select v57 c1_i32 c8_i32
  let v59 : BitVec 32 := Scalar.remsi arg0 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c0_i32_36 : BitVec 32 := 0#32
  let v71 : BitVec 1 := Scalar.cmpi .sgt v66 c0_i32_36
  let v72 : BitVec 32 := Scalar.extui v71
  let c0_i32_37 : BitVec 32 := 0#32
  let v73 : BitVec 1 := Scalar.cmpi .slt v66 c0_i32_37
  let v74 : BitVec 32 := Scalar.extui v73
  let v75 : BitVec 32 := Scalar.subi v72 v74
  let c8_i32_35 : BitVec 32 := 8#32
  let c0_i32_38 : BitVec 32 := 0#32
  let v76 : BitVec 1 := Scalar.cmpi .sgt c8_i32_35 c0_i32_38
  let v77 : BitVec 32 := Scalar.extui v76
  let c0_i32_39 : BitVec 32 := 0#32
  let v78 : BitVec 1 := Scalar.cmpi .slt c8_i32_35 c0_i32_39
  let v79 : BitVec 32 := Scalar.extui v78
  let v80 : BitVec 32 := Scalar.subi v77 v79
  let v81 : BitVec 1 := Scalar.cmpi .ne v75 v80
  let v82 : BitVec 32 := Scalar.remsi v66 c8_i32_35
  let c0_i32_40 : BitVec 32 := 0#32
  let v83 : BitVec 1 := Scalar.cmpi .ne v82 c0_i32_40
  let v84 : BitVec 1 := Scalar.andi v81 v83
  let v70 : BitVec 32 := Scalar.divsi v66 c8_i32_35
  let c1_i32_41 : BitVec 32 := 1#32
  let v85 : BitVec 32 := Scalar.subi v70 c1_i32_41
  let v86 : BitVec 32 := Scalar.select v84 v85 v70
  let c8_i32_42 : BitVec 32 := 8#32
  let v87 : BitVec 32 := Scalar.muli v86 c8_i32_42
  let v88 : BitVec 32 := v87
  let v104 : Index := Scalar.indexCast v88
  let arg1 : BitVec 32 := BitVec.ofNat 32 (i 1).val
  let c2304_i32 : BitVec 32 := 2304#32
  let v67 : BitVec 32 := Scalar.muli arg1 c2304_i32
  let v68 : BitVec 32 := Scalar.addi v67 c0_i32_34
  let v69 : BitVec 32 := v68
  let v105 : Index := Scalar.indexCast v69
  ![0, v104.toNat, v105.toNat]
def k0_mult58 (i : grid0.Coords) : BitVec 32 :=
  let arg1 : BitVec 32 := BitVec.ofNat 32 (i 1).val
  let c2304_i32_50 : BitVec 32 := 2304#32
  let v110 : BitVec 32 := Scalar.muli arg1 c2304_i32_50
  let c0_i32_51 : BitVec 32 := 0#32
  let v111 : BitVec 32 := Scalar.addi v110 c0_i32_51
  v111
def k0_off26 (i : grid0.Coords) (c0_i32_51 : BitVec 32) : Fin 2 → Nat :=
  let c0_52 : Index := 0#32
  let arg1 : BitVec 32 := BitVec.ofNat 32 (i 1).val
  let c2304_i32_50 : BitVec 32 := 2304#32
  let v110 : BitVec 32 := Scalar.muli arg1 c2304_i32_50
  let v111 : BitVec 32 := Scalar.addi v110 c0_i32_51
  let v112 : BitVec 32 := v111
  let v113 : Index := Scalar.indexCast v112
  ![0, v113.toNat]
def k0_mult59 (i : grid0.Coords) : BitVec 32 :=
  let arg1 : BitVec 32 := BitVec.ofNat 32 (i 1).val
  let c2304_i32_53 : BitVec 32 := 2304#32
  let v117 : BitVec 32 := Scalar.muli arg1 c2304_i32_53
  let c0_i32_54 : BitVec 32 := 0#32
  let v118 : BitVec 32 := Scalar.addi v117 c0_i32_54
  v118
def k0_mult60 (i : grid0.Coords) : BitVec 32 :=
  let arg1 : BitVec 32 := BitVec.ofNat 32 (i 1).val
  let c2304_i32_56 : BitVec 32 := 2304#32
  let v122 : BitVec 32 := Scalar.muli arg1 c2304_i32_56
  let c0_i32_57 : BitVec 32 := 0#32
  let v123 : BitVec 32 := Scalar.addi v122 c0_i32_57
  v123
def k0_off27 (i : grid0.Coords) : Fin 3 → Nat :=
  let arg1 : BitVec 32 := BitVec.ofNat 32 (i 1).val
  let v147 : Index := Scalar.indexCast arg1
  let c0_66 : Index := 0#32
  let c128_67 : Index := 128#32
  ![v147.toNat, 0, 128]
def k0_mult61 (i : grid0.Coords) : BitVec 32 :=
  let arg1 : BitVec 32 := BitVec.ofNat 32 (i 1).val
  let c2304_i32_77 : BitVec 32 := 2304#32
  let v167 : BitVec 32 := Scalar.muli arg1 c2304_i32_77
  let c128_i32 : BitVec 32 := 128#32
  let v168 : BitVec 32 := Scalar.addi v167 c128_i32
  v168
def k0_mult62 (i : grid0.Coords) : BitVec 32 :=
  let arg0 : BitVec 32 := BitVec.ofNat 32 (i 0).val
  let c8_i32_71 : BitVec 32 := 8#32
  let c0_i32_72 : BitVec 32 := 0#32
  let v157 : BitVec 1 := Scalar.cmpi .eq c8_i32_71 c0_i32_72
  let c1_i32_73 : BitVec 32 := 1#32
  let v158 : BitVec 32 := Scalar.select v157 c1_i32_73 c8_i32_71
  let v159 : BitVec 32 := Scalar.remsi arg0 v158
  let c0_i32_75 : BitVec 32 := 0#32
  let v161 : BitVec 1 := Scalar.cmpi .slt v159 c0_i32_75
  let c0_i32_76 : BitVec 32 := 0#32
  let v162 : BitVec 1 := Scalar.cmpi .slt v158 c0_i32_76
  let v163 : BitVec 1 := Scalar.xori v161 v162
  let c0_i32_74 : BitVec 32 := 0#32
  let v160 : BitVec 1 := Scalar.cmpi .ne v159 c0_i32_74
  let v164 : BitVec 1 := Scalar.andi v163 v160
  let v165 : BitVec 32 := Scalar.addi v159 v158
  let v166 : BitVec 32 := Scalar.select v164 v165 v159
  let c0_i32_79 : BitVec 32 := 0#32
  let v171 : BitVec 1 := Scalar.cmpi .sgt v166 c0_i32_79
  let v172 : BitVec 32 := Scalar.extui v171
  let c0_i32_80 : BitVec 32 := 0#32
  let v173 : BitVec 1 := Scalar.cmpi .slt v166 c0_i32_80
  let v174 : BitVec 32 := Scalar.extui v173
  let v175 : BitVec 32 := Scalar.subi v172 v174
  let c8_i32_78 : BitVec 32 := 8#32
  let c0_i32_81 : BitVec 32 := 0#32
  let v176 : BitVec 1 := Scalar.cmpi .sgt c8_i32_78 c0_i32_81
  let v177 : BitVec 32 := Scalar.extui v176
  let c0_i32_82 : BitVec 32 := 0#32
  let v178 : BitVec 1 := Scalar.cmpi .slt c8_i32_78 c0_i32_82
  let v179 : BitVec 32 := Scalar.extui v178
  let v180 : BitVec 32 := Scalar.subi v177 v179
  let v181 : BitVec 1 := Scalar.cmpi .ne v175 v180
  let v182 : BitVec 32 := Scalar.remsi v166 c8_i32_78
  let c0_i32_83 : BitVec 32 := 0#32
  let v183 : BitVec 1 := Scalar.cmpi .ne v182 c0_i32_83
  let v184 : BitVec 1 := Scalar.andi v181 v183
  let v170 : BitVec 32 := Scalar.divsi v166 c8_i32_78
  let c1_i32_84 : BitVec 32 := 1#32
  let v185 : BitVec 32 := Scalar.subi v170 c1_i32_84
  let v186 : BitVec 32 := Scalar.select v184 v185 v170
  let c8_i32_85 : BitVec 32 := 8#32
  let v187 : BitVec 32 := Scalar.muli v186 c8_i32_85
  v187
def k0_mult63 (i : grid0.Coords) : BitVec 32 :=
  let arg1 : BitVec 32 := BitVec.ofNat 32 (i 1).val
  let c2304_i32_93 : BitVec 32 := 2304#32
  let v210 : BitVec 32 := Scalar.muli arg1 c2304_i32_93
  let c128_i32_94 : BitVec 32 := 128#32
  let v211 : BitVec 32 := Scalar.addi v210 c128_i32_94
  v211
def k0_mult64 (i : grid0.Coords) : BitVec 32 :=
  let arg1 : BitVec 32 := BitVec.ofNat 32 (i 1).val
  let c2304_i32_96 : BitVec 32 := 2304#32
  let v217 : BitVec 32 := Scalar.muli arg1 c2304_i32_96
  let c128_i32_97 : BitVec 32 := 128#32
  let v218 : BitVec 32 := Scalar.addi v217 c128_i32_97
  v218
def k0_mult65 (i : grid0.Coords) : BitVec 32 :=
  let arg1 : BitVec 32 := BitVec.ofNat 32 (i 1).val
  let c2304_i32_99 : BitVec 32 := 2304#32
  let v222 : BitVec 32 := Scalar.muli arg1 c2304_i32_99
  let c128_i32_100 : BitVec 32 := 128#32
  let v223 : BitVec 32 := Scalar.addi v222 c128_i32_100
  v223
def k0_off28 (i : grid0.Coords) : Fin 3 → Nat :=
  let arg1 : BitVec 32 := BitVec.ofNat 32 (i 1).val
  let v247 : Index := Scalar.indexCast arg1
  let c0_109 : Index := 0#32
  let c256_110 : Index := 256#32
  ![v247.toNat, 0, 256]
def k0_mult66 (i : grid0.Coords) : BitVec 32 :=
  let arg1 : BitVec 32 := BitVec.ofNat 32 (i 1).val
  let c2304_i32_120 : BitVec 32 := 2304#32
  let v267 : BitVec 32 := Scalar.muli arg1 c2304_i32_120
  let c256_i32 : BitVec 32 := 256#32
  let v268 : BitVec 32 := Scalar.addi v267 c256_i32
  v268
def k0_mult67 (i : grid0.Coords) : BitVec 32 :=
  let arg0 : BitVec 32 := BitVec.ofNat 32 (i 0).val
  let c8_i32_114 : BitVec 32 := 8#32
  let c0_i32_115 : BitVec 32 := 0#32
  let v257 : BitVec 1 := Scalar.cmpi .eq c8_i32_114 c0_i32_115
  let c1_i32_116 : BitVec 32 := 1#32
  let v258 : BitVec 32 := Scalar.select v257 c1_i32_116 c8_i32_114
  let v259 : BitVec 32 := Scalar.remsi arg0 v258
  let c0_i32_118 : BitVec 32 := 0#32
  let v261 : BitVec 1 := Scalar.cmpi .slt v259 c0_i32_118
  let c0_i32_119 : BitVec 32 := 0#32
  let v262 : BitVec 1 := Scalar.cmpi .slt v258 c0_i32_119
  let v263 : BitVec 1 := Scalar.xori v261 v262
  let c0_i32_117 : BitVec 32 := 0#32
  let v260 : BitVec 1 := Scalar.cmpi .ne v259 c0_i32_117
  let v264 : BitVec 1 := Scalar.andi v263 v260
  let v265 : BitVec 32 := Scalar.addi v259 v258
  let v266 : BitVec 32 := Scalar.select v264 v265 v259
  let c0_i32_122 : BitVec 32 := 0#32
  let v271 : BitVec 1 := Scalar.cmpi .sgt v266 c0_i32_122
  let v272 : BitVec 32 := Scalar.extui v271
  let c0_i32_123 : BitVec 32 := 0#32
  let v273 : BitVec 1 := Scalar.cmpi .slt v266 c0_i32_123
  let v274 : BitVec 32 := Scalar.extui v273
  let v275 : BitVec 32 := Scalar.subi v272 v274
  let c8_i32_121 : BitVec 32 := 8#32
  let c0_i32_124 : BitVec 32 := 0#32
  let v276 : BitVec 1 := Scalar.cmpi .sgt c8_i32_121 c0_i32_124
  let v277 : BitVec 32 := Scalar.extui v276
  let c0_i32_125 : BitVec 32 := 0#32
  let v278 : BitVec 1 := Scalar.cmpi .slt c8_i32_121 c0_i32_125
  let v279 : BitVec 32 := Scalar.extui v278
  let v280 : BitVec 32 := Scalar.subi v277 v279
  let v281 : BitVec 1 := Scalar.cmpi .ne v275 v280
  let v282 : BitVec 32 := Scalar.remsi v266 c8_i32_121
  let c0_i32_126 : BitVec 32 := 0#32
  let v283 : BitVec 1 := Scalar.cmpi .ne v282 c0_i32_126
  let v284 : BitVec 1 := Scalar.andi v281 v283
  let v270 : BitVec 32 := Scalar.divsi v266 c8_i32_121
  let c1_i32_127 : BitVec 32 := 1#32
  let v285 : BitVec 32 := Scalar.subi v270 c1_i32_127
  let v286 : BitVec 32 := Scalar.select v284 v285 v270
  let c8_i32_128 : BitVec 32 := 8#32
  let v287 : BitVec 32 := Scalar.muli v286 c8_i32_128
  v287
def k0_mult68 (i : grid0.Coords) : BitVec 32 :=
  let arg1 : BitVec 32 := BitVec.ofNat 32 (i 1).val
  let c2304_i32_136 : BitVec 32 := 2304#32
  let v310 : BitVec 32 := Scalar.muli arg1 c2304_i32_136
  let c256_i32_137 : BitVec 32 := 256#32
  let v311 : BitVec 32 := Scalar.addi v310 c256_i32_137
  v311
def k0_mult69 (i : grid0.Coords) : BitVec 32 :=
  let arg1 : BitVec 32 := BitVec.ofNat 32 (i 1).val
  let c2304_i32_139 : BitVec 32 := 2304#32
  let v317 : BitVec 32 := Scalar.muli arg1 c2304_i32_139
  let c256_i32_140 : BitVec 32 := 256#32
  let v318 : BitVec 32 := Scalar.addi v317 c256_i32_140
  v318
def k0_mult70 (i : grid0.Coords) : BitVec 32 :=
  let arg1 : BitVec 32 := BitVec.ofNat 32 (i 1).val
  let c2304_i32_142 : BitVec 32 := 2304#32
  let v322 : BitVec 32 := Scalar.muli arg1 c2304_i32_142
  let c256_i32_143 : BitVec 32 := 256#32
  let v323 : BitVec 32 := Scalar.addi v322 c256_i32_143
  v323
def k0_off29 (i : grid0.Coords) : Fin 3 → Nat :=
  let arg1 : BitVec 32 := BitVec.ofNat 32 (i 1).val
  let v347 : Index := Scalar.indexCast arg1
  let c0_152 : Index := 0#32
  let c384_153 : Index := 384#32
  ![v347.toNat, 0, 384]
def k0_mult71 (i : grid0.Coords) : BitVec 32 :=
  let arg1 : BitVec 32 := BitVec.ofNat 32 (i 1).val
  let c2304_i32_163 : BitVec 32 := 2304#32
  let v367 : BitVec 32 := Scalar.muli arg1 c2304_i32_163
  let c384_i32 : BitVec 32 := 384#32
  let v368 : BitVec 32 := Scalar.addi v367 c384_i32
  v368
def k0_mult72 (i : grid0.Coords) : BitVec 32 :=
  let arg0 : BitVec 32 := BitVec.ofNat 32 (i 0).val
  let c8_i32_157 : BitVec 32 := 8#32
  let c0_i32_158 : BitVec 32 := 0#32
  let v357 : BitVec 1 := Scalar.cmpi .eq c8_i32_157 c0_i32_158
  let c1_i32_159 : BitVec 32 := 1#32
  let v358 : BitVec 32 := Scalar.select v357 c1_i32_159 c8_i32_157
  let v359 : BitVec 32 := Scalar.remsi arg0 v358
  let c0_i32_161 : BitVec 32 := 0#32
  let v361 : BitVec 1 := Scalar.cmpi .slt v359 c0_i32_161
  let c0_i32_162 : BitVec 32 := 0#32
  let v362 : BitVec 1 := Scalar.cmpi .slt v358 c0_i32_162
  let v363 : BitVec 1 := Scalar.xori v361 v362
  let c0_i32_160 : BitVec 32 := 0#32
  let v360 : BitVec 1 := Scalar.cmpi .ne v359 c0_i32_160
  let v364 : BitVec 1 := Scalar.andi v363 v360
  let v365 : BitVec 32 := Scalar.addi v359 v358
  let v366 : BitVec 32 := Scalar.select v364 v365 v359
  let c0_i32_165 : BitVec 32 := 0#32
  let v371 : BitVec 1 := Scalar.cmpi .sgt v366 c0_i32_165
  let v372 : BitVec 32 := Scalar.extui v371
  let c0_i32_166 : BitVec 32 := 0#32
  let v373 : BitVec 1 := Scalar.cmpi .slt v366 c0_i32_166
  let v374 : BitVec 32 := Scalar.extui v373
  let v375 : BitVec 32 := Scalar.subi v372 v374
  let c8_i32_164 : BitVec 32 := 8#32
  let c0_i32_167 : BitVec 32 := 0#32
  let v376 : BitVec 1 := Scalar.cmpi .sgt c8_i32_164 c0_i32_167
  let v377 : BitVec 32 := Scalar.extui v376
  let c0_i32_168 : BitVec 32 := 0#32
  let v378 : BitVec 1 := Scalar.cmpi .slt c8_i32_164 c0_i32_168
  let v379 : BitVec 32 := Scalar.extui v378
  let v380 : BitVec 32 := Scalar.subi v377 v379
  let v381 : BitVec 1 := Scalar.cmpi .ne v375 v380
  let v382 : BitVec 32 := Scalar.remsi v366 c8_i32_164
  let c0_i32_169 : BitVec 32 := 0#32
  let v383 : BitVec 1 := Scalar.cmpi .ne v382 c0_i32_169
  let v384 : BitVec 1 := Scalar.andi v381 v383
  let v370 : BitVec 32 := Scalar.divsi v366 c8_i32_164
  let c1_i32_170 : BitVec 32 := 1#32
  let v385 : BitVec 32 := Scalar.subi v370 c1_i32_170
  let v386 : BitVec 32 := Scalar.select v384 v385 v370
  let c8_i32_171 : BitVec 32 := 8#32
  let v387 : BitVec 32 := Scalar.muli v386 c8_i32_171
  v387
def k0_mult73 (i : grid0.Coords) : BitVec 32 :=
  let arg1 : BitVec 32 := BitVec.ofNat 32 (i 1).val
  let c2304_i32_179 : BitVec 32 := 2304#32
  let v410 : BitVec 32 := Scalar.muli arg1 c2304_i32_179
  let c384_i32_180 : BitVec 32 := 384#32
  let v411 : BitVec 32 := Scalar.addi v410 c384_i32_180
  v411
def k0_mult74 (i : grid0.Coords) : BitVec 32 :=
  let arg1 : BitVec 32 := BitVec.ofNat 32 (i 1).val
  let c2304_i32_182 : BitVec 32 := 2304#32
  let v417 : BitVec 32 := Scalar.muli arg1 c2304_i32_182
  let c384_i32_183 : BitVec 32 := 384#32
  let v418 : BitVec 32 := Scalar.addi v417 c384_i32_183
  v418
def k0_mult75 (i : grid0.Coords) : BitVec 32 :=
  let arg1 : BitVec 32 := BitVec.ofNat 32 (i 1).val
  let c2304_i32_185 : BitVec 32 := 2304#32
  let v422 : BitVec 32 := Scalar.muli arg1 c2304_i32_185
  let c384_i32_186 : BitVec 32 := 384#32
  let v423 : BitVec 32 := Scalar.addi v422 c384_i32_186
  v423
def k0_off30 (i : grid0.Coords) : Fin 3 → Nat :=
  let arg1 : BitVec 32 := BitVec.ofNat 32 (i 1).val
  let v447 : Index := Scalar.indexCast arg1
  let c0_195 : Index := 0#32
  let c512_196 : Index := 512#32
  ![v447.toNat, 0, 512]
def k0_mult76 (i : grid0.Coords) : BitVec 32 :=
  let arg1 : BitVec 32 := BitVec.ofNat 32 (i 1).val
  let c2304_i32_206 : BitVec 32 := 2304#32
  let v467 : BitVec 32 := Scalar.muli arg1 c2304_i32_206
  let c512_i32 : BitVec 32 := 512#32
  let v468 : BitVec 32 := Scalar.addi v467 c512_i32
  v468
def k0_mult77 (i : grid0.Coords) : BitVec 32 :=
  let arg0 : BitVec 32 := BitVec.ofNat 32 (i 0).val
  let c8_i32_200 : BitVec 32 := 8#32
  let c0_i32_201 : BitVec 32 := 0#32
  let v457 : BitVec 1 := Scalar.cmpi .eq c8_i32_200 c0_i32_201
  let c1_i32_202 : BitVec 32 := 1#32
  let v458 : BitVec 32 := Scalar.select v457 c1_i32_202 c8_i32_200
  let v459 : BitVec 32 := Scalar.remsi arg0 v458
  let c0_i32_204 : BitVec 32 := 0#32
  let v461 : BitVec 1 := Scalar.cmpi .slt v459 c0_i32_204
  let c0_i32_205 : BitVec 32 := 0#32
  let v462 : BitVec 1 := Scalar.cmpi .slt v458 c0_i32_205
  let v463 : BitVec 1 := Scalar.xori v461 v462
  let c0_i32_203 : BitVec 32 := 0#32
  let v460 : BitVec 1 := Scalar.cmpi .ne v459 c0_i32_203
  let v464 : BitVec 1 := Scalar.andi v463 v460
  let v465 : BitVec 32 := Scalar.addi v459 v458
  let v466 : BitVec 32 := Scalar.select v464 v465 v459
  let c0_i32_208 : BitVec 32 := 0#32
  let v471 : BitVec 1 := Scalar.cmpi .sgt v466 c0_i32_208
  let v472 : BitVec 32 := Scalar.extui v471
  let c0_i32_209 : BitVec 32 := 0#32
  let v473 : BitVec 1 := Scalar.cmpi .slt v466 c0_i32_209
  let v474 : BitVec 32 := Scalar.extui v473
  let v475 : BitVec 32 := Scalar.subi v472 v474
  let c8_i32_207 : BitVec 32 := 8#32
  let c0_i32_210 : BitVec 32 := 0#32
  let v476 : BitVec 1 := Scalar.cmpi .sgt c8_i32_207 c0_i32_210
  let v477 : BitVec 32 := Scalar.extui v476
  let c0_i32_211 : BitVec 32 := 0#32
  let v478 : BitVec 1 := Scalar.cmpi .slt c8_i32_207 c0_i32_211
  let v479 : BitVec 32 := Scalar.extui v478
  let v480 : BitVec 32 := Scalar.subi v477 v479
  let v481 : BitVec 1 := Scalar.cmpi .ne v475 v480
  let v482 : BitVec 32 := Scalar.remsi v466 c8_i32_207
  let c0_i32_212 : BitVec 32 := 0#32
  let v483 : BitVec 1 := Scalar.cmpi .ne v482 c0_i32_212
  let v484 : BitVec 1 := Scalar.andi v481 v483
  let v470 : BitVec 32 := Scalar.divsi v466 c8_i32_207
  let c1_i32_213 : BitVec 32 := 1#32
  let v485 : BitVec 32 := Scalar.subi v470 c1_i32_213
  let v486 : BitVec 32 := Scalar.select v484 v485 v470
  let c8_i32_214 : BitVec 32 := 8#32
  let v487 : BitVec 32 := Scalar.muli v486 c8_i32_214
  v487
def k0_mult78 (i : grid0.Coords) : BitVec 32 :=
  let arg1 : BitVec 32 := BitVec.ofNat 32 (i 1).val
  let c2304_i32_222 : BitVec 32 := 2304#32
  let v510 : BitVec 32 := Scalar.muli arg1 c2304_i32_222
  let c512_i32_223 : BitVec 32 := 512#32
  let v511 : BitVec 32 := Scalar.addi v510 c512_i32_223
  v511
def k0_mult79 (i : grid0.Coords) : BitVec 32 :=
  let arg1 : BitVec 32 := BitVec.ofNat 32 (i 1).val
  let c2304_i32_225 : BitVec 32 := 2304#32
  let v517 : BitVec 32 := Scalar.muli arg1 c2304_i32_225
  let c512_i32_226 : BitVec 32 := 512#32
  let v518 : BitVec 32 := Scalar.addi v517 c512_i32_226
  v518
def k0_mult80 (i : grid0.Coords) : BitVec 32 :=
  let arg1 : BitVec 32 := BitVec.ofNat 32 (i 1).val
  let c2304_i32_228 : BitVec 32 := 2304#32
  let v522 : BitVec 32 := Scalar.muli arg1 c2304_i32_228
  let c512_i32_229 : BitVec 32 := 512#32
  let v523 : BitVec 32 := Scalar.addi v522 c512_i32_229
  v523
def k0_off31 (i : grid0.Coords) : Fin 3 → Nat :=
  let arg1 : BitVec 32 := BitVec.ofNat 32 (i 1).val
  let v547 : Index := Scalar.indexCast arg1
  let c0_238 : Index := 0#32
  let c640_239 : Index := 640#32
  ![v547.toNat, 0, 640]
def k0_mult81 (i : grid0.Coords) : BitVec 32 :=
  let arg1 : BitVec 32 := BitVec.ofNat 32 (i 1).val
  let c2304_i32_249 : BitVec 32 := 2304#32
  let v567 : BitVec 32 := Scalar.muli arg1 c2304_i32_249
  let c640_i32 : BitVec 32 := 640#32
  let v568 : BitVec 32 := Scalar.addi v567 c640_i32
  v568
def k0_mult82 (i : grid0.Coords) : BitVec 32 :=
  let arg0 : BitVec 32 := BitVec.ofNat 32 (i 0).val
  let c8_i32_243 : BitVec 32 := 8#32
  let c0_i32_244 : BitVec 32 := 0#32
  let v557 : BitVec 1 := Scalar.cmpi .eq c8_i32_243 c0_i32_244
  let c1_i32_245 : BitVec 32 := 1#32
  let v558 : BitVec 32 := Scalar.select v557 c1_i32_245 c8_i32_243
  let v559 : BitVec 32 := Scalar.remsi arg0 v558
  let c0_i32_247 : BitVec 32 := 0#32
  let v561 : BitVec 1 := Scalar.cmpi .slt v559 c0_i32_247
  let c0_i32_248 : BitVec 32 := 0#32
  let v562 : BitVec 1 := Scalar.cmpi .slt v558 c0_i32_248
  let v563 : BitVec 1 := Scalar.xori v561 v562
  let c0_i32_246 : BitVec 32 := 0#32
  let v560 : BitVec 1 := Scalar.cmpi .ne v559 c0_i32_246
  let v564 : BitVec 1 := Scalar.andi v563 v560
  let v565 : BitVec 32 := Scalar.addi v559 v558
  let v566 : BitVec 32 := Scalar.select v564 v565 v559
  let c0_i32_251 : BitVec 32 := 0#32
  let v571 : BitVec 1 := Scalar.cmpi .sgt v566 c0_i32_251
  let v572 : BitVec 32 := Scalar.extui v571
  let c0_i32_252 : BitVec 32 := 0#32
  let v573 : BitVec 1 := Scalar.cmpi .slt v566 c0_i32_252
  let v574 : BitVec 32 := Scalar.extui v573
  let v575 : BitVec 32 := Scalar.subi v572 v574
  let c8_i32_250 : BitVec 32 := 8#32
  let c0_i32_253 : BitVec 32 := 0#32
  let v576 : BitVec 1 := Scalar.cmpi .sgt c8_i32_250 c0_i32_253
  let v577 : BitVec 32 := Scalar.extui v576
  let c0_i32_254 : BitVec 32 := 0#32
  let v578 : BitVec 1 := Scalar.cmpi .slt c8_i32_250 c0_i32_254
  let v579 : BitVec 32 := Scalar.extui v578
  let v580 : BitVec 32 := Scalar.subi v577 v579
  let v581 : BitVec 1 := Scalar.cmpi .ne v575 v580
  let v582 : BitVec 32 := Scalar.remsi v566 c8_i32_250
  let c0_i32_255 : BitVec 32 := 0#32
  let v583 : BitVec 1 := Scalar.cmpi .ne v582 c0_i32_255
  let v584 : BitVec 1 := Scalar.andi v581 v583
  let v570 : BitVec 32 := Scalar.divsi v566 c8_i32_250
  let c1_i32_256 : BitVec 32 := 1#32
  let v585 : BitVec 32 := Scalar.subi v570 c1_i32_256
  let v586 : BitVec 32 := Scalar.select v584 v585 v570
  let c8_i32_257 : BitVec 32 := 8#32
  let v587 : BitVec 32 := Scalar.muli v586 c8_i32_257
  v587
def k0_mult83 (i : grid0.Coords) : BitVec 32 :=
  let arg1 : BitVec 32 := BitVec.ofNat 32 (i 1).val
  let c2304_i32_265 : BitVec 32 := 2304#32
  let v610 : BitVec 32 := Scalar.muli arg1 c2304_i32_265
  let c640_i32_266 : BitVec 32 := 640#32
  let v611 : BitVec 32 := Scalar.addi v610 c640_i32_266
  v611
def k0_mult84 (i : grid0.Coords) : BitVec 32 :=
  let arg1 : BitVec 32 := BitVec.ofNat 32 (i 1).val
  let c2304_i32_268 : BitVec 32 := 2304#32
  let v617 : BitVec 32 := Scalar.muli arg1 c2304_i32_268
  let c640_i32_269 : BitVec 32 := 640#32
  let v618 : BitVec 32 := Scalar.addi v617 c640_i32_269
  v618
def k0_mult85 (i : grid0.Coords) : BitVec 32 :=
  let arg1 : BitVec 32 := BitVec.ofNat 32 (i 1).val
  let c2304_i32_271 : BitVec 32 := 2304#32
  let v622 : BitVec 32 := Scalar.muli arg1 c2304_i32_271
  let c640_i32_272 : BitVec 32 := 640#32
  let v623 : BitVec 32 := Scalar.addi v622 c640_i32_272
  v623
def k0_off32 (i : grid0.Coords) : Fin 3 → Nat :=
  let arg1 : BitVec 32 := BitVec.ofNat 32 (i 1).val
  let v647 : Index := Scalar.indexCast arg1
  let c0_281 : Index := 0#32
  let c768_282 : Index := 768#32
  ![v647.toNat, 0, 768]
def k0_mult86 (i : grid0.Coords) : BitVec 32 :=
  let arg1 : BitVec 32 := BitVec.ofNat 32 (i 1).val
  let c2304_i32_292 : BitVec 32 := 2304#32
  let v667 : BitVec 32 := Scalar.muli arg1 c2304_i32_292
  let c768_i32 : BitVec 32 := 768#32
  let v668 : BitVec 32 := Scalar.addi v667 c768_i32
  v668
def k0_mult87 (i : grid0.Coords) : BitVec 32 :=
  let arg0 : BitVec 32 := BitVec.ofNat 32 (i 0).val
  let c8_i32_286 : BitVec 32 := 8#32
  let c0_i32_287 : BitVec 32 := 0#32
  let v657 : BitVec 1 := Scalar.cmpi .eq c8_i32_286 c0_i32_287
  let c1_i32_288 : BitVec 32 := 1#32
  let v658 : BitVec 32 := Scalar.select v657 c1_i32_288 c8_i32_286
  let v659 : BitVec 32 := Scalar.remsi arg0 v658
  let c0_i32_290 : BitVec 32 := 0#32
  let v661 : BitVec 1 := Scalar.cmpi .slt v659 c0_i32_290
  let c0_i32_291 : BitVec 32 := 0#32
  let v662 : BitVec 1 := Scalar.cmpi .slt v658 c0_i32_291
  let v663 : BitVec 1 := Scalar.xori v661 v662
  let c0_i32_289 : BitVec 32 := 0#32
  let v660 : BitVec 1 := Scalar.cmpi .ne v659 c0_i32_289
  let v664 : BitVec 1 := Scalar.andi v663 v660
  let v665 : BitVec 32 := Scalar.addi v659 v658
  let v666 : BitVec 32 := Scalar.select v664 v665 v659
  let c0_i32_294 : BitVec 32 := 0#32
  let v671 : BitVec 1 := Scalar.cmpi .sgt v666 c0_i32_294
  let v672 : BitVec 32 := Scalar.extui v671
  let c0_i32_295 : BitVec 32 := 0#32
  let v673 : BitVec 1 := Scalar.cmpi .slt v666 c0_i32_295
  let v674 : BitVec 32 := Scalar.extui v673
  let v675 : BitVec 32 := Scalar.subi v672 v674
  let c8_i32_293 : BitVec 32 := 8#32
  let c0_i32_296 : BitVec 32 := 0#32
  let v676 : BitVec 1 := Scalar.cmpi .sgt c8_i32_293 c0_i32_296
  let v677 : BitVec 32 := Scalar.extui v676
  let c0_i32_297 : BitVec 32 := 0#32
  let v678 : BitVec 1 := Scalar.cmpi .slt c8_i32_293 c0_i32_297
  let v679 : BitVec 32 := Scalar.extui v678
  let v680 : BitVec 32 := Scalar.subi v677 v679
  let v681 : BitVec 1 := Scalar.cmpi .ne v675 v680
  let v682 : BitVec 32 := Scalar.remsi v666 c8_i32_293
  let c0_i32_298 : BitVec 32 := 0#32
  let v683 : BitVec 1 := Scalar.cmpi .ne v682 c0_i32_298
  let v684 : BitVec 1 := Scalar.andi v681 v683
  let v670 : BitVec 32 := Scalar.divsi v666 c8_i32_293
  let c1_i32_299 : BitVec 32 := 1#32
  let v685 : BitVec 32 := Scalar.subi v670 c1_i32_299
  let v686 : BitVec 32 := Scalar.select v684 v685 v670
  let c8_i32_300 : BitVec 32 := 8#32
  let v687 : BitVec 32 := Scalar.muli v686 c8_i32_300
  v687
def k0_mult88 (i : grid0.Coords) : BitVec 32 :=
  let arg1 : BitVec 32 := BitVec.ofNat 32 (i 1).val
  let c2304_i32_308 : BitVec 32 := 2304#32
  let v710 : BitVec 32 := Scalar.muli arg1 c2304_i32_308
  let c768_i32_309 : BitVec 32 := 768#32
  let v711 : BitVec 32 := Scalar.addi v710 c768_i32_309
  v711
def k0_mult89 (i : grid0.Coords) : BitVec 32 :=
  let arg1 : BitVec 32 := BitVec.ofNat 32 (i 1).val
  let c2304_i32_311 : BitVec 32 := 2304#32
  let v717 : BitVec 32 := Scalar.muli arg1 c2304_i32_311
  let c768_i32_312 : BitVec 32 := 768#32
  let v718 : BitVec 32 := Scalar.addi v717 c768_i32_312
  v718
def k0_mult90 (i : grid0.Coords) : BitVec 32 :=
  let arg1 : BitVec 32 := BitVec.ofNat 32 (i 1).val
  let c2304_i32_314 : BitVec 32 := 2304#32
  let v722 : BitVec 32 := Scalar.muli arg1 c2304_i32_314
  let c768_i32_315 : BitVec 32 := 768#32
  let v723 : BitVec 32 := Scalar.addi v722 c768_i32_315
  v723
def k0_off33 (i : grid0.Coords) : Fin 3 → Nat :=
  let arg1 : BitVec 32 := BitVec.ofNat 32 (i 1).val
  let v747 : Index := Scalar.indexCast arg1
  let c0_324 : Index := 0#32
  let c896_325 : Index := 896#32
  ![v747.toNat, 0, 896]
def k0_mult91 (i : grid0.Coords) : BitVec 32 :=
  let arg1 : BitVec 32 := BitVec.ofNat 32 (i 1).val
  let c2304_i32_335 : BitVec 32 := 2304#32
  let v767 : BitVec 32 := Scalar.muli arg1 c2304_i32_335
  let c896_i32 : BitVec 32 := 896#32
  let v768 : BitVec 32 := Scalar.addi v767 c896_i32
  v768
def k0_mult92 (i : grid0.Coords) : BitVec 32 :=
  let arg0 : BitVec 32 := BitVec.ofNat 32 (i 0).val
  let c8_i32_329 : BitVec 32 := 8#32
  let c0_i32_330 : BitVec 32 := 0#32
  let v757 : BitVec 1 := Scalar.cmpi .eq c8_i32_329 c0_i32_330
  let c1_i32_331 : BitVec 32 := 1#32
  let v758 : BitVec 32 := Scalar.select v757 c1_i32_331 c8_i32_329
  let v759 : BitVec 32 := Scalar.remsi arg0 v758
  let c0_i32_333 : BitVec 32 := 0#32
  let v761 : BitVec 1 := Scalar.cmpi .slt v759 c0_i32_333
  let c0_i32_334 : BitVec 32 := 0#32
  let v762 : BitVec 1 := Scalar.cmpi .slt v758 c0_i32_334
  let v763 : BitVec 1 := Scalar.xori v761 v762
  let c0_i32_332 : BitVec 32 := 0#32
  let v760 : BitVec 1 := Scalar.cmpi .ne v759 c0_i32_332
  let v764 : BitVec 1 := Scalar.andi v763 v760
  let v765 : BitVec 32 := Scalar.addi v759 v758
  let v766 : BitVec 32 := Scalar.select v764 v765 v759
  let c0_i32_337 : BitVec 32 := 0#32
  let v771 : BitVec 1 := Scalar.cmpi .sgt v766 c0_i32_337
  let v772 : BitVec 32 := Scalar.extui v771
  let c0_i32_338 : BitVec 32 := 0#32
  let v773 : BitVec 1 := Scalar.cmpi .slt v766 c0_i32_338
  let v774 : BitVec 32 := Scalar.extui v773
  let v775 : BitVec 32 := Scalar.subi v772 v774
  let c8_i32_336 : BitVec 32 := 8#32
  let c0_i32_339 : BitVec 32 := 0#32
  let v776 : BitVec 1 := Scalar.cmpi .sgt c8_i32_336 c0_i32_339
  let v777 : BitVec 32 := Scalar.extui v776
  let c0_i32_340 : BitVec 32 := 0#32
  let v778 : BitVec 1 := Scalar.cmpi .slt c8_i32_336 c0_i32_340
  let v779 : BitVec 32 := Scalar.extui v778
  let v780 : BitVec 32 := Scalar.subi v777 v779
  let v781 : BitVec 1 := Scalar.cmpi .ne v775 v780
  let v782 : BitVec 32 := Scalar.remsi v766 c8_i32_336
  let c0_i32_341 : BitVec 32 := 0#32
  let v783 : BitVec 1 := Scalar.cmpi .ne v782 c0_i32_341
  let v784 : BitVec 1 := Scalar.andi v781 v783
  let v770 : BitVec 32 := Scalar.divsi v766 c8_i32_336
  let c1_i32_342 : BitVec 32 := 1#32
  let v785 : BitVec 32 := Scalar.subi v770 c1_i32_342
  let v786 : BitVec 32 := Scalar.select v784 v785 v770
  let c8_i32_343 : BitVec 32 := 8#32
  let v787 : BitVec 32 := Scalar.muli v786 c8_i32_343
  v787
def k0_mult93 (i : grid0.Coords) : BitVec 32 :=
  let arg1 : BitVec 32 := BitVec.ofNat 32 (i 1).val
  let c2304_i32_351 : BitVec 32 := 2304#32
  let v810 : BitVec 32 := Scalar.muli arg1 c2304_i32_351
  let c896_i32_352 : BitVec 32 := 896#32
  let v811 : BitVec 32 := Scalar.addi v810 c896_i32_352
  v811
def k0_mult94 (i : grid0.Coords) : BitVec 32 :=
  let arg1 : BitVec 32 := BitVec.ofNat 32 (i 1).val
  let c2304_i32_354 : BitVec 32 := 2304#32
  let v817 : BitVec 32 := Scalar.muli arg1 c2304_i32_354
  let c896_i32_355 : BitVec 32 := 896#32
  let v818 : BitVec 32 := Scalar.addi v817 c896_i32_355
  v818
def k0_mult95 (i : grid0.Coords) : BitVec 32 :=
  let arg1 : BitVec 32 := BitVec.ofNat 32 (i 1).val
  let c2304_i32_357 : BitVec 32 := 2304#32
  let v822 : BitVec 32 := Scalar.muli arg1 c2304_i32_357
  let c896_i32_358 : BitVec 32 := 896#32
  let v823 : BitVec 32 := Scalar.addi v822 c896_i32_358
  v823
def k0_off34 (i : grid0.Coords) : Fin 3 → Nat :=
  let arg1 : BitVec 32 := BitVec.ofNat 32 (i 1).val
  let v847 : Index := Scalar.indexCast arg1
  let c0_367 : Index := 0#32
  let c1024_368 : Index := 1024#32
  ![v847.toNat, 0, 1024]
def k0_mult96 (i : grid0.Coords) : BitVec 32 :=
  let arg1 : BitVec 32 := BitVec.ofNat 32 (i 1).val
  let c2304_i32_378 : BitVec 32 := 2304#32
  let v867 : BitVec 32 := Scalar.muli arg1 c2304_i32_378
  let c1024_i32 : BitVec 32 := 1024#32
  let v868 : BitVec 32 := Scalar.addi v867 c1024_i32
  v868
def k0_mult97 (i : grid0.Coords) : BitVec 32 :=
  let arg0 : BitVec 32 := BitVec.ofNat 32 (i 0).val
  let c8_i32_372 : BitVec 32 := 8#32
  let c0_i32_373 : BitVec 32 := 0#32
  let v857 : BitVec 1 := Scalar.cmpi .eq c8_i32_372 c0_i32_373
  let c1_i32_374 : BitVec 32 := 1#32
  let v858 : BitVec 32 := Scalar.select v857 c1_i32_374 c8_i32_372
  let v859 : BitVec 32 := Scalar.remsi arg0 v858
  let c0_i32_376 : BitVec 32 := 0#32
  let v861 : BitVec 1 := Scalar.cmpi .slt v859 c0_i32_376
  let c0_i32_377 : BitVec 32 := 0#32
  let v862 : BitVec 1 := Scalar.cmpi .slt v858 c0_i32_377
  let v863 : BitVec 1 := Scalar.xori v861 v862
  let c0_i32_375 : BitVec 32 := 0#32
  let v860 : BitVec 1 := Scalar.cmpi .ne v859 c0_i32_375
  let v864 : BitVec 1 := Scalar.andi v863 v860
  let v865 : BitVec 32 := Scalar.addi v859 v858
  let v866 : BitVec 32 := Scalar.select v864 v865 v859
  let c0_i32_380 : BitVec 32 := 0#32
  let v871 : BitVec 1 := Scalar.cmpi .sgt v866 c0_i32_380
  let v872 : BitVec 32 := Scalar.extui v871
  let c0_i32_381 : BitVec 32 := 0#32
  let v873 : BitVec 1 := Scalar.cmpi .slt v866 c0_i32_381
  let v874 : BitVec 32 := Scalar.extui v873
  let v875 : BitVec 32 := Scalar.subi v872 v874
  let c8_i32_379 : BitVec 32 := 8#32
  let c0_i32_382 : BitVec 32 := 0#32
  let v876 : BitVec 1 := Scalar.cmpi .sgt c8_i32_379 c0_i32_382
  let v877 : BitVec 32 := Scalar.extui v876
  let c0_i32_383 : BitVec 32 := 0#32
  let v878 : BitVec 1 := Scalar.cmpi .slt c8_i32_379 c0_i32_383
  let v879 : BitVec 32 := Scalar.extui v878
  let v880 : BitVec 32 := Scalar.subi v877 v879
  let v881 : BitVec 1 := Scalar.cmpi .ne v875 v880
  let v882 : BitVec 32 := Scalar.remsi v866 c8_i32_379
  let c0_i32_384 : BitVec 32 := 0#32
  let v883 : BitVec 1 := Scalar.cmpi .ne v882 c0_i32_384
  let v884 : BitVec 1 := Scalar.andi v881 v883
  let v870 : BitVec 32 := Scalar.divsi v866 c8_i32_379
  let c1_i32_385 : BitVec 32 := 1#32
  let v885 : BitVec 32 := Scalar.subi v870 c1_i32_385
  let v886 : BitVec 32 := Scalar.select v884 v885 v870
  let c8_i32_386 : BitVec 32 := 8#32
  let v887 : BitVec 32 := Scalar.muli v886 c8_i32_386
  v887
def k0_mult98 (i : grid0.Coords) : BitVec 32 :=
  let arg1 : BitVec 32 := BitVec.ofNat 32 (i 1).val
  let c2304_i32_394 : BitVec 32 := 2304#32
  let v910 : BitVec 32 := Scalar.muli arg1 c2304_i32_394
  let c1024_i32_395 : BitVec 32 := 1024#32
  let v911 : BitVec 32 := Scalar.addi v910 c1024_i32_395
  v911
def k0_mult99 (i : grid0.Coords) : BitVec 32 :=
  let arg1 : BitVec 32 := BitVec.ofNat 32 (i 1).val
  let c2304_i32_397 : BitVec 32 := 2304#32
  let v917 : BitVec 32 := Scalar.muli arg1 c2304_i32_397
  let c1024_i32_398 : BitVec 32 := 1024#32
  let v918 : BitVec 32 := Scalar.addi v917 c1024_i32_398
  v918
def k0_mult100 (i : grid0.Coords) : BitVec 32 :=
  let arg1 : BitVec 32 := BitVec.ofNat 32 (i 1).val
  let c2304_i32_400 : BitVec 32 := 2304#32
  let v922 : BitVec 32 := Scalar.muli arg1 c2304_i32_400
  let c1024_i32_401 : BitVec 32 := 1024#32
  let v923 : BitVec 32 := Scalar.addi v922 c1024_i32_401
  v923
def k0_off35 (i : grid0.Coords) : Fin 3 → Nat :=
  let arg1 : BitVec 32 := BitVec.ofNat 32 (i 1).val
  let v947 : Index := Scalar.indexCast arg1
  let c0_410 : Index := 0#32
  let c1152_411 : Index := 1152#32
  ![v947.toNat, 0, 1152]
def k0_mult101 (i : grid0.Coords) : BitVec 32 :=
  let arg1 : BitVec 32 := BitVec.ofNat 32 (i 1).val
  let c2304_i32_421 : BitVec 32 := 2304#32
  let v967 : BitVec 32 := Scalar.muli arg1 c2304_i32_421
  let c1152_i32 : BitVec 32 := 1152#32
  let v968 : BitVec 32 := Scalar.addi v967 c1152_i32
  v968
def k0_mult102 (i : grid0.Coords) : BitVec 32 :=
  let arg0 : BitVec 32 := BitVec.ofNat 32 (i 0).val
  let c8_i32_415 : BitVec 32 := 8#32
  let c0_i32_416 : BitVec 32 := 0#32
  let v957 : BitVec 1 := Scalar.cmpi .eq c8_i32_415 c0_i32_416
  let c1_i32_417 : BitVec 32 := 1#32
  let v958 : BitVec 32 := Scalar.select v957 c1_i32_417 c8_i32_415
  let v959 : BitVec 32 := Scalar.remsi arg0 v958
  let c0_i32_419 : BitVec 32 := 0#32
  let v961 : BitVec 1 := Scalar.cmpi .slt v959 c0_i32_419
  let c0_i32_420 : BitVec 32 := 0#32
  let v962 : BitVec 1 := Scalar.cmpi .slt v958 c0_i32_420
  let v963 : BitVec 1 := Scalar.xori v961 v962
  let c0_i32_418 : BitVec 32 := 0#32
  let v960 : BitVec 1 := Scalar.cmpi .ne v959 c0_i32_418
  let v964 : BitVec 1 := Scalar.andi v963 v960
  let v965 : BitVec 32 := Scalar.addi v959 v958
  let v966 : BitVec 32 := Scalar.select v964 v965 v959
  let c0_i32_423 : BitVec 32 := 0#32
  let v971 : BitVec 1 := Scalar.cmpi .sgt v966 c0_i32_423
  let v972 : BitVec 32 := Scalar.extui v971
  let c0_i32_424 : BitVec 32 := 0#32
  let v973 : BitVec 1 := Scalar.cmpi .slt v966 c0_i32_424
  let v974 : BitVec 32 := Scalar.extui v973
  let v975 : BitVec 32 := Scalar.subi v972 v974
  let c8_i32_422 : BitVec 32 := 8#32
  let c0_i32_425 : BitVec 32 := 0#32
  let v976 : BitVec 1 := Scalar.cmpi .sgt c8_i32_422 c0_i32_425
  let v977 : BitVec 32 := Scalar.extui v976
  let c0_i32_426 : BitVec 32 := 0#32
  let v978 : BitVec 1 := Scalar.cmpi .slt c8_i32_422 c0_i32_426
  let v979 : BitVec 32 := Scalar.extui v978
  let v980 : BitVec 32 := Scalar.subi v977 v979
  let v981 : BitVec 1 := Scalar.cmpi .ne v975 v980
  let v982 : BitVec 32 := Scalar.remsi v966 c8_i32_422
  let c0_i32_427 : BitVec 32 := 0#32
  let v983 : BitVec 1 := Scalar.cmpi .ne v982 c0_i32_427
  let v984 : BitVec 1 := Scalar.andi v981 v983
  let v970 : BitVec 32 := Scalar.divsi v966 c8_i32_422
  let c1_i32_428 : BitVec 32 := 1#32
  let v985 : BitVec 32 := Scalar.subi v970 c1_i32_428
  let v986 : BitVec 32 := Scalar.select v984 v985 v970
  let c8_i32_429 : BitVec 32 := 8#32
  let v987 : BitVec 32 := Scalar.muli v986 c8_i32_429
  v987
def k0_mult103 (i : grid0.Coords) : BitVec 32 :=
  let arg1 : BitVec 32 := BitVec.ofNat 32 (i 1).val
  let c2304_i32_437 : BitVec 32 := 2304#32
  let v1010 : BitVec 32 := Scalar.muli arg1 c2304_i32_437
  let c1152_i32_438 : BitVec 32 := 1152#32
  let v1011 : BitVec 32 := Scalar.addi v1010 c1152_i32_438
  v1011
def k0_mult104 (i : grid0.Coords) : BitVec 32 :=
  let arg1 : BitVec 32 := BitVec.ofNat 32 (i 1).val
  let c2304_i32_440 : BitVec 32 := 2304#32
  let v1017 : BitVec 32 := Scalar.muli arg1 c2304_i32_440
  let c1152_i32_441 : BitVec 32 := 1152#32
  let v1018 : BitVec 32 := Scalar.addi v1017 c1152_i32_441
  v1018
def k0_mult105 (i : grid0.Coords) : BitVec 32 :=
  let arg1 : BitVec 32 := BitVec.ofNat 32 (i 1).val
  let c2304_i32_443 : BitVec 32 := 2304#32
  let v1022 : BitVec 32 := Scalar.muli arg1 c2304_i32_443
  let c1152_i32_444 : BitVec 32 := 1152#32
  let v1023 : BitVec 32 := Scalar.addi v1022 c1152_i32_444
  v1023
def k0_off36 (i : grid0.Coords) : Fin 3 → Nat :=
  let arg1 : BitVec 32 := BitVec.ofNat 32 (i 1).val
  let v1047 : Index := Scalar.indexCast arg1
  let c0_453 : Index := 0#32
  let c1280_454 : Index := 1280#32
  ![v1047.toNat, 0, 1280]
def k0_mult106 (i : grid0.Coords) : BitVec 32 :=
  let arg1 : BitVec 32 := BitVec.ofNat 32 (i 1).val
  let c2304_i32_464 : BitVec 32 := 2304#32
  let v1067 : BitVec 32 := Scalar.muli arg1 c2304_i32_464
  let c1280_i32 : BitVec 32 := 1280#32
  let v1068 : BitVec 32 := Scalar.addi v1067 c1280_i32
  v1068
def k0_mult107 (i : grid0.Coords) : BitVec 32 :=
  let arg0 : BitVec 32 := BitVec.ofNat 32 (i 0).val
  let c8_i32_458 : BitVec 32 := 8#32
  let c0_i32_459 : BitVec 32 := 0#32
  let v1057 : BitVec 1 := Scalar.cmpi .eq c8_i32_458 c0_i32_459
  let c1_i32_460 : BitVec 32 := 1#32
  let v1058 : BitVec 32 := Scalar.select v1057 c1_i32_460 c8_i32_458
  let v1059 : BitVec 32 := Scalar.remsi arg0 v1058
  let c0_i32_462 : BitVec 32 := 0#32
  let v1061 : BitVec 1 := Scalar.cmpi .slt v1059 c0_i32_462
  let c0_i32_463 : BitVec 32 := 0#32
  let v1062 : BitVec 1 := Scalar.cmpi .slt v1058 c0_i32_463
  let v1063 : BitVec 1 := Scalar.xori v1061 v1062
  let c0_i32_461 : BitVec 32 := 0#32
  let v1060 : BitVec 1 := Scalar.cmpi .ne v1059 c0_i32_461
  let v1064 : BitVec 1 := Scalar.andi v1063 v1060
  let v1065 : BitVec 32 := Scalar.addi v1059 v1058
  let v1066 : BitVec 32 := Scalar.select v1064 v1065 v1059
  let c0_i32_466 : BitVec 32 := 0#32
  let v1071 : BitVec 1 := Scalar.cmpi .sgt v1066 c0_i32_466
  let v1072 : BitVec 32 := Scalar.extui v1071
  let c0_i32_467 : BitVec 32 := 0#32
  let v1073 : BitVec 1 := Scalar.cmpi .slt v1066 c0_i32_467
  let v1074 : BitVec 32 := Scalar.extui v1073
  let v1075 : BitVec 32 := Scalar.subi v1072 v1074
  let c8_i32_465 : BitVec 32 := 8#32
  let c0_i32_468 : BitVec 32 := 0#32
  let v1076 : BitVec 1 := Scalar.cmpi .sgt c8_i32_465 c0_i32_468
  let v1077 : BitVec 32 := Scalar.extui v1076
  let c0_i32_469 : BitVec 32 := 0#32
  let v1078 : BitVec 1 := Scalar.cmpi .slt c8_i32_465 c0_i32_469
  let v1079 : BitVec 32 := Scalar.extui v1078
  let v1080 : BitVec 32 := Scalar.subi v1077 v1079
  let v1081 : BitVec 1 := Scalar.cmpi .ne v1075 v1080
  let v1082 : BitVec 32 := Scalar.remsi v1066 c8_i32_465
  let c0_i32_470 : BitVec 32 := 0#32
  let v1083 : BitVec 1 := Scalar.cmpi .ne v1082 c0_i32_470
  let v1084 : BitVec 1 := Scalar.andi v1081 v1083
  let v1070 : BitVec 32 := Scalar.divsi v1066 c8_i32_465
  let c1_i32_471 : BitVec 32 := 1#32
  let v1085 : BitVec 32 := Scalar.subi v1070 c1_i32_471
  let v1086 : BitVec 32 := Scalar.select v1084 v1085 v1070
  let c8_i32_472 : BitVec 32 := 8#32
  let v1087 : BitVec 32 := Scalar.muli v1086 c8_i32_472
  v1087
def k0_mult108 (i : grid0.Coords) : BitVec 32 :=
  let arg1 : BitVec 32 := BitVec.ofNat 32 (i 1).val
  let c2304_i32_480 : BitVec 32 := 2304#32
  let v1110 : BitVec 32 := Scalar.muli arg1 c2304_i32_480
  let c1280_i32_481 : BitVec 32 := 1280#32
  let v1111 : BitVec 32 := Scalar.addi v1110 c1280_i32_481
  v1111
def k0_mult109 (i : grid0.Coords) : BitVec 32 :=
  let arg1 : BitVec 32 := BitVec.ofNat 32 (i 1).val
  let c2304_i32_483 : BitVec 32 := 2304#32
  let v1117 : BitVec 32 := Scalar.muli arg1 c2304_i32_483
  let c1280_i32_484 : BitVec 32 := 1280#32
  let v1118 : BitVec 32 := Scalar.addi v1117 c1280_i32_484
  v1118
def k0_mult110 (i : grid0.Coords) : BitVec 32 :=
  let arg1 : BitVec 32 := BitVec.ofNat 32 (i 1).val
  let c2304_i32_486 : BitVec 32 := 2304#32
  let v1122 : BitVec 32 := Scalar.muli arg1 c2304_i32_486
  let c1280_i32_487 : BitVec 32 := 1280#32
  let v1123 : BitVec 32 := Scalar.addi v1122 c1280_i32_487
  v1123
def k0_off37 (i : grid0.Coords) : Fin 3 → Nat :=
  let arg1 : BitVec 32 := BitVec.ofNat 32 (i 1).val
  let v1147 : Index := Scalar.indexCast arg1
  let c0_496 : Index := 0#32
  let c1408_497 : Index := 1408#32
  ![v1147.toNat, 0, 1408]
def k0_mult111 (i : grid0.Coords) : BitVec 32 :=
  let arg1 : BitVec 32 := BitVec.ofNat 32 (i 1).val
  let c2304_i32_507 : BitVec 32 := 2304#32
  let v1167 : BitVec 32 := Scalar.muli arg1 c2304_i32_507
  let c1408_i32 : BitVec 32 := 1408#32
  let v1168 : BitVec 32 := Scalar.addi v1167 c1408_i32
  v1168
def k0_mult112 (i : grid0.Coords) : BitVec 32 :=
  let arg0 : BitVec 32 := BitVec.ofNat 32 (i 0).val
  let c8_i32_501 : BitVec 32 := 8#32
  let c0_i32_502 : BitVec 32 := 0#32
  let v1157 : BitVec 1 := Scalar.cmpi .eq c8_i32_501 c0_i32_502
  let c1_i32_503 : BitVec 32 := 1#32
  let v1158 : BitVec 32 := Scalar.select v1157 c1_i32_503 c8_i32_501
  let v1159 : BitVec 32 := Scalar.remsi arg0 v1158
  let c0_i32_505 : BitVec 32 := 0#32
  let v1161 : BitVec 1 := Scalar.cmpi .slt v1159 c0_i32_505
  let c0_i32_506 : BitVec 32 := 0#32
  let v1162 : BitVec 1 := Scalar.cmpi .slt v1158 c0_i32_506
  let v1163 : BitVec 1 := Scalar.xori v1161 v1162
  let c0_i32_504 : BitVec 32 := 0#32
  let v1160 : BitVec 1 := Scalar.cmpi .ne v1159 c0_i32_504
  let v1164 : BitVec 1 := Scalar.andi v1163 v1160
  let v1165 : BitVec 32 := Scalar.addi v1159 v1158
  let v1166 : BitVec 32 := Scalar.select v1164 v1165 v1159
  let c0_i32_509 : BitVec 32 := 0#32
  let v1171 : BitVec 1 := Scalar.cmpi .sgt v1166 c0_i32_509
  let v1172 : BitVec 32 := Scalar.extui v1171
  let c0_i32_510 : BitVec 32 := 0#32
  let v1173 : BitVec 1 := Scalar.cmpi .slt v1166 c0_i32_510
  let v1174 : BitVec 32 := Scalar.extui v1173
  let v1175 : BitVec 32 := Scalar.subi v1172 v1174
  let c8_i32_508 : BitVec 32 := 8#32
  let c0_i32_511 : BitVec 32 := 0#32
  let v1176 : BitVec 1 := Scalar.cmpi .sgt c8_i32_508 c0_i32_511
  let v1177 : BitVec 32 := Scalar.extui v1176
  let c0_i32_512 : BitVec 32 := 0#32
  let v1178 : BitVec 1 := Scalar.cmpi .slt c8_i32_508 c0_i32_512
  let v1179 : BitVec 32 := Scalar.extui v1178
  let v1180 : BitVec 32 := Scalar.subi v1177 v1179
  let v1181 : BitVec 1 := Scalar.cmpi .ne v1175 v1180
  let v1182 : BitVec 32 := Scalar.remsi v1166 c8_i32_508
  let c0_i32_513 : BitVec 32 := 0#32
  let v1183 : BitVec 1 := Scalar.cmpi .ne v1182 c0_i32_513
  let v1184 : BitVec 1 := Scalar.andi v1181 v1183
  let v1170 : BitVec 32 := Scalar.divsi v1166 c8_i32_508
  let c1_i32_514 : BitVec 32 := 1#32
  let v1185 : BitVec 32 := Scalar.subi v1170 c1_i32_514
  let v1186 : BitVec 32 := Scalar.select v1184 v1185 v1170
  let c8_i32_515 : BitVec 32 := 8#32
  let v1187 : BitVec 32 := Scalar.muli v1186 c8_i32_515
  v1187
def k0_mult113 (i : grid0.Coords) : BitVec 32 :=
  let arg1 : BitVec 32 := BitVec.ofNat 32 (i 1).val
  let c2304_i32_523 : BitVec 32 := 2304#32
  let v1210 : BitVec 32 := Scalar.muli arg1 c2304_i32_523
  let c1408_i32_524 : BitVec 32 := 1408#32
  let v1211 : BitVec 32 := Scalar.addi v1210 c1408_i32_524
  v1211
def k0_mult114 (i : grid0.Coords) : BitVec 32 :=
  let arg1 : BitVec 32 := BitVec.ofNat 32 (i 1).val
  let c2304_i32_526 : BitVec 32 := 2304#32
  let v1217 : BitVec 32 := Scalar.muli arg1 c2304_i32_526
  let c1408_i32_527 : BitVec 32 := 1408#32
  let v1218 : BitVec 32 := Scalar.addi v1217 c1408_i32_527
  v1218
def k0_mult115 (i : grid0.Coords) : BitVec 32 :=
  let arg1 : BitVec 32 := BitVec.ofNat 32 (i 1).val
  let c2304_i32_529 : BitVec 32 := 2304#32
  let v1222 : BitVec 32 := Scalar.muli arg1 c2304_i32_529
  let c1408_i32_530 : BitVec 32 := 1408#32
  let v1223 : BitVec 32 := Scalar.addi v1222 c1408_i32_530
  v1223
def k0_off38 (i : grid0.Coords) : Fin 3 → Nat :=
  let arg1 : BitVec 32 := BitVec.ofNat 32 (i 1).val
  let v1247 : Index := Scalar.indexCast arg1
  let c0_539 : Index := 0#32
  let c1536_540 : Index := 1536#32
  ![v1247.toNat, 0, 1536]
def k0_mult116 (i : grid0.Coords) : BitVec 32 :=
  let arg1 : BitVec 32 := BitVec.ofNat 32 (i 1).val
  let c2304_i32_550 : BitVec 32 := 2304#32
  let v1267 : BitVec 32 := Scalar.muli arg1 c2304_i32_550
  let c1536_i32 : BitVec 32 := 1536#32
  let v1268 : BitVec 32 := Scalar.addi v1267 c1536_i32
  v1268
def k0_mult117 (i : grid0.Coords) : BitVec 32 :=
  let arg0 : BitVec 32 := BitVec.ofNat 32 (i 0).val
  let c8_i32_544 : BitVec 32 := 8#32
  let c0_i32_545 : BitVec 32 := 0#32
  let v1257 : BitVec 1 := Scalar.cmpi .eq c8_i32_544 c0_i32_545
  let c1_i32_546 : BitVec 32 := 1#32
  let v1258 : BitVec 32 := Scalar.select v1257 c1_i32_546 c8_i32_544
  let v1259 : BitVec 32 := Scalar.remsi arg0 v1258
  let c0_i32_548 : BitVec 32 := 0#32
  let v1261 : BitVec 1 := Scalar.cmpi .slt v1259 c0_i32_548
  let c0_i32_549 : BitVec 32 := 0#32
  let v1262 : BitVec 1 := Scalar.cmpi .slt v1258 c0_i32_549
  let v1263 : BitVec 1 := Scalar.xori v1261 v1262
  let c0_i32_547 : BitVec 32 := 0#32
  let v1260 : BitVec 1 := Scalar.cmpi .ne v1259 c0_i32_547
  let v1264 : BitVec 1 := Scalar.andi v1263 v1260
  let v1265 : BitVec 32 := Scalar.addi v1259 v1258
  let v1266 : BitVec 32 := Scalar.select v1264 v1265 v1259
  let c0_i32_552 : BitVec 32 := 0#32
  let v1271 : BitVec 1 := Scalar.cmpi .sgt v1266 c0_i32_552
  let v1272 : BitVec 32 := Scalar.extui v1271
  let c0_i32_553 : BitVec 32 := 0#32
  let v1273 : BitVec 1 := Scalar.cmpi .slt v1266 c0_i32_553
  let v1274 : BitVec 32 := Scalar.extui v1273
  let v1275 : BitVec 32 := Scalar.subi v1272 v1274
  let c8_i32_551 : BitVec 32 := 8#32
  let c0_i32_554 : BitVec 32 := 0#32
  let v1276 : BitVec 1 := Scalar.cmpi .sgt c8_i32_551 c0_i32_554
  let v1277 : BitVec 32 := Scalar.extui v1276
  let c0_i32_555 : BitVec 32 := 0#32
  let v1278 : BitVec 1 := Scalar.cmpi .slt c8_i32_551 c0_i32_555
  let v1279 : BitVec 32 := Scalar.extui v1278
  let v1280 : BitVec 32 := Scalar.subi v1277 v1279
  let v1281 : BitVec 1 := Scalar.cmpi .ne v1275 v1280
  let v1282 : BitVec 32 := Scalar.remsi v1266 c8_i32_551
  let c0_i32_556 : BitVec 32 := 0#32
  let v1283 : BitVec 1 := Scalar.cmpi .ne v1282 c0_i32_556
  let v1284 : BitVec 1 := Scalar.andi v1281 v1283
  let v1270 : BitVec 32 := Scalar.divsi v1266 c8_i32_551
  let c1_i32_557 : BitVec 32 := 1#32
  let v1285 : BitVec 32 := Scalar.subi v1270 c1_i32_557
  let v1286 : BitVec 32 := Scalar.select v1284 v1285 v1270
  let c8_i32_558 : BitVec 32 := 8#32
  let v1287 : BitVec 32 := Scalar.muli v1286 c8_i32_558
  v1287
def k0_mult118 (i : grid0.Coords) : BitVec 32 :=
  let arg1 : BitVec 32 := BitVec.ofNat 32 (i 1).val
  let c2304_i32_566 : BitVec 32 := 2304#32
  let v1310 : BitVec 32 := Scalar.muli arg1 c2304_i32_566
  let c1536_i32_567 : BitVec 32 := 1536#32
  let v1311 : BitVec 32 := Scalar.addi v1310 c1536_i32_567
  v1311
def k0_mult119 (i : grid0.Coords) : BitVec 32 :=
  let arg1 : BitVec 32 := BitVec.ofNat 32 (i 1).val
  let c2304_i32_569 : BitVec 32 := 2304#32
  let v1317 : BitVec 32 := Scalar.muli arg1 c2304_i32_569
  let c1536_i32_570 : BitVec 32 := 1536#32
  let v1318 : BitVec 32 := Scalar.addi v1317 c1536_i32_570
  v1318
def k0_mult120 (i : grid0.Coords) : BitVec 32 :=
  let arg1 : BitVec 32 := BitVec.ofNat 32 (i 1).val
  let c2304_i32_572 : BitVec 32 := 2304#32
  let v1322 : BitVec 32 := Scalar.muli arg1 c2304_i32_572
  let c1536_i32_573 : BitVec 32 := 1536#32
  let v1323 : BitVec 32 := Scalar.addi v1322 c1536_i32_573
  v1323
def k0_off39 (i : grid0.Coords) : Fin 3 → Nat :=
  let arg1 : BitVec 32 := BitVec.ofNat 32 (i 1).val
  let v1347 : Index := Scalar.indexCast arg1
  let c0_582 : Index := 0#32
  let c1664_583 : Index := 1664#32
  ![v1347.toNat, 0, 1664]
def k0_mult121 (i : grid0.Coords) : BitVec 32 :=
  let arg1 : BitVec 32 := BitVec.ofNat 32 (i 1).val
  let c2304_i32_593 : BitVec 32 := 2304#32
  let v1367 : BitVec 32 := Scalar.muli arg1 c2304_i32_593
  let c1664_i32 : BitVec 32 := 1664#32
  let v1368 : BitVec 32 := Scalar.addi v1367 c1664_i32
  v1368
def k0_mult122 (i : grid0.Coords) : BitVec 32 :=
  let arg0 : BitVec 32 := BitVec.ofNat 32 (i 0).val
  let c8_i32_587 : BitVec 32 := 8#32
  let c0_i32_588 : BitVec 32 := 0#32
  let v1357 : BitVec 1 := Scalar.cmpi .eq c8_i32_587 c0_i32_588
  let c1_i32_589 : BitVec 32 := 1#32
  let v1358 : BitVec 32 := Scalar.select v1357 c1_i32_589 c8_i32_587
  let v1359 : BitVec 32 := Scalar.remsi arg0 v1358
  let c0_i32_591 : BitVec 32 := 0#32
  let v1361 : BitVec 1 := Scalar.cmpi .slt v1359 c0_i32_591
  let c0_i32_592 : BitVec 32 := 0#32
  let v1362 : BitVec 1 := Scalar.cmpi .slt v1358 c0_i32_592
  let v1363 : BitVec 1 := Scalar.xori v1361 v1362
  let c0_i32_590 : BitVec 32 := 0#32
  let v1360 : BitVec 1 := Scalar.cmpi .ne v1359 c0_i32_590
  let v1364 : BitVec 1 := Scalar.andi v1363 v1360
  let v1365 : BitVec 32 := Scalar.addi v1359 v1358
  let v1366 : BitVec 32 := Scalar.select v1364 v1365 v1359
  let c0_i32_595 : BitVec 32 := 0#32
  let v1371 : BitVec 1 := Scalar.cmpi .sgt v1366 c0_i32_595
  let v1372 : BitVec 32 := Scalar.extui v1371
  let c0_i32_596 : BitVec 32 := 0#32
  let v1373 : BitVec 1 := Scalar.cmpi .slt v1366 c0_i32_596
  let v1374 : BitVec 32 := Scalar.extui v1373
  let v1375 : BitVec 32 := Scalar.subi v1372 v1374
  let c8_i32_594 : BitVec 32 := 8#32
  let c0_i32_597 : BitVec 32 := 0#32
  let v1376 : BitVec 1 := Scalar.cmpi .sgt c8_i32_594 c0_i32_597
  let v1377 : BitVec 32 := Scalar.extui v1376
  let c0_i32_598 : BitVec 32 := 0#32
  let v1378 : BitVec 1 := Scalar.cmpi .slt c8_i32_594 c0_i32_598
  let v1379 : BitVec 32 := Scalar.extui v1378
  let v1380 : BitVec 32 := Scalar.subi v1377 v1379
  let v1381 : BitVec 1 := Scalar.cmpi .ne v1375 v1380
  let v1382 : BitVec 32 := Scalar.remsi v1366 c8_i32_594
  let c0_i32_599 : BitVec 32 := 0#32
  let v1383 : BitVec 1 := Scalar.cmpi .ne v1382 c0_i32_599
  let v1384 : BitVec 1 := Scalar.andi v1381 v1383
  let v1370 : BitVec 32 := Scalar.divsi v1366 c8_i32_594
  let c1_i32_600 : BitVec 32 := 1#32
  let v1385 : BitVec 32 := Scalar.subi v1370 c1_i32_600
  let v1386 : BitVec 32 := Scalar.select v1384 v1385 v1370
  let c8_i32_601 : BitVec 32 := 8#32
  let v1387 : BitVec 32 := Scalar.muli v1386 c8_i32_601
  v1387
def k0_mult123 (i : grid0.Coords) : BitVec 32 :=
  let arg1 : BitVec 32 := BitVec.ofNat 32 (i 1).val
  let c2304_i32_609 : BitVec 32 := 2304#32
  let v1410 : BitVec 32 := Scalar.muli arg1 c2304_i32_609
  let c1664_i32_610 : BitVec 32 := 1664#32
  let v1411 : BitVec 32 := Scalar.addi v1410 c1664_i32_610
  v1411
def k0_mult124 (i : grid0.Coords) : BitVec 32 :=
  let arg1 : BitVec 32 := BitVec.ofNat 32 (i 1).val
  let c2304_i32_612 : BitVec 32 := 2304#32
  let v1417 : BitVec 32 := Scalar.muli arg1 c2304_i32_612
  let c1664_i32_613 : BitVec 32 := 1664#32
  let v1418 : BitVec 32 := Scalar.addi v1417 c1664_i32_613
  v1418
def k0_mult125 (i : grid0.Coords) : BitVec 32 :=
  let arg1 : BitVec 32 := BitVec.ofNat 32 (i 1).val
  let c2304_i32_615 : BitVec 32 := 2304#32
  let v1422 : BitVec 32 := Scalar.muli arg1 c2304_i32_615
  let c1664_i32_616 : BitVec 32 := 1664#32
  let v1423 : BitVec 32 := Scalar.addi v1422 c1664_i32_616
  v1423
def k0_off40 (i : grid0.Coords) : Fin 3 → Nat :=
  let arg1 : BitVec 32 := BitVec.ofNat 32 (i 1).val
  let v1447 : Index := Scalar.indexCast arg1
  let c0_625 : Index := 0#32
  let c1792_626 : Index := 1792#32
  ![v1447.toNat, 0, 1792]
def k0_mult126 (i : grid0.Coords) : BitVec 32 :=
  let arg1 : BitVec 32 := BitVec.ofNat 32 (i 1).val
  let c2304_i32_636 : BitVec 32 := 2304#32
  let v1467 : BitVec 32 := Scalar.muli arg1 c2304_i32_636
  let c1792_i32 : BitVec 32 := 1792#32
  let v1468 : BitVec 32 := Scalar.addi v1467 c1792_i32
  v1468
def k0_mult127 (i : grid0.Coords) : BitVec 32 :=
  let arg0 : BitVec 32 := BitVec.ofNat 32 (i 0).val
  let c8_i32_630 : BitVec 32 := 8#32
  let c0_i32_631 : BitVec 32 := 0#32
  let v1457 : BitVec 1 := Scalar.cmpi .eq c8_i32_630 c0_i32_631
  let c1_i32_632 : BitVec 32 := 1#32
  let v1458 : BitVec 32 := Scalar.select v1457 c1_i32_632 c8_i32_630
  let v1459 : BitVec 32 := Scalar.remsi arg0 v1458
  let c0_i32_634 : BitVec 32 := 0#32
  let v1461 : BitVec 1 := Scalar.cmpi .slt v1459 c0_i32_634
  let c0_i32_635 : BitVec 32 := 0#32
  let v1462 : BitVec 1 := Scalar.cmpi .slt v1458 c0_i32_635
  let v1463 : BitVec 1 := Scalar.xori v1461 v1462
  let c0_i32_633 : BitVec 32 := 0#32
  let v1460 : BitVec 1 := Scalar.cmpi .ne v1459 c0_i32_633
  let v1464 : BitVec 1 := Scalar.andi v1463 v1460
  let v1465 : BitVec 32 := Scalar.addi v1459 v1458
  let v1466 : BitVec 32 := Scalar.select v1464 v1465 v1459
  let c0_i32_638 : BitVec 32 := 0#32
  let v1471 : BitVec 1 := Scalar.cmpi .sgt v1466 c0_i32_638
  let v1472 : BitVec 32 := Scalar.extui v1471
  let c0_i32_639 : BitVec 32 := 0#32
  let v1473 : BitVec 1 := Scalar.cmpi .slt v1466 c0_i32_639
  let v1474 : BitVec 32 := Scalar.extui v1473
  let v1475 : BitVec 32 := Scalar.subi v1472 v1474
  let c8_i32_637 : BitVec 32 := 8#32
  let c0_i32_640 : BitVec 32 := 0#32
  let v1476 : BitVec 1 := Scalar.cmpi .sgt c8_i32_637 c0_i32_640
  let v1477 : BitVec 32 := Scalar.extui v1476
  let c0_i32_641 : BitVec 32 := 0#32
  let v1478 : BitVec 1 := Scalar.cmpi .slt c8_i32_637 c0_i32_641
  let v1479 : BitVec 32 := Scalar.extui v1478
  let v1480 : BitVec 32 := Scalar.subi v1477 v1479
  let v1481 : BitVec 1 := Scalar.cmpi .ne v1475 v1480
  let v1482 : BitVec 32 := Scalar.remsi v1466 c8_i32_637
  let c0_i32_642 : BitVec 32 := 0#32
  let v1483 : BitVec 1 := Scalar.cmpi .ne v1482 c0_i32_642
  let v1484 : BitVec 1 := Scalar.andi v1481 v1483
  let v1470 : BitVec 32 := Scalar.divsi v1466 c8_i32_637
  let c1_i32_643 : BitVec 32 := 1#32
  let v1485 : BitVec 32 := Scalar.subi v1470 c1_i32_643
  let v1486 : BitVec 32 := Scalar.select v1484 v1485 v1470
  let c8_i32_644 : BitVec 32 := 8#32
  let v1487 : BitVec 32 := Scalar.muli v1486 c8_i32_644
  v1487
def k0_mult128 (i : grid0.Coords) : BitVec 32 :=
  let arg1 : BitVec 32 := BitVec.ofNat 32 (i 1).val
  let c2304_i32_652 : BitVec 32 := 2304#32
  let v1510 : BitVec 32 := Scalar.muli arg1 c2304_i32_652
  let c1792_i32_653 : BitVec 32 := 1792#32
  let v1511 : BitVec 32 := Scalar.addi v1510 c1792_i32_653
  v1511
def k0_mult129 (i : grid0.Coords) : BitVec 32 :=
  let arg1 : BitVec 32 := BitVec.ofNat 32 (i 1).val
  let c2304_i32_655 : BitVec 32 := 2304#32
  let v1517 : BitVec 32 := Scalar.muli arg1 c2304_i32_655
  let c1792_i32_656 : BitVec 32 := 1792#32
  let v1518 : BitVec 32 := Scalar.addi v1517 c1792_i32_656
  v1518
def k0_mult130 (i : grid0.Coords) : BitVec 32 :=
  let arg1 : BitVec 32 := BitVec.ofNat 32 (i 1).val
  let c2304_i32_658 : BitVec 32 := 2304#32
  let v1522 : BitVec 32 := Scalar.muli arg1 c2304_i32_658
  let c1792_i32_659 : BitVec 32 := 1792#32
  let v1523 : BitVec 32 := Scalar.addi v1522 c1792_i32_659
  v1523
def k0_off41 (i : grid0.Coords) : Fin 3 → Nat :=
  let arg1 : BitVec 32 := BitVec.ofNat 32 (i 1).val
  let v1547 : Index := Scalar.indexCast arg1
  let c0_668 : Index := 0#32
  let c1920_669 : Index := 1920#32
  ![v1547.toNat, 0, 1920]
def k0_mult131 (i : grid0.Coords) : BitVec 32 :=
  let arg1 : BitVec 32 := BitVec.ofNat 32 (i 1).val
  let c2304_i32_679 : BitVec 32 := 2304#32
  let v1567 : BitVec 32 := Scalar.muli arg1 c2304_i32_679
  let c1920_i32 : BitVec 32 := 1920#32
  let v1568 : BitVec 32 := Scalar.addi v1567 c1920_i32
  v1568
def k0_mult132 (i : grid0.Coords) : BitVec 32 :=
  let arg0 : BitVec 32 := BitVec.ofNat 32 (i 0).val
  let c8_i32_673 : BitVec 32 := 8#32
  let c0_i32_674 : BitVec 32 := 0#32
  let v1557 : BitVec 1 := Scalar.cmpi .eq c8_i32_673 c0_i32_674
  let c1_i32_675 : BitVec 32 := 1#32
  let v1558 : BitVec 32 := Scalar.select v1557 c1_i32_675 c8_i32_673
  let v1559 : BitVec 32 := Scalar.remsi arg0 v1558
  let c0_i32_677 : BitVec 32 := 0#32
  let v1561 : BitVec 1 := Scalar.cmpi .slt v1559 c0_i32_677
  let c0_i32_678 : BitVec 32 := 0#32
  let v1562 : BitVec 1 := Scalar.cmpi .slt v1558 c0_i32_678
  let v1563 : BitVec 1 := Scalar.xori v1561 v1562
  let c0_i32_676 : BitVec 32 := 0#32
  let v1560 : BitVec 1 := Scalar.cmpi .ne v1559 c0_i32_676
  let v1564 : BitVec 1 := Scalar.andi v1563 v1560
  let v1565 : BitVec 32 := Scalar.addi v1559 v1558
  let v1566 : BitVec 32 := Scalar.select v1564 v1565 v1559
  let c0_i32_681 : BitVec 32 := 0#32
  let v1571 : BitVec 1 := Scalar.cmpi .sgt v1566 c0_i32_681
  let v1572 : BitVec 32 := Scalar.extui v1571
  let c0_i32_682 : BitVec 32 := 0#32
  let v1573 : BitVec 1 := Scalar.cmpi .slt v1566 c0_i32_682
  let v1574 : BitVec 32 := Scalar.extui v1573
  let v1575 : BitVec 32 := Scalar.subi v1572 v1574
  let c8_i32_680 : BitVec 32 := 8#32
  let c0_i32_683 : BitVec 32 := 0#32
  let v1576 : BitVec 1 := Scalar.cmpi .sgt c8_i32_680 c0_i32_683
  let v1577 : BitVec 32 := Scalar.extui v1576
  let c0_i32_684 : BitVec 32 := 0#32
  let v1578 : BitVec 1 := Scalar.cmpi .slt c8_i32_680 c0_i32_684
  let v1579 : BitVec 32 := Scalar.extui v1578
  let v1580 : BitVec 32 := Scalar.subi v1577 v1579
  let v1581 : BitVec 1 := Scalar.cmpi .ne v1575 v1580
  let v1582 : BitVec 32 := Scalar.remsi v1566 c8_i32_680
  let c0_i32_685 : BitVec 32 := 0#32
  let v1583 : BitVec 1 := Scalar.cmpi .ne v1582 c0_i32_685
  let v1584 : BitVec 1 := Scalar.andi v1581 v1583
  let v1570 : BitVec 32 := Scalar.divsi v1566 c8_i32_680
  let c1_i32_686 : BitVec 32 := 1#32
  let v1585 : BitVec 32 := Scalar.subi v1570 c1_i32_686
  let v1586 : BitVec 32 := Scalar.select v1584 v1585 v1570
  let c8_i32_687 : BitVec 32 := 8#32
  let v1587 : BitVec 32 := Scalar.muli v1586 c8_i32_687
  v1587
def k0_mult133 (i : grid0.Coords) : BitVec 32 :=
  let arg1 : BitVec 32 := BitVec.ofNat 32 (i 1).val
  let c2304_i32_695 : BitVec 32 := 2304#32
  let v1610 : BitVec 32 := Scalar.muli arg1 c2304_i32_695
  let c1920_i32_696 : BitVec 32 := 1920#32
  let v1611 : BitVec 32 := Scalar.addi v1610 c1920_i32_696
  v1611
def k0_mult134 (i : grid0.Coords) : BitVec 32 :=
  let arg1 : BitVec 32 := BitVec.ofNat 32 (i 1).val
  let c2304_i32_698 : BitVec 32 := 2304#32
  let v1617 : BitVec 32 := Scalar.muli arg1 c2304_i32_698
  let c1920_i32_699 : BitVec 32 := 1920#32
  let v1618 : BitVec 32 := Scalar.addi v1617 c1920_i32_699
  v1618
def k0_mult135 (i : grid0.Coords) : BitVec 32 :=
  let arg1 : BitVec 32 := BitVec.ofNat 32 (i 1).val
  let c2304_i32_701 : BitVec 32 := 2304#32
  let v1622 : BitVec 32 := Scalar.muli arg1 c2304_i32_701
  let c1920_i32_702 : BitVec 32 := 1920#32
  let v1623 : BitVec 32 := Scalar.addi v1622 c1920_i32_702
  v1623
def k0_off42 (i : grid0.Coords) : Fin 3 → Nat :=
  let arg1 : BitVec 32 := BitVec.ofNat 32 (i 1).val
  let v1647 : Index := Scalar.indexCast arg1
  let c0_711 : Index := 0#32
  let c2048_712 : Index := 2048#32
  ![v1647.toNat, 0, 2048]
def k0_mult136 (i : grid0.Coords) : BitVec 32 :=
  let arg1 : BitVec 32 := BitVec.ofNat 32 (i 1).val
  let c2304_i32_722 : BitVec 32 := 2304#32
  let v1667 : BitVec 32 := Scalar.muli arg1 c2304_i32_722
  let c2048_i32 : BitVec 32 := 2048#32
  let v1668 : BitVec 32 := Scalar.addi v1667 c2048_i32
  v1668
def k0_mult137 (i : grid0.Coords) : BitVec 32 :=
  let arg0 : BitVec 32 := BitVec.ofNat 32 (i 0).val
  let c8_i32_716 : BitVec 32 := 8#32
  let c0_i32_717 : BitVec 32 := 0#32
  let v1657 : BitVec 1 := Scalar.cmpi .eq c8_i32_716 c0_i32_717
  let c1_i32_718 : BitVec 32 := 1#32
  let v1658 : BitVec 32 := Scalar.select v1657 c1_i32_718 c8_i32_716
  let v1659 : BitVec 32 := Scalar.remsi arg0 v1658
  let c0_i32_720 : BitVec 32 := 0#32
  let v1661 : BitVec 1 := Scalar.cmpi .slt v1659 c0_i32_720
  let c0_i32_721 : BitVec 32 := 0#32
  let v1662 : BitVec 1 := Scalar.cmpi .slt v1658 c0_i32_721
  let v1663 : BitVec 1 := Scalar.xori v1661 v1662
  let c0_i32_719 : BitVec 32 := 0#32
  let v1660 : BitVec 1 := Scalar.cmpi .ne v1659 c0_i32_719
  let v1664 : BitVec 1 := Scalar.andi v1663 v1660
  let v1665 : BitVec 32 := Scalar.addi v1659 v1658
  let v1666 : BitVec 32 := Scalar.select v1664 v1665 v1659
  let c0_i32_724 : BitVec 32 := 0#32
  let v1671 : BitVec 1 := Scalar.cmpi .sgt v1666 c0_i32_724
  let v1672 : BitVec 32 := Scalar.extui v1671
  let c0_i32_725 : BitVec 32 := 0#32
  let v1673 : BitVec 1 := Scalar.cmpi .slt v1666 c0_i32_725
  let v1674 : BitVec 32 := Scalar.extui v1673
  let v1675 : BitVec 32 := Scalar.subi v1672 v1674
  let c8_i32_723 : BitVec 32 := 8#32
  let c0_i32_726 : BitVec 32 := 0#32
  let v1676 : BitVec 1 := Scalar.cmpi .sgt c8_i32_723 c0_i32_726
  let v1677 : BitVec 32 := Scalar.extui v1676
  let c0_i32_727 : BitVec 32 := 0#32
  let v1678 : BitVec 1 := Scalar.cmpi .slt c8_i32_723 c0_i32_727
  let v1679 : BitVec 32 := Scalar.extui v1678
  let v1680 : BitVec 32 := Scalar.subi v1677 v1679
  let v1681 : BitVec 1 := Scalar.cmpi .ne v1675 v1680
  let v1682 : BitVec 32 := Scalar.remsi v1666 c8_i32_723
  let c0_i32_728 : BitVec 32 := 0#32
  let v1683 : BitVec 1 := Scalar.cmpi .ne v1682 c0_i32_728
  let v1684 : BitVec 1 := Scalar.andi v1681 v1683
  let v1670 : BitVec 32 := Scalar.divsi v1666 c8_i32_723
  let c1_i32_729 : BitVec 32 := 1#32
  let v1685 : BitVec 32 := Scalar.subi v1670 c1_i32_729
  let v1686 : BitVec 32 := Scalar.select v1684 v1685 v1670
  let c8_i32_730 : BitVec 32 := 8#32
  let v1687 : BitVec 32 := Scalar.muli v1686 c8_i32_730
  v1687
def k0_mult138 (i : grid0.Coords) : BitVec 32 :=
  let arg1 : BitVec 32 := BitVec.ofNat 32 (i 1).val
  let c2304_i32_738 : BitVec 32 := 2304#32
  let v1710 : BitVec 32 := Scalar.muli arg1 c2304_i32_738
  let c2048_i32_739 : BitVec 32 := 2048#32
  let v1711 : BitVec 32 := Scalar.addi v1710 c2048_i32_739
  v1711
def k0_mult139 (i : grid0.Coords) : BitVec 32 :=
  let arg1 : BitVec 32 := BitVec.ofNat 32 (i 1).val
  let c2304_i32_741 : BitVec 32 := 2304#32
  let v1717 : BitVec 32 := Scalar.muli arg1 c2304_i32_741
  let c2048_i32_742 : BitVec 32 := 2048#32
  let v1718 : BitVec 32 := Scalar.addi v1717 c2048_i32_742
  v1718
def k0_mult140 (i : grid0.Coords) : BitVec 32 :=
  let arg1 : BitVec 32 := BitVec.ofNat 32 (i 1).val
  let c2304_i32_744 : BitVec 32 := 2304#32
  let v1722 : BitVec 32 := Scalar.muli arg1 c2304_i32_744
  let c2048_i32_745 : BitVec 32 := 2048#32
  let v1723 : BitVec 32 := Scalar.addi v1722 c2048_i32_745
  v1723
def k0_off43 (i : grid0.Coords) : Fin 3 → Nat :=
  let arg1 : BitVec 32 := BitVec.ofNat 32 (i 1).val
  let v1747 : Index := Scalar.indexCast arg1
  let c0_754 : Index := 0#32
  let c2176_755 : Index := 2176#32
  ![v1747.toNat, 0, 2176]
def k0_mult141 (i : grid0.Coords) : BitVec 32 :=
  let arg1 : BitVec 32 := BitVec.ofNat 32 (i 1).val
  let c2304_i32_765 : BitVec 32 := 2304#32
  let v1767 : BitVec 32 := Scalar.muli arg1 c2304_i32_765
  let c2176_i32 : BitVec 32 := 2176#32
  let v1768 : BitVec 32 := Scalar.addi v1767 c2176_i32
  v1768
def k0_mult142 (i : grid0.Coords) : BitVec 32 :=
  let arg0 : BitVec 32 := BitVec.ofNat 32 (i 0).val
  let c8_i32_759 : BitVec 32 := 8#32
  let c0_i32_760 : BitVec 32 := 0#32
  let v1757 : BitVec 1 := Scalar.cmpi .eq c8_i32_759 c0_i32_760
  let c1_i32_761 : BitVec 32 := 1#32
  let v1758 : BitVec 32 := Scalar.select v1757 c1_i32_761 c8_i32_759
  let v1759 : BitVec 32 := Scalar.remsi arg0 v1758
  let c0_i32_763 : BitVec 32 := 0#32
  let v1761 : BitVec 1 := Scalar.cmpi .slt v1759 c0_i32_763
  let c0_i32_764 : BitVec 32 := 0#32
  let v1762 : BitVec 1 := Scalar.cmpi .slt v1758 c0_i32_764
  let v1763 : BitVec 1 := Scalar.xori v1761 v1762
  let c0_i32_762 : BitVec 32 := 0#32
  let v1760 : BitVec 1 := Scalar.cmpi .ne v1759 c0_i32_762
  let v1764 : BitVec 1 := Scalar.andi v1763 v1760
  let v1765 : BitVec 32 := Scalar.addi v1759 v1758
  let v1766 : BitVec 32 := Scalar.select v1764 v1765 v1759
  let c0_i32_767 : BitVec 32 := 0#32
  let v1771 : BitVec 1 := Scalar.cmpi .sgt v1766 c0_i32_767
  let v1772 : BitVec 32 := Scalar.extui v1771
  let c0_i32_768 : BitVec 32 := 0#32
  let v1773 : BitVec 1 := Scalar.cmpi .slt v1766 c0_i32_768
  let v1774 : BitVec 32 := Scalar.extui v1773
  let v1775 : BitVec 32 := Scalar.subi v1772 v1774
  let c8_i32_766 : BitVec 32 := 8#32
  let c0_i32_769 : BitVec 32 := 0#32
  let v1776 : BitVec 1 := Scalar.cmpi .sgt c8_i32_766 c0_i32_769
  let v1777 : BitVec 32 := Scalar.extui v1776
  let c0_i32_770 : BitVec 32 := 0#32
  let v1778 : BitVec 1 := Scalar.cmpi .slt c8_i32_766 c0_i32_770
  let v1779 : BitVec 32 := Scalar.extui v1778
  let v1780 : BitVec 32 := Scalar.subi v1777 v1779
  let v1781 : BitVec 1 := Scalar.cmpi .ne v1775 v1780
  let v1782 : BitVec 32 := Scalar.remsi v1766 c8_i32_766
  let c0_i32_771 : BitVec 32 := 0#32
  let v1783 : BitVec 1 := Scalar.cmpi .ne v1782 c0_i32_771
  let v1784 : BitVec 1 := Scalar.andi v1781 v1783
  let v1770 : BitVec 32 := Scalar.divsi v1766 c8_i32_766
  let c1_i32_772 : BitVec 32 := 1#32
  let v1785 : BitVec 32 := Scalar.subi v1770 c1_i32_772
  let v1786 : BitVec 32 := Scalar.select v1784 v1785 v1770
  let c8_i32_773 : BitVec 32 := 8#32
  let v1787 : BitVec 32 := Scalar.muli v1786 c8_i32_773
  v1787
def k0_mult143 (i : grid0.Coords) : BitVec 32 :=
  let arg1 : BitVec 32 := BitVec.ofNat 32 (i 1).val
  let c2304_i32_781 : BitVec 32 := 2304#32
  let v1810 : BitVec 32 := Scalar.muli arg1 c2304_i32_781
  let c2176_i32_782 : BitVec 32 := 2176#32
  let v1811 : BitVec 32 := Scalar.addi v1810 c2176_i32_782
  v1811
def k0_mult144 (i : grid0.Coords) : BitVec 32 :=
  let arg1 : BitVec 32 := BitVec.ofNat 32 (i 1).val
  let c2304_i32_784 : BitVec 32 := 2304#32
  let v1817 : BitVec 32 := Scalar.muli arg1 c2304_i32_784
  let c2176_i32_785 : BitVec 32 := 2176#32
  let v1818 : BitVec 32 := Scalar.addi v1817 c2176_i32_785
  v1818
def k0_mult145 (i : grid0.Coords) : BitVec 32 :=
  let arg1 : BitVec 32 := BitVec.ofNat 32 (i 1).val
  let c2304_i32_787 : BitVec 32 := 2304#32
  let v1822 : BitVec 32 := Scalar.muli arg1 c2304_i32_787
  let c2176_i32_788 : BitVec 32 := 2176#32
  let v1823 : BitVec 32 := Scalar.addi v1822 c2176_i32_788
  v1823
def k0_cond7 (i : grid0.Coords) : BitVec 1 :=
  let arg0 : BitVec 32 := BitVec.ofNat 32 (i 0).val
  let c48_i32_13 : BitVec 32 := 48#32
  let v26 : BitVec 1 := Scalar.cmpi .eq arg0 c48_i32_13
  let v27 : BitVec 32 := Scalar.extui v26
  let c0_i32_14 : BitVec 32 := 0#32
  let v28 : BitVec 1 := Scalar.cmpi .ne v27 c0_i32_14
  v28

def k0_mult146 (i : grid0.Coords) : BitVec 32 :=
  let arg1 : BitVec 32 := BitVec.ofNat 32 (i 1).val
  let c2304_i32 : BitVec 32 := 2304#32
  let v29 : BitVec 32 := Scalar.muli arg1 c2304_i32
  v29
def k0_off44 (i : grid0.Coords) : Fin 2 → Nat :=
  let c0 : Index := 0#32
  let arg1 : BitVec 32 := BitVec.ofNat 32 (i 1).val
  let c2304_i32 : BitVec 32 := 2304#32
  let v29 : BitVec 32 := Scalar.muli arg1 c2304_i32
  let v30 : BitVec 32 := v29
  let v31 : Index := Scalar.indexCast v30
  ![0, v31.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond6 (i : grid0.Coords) : BitVec 1 :=
  let arg0 : BitVec 32 := BitVec.ofNat 32 (i 0).val
  let c0_i32_10 : BitVec 32 := 0#32
  let v21 : BitVec 1 := Scalar.cmpi .sgt arg0 c0_i32_10
  let arg1 : BitVec 32 := BitVec.ofNat 32 (i 1).val
  let c7_i32_11 : BitVec 32 := 7#32
  let v22 : BitVec 1 := Scalar.cmpi .eq arg1 c7_i32_11
  let v23 : BitVec 1 := Scalar.andi v21 v22
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c47_i32_0 : BitVec 32 := 47#32
  let v1 : BitVec 1 := Scalar.cmpi .sgt arg0 c47_i32_0
  let c7_i32 : BitVec 32 := 7#32
  let v2 : BitVec 32 := Scalar.select v1 c7_i32 arg1
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c47_i32_0 : BitVec 32 := 47#32
  let v1 : BitVec 1 := Scalar.cmpi .sgt arg0 c47_i32_0
  let c7_i32 : BitVec 32 := 7#32
  let v2 : BitVec 32 := Scalar.select v1 c7_i32 arg1
  let c0_i32 : BitVec 32 := 0#32
  ![v0.toNat, v2.toNat]

def cc0_transform_2 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c47_i32_0 : BitVec 32 := 47#32
  let v1 : BitVec 1 := Scalar.cmpi .sgt arg0 c47_i32_0
  let c7_i32 : BitVec 32 := 7#32
  let v2 : BitVec 32 := Scalar.select v1 c7_i32 arg1
  let c0_i32 : BitVec 32 := 0#32
  ![v0.toNat, v2.toNat]

def cc0_transform_3 (i : grid0.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c47_i32_0 : BitVec 32 := 47#32
  let v1 : BitVec 1 := Scalar.cmpi .sgt arg0 c47_i32_0
  let c7_i32 : BitVec 32 := 7#32
  let v2 : BitVec 32 := Scalar.select v1 c7_i32 arg1
  let c0_i32 : BitVec 32 := 0#32
  ![v0.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c24_i32 : BitVec 32 := 24#32
  let v1 : BitVec 32 := Scalar.divsi v0 c24_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c24_i32 c0_i32_1
  let v8 : BitVec 32 := Scalar.extui v7
  let c0_i32_2 : BitVec 32 := 0#32
  let v9 : BitVec 1 := Scalar.cmpi .slt c24_i32 c0_i32_2
  let v10 : BitVec 32 := Scalar.extui v9
  let v11 : BitVec 32 := Scalar.subi v8 v10
  let v12 : BitVec 1 := Scalar.cmpi .ne v6 v11
  let v13 : BitVec 32 := Scalar.remsi v0 c24_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c24_i32_4 : BitVec 32 := 24#32
  let c0_i32_5 : BitVec 32 := 0#32
  let v18 : BitVec 1 := Scalar.cmpi .eq c24_i32_4 c0_i32_5
  let c1_i32_6 : BitVec 32 := 1#32
  let v19 : BitVec 32 := Scalar.select v18 c1_i32_6 c24_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c8_i32 : BitVec 32 := 8#32
  let v28 : BitVec 32 := Scalar.divsi v27 c8_i32
  let c0_i32_10 : BitVec 32 := 0#32
  let v29 : BitVec 1 := Scalar.cmpi .sgt v27 c0_i32_10
  let v30 : BitVec 32 := Scalar.extui v29
  let c0_i32_11 : BitVec 32 := 0#32
  let v31 : BitVec 1 := Scalar.cmpi .slt v27 c0_i32_11
  let v32 : BitVec 32 := Scalar.extui v31
  let v33 : BitVec 32 := Scalar.subi v30 v32
  let c0_i32_12 : BitVec 32 := 0#32
  let v34 : BitVec 1 := Scalar.cmpi .sgt c8_i32 c0_i32_12
  let v35 : BitVec 32 := Scalar.extui v34
  let c0_i32_13 : BitVec 32 := 0#32
  let v36 : BitVec 1 := Scalar.cmpi .slt c8_i32 c0_i32_13
  let v37 : BitVec 32 := Scalar.extui v36
  let v38 : BitVec 32 := Scalar.subi v35 v37
  let v39 : BitVec 1 := Scalar.cmpi .ne v33 v38
  let v40 : BitVec 32 := Scalar.remsi v27 c8_i32
  let c0_i32_14 : BitVec 32 := 0#32
  let v41 : BitVec 1 := Scalar.cmpi .ne v40 c0_i32_14
  let v42 : BitVec 1 := Scalar.andi v39 v41
  let c1_i32_15 : BitVec 32 := 1#32
  let v43 : BitVec 32 := Scalar.subi v28 c1_i32_15
  let v44 : BitVec 32 := Scalar.select v42 v43 v28
  let c0_i32_16 : BitVec 32 := 0#32
  let c0_i32_17 : BitVec 32 := 0#32
  ![v17.toNat, v44.toNat, c0_i32_16.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v3.toNat, v1.toNat]

def cc0_transform_13 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .eq arg0 c48_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage0_0 : Fin 2 → Memref sig .tc .vmem S128x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x18432 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x18432 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x2304 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x144 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2304x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2304x48 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "inv_d" => some ((1 / 18432 : ℝ) : EReal)
  | _ => none
-- ==== ReferenceIdeal.lean ====
abbrev S2x3072x18432 : Shape := ⟨3, ![2, 3072, 18432]⟩
abbrev S2x3072 : Shape := ⟨2, ![2, 3072]⟩
abbrev S18432 : Shape := ⟨1, ![18432]⟩
abbrev S252 : Shape := ⟨1, ![252]⟩
abbrev S6144x1 : Shape := ⟨2, ![6144, 1]⟩
abbrev S6144x18432 : Shape := ⟨2, ![6144, 18432]⟩
abbrev S1x18432 : Shape := ⟨2, ![1, 18432]⟩
abbrev S_ : Shape := ⟨0, ![]⟩
abbrev S6144 : Shape := ⟨1, ![6144]⟩
abbrev S2x24x128x18432 : Shape := ⟨4, ![2, 24, 128, 18432]⟩
abbrev S2x24x18432 : Shape := ⟨3, ![2, 24, 18432]⟩
abbrev S6144x144x128 : Shape := ⟨3, ![6144, 144, 128]⟩
abbrev S6144x144 : Shape := ⟨2, ![6144, 144]⟩
abbrev S6144x144x1 : Shape := ⟨3, ![6144, 144, 1]⟩
abbrev S1x1x252 : Shape := ⟨3, ![1, 1, 252]⟩
abbrev S6144x144x252 : Shape := ⟨3, ![6144, 144, 252]⟩
abbrev S48x128x18432 : Shape := ⟨3, ![48, 128, 18432]⟩
abbrev S48x18432 : Shape := ⟨2, ![48, 18432]⟩
abbrev S48x18432x1 : Shape := ⟨3, ![48, 18432, 1]⟩
abbrev S48x18432x252 : Shape := ⟨3, ![48, 18432, 252]⟩
abbrev S48x1x18432 : Shape := ⟨3, ![48, 1, 18432]⟩
abbrev S18432x48 : Shape := ⟨2, ![18432, 48]⟩
abbrev S18432x6144 : Shape := ⟨2, ![18432, 6144]⟩

abbrev nBuf : Space → Nat
  | .hbm => 134
  | .vmem => 4
  | .smem => 0
  | _ => 0

abbrev hbmTy0_0 (i : Nat) : BufTy := match i % 128 with
  | 0 => ⟨S2x3072x18432, .bf16⟩
  | 1 => ⟨S2x3072, .f32⟩
  | 2 => ⟨S18432, .f32⟩
  | 3 => ⟨S2x3072x18432, .bf16⟩
  | 4 => ⟨S2x3072x18432, .bf16⟩
  | 5 => ⟨S2x3072x18432, .bf16⟩
  | 6 => ⟨S2x3072x18432, .bf16⟩
  | 7 => ⟨S252, .f32⟩
  | 8 => ⟨S252, .f32⟩
  | 9 => ⟨S6144x1, .f32⟩
  | 10 => ⟨S6144x18432, .bf16⟩
  | 11 => ⟨S6144x18432, .f32⟩
  | 12 => ⟨S6144x18432, .bf16⟩
  | 13 => ⟨S6144x18432, .f32⟩
  | 14 => ⟨S6144x18432, .f32⟩
  | 15 => ⟨S6144x18432, .bf16⟩
  | 16 => ⟨S6144x18432, .f32⟩
  | 17 => ⟨S6144x18432, .f32⟩
  | 18 => ⟨S6144x18432, .bf16⟩
  | 19 => ⟨S6144x18432, .f32⟩
  | 20 => ⟨S6144x18432, .f32⟩
  | 21 => ⟨S6144x18432, .f32⟩
  | 22 => ⟨S1x18432, .f32⟩
  | 23 => ⟨S6144x18432, .f32⟩
  | 24 => ⟨S6144x18432, .f32⟩
  | 25 => ⟨S6144x18432, .f32⟩
  | 26 => ⟨S_, .f32⟩
  | 27 => ⟨S6144, .f32⟩
  | 28 => ⟨S6144x1, .f32⟩
  | 29 => ⟨S_, .f32⟩
  | 30 => ⟨S6144x1, .f32⟩
  | 31 => ⟨S6144x1, .f32⟩
  | 32 => ⟨S6144x18432, .f32⟩
  | 33 => ⟨S2x24x128x18432, .f32⟩
  | 34 => ⟨S_, .f32⟩
  | 35 => ⟨S2x24x18432, .f32⟩
  | 36 => ⟨S_, .f32⟩
  | 37 => ⟨S18432, .f32⟩
  | 38 => ⟨S1x18432, .f32⟩
  | 39 => ⟨S6144x18432, .f32⟩
  | 40 => ⟨S6144x18432, .f32⟩
  | 41 => ⟨S6144x18432, .f32⟩
  | 42 => ⟨S6144x18432, .f32⟩
  | 43 => ⟨S6144x18432, .f32⟩
  | 44 => ⟨S6144x18432, .bf16⟩
  | 45 => ⟨S6144x18432, .f32⟩
  | 46 => ⟨S6144x18432, .f32⟩
  | 47 => ⟨S6144x144x128, .f32⟩
  | 48 => ⟨S6144x144x128, .f32⟩
  | 49 => ⟨S_, .f32⟩
  | 50 => ⟨S6144x144, .f32⟩
  | 51 => ⟨S_, .f32⟩
  | 52 => ⟨S6144x144, .f32⟩
  | 53 => ⟨S6144x144, .f32⟩
  | 54 => ⟨S6144x144x1, .f32⟩
  | 55 => ⟨S1x1x252, .f32⟩
  | 56 => ⟨S6144x144x252, .f32⟩
  | 57 => ⟨S6144x144x252, .f32⟩
  | 58 => ⟨S6144x144x252, .i1⟩
  | 59 => ⟨S_, .f32⟩
  | 60 => ⟨S_, .f32⟩
  | 61 => ⟨S6144x144x252, .f32⟩
  | 62 => ⟨S6144x144x252, .f32⟩
  | 63 => ⟨S6144x144x252, .f32⟩
  | 64 => ⟨S_, .f32⟩
  | 65 => ⟨S6144x144, .f32⟩
  | 66 => ⟨S_, .f32⟩
  | 67 => ⟨S6144x144, .f32⟩
  | 68 => ⟨S6144x144, .i1⟩
  | 69 => ⟨S_, .f32⟩
  | 70 => ⟨S_, .f32⟩
  | 71 => ⟨S6144x144, .f32⟩
  | 72 => ⟨S6144x144, .f32⟩
  | 73 => ⟨S_, .f32⟩
  | 74 => ⟨S6144x144, .f32⟩
  | 75 => ⟨S6144x144, .f32⟩
  | 76 => ⟨S6144x144x1, .f32⟩
  | 77 => ⟨S6144x144x128, .f32⟩
  | 78 => ⟨S6144x144x128, .f32⟩
  | 79 => ⟨S_, .f32⟩
  | 80 => ⟨S_, .f32⟩
  | 81 => ⟨S_, .f32⟩
  | 82 => ⟨S6144x144x128, .f32⟩
  | 83 => ⟨S6144x144x128, .f32⟩
  | 84 => ⟨S_, .f32⟩
  | 85 => ⟨S6144x144x128, .f32⟩
  | 86 => ⟨S6144x144x128, .f32⟩
  | 87 => ⟨S6144x18432, .f32⟩
  | 88 => ⟨S48x128x18432, .f32⟩
  | 89 => ⟨S48x128x18432, .f32⟩
  | 90 => ⟨S_, .f32⟩
  | 91 => ⟨S48x18432, .f32⟩
  | 92 => ⟨S_, .f32⟩
  | 93 => ⟨S48x18432, .f32⟩
  | 94 => ⟨S48x18432, .f32⟩
  | 95 => ⟨S48x18432x1, .f32⟩
  | 96 => ⟨S1x1x252, .f32⟩
  | 97 => ⟨S48x18432x252, .f32⟩
  | 98 => ⟨S48x18432x252, .f32⟩
  | 99 => ⟨S48x18432x252, .i1⟩
  | 100 => ⟨S_, .f32⟩
  | 101 => ⟨S_, .f32⟩
  | 102 => ⟨S48x18432x252, .f32⟩
  | 103 => ⟨S48x18432x252, .f32⟩
  | 104 => ⟨S48x18432x252, .f32⟩
  | 105 => ⟨S_, .f32⟩
  | 106 => ⟨S48x18432, .f32⟩
  | 107 => ⟨S_, .f32⟩
  | 108 => ⟨S48x18432, .f32⟩
  | 109 => ⟨S48x18432, .i1⟩
  | 110 => ⟨S_, .f32⟩
  | 111 => ⟨S_, .f32⟩
  | 112 => ⟨S48x18432, .f32⟩
  | 113 => ⟨S48x18432, .f32⟩
  | 114 => ⟨S_, .f32⟩
  | 115 => ⟨S48x18432, .f32⟩
  | 116 => ⟨S48x18432, .f32⟩
  | 117 => ⟨S48x1x18432, .f32⟩
  | 118 => ⟨S48x128x18432, .f32⟩
  | 119 => ⟨S48x128x18432, .f32⟩
  | 120 => ⟨S_, .f32⟩
  | 121 => ⟨S_, .f32⟩
  | 122 => ⟨S_, .f32⟩
  | 123 => ⟨S48x128x18432, .f32⟩
  | 124 => ⟨S48x128x18432, .f32⟩
  | 125 => ⟨S_, .f32⟩
  | 126 => ⟨S48x128x18432, .f32⟩
  | 127 => ⟨S48x128x18432, .f32⟩
  | _ => ⟨S2x3072x18432, .bf16⟩

abbrev hbmTy0_1 (i : Nat) : BufTy := match i % 128 with
  | 0 => ⟨S6144x18432, .f32⟩
  | 1 => ⟨S6144x18432, .bf16⟩
  | 2 => ⟨S18432x48, .f32⟩
  | 3 => ⟨S18432x6144, .f32⟩
  | 4 => ⟨S6144x18432, .fp8e4m3⟩
  | 5 => ⟨S18432x6144, .fp8e4m3⟩
  | _ => ⟨S2x3072x18432, .bf16⟩

abbrev hbmTy (i : Nat) : BufTy := match i / 128 with
  | 0 => hbmTy0_0 i
  | 1 => hbmTy0_1 i
  | _ => ⟨S2x3072x18432, .bf16⟩

abbrev bufTy : (tb : Table) → Fin (tcTables nBuf tb) → BufTy
  | .hbm, ⟨i, _⟩ => hbmTy i
  | .local _ .vmem, ⟨0, _⟩ => ⟨S6144x18432, .f32⟩
  | .local _ .vmem, ⟨1, _⟩ => ⟨S18432x6144, .f32⟩
  | .local _ .vmem, ⟨2, _⟩ => ⟨S6144x18432, .fp8e4m3⟩
  | .local _ .vmem, ⟨3, _⟩ => ⟨S18432x6144, .fp8e4m3⟩
  | _, _ => ⟨S2x3072x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_call1_v0 : Ref sig .tc := ⟨.hbm, 70, rfl⟩
abbrev main_call1_v1 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_12 : Ref sig .tc := ⟨.hbm, 79, rfl⟩
abbrev main_cst_13 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_16 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_v66 : Ref sig .tc := ⟨.hbm, 104, rfl⟩
abbrev main_cst_17 : Ref sig .tc := ⟨.hbm, 105, rfl⟩
abbrev main_v67 : Ref sig .tc := ⟨.hbm, 106, rfl⟩
abbrev main_cst_18 : Ref sig .tc := ⟨.hbm, 107, rfl⟩
abbrev main_v68 : Ref sig .tc := ⟨.hbm, 108, rfl⟩
abbrev main_v69 : Ref sig .tc := ⟨.hbm, 109, rfl⟩
abbrev main_cst_19 : Ref sig .tc := ⟨.hbm, 110, rfl⟩
abbrev main_call4_v0 : Ref sig .tc := ⟨.hbm, 111, rfl⟩
abbrev main_call4_v1 : Ref sig .tc := ⟨.hbm, 112, rfl⟩
abbrev main_v70 : Ref sig .tc := ⟨.hbm, 113, rfl⟩
abbrev main_cst_20 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_cst_21 : Ref sig .tc := ⟨.hbm, 120, rfl⟩
abbrev main_cst_22 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81_0 : Ref sig .tc := ⟨.hbm, 132, rfl⟩
abbrev main_v81_1 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18432x6144 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tri.lean ====
/- Running a straight-line kernel body over the contents of its memrefs.

   A kernel body loads from and stores to a fixed family of memrefs, each owned in full. `Runs S p a S'` says:
   from the contents `S` of the family, the program `p` returns `a` and leaves the contents `S'`. It holds for a
   load (which reads the rectangle), for a store (which replaces the rectangle on the mask), and composes along
   `bind`; so a body is executed by plain equations between contents, with no separation logic left. -/
module

public import Idealize.ShloMosaic.Lib.Memref
public import Idealize.ShloMosaic.Lib.Exec.Context
public import Idealize.SL.ProofMode.BigOp

@[expose] public section

noncomputable section

namespace Proof.Tri

open Idealize.ShloMosaic Idealize.SL
open Idealize.SL.RA Idealize.SL.Sem Idealize.SL.ProofMode
open Idealize.SL.BI (sProp bigSep)
open scoped Idealize.SL.BI
open Idealize.SL.BI.BIBase Idealize.SL.BI.Laws
open PCS URA Auth

variable {Val : EltTy → Type}

/-- The contents `X`, with `w` put at the rectangle's masked places. -/
def put {s : Shape} {α : Type} (r : Rect s) (w : r.shape.Idx → α) (Mk : Finset r.shape.Idx) (X : s.Idx → α) : s.Idx → α :=
  fun y => by classical exact if h : ∃ x ∈ Mk, r.emb x = y then w h.choose else X y

theorem put_emb {s : Shape} {α : Type} (r : Rect s) (w : r.shape.Idx → α) (Mk : Finset r.shape.Idx) (X : s.Idx → α)
    {x : r.shape.Idx} (hx : x ∈ Mk) : put r w Mk X (r.emb x) = w x := by
  have h : ∃ x' ∈ Mk, r.emb x' = r.emb x := ⟨x, hx, rfl⟩
  rw [put, dif_pos h]
  exact congrArg w (r.emb.injective h.choose_spec.2)

theorem put_miss {s : Shape} {α : Type} (r : Rect s) (w : r.shape.Idx → α) (Mk : Finset r.shape.Idx) (X : s.Idx → α)
    {y : s.Idx} (hy : ∀ x ∈ Mk, r.emb x ≠ y) : put r w Mk X y = X y := by
  rw [put, dif_neg]; rintro ⟨x, hx, h⟩; exact hy x hx h

theorem read_write {nD : Nat} {τ : Topo} {sig : RefSig} {κ : Kind} {sp : Space} {s : Shape} {e : EltTy} (m : Memref sig κ sp s e) (r : Rect s) (f : m.view.ty.Contents Val)
    (w : r.shape.Idx → Val e) (Mk : Finset r.shape.Idx) :
    m.view.read Val ((m.access r).write Val f w Mk) = put r w Mk (m.view.read Val f) := by
  funext y
  by_cases h : ∃ x ∈ Mk, r.emb x = y
  · obtain ⟨x, hx, rfl⟩ := h
    rw [put_emb r w Mk _ hx]
    exact View.read_write_of_mem (v := m.access r) f w hx
  · push Not at h
    rw [put_miss r w Mk _ h, View.read_apply, View.read_apply, View.write_of_not_mem]
    intro hm
    rw [View.setOn, Finset.mem_map] at hm
    obtain ⟨x, hx, hxy⟩ := hm
    exact h x hx (m.view.emb.injective hxy)

section
variable {nD : Nat} {τ : Topo} {sig : RefSig} {Ix : Type} [DecidableEq Ix]
variable {Name : Type} [DecidableEq Name]
variable {U : Type} [URA U]
variable {Lvl : Type} {Λ : Labels}
local notation "𝕄" => MT nD τ sig Ix Val Name U Lvl
variable [Preorder Lvl] {defs : Defs nD τ sig Val Λ} (𝒱 : Variants) (c : Thread nD τ) (bd : Option 𝒱.V) (E : Set Name)
variable {n : Nat} {sh : Fin n → Shape} {el : Fin n → EltTy}

/-- The contents of the family. -/
abbrev St (Val : EltTy → Type) {n : Nat} (sh : Fin n → Shape) (el : Fin n → EltTy) : Type := (k : Fin n) → (sh k).Idx → Val (el k)

/-- The family owned in full at the contents `S`. -/
def Own (M : (k : Fin n) → Memref sig c.2.kind .vmem (sh k) (el k)) (S : St Val sh el) : sProp 𝕄 :=
  bigSep Finset.univ fun k => owns c (M k) fullShare (S k)

/-- From the contents `S` the program returns `a` and leaves the contents `S'`. -/
def Runs (Ix : Type) [DecidableEq Ix] (Name : Type) [DecidableEq Name] (U : Type) [URA U] (Lvl : Type) [Preorder Lvl]
    (defs : Defs nD τ sig Val Λ) (𝒱 : Variants) (c : Thread nD τ) (bd : Option 𝒱.V) (E : Set Name)
    (M : (k : Fin n) → Memref sig c.2.kind .vmem (sh k) (el k)) {α : Type} (S : St Val sh el)
    (p : Prog (TpuEff nD τ sig Val Λ c.2) α) (a : α) (S' : St Val sh el) : Prop :=
  ∀ (R : sProp (MT nD τ sig Ix Val Name U Lvl)) (Φ : α → sProp (MT nD τ sig Ix Val Name U Lvl)), (iprop(Own c M S' ∗ R) ⊢ Φ a) →
    (iprop(Own c M S ∗ R) ⊢ wp frame (wpE defs 𝒱 c bd) E p Φ)

variable {M : (k : Fin n) → Memref sig c.2.kind .vmem (sh k) (el k)}
variable {α β : Type} {S S₁ S' : St Val sh el}

local notation "RUNS" => Runs Ix Name U Lvl defs 𝒱 c bd E M

omit [Preorder Lvl] in
theorem own_access (S : St Val sh el) (k : Fin n) :
    (Own c M S : sProp 𝕄) ⊢ iprop(owns c (M k) fullShare (S k) ∗ ∀ X, owns c (M k) fullShare X -∗ Own c M (Function.update S k X)) :=
  Idealize.SL.BI.bigSep_univ_turn (P := fun k X => owns c (M k) fullShare X) (f := S) (i := k)

omit [Preorder Lvl] in
theorem owns_open (k : Fin n) (X : (sh k).Idx → Val (el k)) :
    (owns c (M k) fullShare X : sProp 𝕄) ⊢ iprop(∃ g, ⌜(M k).view.read Val g = X⌝ ∗ (M k).view.loc c ↦[(M k).view.set]{fullShare} g) := .rfl

theorem Runs.ret (a : α) : RUNS S (.ret a) a S := by
  intro R Φ h
  rw [wp_ret]
  refine h.trans ?_
  iintro H; imodintro; iexact H

theorem Runs.load {k : Fin n} {r : Rect (sh k)} {hl : (M k).view.LoadsAt r.toLoadRect} {f : (r.shape.Idx → Val (el k)) → Prog (TpuEff nD τ sig Val Λ c.2) α} {a : α}
    (h : RUNS S (f fun x => S k (r.emb x)) a S') :
    RUNS S (.op (.load (M k) r.toLoadRect hl) f) a S' := by
  intro R Φ hΦ
  iintro ⟨H, HR⟩
  ihave H' := (own_access c S k) $$ H
  icases H' with ⟨H1, Hback⟩
  ihave H2 := (owns_open c k (S k)) $$ H1
  icases H2 with ⟨%g, %hg, Hg⟩
  have key := wp_load_rect (defs := defs) 𝒱 c bd (Γ := .empty) E (Q := Φ) (m := M k) (r := r) (hl := hl) (k := f) (q := fullShare) (f := g) (S := (M k).view.set) ((M k).view.set_slice_subset r)
  have hr : ((M k).access r).read Val g = fun x => S k (r.emb x) := by rw [← hg]; rfl
  rw [hr] at key
  iapply key $$ Hg
  iintro Hg
  iapply (h R Φ hΦ)
  isplitr [HR]
  · ispecialize Hback $$ %(S k)
    rw [Function.update_eq_self]
    iapply Hback
    rw [← hg]
    iapply (owns_intro c (M k) fullShare g)
    iexact Hg
  · iexact HR

theorem Runs.store {k : Fin n} {r : Rect (sh k)} {w : r.shape.Idx → Val (el k)} {Mk : Finset r.shape.Idx} {hx : ((M k).access r).Stores Mk}
    {hm : Mk = Finset.univ ∨ ∀ a, r.stride a = 1} {f : PUnit → Prog (TpuEff nD τ sig Val Λ c.2) α} {a : α}
    (h : RUNS (Function.update S k (put r w Mk (S k))) (f ⟨⟩) a S') :
    RUNS S (.op (.store (M k) r w Mk hx hm) f) a S' := by
  intro R Φ hΦ
  iintro ⟨H, HR⟩
  ihave H' := (own_access c S k) $$ H
  icases H' with ⟨H1, Hback⟩
  ihave H2 := (owns_open c k (S k)) $$ H1
  icases H2 with ⟨%g, %hg, Hg⟩
  have hsub : ((M k).access r).setOn Mk ⊆ (M k).view.set := (Finset.map_subset_map.mpr (Finset.subset_univ Mk)).trans ((M k).view.set_slice_subset r)
  have key := wp_store (defs := defs) 𝒱 c bd (Γ := .empty) E (Q := Φ) (m := M k) (r := r) (w := w) (Mk := Mk) (hx := hx) (hm := hm) (k := f) (f := g) (S := (M k).view.set) hsub
  iapply key $$ Hg
  iintro Hg
  iapply (h R Φ hΦ)
  isplitr [HR]
  · ispecialize Hback $$ %(put r w Mk (S k))
    iapply Hback
    rw [← hg, ← read_write (nD := nD) (τ := τ)]
    iapply (owns_intro c (M k) fullShare _)
    iexact Hg
  · iexact HR

theorem Runs.bind {p : Prog (TpuEff nD τ sig Val Λ c.2) α} {f : α → Prog (TpuEff nD τ sig Val Λ c.2) β} {a : α} {b : β}
    (h₁ : RUNS S p a S₁) (h₂ : RUNS S₁ (f a) b S') : RUNS S (p >>= f) b S' := by
  intro R Φ hΦ
  rw [wp_bind]
  exact h₁ R _ (h₂ R Φ hΦ)

end

end Proof.Tri
-- ==== Proof.Body.lean ====
/- The kernel body as a program over its family of memrefs, tile by tile.

   The printed body repeats one text for each of the eighteen 128-lane tiles of a chunk. Here each repeated text is
   written once, with the tile number `t` as a variable and the rest of the program as a continuation; the body built
   from them is the printed one (`body_eq`). -/
module

public import proofs.«01_k».proof.Proof.Gen.KernelIdeal.Skeleton
public import proofs.«01_k».proof.Proof.Gen.KernelIdeal.Frame
public import proofs.«01_k».proof.Proof.Tri

@[expose] public section

noncomputable section

namespace Cert.KernelIdeal.Body

open Idealize.ShloMosaic Idealize.SL.Sem Cert.KernelIdeal Cert.KernelIdeal.Gen

variable {F : FTy → Type} [FloatOps F] [Named F]

/-- The shapes of the body's memrefs, in the order of its arguments: x, the three gradients, the residual gradient,
    gamma, rstd; dx, dgamma, dgamma_part, row codes, row scales, column codes, column scales; and the scratch. -/
abbrev shF (k : Fin 23) : Shape := match k.val with
  | 0 => S128x2304
  | 1 => S128x2304
  | 2 => S128x2304
  | 3 => S128x2304
  | 4 => S128x2304
  | 5 => S1x18432
  | 6 => S2x3072
  | 7 => S128x2304
  | 8 => S1x18432
  | 9 => S1x8x18432
  | 10 => S128x2304
  | 11 => S128x144
  | 12 => S2304x128
  | 13 => S2304x48
  | 14 => S8x128x2304
  | 15 => S8x128x2304
  | 16 => S128x128
  | 17 => S128x128
  | 18 => S128x128
  | 19 => S128x2304
  | 20 => S128x128
  | 21 => S48x18432
  | _ => S8x128x128

/-- Their element types. -/
abbrev elF (k : Fin 23) : EltTy := match k.val with
  | 0 => .bf16
  | 1 => .bf16
  | 2 => .bf16
  | 3 => .bf16
  | 4 => .bf16
  | 5 => .f32
  | 6 => .f32
  | 7 => .bf16
  | 8 => .f32
  | 9 => .f32
  | 10 => .fp8e4m3
  | 11 => .f32
  | 12 => .fp8e4m3
  | 13 => .f32
  | 14 => .f32
  | 15 => .bf16
  | 16 => .f32
  | 17 => .f32
  | 18 => .f32
  | 19 => .f32
  | 20 => .f32
  | 21 => .f32
  | _ => .f32

/-- The family of memrefs. -/
abbrev Fam : Type := (k : Fin 23) → Memref sig .tc .vmem (shF k) (elF k)

/-- A program of the body. -/
abbrev BP (F : FTy → Type) : Type 1 := Prog (TpuEff nD τ sig (Elt F) Λ₀ .tc) PUnit

/-! ## Offsets and their evidence -/

/-- The chunk number as the kernel reads it. -/
abbrev ch (i : grid0.Coords) : Nat := (Scalar.indexCast (BitVec.ofNat 32 (i 1).val)).toNat

theorem ch_eq (i : grid0.Coords) : ch i = (i 1).val := by
  have h : (i 1).val < 8 := (i 1).isLt
  simp only [ch, Scalar.indexCast]
  first
    | (rw [BitVec.toNat_ofNat]; omega)
    | (simp; omega)

theorem inbE (i : grid0.Coords) (t : Nat) (ht : t < 18) : ∀ a, (![ch i, 0, 128 * t] : Fin 3 → Nat) a + S1x128x128.size a ≤ S8x128x2304.size a := by
  have h : (i 1).val < 8 := (i 1).isLt
  intro a; rw [ch_eq]; fin_cases a <;> simp [Shape.size] <;> omega

theorem inbL (t : Nat) (ht : t < 18) : ∀ a, (![0, 128 * t] : Fin 2 → Nat) a + S128x128.size a ≤ S128x2304.size a := by
  intro a; fin_cases a <;> simp [Shape.size] <;> omega

theorem inbT (t : Nat) (ht : t < 18) : ∀ a, (![128 * t, 0] : Fin 2 → Nat) a + S128x128.size a ≤ S2304x128.size a := by
  intro a; fin_cases a <;> simp [Shape.size] <;> omega

theorem inbA (t : Nat) (ht : t < 18) : ∀ a, (![0, t] : Fin 2 → Nat) a + S128x1.size a ≤ S128x128.size a := by
  intro a; fin_cases a <;> simp [Shape.size] <;> omega

theorem inbR (i : grid0.Coords) : ∀ a, (![ch i, 0, 0] : Fin 3 → Nat) a + S1x128x128.size a ≤ S8x128x128.size a := by
  have h : (i 1).val < 8 := (i 1).isLt
  intro a; rw [ch_eq]; fin_cases a <;> simp [Shape.size] <;> omega

theorem inbQ (t : Nat) (ht : t < 8) : ∀ a, (![t, 0, 0] : Fin 3 → Nat) a + S1x128x18.size a ≤ S8x128x128.size a := by
  intro a; fin_cases a <;> simp [Shape.size] <;> omega

theorem inbS (t : Nat) (ht : t < 8) : ∀ a, (![0, 18 * t] : Fin 2 → Nat) a + S128x18.size a ≤ S128x144.size a := by
  intro a; fin_cases a <;> simp [Shape.size] <;> omega

theorem packL16 (t : Nat) (ht : t < 18) : (Rect.unit (s := S128x2304) ![0, 128 * t] S128x128.size (inbL t ht)).PackedRows (EltTy.packing .bf16) :=
  .inr ⟨by decide, rfl, .inl ⟨⟨0, rfl⟩, ⟨64, rfl⟩⟩⟩

theorem packL8 (t : Nat) (ht : t < 18) : (Rect.unit (s := S128x2304) ![0, 128 * t] S128x128.size (inbL t ht)).PackedRows (EltTy.packing .fp8e4m3) :=
  .inr ⟨by decide, rfl, .inl ⟨⟨0, rfl⟩, ⟨32, rfl⟩⟩⟩

theorem packT8 (t : Nat) (ht : t < 18) : (Rect.unit (s := S2304x128) ![128 * t, 0] S128x128.size (inbT t ht)).PackedRows (EltTy.packing .fp8e4m3) := by
  refine .inr ⟨by decide, rfl, .inl ⟨⟨32 * t, ?_⟩, ⟨32, rfl⟩⟩⟩
  change 128 * t = 4 * (32 * t); omega

theorem packE16 (i : grid0.Coords) (t : Nat) (ht : t < 18) : (Rect.unit (s := S8x128x2304) ![ch i, 0, 128 * t] S1x128x128.size (inbE i t ht)).PackedRows (EltTy.packing .bf16) :=
  .inr ⟨by decide, rfl, .inl ⟨⟨0, rfl⟩, ⟨64, rfl⟩⟩⟩

/-! ## The rectangles -/

/-- Chunk row `ch i`, tile `t` of the kept chunks. -/
abbrev rE (i : grid0.Coords) (t : Nat) (ht : t < 18) : Rect S8x128x2304 := Rect.unit (s := S8x128x2304) (![ch i, 0, 128 * t]) S1x128x128.size (inbE i t ht)

/-- Tile `t` of a chunk. -/
abbrev rL (t : Nat) (ht : t < 18) : Rect S128x2304 := Rect.unit (s := S128x2304) (![0, 128 * t]) S128x128.size (inbL t ht)

/-- Tile `t` of a transposed chunk. -/
abbrev rT (t : Nat) (ht : t < 18) : Rect S2304x128 := Rect.unit (s := S2304x128) (![128 * t, 0]) S128x128.size (inbT t ht)

/-- Lane `t` of the row maxima. -/
abbrev rA (t : Nat) (ht : t < 18) : Rect S128x128 := Rect.unit (s := S128x128) (![0, t]) S128x1.size (inbA t ht)

/-- Chunk row `ch i` of the row scales. -/
abbrev rR (i : grid0.Coords) : Rect S8x128x128 := Rect.unit (s := S8x128x128) (![ch i, 0, 0]) S1x128x128.size (inbR i)

/-- The eighteen row scales of chunk `t`. -/
abbrev rQ (t : Nat) (ht : t < 8) : Rect S8x128x128 := Rect.unit (s := S8x128x128) (![t, 0, 0]) S1x128x18.size (inbQ t ht)

/-- Their place in the result. -/
abbrev rS (t : Nat) (ht : t < 8) : Rect S128x144 := Rect.unit (s := S128x144) (![0, 18 * t]) S128x18.size (inbS t ht)

/-- A whole 128-square. -/
abbrev rW : Rect S128x128 := Rect.unit (s := S128x128) (![0, 0]) S128x128.size (inb_S128x128_S128x128_0_0)

/-- The whole of dgamma. -/
abbrev rG : Rect S1x18432 := Rect.unit (s := S1x18432) (![0, 0]) S1x18432.size (inb_S1x18432_S1x18432_0_0)

/-- The whole block of column scales. -/
abbrev rCS : Rect S2304x48 := Rect.unit (s := S2304x48) (![0, 0]) S2304x48.size (inb_S2304x48_S2304x48_0_0)

/-- Gamma at chunk `i 1`, tile `t`. -/
abbrev rG3 (i : grid0.Coords) (h3 : k0_cond3 i = 1#1) (t : Nat) (ht : t < 18) : Rect S1x18432 := Rect.unit (s := S1x18432) (k0_off4 i (BitVec.ofNat 32 (128 * t))) S1x128.size (k0_off4_inb i h3 ⟨t, ht⟩)

/-- The group of eight rows of the column scales, tile `t`. -/
abbrev rC3 (i : grid0.Coords) (h3 : k0_cond3 i = 1#1) (t : Nat) (ht : t < 18) : Rect S48x18432 := Rect.unit (s := S48x18432) (k0_off5 i (BitVec.ofNat 32 (128 * t))) S8x128.size (k0_off5_inb i h3 ⟨t, ht⟩)

/-- Gamma or dgamma at chunk `i 1`, tile `t`. -/
abbrev rG4 (i : grid0.Coords) (h4 : k0_cond4 i = 1#1) (t : Nat) (ht : t < 18) : Rect S1x18432 := Rect.unit (s := S1x18432) (k0_off26 i (BitVec.ofNat 32 (128 * t))) S1x128.size (k0_off26_inb i h4 ⟨t, ht⟩)

/-- The group of eight rows of dgamma_part, tile `t`. -/
abbrev rP4 (i : grid0.Coords) (h4 : k0_cond4 i = 1#1) (t : Nat) (ht : t < 18) : Rect S1x8x18432 := Rect.unit (s := S1x8x18432) (k0_off25 i (BitVec.ofNat 32 (128 * t))) S1x8x128.size (k0_off25_inb i h4 ⟨t, ht⟩)

/-- Rstd of batch 0 at the block's tokens. -/
abbrev rB1 (i : grid0.Coords) (h2 : k0_cond2 i = 1#1) : Rect S2x3072 := Rect.unit (s := S2x3072) (k0_off1 i) S1x128.size (k0_off1_inb i h2)

/-- Rstd of batch 1 at the block's tokens. -/
abbrev rB2 (i : grid0.Coords) (h2 : k0_cond2 i = 1#1) : Rect S2x3072 := Rect.unit (s := S2x3072) (k0_off2 i) S1x128.size (k0_off2_inb i h2)

/-- Chunk `i 1` of the column scales. -/
abbrev rK7 (i : grid0.Coords) (h7 : k0_cond7 i = 1#1) : Rect S48x18432 := Rect.unit (s := S48x18432) (k0_off44 i) S48x2304.size (k0_off44_inb i h7)

/-! ## The repeated texts -/

/-- Tile `t` of the emission: the gradient tile, its row maxima, its column scales and its column codes. -/
def emitTile (M : Fam) (hM : ∀ k, (M k).IsWhole) (i : grid0.Coords) (h3 : k0_cond3 i = 1#1) (s : Vec F S128x128 .f32) (t : Nat) (ht : t < 18) (k : BP F) : BP F :=
  .op (.load (M 14) (rE i t ht).toLoadRect (View.loadsAt_vmem h_S1x128x128)) fun e =>
  .op (.load (M 5) (rG3 i h3 t ht).toLoadRect (View.loadsAt_vmem h_S1x128)) fun g =>
  .op (.load (M 15) (rE i t ht).toLoadRect (View.loadsAt_vmem h_S1x128x128)) fun x =>
  .op (.load (M 4) (rL t ht).toLoadRect (View.loadsAt_vmem h_S128x128)) fun d =>
  .op (.load (M 19) (rL t ht).toLoadRect (View.loadsAt_vmem h_S128x128)) fun _ =>
  .op (.store (M 19) (rL t ht) (k0_pay12 s e g x d) Finset.univ (View.stores_vmem_bits_univ h_S128x128 rfl) (.inl rfl)) fun _ =>
  .op (.load (M 7) (rL t ht).toLoadRect (View.loadsAt_vmem h_S128x128)) fun _ =>
  .op (.store (M 7) (rL t ht) (k0_pay13 s e g x d) Finset.univ (View.stores_vmem h_S128x128 ((hM 7).storeExact_slice rfl _ (packL16 t ht)) (fun _ => rfl)) (.inl rfl)) fun _ =>
  .op (.load (M 20) (rA t ht).toLoadRect (View.loadsAt_vmem h_S128x1)) fun _ =>
  .op (.store (M 20) (rA t ht) (k0_pay15 s e g x d) Finset.univ (View.stores_vmem_bits_univ h_S128x1 rfl) (.inl rfl)) fun _ =>
  .op (.load (M 21) (rC3 i h3 t ht).toLoadRect (View.loadsAt_vmem h_S8x128)) fun _ =>
  .op (.store (M 21) (rC3 i h3 t ht) (k0_pay21 (k0_pay20 (k0_pay17 (k0_pay16 s e g x d)))) (IVec.on (k0_pay22 (k0_pay19 (BitVec.ofNat 32 (i 0).val)))) (View.stores_vmem_bits h_S8x128 rfl (fun h => nomatch h)) (.inr (fun _ => rfl))) fun _ =>
  .op (.load (M 12) (rT t ht).toLoadRect (View.loadsAt_vmem h_S128x128)) fun _ =>
  .op (.store (M 12) (rT t ht) (k0_pay23 (k0_pay11 s e g x d) (k0_pay18 (k0_pay17 (k0_pay16 s e g x d)) 2130706432#32)) Finset.univ (View.stores_vmem h_S128x128 ((hM 12).storeExact_slice rfl _ (packT8 t ht)) (fun _ => rfl)) (.inl rfl)) fun _ =>
  k

theorem sliceA (t : Nat) (ht : t < 18) : S128x128.Slices ![0, t] S128x1 := ⟨rfl, fun a => by fin_cases a <;> simp [Shape.size] <;> omega⟩

/-- The row scales of a block's chunk from its row maxima, -/
def rowScale (a : Vec F S128x128 .f32) : FVec F S128x128 .f32 := k0_pay282 (k0_pay279 a) (k0_pay280 a) 528482304#32

/-- and their inverses. -/
def rowInv (a : Vec F S128x128 .f32) : FVec F S128x128 .f32 := k0_pay283 (k0_pay279 a) (k0_pay280 a) 528482304#32

/-- Tile `t`'s row codes from the inverse scales and the gradient tile. -/
def rowCode (v2639 : FVec F S128x128 .f32) (t : Nat) (ht : t < 18) (v2644 : Vec F S128x128 .f32) : FVec F S128x128 .fp8e4m3 :=
  have v2645 : FVec F S128x1 .f32 := extractStridedSlice S128x1 ![0, t] v2639 (sliceA t ht)
  have v2646 : FVec F S128x128 .f32 := broadcastTo S128x128 v2645 broadcasts_S128x1_S128x128
  have v2647 : FVec F S128x128 .f32 := mulf v2644 v2646
  have cst_907 : F .f32 := Scalar.ofBits .f32 0xC3E00000#32
  have cst_908 : F .f32 := Scalar.ofBits .f32 0x43E00000#32
  have v2648 : FVec F S128x128 .f32 := broadcast S128x128 cst_907
  have v2649 : FVec F S128x128 .f32 := maximumf v2648 v2647
  have v2650 : FVec F S128x128 .f32 := broadcast S128x128 cst_908
  have v2651 : FVec F S128x128 .f32 := minimumf v2650 v2649
  truncf .fp8e4m3 v2651 bitsLt_fp8e4m3_f32

/-- Tile `t` of the row codes. -/
def rowTile (M : Fam) (hM : ∀ k, (M k).IsWhole) (inv : FVec F S128x128 .f32) (t : Nat) (ht : t < 18) (k : BP F) : BP F :=
  .op (.load (M 19) (rL t ht).toLoadRect (View.loadsAt_vmem h_S128x128)) fun d =>
  .op (.load (M 10) (rL t ht).toLoadRect (View.loadsAt_vmem h_S128x128)) fun _ =>
  .op (.store (M 10) (rL t ht) (rowCode inv t ht d) Finset.univ (View.stores_vmem h_S128x128 ((hM 10).storeExact_slice rfl _ (packL8 t ht)) (fun _ => rfl)) (.inl rfl)) fun _ =>
  k

/-- The row of the eight the block's partial sums go to, as the kernel reads it off the block number. -/
def maskP (arg0 : BitVec 32) : IVec S8x128 1 :=
  let v58 : BitVec 32 := Scalar.select (Scalar.cmpi .eq 8#32 0#32) 1#32 8#32
  let v59 : BitVec 32 := Scalar.remsi arg0 v58
  k0_pay312 v58 v59 (Scalar.cmpi .ne v59 0#32) (Scalar.xori (Scalar.cmpi .slt v59 0#32) (Scalar.cmpi .slt v58 0#32))

/-- Tile `t` of the reduction, `c` the sum so far: the gradient times rstd and x kept, dgamma and its part added to. -/
def redTile (M : Fam) (hM : ∀ k, (M k).IsWhole) (i : grid0.Coords) (h4 : k0_cond4 i = 1#1) (r : Vec F S128x128 .f32) (t : Nat) (ht : t < 18) (c : Vec F S128x128 .f32) (kont : Vec F S128x128 .f32 → BP F) : BP F :=
  .op (.load (M 1) (rL t ht).toLoadRect (View.loadsAt_vmem h_S128x128)) fun q =>
  .op (.load (M 2) (rL t ht).toLoadRect (View.loadsAt_vmem h_S128x128)) fun k =>
  .op (.load (M 3) (rL t ht).toLoadRect (View.loadsAt_vmem h_S128x128)) fun v =>
  .op (.load (M 0) (rL t ht).toLoadRect (View.loadsAt_vmem h_S128x128)) fun x =>
  .op (.load (M 14) (rE i t ht).toLoadRect (View.loadsAt_vmem h_S1x128x128)) fun _ =>
  .op (.store (M 14) (rE i t ht) (k0_pay309 r q k v) Finset.univ (View.stores_vmem_bits_univ h_S1x128x128 rfl) (.inl rfl)) fun _ =>
  .op (.load (M 15) (rE i t ht).toLoadRect (View.loadsAt_vmem h_S1x128x128)) fun _ =>
  .op (.store (M 15) (rE i t ht) (k0_pay310 x) Finset.univ (View.stores_vmem h_S1x128x128 ((hM 15).storeExact_slice rfl _ (packE16 i t ht)) (fun _ => rfl)) (.inl rfl)) fun _ =>
  .op (.load (M 9) (rP4 i h4 t ht).toLoadRect (View.loadsAt_vmem h_S1x8x128)) fun _ =>
  .op (.store (M 9) (rP4 i h4 t ht) (k0_pay314 (k0_pay313 (k0_pay311 r q k v x))) (IVec.on (k0_pay315 (maskP (BitVec.ofNat 32 (i 0).val)))) (View.stores_vmem_bits h_S1x8x128 rfl (fun h => nomatch h)) (.inr (fun _ => rfl))) fun _ =>
  .op (.load (M 8) (rG4 i h4 t ht).toLoadRect (View.loadsAt_vmem h_S1x128)) fun g0 =>
  .op (.load (M 8) (rG4 i h4 t ht).toLoadRect (View.loadsAt_vmem h_S1x128)) fun _ =>
  .op (.store (M 8) (rG4 i h4 t ht) (k0_pay316 (k0_pay311 r q k v x) g0) Finset.univ (View.stores_vmem_bits_univ h_S1x128 rfl) (.inl rfl)) fun _ =>
  .op (.load (M 5) (rG4 i h4 t ht).toLoadRect (View.loadsAt_vmem h_S1x128)) fun g =>
  kont (k0_pay317 c (k0_pay308 r q k v x) g)

/-- Chunk `t` of the row scales copied to the result. -/
def scaleTile (M : Fam) (t : Nat) (ht : t < 8) (k : BP F) : BP F :=
  .op (.load (M 22) (rQ t ht).toLoadRect (View.loadsAt_vmem h_S1x128x18)) fun r =>
  .op (.load (M 11) (rS t ht).toLoadRect (View.loadsAt_vmem h_S128x18)) fun _ =>
  .op (.store (M 11) (rS t ht) (k0_pay8 r) Finset.univ (View.stores_vmem_bits_univ h_S128x18 rfl) (.inl rfl)) fun _ =>
  k

/-! ## The regions -/

/-- Every tile from `t` on. -/
def tiles {A : Type 1} (f : (t : Nat) → t < 18 → A → A) (k : A) : A :=
  f 0 (by decide) <| f 1 (by decide) <| f 2 (by decide) <| f 3 (by decide) <| f 4 (by decide) <| f 5 (by decide) <| f 6 (by decide) <| f 7 (by decide) <| f 8 (by decide) <| f 9 (by decide) <| f 10 (by decide) <| f 11 (by decide) <| f 12 (by decide) <| f 13 (by decide) <| f 14 (by decide) <| f 15 (by decide) <| f 16 (by decide) <| f 17 (by decide) <| k

/-- Every tile from the first on, a sum passed along. -/
def tilesC {A : Type 1} {C : Type} (f : (t : Nat) → t < 18 → C → (C → A) → A) (c : C) (k : C → A) : A :=
  f 0 (by decide) c fun c => f 1 (by decide) c fun c => f 2 (by decide) c fun c => f 3 (by decide) c fun c => f 4 (by decide) c fun c => f 5 (by decide) c fun c => f 6 (by decide) c fun c => f 7 (by decide) c fun c => f 8 (by decide) c fun c => f 9 (by decide) c fun c => f 10 (by decide) c fun c => f 11 (by decide) c fun c => f 12 (by decide) c fun c => f 13 (by decide) c fun c => f 14 (by decide) c fun c => f 15 (by decide) c fun c => f 16 (by decide) c fun c => f 17 (by decide) c fun c => k c

/-- Zeroing dgamma and the row maxima. -/
def reg1 (M : Fam) (k : BP F) : BP F :=
  .op (.load (M 8) rG.toLoadRect (View.loadsAt_vmem h_S1x18432)) fun _ =>
  .op (.store (M 8) rG (k0_pay1 (F := F)) Finset.univ (View.stores_vmem_bits_univ h_S1x18432 rfl) (.inl rfl)) fun _ =>
  .op (.load (M 20) rW.toLoadRect (View.loadsAt_vmem h_S128x128)) fun _ =>
  .op (.store (M 20) rW (k0_pay2 (F := F)) Finset.univ (View.stores_vmem_bits_univ h_S128x128 rfl) (.inl rfl)) fun _ =>
  k

/-- The block's rstd spread over a 128-square, and the sum zeroed. -/
def reg2 (M : Fam) (i : grid0.Coords) (h2 : k0_cond2 i = 1#1) (k : BP F) : BP F :=
  .op (.load (M 6) (rB1 i h2).toLoadRect (View.loadsAt_vmem h_S1x128)) fun a =>
  .op (.load (M 6) (rB2 i h2).toLoadRect (View.loadsAt_vmem h_S1x128)) fun b =>
  .op (.load (M 16) rW.toLoadRect (View.loadsAt_vmem h_S128x128)) fun _ =>
  .op (.store (M 16) rW (k0_pay10 (BitVec.ofNat 32 (i 0).val) a b) Finset.univ (View.stores_vmem_bits_univ h_S128x128 rfl) (.inl rfl)) fun _ =>
  .op (.load (M 18) rW.toLoadRect (View.loadsAt_vmem h_S128x128)) fun _ =>
  .op (.store (M 18) rW (k0_pay3 (F := F)) Finset.univ (View.stores_vmem_bits_univ h_S128x128 rfl) (.inl rfl)) fun _ =>
  k

/-- The emission: the tiles, the row scales, the row codes. -/
def reg3 (M : Fam) (hM : ∀ k, (M k).IsWhole) (i : grid0.Coords) (h3 : k0_cond3 i = 1#1) (k : BP F) : BP F :=
  .op (.load (M 17) rW.toLoadRect (View.loadsAt_vmem h_S128x128)) fun s =>
  tiles (emitTile M hM i h3 s) <|
  .op (.load (M 20) rW.toLoadRect (View.loadsAt_vmem h_S128x128)) fun a =>
  .op (.load (M 22) (rR i).toLoadRect (View.loadsAt_vmem h_S1x128x128)) fun _ =>
  .op (.store (M 22) (rR i) (k0_pay284 (rowScale a)) Finset.univ (View.stores_vmem_bits_univ h_S1x128x128 rfl) (.inl rfl)) fun _ =>
  tiles (rowTile M hM (rowInv a)) k

/-- The reduction: the tiles, the sum stored. -/
def reg4 (M : Fam) (hM : ∀ k, (M k).IsWhole) (i : grid0.Coords) (h4 : k0_cond4 i = 1#1) (k : BP F) : BP F :=
  .op (.load (M 16) rW.toLoadRect (View.loadsAt_vmem h_S128x128)) fun r =>
  .op (.load (M 18) rW.toLoadRect (View.loadsAt_vmem h_S128x128)) fun c =>
  tilesC (redTile M hM i h4 r) c fun c =>
  .op (.load (M 18) rW.toLoadRect (View.loadsAt_vmem h_S128x128)) fun _ =>
  .op (.store (M 18) rW (shapeCast S128x128 c shapeCasts_S128x128_S128x128) Finset.univ (View.stores_vmem_bits_univ h_S128x128 rfl) (.inl rfl)) fun _ =>
  k

/-- The block's `s` from its sum. -/
def reg5 (M : Fam) (k : BP F) : BP F :=
  .op (.load (M 18) rW.toLoadRect (View.loadsAt_vmem h_S128x128)) fun c =>
  .op (.load (M 16) rW.toLoadRect (View.loadsAt_vmem h_S128x128)) fun r =>
  .op (.load (M 17) rW.toLoadRect (View.loadsAt_vmem h_S128x128)) fun _ =>
  .op (.store (M 17) rW (k0_pay7 c r) Finset.univ (View.stores_vmem_bits_univ h_S128x128 rfl) (.inl rfl)) fun _ =>
  k

/-- The block's row scales copied to the result. -/
def reg6 (M : Fam) (k : BP F) : BP F :=
  scaleTile M 0 (by decide) <| scaleTile M 1 (by decide) <| scaleTile M 2 (by decide) <| scaleTile M 3 (by decide) <| scaleTile M 4 (by decide) <| scaleTile M 5 (by decide) <| scaleTile M 6 (by decide) <| scaleTile M 7 (by decide) <| k

/-- The column scales of a chunk copied, transposed, to the result. -/
def reg7 (M : Fam) (i : grid0.Coords) (h7 : k0_cond7 i = 1#1) (k : BP F) : BP F :=
  .op (.load (M 21) (rK7 i h7).toLoadRect (View.loadsAt_vmem h_S48x2304)) fun a =>
  .op (.load (M 13) rCS.toLoadRect (View.loadsAt_vmem h_S2304x48)) fun _ =>
  .op (.store (M 13) rCS (k0_pay9 a) Finset.univ (View.stores_vmem_bits_univ h_S2304x48 rfl) (.inl rfl)) fun _ =>
  k

/-- The condition of the fifth region. -/
abbrev cond5 (i : grid0.Coords) : BitVec 1 :=
  Scalar.cmpi .ne (Scalar.extui (Scalar.andi (Scalar.cmpi .slt (BitVec.ofNat 32 (i 0).val) 48#32) (Scalar.cmpi .eq (BitVec.ofNat 32 (i 1).val) 7#32)) : BitVec 32) 0#32

/-- The body. -/
def body (M : Fam) (hM : ∀ k, (M k).IsWhole) (i : grid0.Coords) : BP F :=
  let j7 : BP F := if h7 : k0_cond7 i = 1#1 then reg7 M i h7 (pure ⟨⟩) else pure ⟨⟩
  let j6 : BP F := if h6 : k0_cond6 i = 1#1 then reg6 M j7 else j7
  let j5 : BP F := if h5 : cond5 i = 1#1 then reg5 M j6 else j6
  let j4 : BP F := if h4 : k0_cond4 i = 1#1 then reg4 M hM i h4 j5 else j5
  let j3 : BP F := if h3 : k0_cond3 i = 1#1 then reg3 M hM i h3 j4 else j4
  let j2 : BP F := if h2 : k0_cond2 i = 1#1 then reg2 M i h2 j3 else j3
  if h1 : k0_cond1 i = 1#1 then reg1 M j2 else j2

end Cert.KernelIdeal.Body
-- ==== Proof.Bridge.lean ====
/- The printed body is the one of `Body.lean`: the printed regions, each followed by any continuation. -/
module

public import proofs.«01_k».proof.Proof.Body

@[expose] public section

noncomputable section

namespace Cert.KernelIdeal.Body

open Idealize.ShloMosaic Idealize.SL.Sem Cert.KernelIdeal Cert.KernelIdeal.Gen

variable {F : FTy → Type} [FloatOps F] [Named F]

set_option maxRecDepth 100000

/-- Region 1 as printed, before the rest `K`. -/
def seg1 (M : Fam) (hM : ∀ k, (M k).IsWhole) (i : grid0.Coords) (K : BP F) : BP F :=
  let arg0 : BitVec 32 := BitVec.ofNat 32 (i 0).val
  let arg1 : BitVec 32 := BitVec.ofNat 32 (i 1).val
  if h : k0_cond1 i = 1#1 then
    (do
      let v30 : Vec F S1x18432 .f32 ← Prog.lift (.load (M 8) (Rect.unit (s := S1x18432) ![0, 0] S1x18432.size inb_S1x18432_S1x18432_0_0).toLoadRect (View.loadsAt_vmem h_S1x18432))
      Prog.lift (.store (M 8) (Rect.unit (s := S1x18432) ![0, 0] S1x18432.size inb_S1x18432_S1x18432_0_0) (k0_pay1 (F := F)) Finset.univ (View.stores_vmem_bits_univ h_S1x18432 rfl) (.inl rfl))
      let v32 : Vec F S128x128 .f32 ← Prog.lift (.load (M 20) (Rect.unit (s := S128x128) ![0, 0] S128x128.size inb_S128x128_S128x128_0_0).toLoadRect (View.loadsAt_vmem h_S128x128))
      Prog.lift (.store (M 20) (Rect.unit (s := S128x128) ![0, 0] S128x128.size inb_S128x128_S128x128_0_0) (k0_pay2 (F := F)) Finset.univ (View.stores_vmem_bits_univ h_S128x128 rfl) (.inl rfl))
      K : BP F)
  else K

/-- Region 2 as printed, before the rest `K`. -/
def seg2 (M : Fam) (hM : ∀ k, (M k).IsWhole) (i : grid0.Coords) (K : BP F) : BP F :=
  let arg0 : BitVec 32 := BitVec.ofNat 32 (i 0).val
  let arg1 : BitVec 32 := BitVec.ofNat 32 (i 1).val
  if k0_h2 : k0_cond2 i = 1#1 then
    (do
      let v69 : FVec F S128x128 .f32 ← k0_part1 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) arg0 k0_h2
      Prog.lift (.store (M 16) (Rect.unit (s := S128x128) ![0, 0] S128x128.size inb_S128x128_S128x128_0_0) v69 Finset.univ (View.stores_vmem_bits_univ h_S128x128 rfl) (.inl rfl))
      let v71 : Vec F S128x128 .f32 ← Prog.lift (.load (M 18) (Rect.unit (s := S128x128) ![0, 0] S128x128.size inb_S128x128_S128x128_0_0).toLoadRect (View.loadsAt_vmem h_S128x128))
      Prog.lift (.store (M 18) (Rect.unit (s := S128x128) ![0, 0] S128x128.size inb_S128x128_S128x128_0_0) (k0_pay3 (F := F)) Finset.univ (View.stores_vmem_bits_univ h_S128x128 rfl) (.inl rfl))
      K : BP F)
  else K

/-- Region 3 as printed, before the rest `K`. -/
def seg3 (M : Fam) (hM : ∀ k, (M k).IsWhole) (i : grid0.Coords) (K : BP F) : BP F :=
  let arg0 : BitVec 32 := BitVec.ofNat 32 (i 0).val
  let arg1 : BitVec 32 := BitVec.ofNat 32 (i 1).val
  if k0_h3 : k0_cond3 i = 1#1 then
    (do
      let ⟨v2588, v2594, c528482304_i32_892⟩ : Σ' (v2588 : FVec F S128x128 .f32) (v2594 : IVec S128x128 32), BitVec 32 ← k0_part68 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) arg0 arg1 k0_h3
      let ⟨v2638, v2639⟩ : Σ' (v2638 : FVec F S128x128 .f32), FVec F S128x128 .f32 ← k0_part62 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) arg1 k0_h3 v2588 v2594 c528482304_i32_892
      let ⟨v2677, cst_925⟩ : Σ' (v2677 : FVec F S128x128 .f32), F .f32 ← k0_part63 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) k0_h3 v2638 v2639
      let v2712 : FVec F S128x128 .fp8e4m3 ← k0_part64 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) v2639 v2677 cst_925
      let ⟨v2747, cst_967, cst_968⟩ : Σ' (v2747 : FVec F S128x128 .f32) (cst_967 : F .f32), F .f32 ← k0_part65 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) v2639 v2712
      k0_part66 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) v2639 v2747 cst_967 cst_968
      let ⟨v2817, cst_1010, v2818⟩ : Σ' (v2817 : FVec F S128x128 .f32) (cst_1010 : F .f32), FVec F S128x128 .f32 ← k0_part67 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) v2639
      let v2823 : Vec F S128x128 .fp8e4m3 ← Prog.lift (.load (M 10) (Rect.unit (s := S128x2304) ![0, 2176] S128x128.size inb_S128x2304_S128x128_0_2176).toLoadRect (View.loadsAt_vmem h_S128x128))
      Prog.lift (.store (M 10) (Rect.unit (s := S128x2304) ![0, 2176] S128x128.size inb_S128x2304_S128x128_0_2176) (k0_pay4 v2817 cst_1010 v2818) Finset.univ (View.stores_vmem h_S128x128 ((hM 10).storeExact_slice rfl _ packedfp8e4m3_S128x2304_S128x128_0_2176) (fun _ => rfl)) (.inl rfl))
      K : BP F)
  else K

/-- Region 4 as printed, before the rest `K`. -/
def seg4 (M : Fam) (hM : ∀ k, (M k).IsWhole) (i : grid0.Coords) (K : BP F) : BP F :=
  let arg0 : BitVec 32 := BitVec.ofNat 32 (i 0).val
  let arg1 : BitVec 32 := BitVec.ofNat 32 (i 1).val
  if k0_h4 : k0_cond4 i = 1#1 then
    (do
      let ⟨v1730, v1746, v1756, v1808, v1809⟩ : Σ' (v1730 : FVec F S128x128 .f32) (v1746 : FVec F S128x128 .f32) (v1756 : FVec F S1x128 .f32) (v1808 : FVec F S1x8x128 .f32), IVec S1x8x128 1 ← k0_part113 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) arg0 arg1 k0_h4
      Prog.lift (.store (M 9) (Rect.unit (s := S1x8x18432) (k0_off25 i 2176#32) S1x8x128.size (k0_off25_inb i k0_h4 17)) v1808 (IVec.on v1809) (View.stores_vmem_bits h_S1x8x128 rfl (fun h => nomatch h)) (.inr (fun _ => rfl)))
      let v1814 : Vec F S1x128 .f32 ← Prog.lift (.load (M 8) (Rect.unit (s := S1x18432) (k0_off26 i 2176#32) S1x128.size (k0_off26_inb i k0_h4 17)).toLoadRect (View.loadsAt_vmem h_S1x128))
      let v1821 : Vec F S1x128 .f32 ← Prog.lift (.load (M 8) (Rect.unit (s := S1x18432) (k0_off26 i 2176#32) S1x128.size (k0_off26_inb i k0_h4 17)).toLoadRect (View.loadsAt_vmem h_S1x128))
      Prog.lift (.store (M 8) (Rect.unit (s := S1x18432) (k0_off26 i 2176#32) S1x128.size (k0_off26_inb i k0_h4 17)) (k0_pay5 v1756 v1814) Finset.univ (View.stores_vmem_bits_univ h_S1x128 rfl) (.inl rfl))
      let v1826 : Vec F S1x128 .f32 ← Prog.lift (.load (M 5) (Rect.unit (s := S1x18432) (k0_off26 i 2176#32) S1x128.size (k0_off26_inb i k0_h4 17)).toLoadRect (View.loadsAt_vmem h_S1x128))
      let v1831 : Vec F S128x128 .f32 ← Prog.lift (.load (M 18) (Rect.unit (s := S128x128) ![0, 0] S128x128.size inb_S128x128_S128x128_0_0).toLoadRect (View.loadsAt_vmem h_S128x128))
      Prog.lift (.store (M 18) (Rect.unit (s := S128x128) ![0, 0] S128x128.size inb_S128x128_S128x128_0_0) (k0_pay6 v1730 v1746 v1826) Finset.univ (View.stores_vmem_bits_univ h_S128x128 rfl) (.inl rfl))
      K : BP F)
  else K

/-- Region 5 as printed, before the rest `K`. -/
def seg5 (M : Fam) (hM : ∀ k, (M k).IsWhole) (i : grid0.Coords) (K : BP F) : BP F :=
  let arg0 : BitVec 32 := BitVec.ofNat 32 (i 0).val
  let arg1 : BitVec 32 := BitVec.ofNat 32 (i 1).val
  if h : cond5 i = 1#1 then
    (do
      let v29 : Vec F S128x128 .f32 ← Prog.lift (.load (M 18) (Rect.unit (s := S128x128) ![0, 0] S128x128.size inb_S128x128_S128x128_0_0).toLoadRect (View.loadsAt_vmem h_S128x128))
      let v34 : Vec F S128x128 .f32 ← Prog.lift (.load (M 16) (Rect.unit (s := S128x128) ![0, 0] S128x128.size inb_S128x128_S128x128_0_0).toLoadRect (View.loadsAt_vmem h_S128x128))
      let v39 : Vec F S128x128 .f32 ← Prog.lift (.load (M 17) (Rect.unit (s := S128x128) ![0, 0] S128x128.size inb_S128x128_S128x128_0_0).toLoadRect (View.loadsAt_vmem h_S128x128))
      Prog.lift (.store (M 17) (Rect.unit (s := S128x128) ![0, 0] S128x128.size inb_S128x128_S128x128_0_0) (k0_pay7 v29 v34) Finset.univ (View.stores_vmem_bits_univ h_S128x128 rfl) (.inl rfl))
      K : BP F)
  else K

/-- Region 6 as printed, before the rest `K`. -/
def seg6 (M : Fam) (hM : ∀ k, (M k).IsWhole) (i : grid0.Coords) (K : BP F) : BP F :=
  let arg0 : BitVec 32 := BitVec.ofNat 32 (i 0).val
  let arg1 : BitVec 32 := BitVec.ofNat 32 (i 1).val
  if h : k0_cond6 i = 1#1 then
    (do
      let v48 : FVec F S128x18 .f32 ← k0_part114 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22)
      let v49 : Vec F S128x18 .f32 ← Prog.lift (.load (M 11) (Rect.unit (s := S128x144) ![0, 108] S128x18.size inb_S128x144_S128x18_0_108).toLoadRect (View.loadsAt_vmem h_S128x18))
      Prog.lift (.store (M 11) (Rect.unit (s := S128x144) ![0, 108] S128x18.size inb_S128x144_S128x18_0_108) v48 Finset.univ (View.stores_vmem_bits_univ h_S128x18 rfl) (.inl rfl))
      let v50 : Vec F S1x128x18 .f32 ← Prog.lift (.load (M 22) (Rect.unit (s := S8x128x128) ![7, 0, 0] S1x128x18.size inb_S8x128x128_S1x128x18_7_0_0).toLoadRect (View.loadsAt_vmem h_S1x128x18))
      let v52 : Vec F S128x18 .f32 ← Prog.lift (.load (M 11) (Rect.unit (s := S128x144) ![0, 126] S128x18.size inb_S128x144_S128x18_0_126).toLoadRect (View.loadsAt_vmem h_S128x18))
      Prog.lift (.store (M 11) (Rect.unit (s := S128x144) ![0, 126] S128x18.size inb_S128x144_S128x18_0_126) (k0_pay8 v50) Finset.univ (View.stores_vmem_bits_univ h_S128x18 rfl) (.inl rfl))
      K : BP F)
  else K

/-- Region 7 as printed, before the rest `K`. -/
def seg7 (M : Fam) (hM : ∀ k, (M k).IsWhole) (i : grid0.Coords) (K : BP F) : BP F :=
  let arg0 : BitVec 32 := BitVec.ofNat 32 (i 0).val
  let arg1 : BitVec 32 := BitVec.ofNat 32 (i 1).val
  if k0_h7 : k0_cond7 i = 1#1 then
    (do
      let v32 : Vec F S48x2304 .f32 ← Prog.lift (.load (M 21) (Rect.unit (s := S48x18432) (k0_off44 i) S48x2304.size (k0_off44_inb i k0_h7)).toLoadRect (View.loadsAt_vmem h_S48x2304))
      let v34 : Vec F S2304x48 .f32 ← Prog.lift (.load (M 13) (Rect.unit (s := S2304x48) ![0, 0] S2304x48.size inb_S2304x48_S2304x48_0_0).toLoadRect (View.loadsAt_vmem h_S2304x48))
      Prog.lift (.store (M 13) (Rect.unit (s := S2304x48) ![0, 0] S2304x48.size inb_S2304x48_S2304x48_0_0) (k0_pay9 v32) Finset.univ (View.stores_vmem_bits_univ h_S2304x48 rfl) (.inl rfl))
      K : BP F)
  else K

theorem seg1_eq (M : Fam) (hM : ∀ k, (M k).IsWhole) (i : grid0.Coords) (K : BP F) :
    seg1 M hM i K = if h : k0_cond1 i = 1#1 then reg1 M K else K := by
  unfold seg1
  refine dite_congr rfl (fun h => ?_) (fun _ => rfl)
  rfl

theorem seg2_eq (M : Fam) (hM : ∀ k, (M k).IsWhole) (i : grid0.Coords) (K : BP F) :
    seg2 M hM i K = if k0_h2 : k0_cond2 i = 1#1 then reg2 M i k0_h2 K else K := by
  unfold seg2
  refine dite_congr rfl (fun k0_h2 => ?_) (fun _ => rfl)
  rfl

theorem seg3_eq (M : Fam) (hM : ∀ k, (M k).IsWhole) (i : grid0.Coords) (K : BP F) :
    seg3 M hM i K = if k0_h3 : k0_cond3 i = 1#1 then reg3 M hM i k0_h3 K else K := by
  unfold seg3
  refine dite_congr rfl (fun k0_h3 => ?_) (fun _ => rfl)
  rw [k0_part68_eq_skeleton]
  unfold k0_part68_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  rfl

set_option maxHeartbeats 2000000 in
theorem seg4_eq (M : Fam) (hM : ∀ k, (M k).IsWhole) (i : grid0.Coords) (K : BP F) :
    seg4 M hM i K = if k0_h4 : k0_cond4 i = 1#1 then reg4 M hM i k0_h4 K else K := by
  unfold seg4
  refine dite_congr rfl (fun k0_h4 => ?_) (fun _ => rfl)
  rw [k0_part113_eq_skeleton]
  unfold k0_part113_skel
  simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton]
  rfl

theorem seg5_eq (M : Fam) (hM : ∀ k, (M k).IsWhole) (i : grid0.Coords) (K : BP F) :
    seg5 M hM i K = if h : cond5 i = 1#1 then reg5 M K else K := by
  unfold seg5
  refine dite_congr rfl (fun h => ?_) (fun _ => rfl)
  rfl

theorem seg6_eq (M : Fam) (hM : ∀ k, (M k).IsWhole) (i : grid0.Coords) (K : BP F) :
    seg6 M hM i K = if h : k0_cond6 i = 1#1 then reg6 M K else K := by
  unfold seg6
  refine dite_congr rfl (fun h => ?_) (fun _ => rfl)
  rfl

theorem seg7_eq (M : Fam) (hM : ∀ k, (M k).IsWhole) (i : grid0.Coords) (K : BP F) :
    seg7 M hM i K = if k0_h7 : k0_cond7 i = 1#1 then reg7 M i k0_h7 K else K := by
  unfold seg7
  refine dite_congr rfl (fun k0_h7 => ?_) (fun _ => rfl)
  rfl

theorem body_eq (M : Fam) (hM : ∀ k, (M k).IsWhole) (i : grid0.Coords) :
    cc0_rmsnorm_bwd_fp8_skel (F := F) i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) = body (F := F) M hM i := by
  have e : cc0_rmsnorm_bwd_fp8_skel (F := F) i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22)
      = seg1 M hM i (seg2 M hM i (seg3 M hM i (seg4 M hM i (seg5 M hM i (seg6 M hM i (seg7 M hM i (pure ⟨⟩))))))) := rfl
  rw [e, seg1_eq, seg2_eq, seg3_eq, seg4_eq, seg5_eq, seg6_eq, seg7_eq]
  rfl

end Cert.KernelIdeal.Body
-- ==== Proof.Runs.lean ====
/- What the body's texts leave in the memrefs, as functions of the contents they start from.

   For each repeated text of `Body.lean`: the contents after it (`…S`), and that the text runs from the contents
   before to those (`…_runs`). -/
module

public import proofs.«01_k».proof.Proof.Body

@[expose] public section

noncomputable section

namespace Cert.KernelIdeal.Body

open Idealize.ShloMosaic Idealize.SL Idealize.SL.RA Idealize.SL.Sem Cert.KernelIdeal Cert.KernelIdeal.Gen Proof.Tri

variable {F : FTy → Type} [FloatOps F] [Named F]

/-- The contents of the family of memrefs. -/
abbrev Sta (F : FTy → Type) : Type := St (Elt F) shF elF

/-- After tile `t` of the emission. -/
def emitS (i : grid0.Coords) (h3 : k0_cond3 i = 1#1) (s : Vec F S128x128 .f32) (t : Nat) (ht : t < 18) (X : Sta F) : Sta F :=
  let e : (_ → _) := fun y => X 14 ((rE i t ht).emb y)
  let g : (_ → _) := fun y => X 5 ((rG3 i h3 t ht).emb y)
  let x : (_ → _) := fun y => X 15 ((rE i t ht).emb y)
  let d : (_ → _) := fun y => X 4 ((rL t ht).emb y)
  let X : Sta F := Function.update X 19 (put (rL t ht) (k0_pay12 s e g x d) Finset.univ (X 19))
  let X : Sta F := Function.update X 7 (put (rL t ht) (k0_pay13 s e g x d) Finset.univ (X 7))
  let X : Sta F := Function.update X 20 (put (rA t ht) (k0_pay15 s e g x d) Finset.univ (X 20))
  let X : Sta F := Function.update X 21 (put (rC3 i h3 t ht) (k0_pay21 (k0_pay20 (k0_pay17 (k0_pay16 s e g x d)))) (IVec.on (k0_pay22 (k0_pay19 (BitVec.ofNat 32 (i 0).val)))) (X 21))
  let X : Sta F := Function.update X 12 (put (rT t ht) (k0_pay23 (k0_pay11 s e g x d) (k0_pay18 (k0_pay17 (k0_pay16 s e g x d)) 2130706432#32)) Finset.univ (X 12))
  X

/-- After tile `t` of the row codes. -/
def rowS (inv : FVec F S128x128 .f32) (t : Nat) (ht : t < 18) (X : Sta F) : Sta F :=
  let d : (_ → _) := fun y => X 19 ((rL t ht).emb y)
  let X : Sta F := Function.update X 10 (put (rL t ht) (rowCode inv t ht d) Finset.univ (X 10))
  X

/-- After tile `t` of the reduction. -/
def redS (i : grid0.Coords) (h4 : k0_cond4 i = 1#1) (r : Vec F S128x128 .f32) (t : Nat) (ht : t < 18) (X : Sta F) : Sta F :=
  let q : (_ → _) := fun y => X 1 ((rL t ht).emb y)
  let k : (_ → _) := fun y => X 2 ((rL t ht).emb y)
  let v : (_ → _) := fun y => X 3 ((rL t ht).emb y)
  let x : (_ → _) := fun y => X 0 ((rL t ht).emb y)
  let X : Sta F := Function.update X 14 (put (rE i t ht) (k0_pay309 r q k v) Finset.univ (X 14))
  let X : Sta F := Function.update X 15 (put (rE i t ht) (k0_pay310 x) Finset.univ (X 15))
  let X : Sta F := Function.update X 9 (put (rP4 i h4 t ht) (k0_pay314 (k0_pay313 (k0_pay311 r q k v x))) (IVec.on (k0_pay315 (maskP (BitVec.ofNat 32 (i 0).val)))) (X 9))
  let g0 : (_ → _) := fun y => X 8 ((rG4 i h4 t ht).emb y)
  let X : Sta F := Function.update X 8 (put (rG4 i h4 t ht) (k0_pay316 (k0_pay311 r q k v x) g0) Finset.univ (X 8))
  X

/-- The sum after tile `t` of the reduction. -/
def redC (i : grid0.Coords) (h4 : k0_cond4 i = 1#1) (r : Vec F S128x128 .f32) (t : Nat) (ht : t < 18) (X : Sta F) (c : Vec F S128x128 .f32) : Vec F S128x128 .f32 :=
  let q : (_ → _) := fun y => X 1 ((rL t ht).emb y)
  let k : (_ → _) := fun y => X 2 ((rL t ht).emb y)
  let v : (_ → _) := fun y => X 3 ((rL t ht).emb y)
  let x : (_ → _) := fun y => X 0 ((rL t ht).emb y)
  let g : (_ → _) := fun y => X 5 ((rG4 i h4 t ht).emb y)
  k0_pay317 c (k0_pay308 r q k v x) g

/-- After chunk `t` of the row scales' copy. -/
def scaleS (t : Nat) (ht : t < 8) (X : Sta F) : Sta F :=
  let r : (_ → _) := fun y => X 22 ((rQ t ht).emb y)
  let X : Sta F := Function.update X 11 (put (rS t ht) (k0_pay8 r) Finset.univ (X 11))
  X

/-- After zeroing. -/
def reg1S (X : Sta F) : Sta F :=
  let X : Sta F := Function.update X 8 (put rG (k0_pay1 (F := F)) Finset.univ (X 8))
  let X : Sta F := Function.update X 20 (put rW (k0_pay2 (F := F)) Finset.univ (X 20))
  X

/-- After the start of a block's reduction. -/
def reg2S (i : grid0.Coords) (h2 : k0_cond2 i = 1#1) (X : Sta F) : Sta F :=
  let a : (_ → _) := fun y => X 6 ((rB1 i h2).emb y)
  let b : (_ → _) := fun y => X 6 ((rB2 i h2).emb y)
  let X : Sta F := Function.update X 16 (put rW (k0_pay10 (BitVec.ofNat 32 (i 0).val) a b) Finset.univ (X 16))
  let X : Sta F := Function.update X 18 (put rW (k0_pay3 (F := F)) Finset.univ (X 18))
  X

/-- After the tiles below `n`. -/
def tilesS (f : (t : Nat) → t < 18 → Sta F → Sta F) : (n : Nat) → n ≤ 18 → Sta F → Sta F
  | 0, _, X => X
  | n + 1, h, X => f n (by omega) (tilesS f n (by omega) X)

/-- The sum after the tiles below `n`, from the contents of the family then. -/
def tilesSum (f : (t : Nat) → t < 18 → Sta F → Sta F) (g : (t : Nat) → t < 18 → Sta F → Vec F S128x128 .f32 → Vec F S128x128 .f32) :
    (n : Nat) → n ≤ 18 → Sta F → Vec F S128x128 .f32 → Vec F S128x128 .f32
  | 0, _, _, c => c
  | n + 1, h, X, c => g n (by omega) (tilesS f n (by omega) X) (tilesSum f g n (by omega) X c)

/-- After the emission. -/
def reg3S (i : grid0.Coords) (h3 : k0_cond3 i = 1#1) (X : Sta F) : Sta F :=
  let s : (_ → _) := fun y => X 17 (rW.emb y)
  let X : Sta F := tilesS (emitS i h3 s) 18 (by decide) X
  let a : (_ → _) := fun y => X 20 (rW.emb y)
  let X : Sta F := Function.update X 22 (put (rR i) (k0_pay284 (rowScale a)) Finset.univ (X 22))
  tilesS (rowS (rowInv a)) 18 (by decide) X

/-- After the reduction. -/
def reg4S (i : grid0.Coords) (h4 : k0_cond4 i = 1#1) (X : Sta F) : Sta F :=
  let r : (_ → _) := fun y => X 16 (rW.emb y)
  let c : (_ → _) := fun y => X 18 (rW.emb y)
  let c' := tilesSum (redS i h4 r) (redC i h4 r) 18 (by decide) X c
  let X : Sta F := tilesS (redS i h4 r) 18 (by decide) X
  Function.update X 18 (put rW (shapeCast S128x128 c' shapeCasts_S128x128_S128x128) Finset.univ (X 18))

/-- After the block's `s`. -/
def reg5S (X : Sta F) : Sta F :=
  let c : (_ → _) := fun y => X 18 (rW.emb y)
  let r : (_ → _) := fun y => X 16 (rW.emb y)
  let X : Sta F := Function.update X 17 (put rW (k0_pay7 c r) Finset.univ (X 17))
  X

/-- After the chunks below `n` of the row scales' copy. -/
def scalesS : (n : Nat) → n ≤ 8 → Sta F → Sta F
  | 0, _, X => X
  | n + 1, h, X => scaleS n (by omega) (scalesS n (by omega) X)

/-- After the column scales' copy. -/
def reg7S (i : grid0.Coords) (h7 : k0_cond7 i = 1#1) (X : Sta F) : Sta F :=
  let a : (_ → _) := fun y => X 21 ((rK7 i h7).emb y)
  let X : Sta F := Function.update X 13 (put rCS (k0_pay9 a) Finset.univ (X 13))
  X

/-- After the body. -/
def bodyS (i : grid0.Coords) (X : Sta F) : Sta F :=
  let X : Sta F := if h1 : k0_cond1 i = 1#1 then reg1S X else X
  let X : Sta F := if h2 : k0_cond2 i = 1#1 then reg2S i h2 X else X
  let X : Sta F := if h3 : k0_cond3 i = 1#1 then reg3S i h3 X else X
  let X : Sta F := if h4 : k0_cond4 i = 1#1 then reg4S i h4 X else X
  let X : Sta F := if h5 : cond5 i = 1#1 then reg5S X else X
  let X : Sta F := if h6 : k0_cond6 i = 1#1 then scalesS 8 (by decide) X else X
  if h7 : k0_cond7 i = 1#1 then reg7S i h7 X else X

section
variable {Ix : Type} [DecidableEq Ix] {Name : Type} [DecidableEq Name] {U : Type} [URA U] {Lvl : Type} [Preorder Lvl]
variable {defs : Defs nD τ sig (Elt F) Λ₀} {𝒱 : Variants} {d : Dev nD} {bd : Option 𝒱.V} {E : Set Name}
variable {M : Fam} {hM : ∀ k, (M k).IsWhole} {i : grid0.Coords} {X X' : Sta F} {k : BP F} {b : PUnit}

local notation "RUNS" => Runs (α := PUnit) (n := 23) (sh := shF) (el := elF) Ix Name U Lvl defs 𝒱 (d.tc : Thread nD τ) bd E M

theorem emitTile_runs {h3 : k0_cond3 i = 1#1} {s : Vec F S128x128 .f32} {t : Nat} {ht : t < 18}
    (h : RUNS (emitS i h3 s t ht X) k b X') : RUNS X (emitTile M hM i h3 s t ht k) b X' := by
  unfold emitTile
  refine Runs.load (n := 23) (k := 14) _ _ _ _ ?_
  refine Runs.load (n := 23) (k := 5) _ _ _ _ ?_
  refine Runs.load (n := 23) (k := 15) _ _ _ _ ?_
  refine Runs.load (n := 23) (k := 4) _ _ _ _ ?_
  refine Runs.load (n := 23) (k := 19) _ _ _ _ ?_
  refine Runs.store (n := 23) (k := 19) _ _ _ _ ?_
  refine Runs.load (n := 23) (k := 7) _ _ _ _ ?_
  refine Runs.store (n := 23) (k := 7) _ _ _ _ ?_
  refine Runs.load (n := 23) (k := 20) _ _ _ _ ?_
  refine Runs.store (n := 23) (k := 20) _ _ _ _ ?_
  refine Runs.load (n := 23) (k := 21) _ _ _ _ ?_
  refine Runs.store (n := 23) (k := 21) _ _ _ _ ?_
  refine Runs.load (n := 23) (k := 12) _ _ _ _ ?_
  refine Runs.store (n := 23) (k := 12) _ _ _ _ ?_
  exact h

theorem rowTile_runs {inv : FVec F S128x128 .f32} {t : Nat} {ht : t < 18}
    (h : RUNS (rowS inv t ht X) k b X') : RUNS X (rowTile M hM inv t ht k) b X' := by
  unfold rowTile
  refine Runs.load (n := 23) (k := 19) _ _ _ _ ?_
  refine Runs.load (n := 23) (k := 10) _ _ _ _ ?_
  refine Runs.store (n := 23) (k := 10) _ _ _ _ ?_
  exact h

theorem redTile_runs {h4 : k0_cond4 i = 1#1} {r : Vec F S128x128 .f32} {t : Nat} {ht : t < 18} {c : Vec F S128x128 .f32} {k : Vec F S128x128 .f32 → BP F}
    (h : RUNS (redS i h4 r t ht X) (k (redC i h4 r t ht X c)) b X') : RUNS X (redTile M hM i h4 r t ht c k) b X' := by
  unfold redTile
  refine Runs.load (n := 23) (k := 1) _ _ _ _ ?_
  refine Runs.load (n := 23) (k := 2) _ _ _ _ ?_
  refine Runs.load (n := 23) (k := 3) _ _ _ _ ?_
  refine Runs.load (n := 23) (k := 0) _ _ _ _ ?_
  refine Runs.load (n := 23) (k := 14) _ _ _ _ ?_
  refine Runs.store (n := 23) (k := 14) _ _ _ _ ?_
  refine Runs.load (n := 23) (k := 15) _ _ _ _ ?_
  refine Runs.store (n := 23) (k := 15) _ _ _ _ ?_
  refine Runs.load (n := 23) (k := 9) _ _ _ _ ?_
  refine Runs.store (n := 23) (k := 9) _ _ _ _ ?_
  refine Runs.load (n := 23) (k := 8) _ _ _ _ ?_
  refine Runs.load (n := 23) (k := 8) _ _ _ _ ?_
  refine Runs.store (n := 23) (k := 8) _ _ _ _ ?_
  refine Runs.load (n := 23) (k := 5) _ _ _ _ ?_
  exact h

theorem scaleTile_runs {t : Nat} {ht : t < 8} (h : RUNS (scaleS t ht X) k b X') : RUNS X (scaleTile M t ht k) b X' := by
  unfold scaleTile
  refine Runs.load (n := 23) (k := 22) _ _ _ _ ?_
  refine Runs.load (n := 23) (k := 11) _ _ _ _ ?_
  refine Runs.store (n := 23) (k := 11) _ _ _ _ ?_
  exact h

theorem reg1_runs (h : RUNS (reg1S X) k b X') : RUNS X (reg1 M k) b X' := by
  unfold reg1
  refine Runs.load (n := 23) (k := 8) _ _ _ _ ?_
  refine Runs.store (n := 23) (k := 8) _ _ _ _ ?_
  refine Runs.load (n := 23) (k := 20) _ _ _ _ ?_
  refine Runs.store (n := 23) (k := 20) _ _ _ _ ?_
  exact h

theorem reg2_runs {h2 : k0_cond2 i = 1#1} (h : RUNS (reg2S i h2 X) k b X') : RUNS X (reg2 M i h2 k) b X' := by
  unfold reg2
  refine Runs.load (n := 23) (k := 6) _ _ _ _ ?_
  refine Runs.load (n := 23) (k := 6) _ _ _ _ ?_
  refine Runs.load (n := 23) (k := 16) _ _ _ _ ?_
  refine Runs.store (n := 23) (k := 16) _ _ _ _ ?_
  refine Runs.load (n := 23) (k := 18) _ _ _ _ ?_
  refine Runs.store (n := 23) (k := 18) _ _ _ _ ?_
  exact h

theorem tiles_runs {f : (t : Nat) → t < 18 → BP F → BP F} {g : (t : Nat) → t < 18 → Sta F → Sta F}
    (hf : ∀ (t : Nat) (ht : t < 18) (X : Sta F) (k : BP F), RUNS (g t ht X) k b X' → RUNS X (f t ht k) b X')
    (h : RUNS (tilesS g 18 (by decide) X) k b X') : RUNS X (tiles f k) b X' := by
  unfold tiles
  iterate 18 refine hf _ _ _ _ ?_
  exact h

theorem tilesC_runs {f : (t : Nat) → t < 18 → Vec F S128x128 .f32 → (Vec F S128x128 .f32 → BP F) → BP F} {g : (t : Nat) → t < 18 → Sta F → Sta F}
    {gc : (t : Nat) → t < 18 → Sta F → Vec F S128x128 .f32 → Vec F S128x128 .f32} {c : Vec F S128x128 .f32} {k : Vec F S128x128 .f32 → BP F}
    (hf : ∀ (t : Nat) (ht : t < 18) (X : Sta F) (c : Vec F S128x128 .f32) (k : Vec F S128x128 .f32 → BP F), RUNS (g t ht X) (k (gc t ht X c)) b X' → RUNS X (f t ht c k) b X')
    (h : RUNS (tilesS g 18 (by decide) X) (k (tilesSum g gc 18 (by decide) X c)) b X') : RUNS X (tilesC f c k) b X' := by
  unfold tilesC
  iterate 18 refine hf _ _ _ _ _ ?_
  exact h

theorem reg3_runs {h3 : k0_cond3 i = 1#1} (h : RUNS (reg3S i h3 X) k b X') : RUNS X (reg3 M hM i h3 k) b X' := by
  unfold reg3
  refine Runs.load (n := 23) (k := 17) _ _ _ _ ?_
  refine tiles_runs (fun t ht X k h => emitTile_runs h) ?_
  refine Runs.load (n := 23) (k := 20) _ _ _ _ ?_
  refine Runs.load (n := 23) (k := 22) _ _ _ _ ?_
  refine Runs.store (n := 23) (k := 22) _ _ _ _ ?_
  refine tiles_runs (fun t ht X k h => rowTile_runs h) ?_
  exact h

theorem reg4_runs {h4 : k0_cond4 i = 1#1} (h : RUNS (reg4S i h4 X) k b X') : RUNS X (reg4 M hM i h4 k) b X' := by
  unfold reg4
  refine Runs.load (n := 23) (k := 16) _ _ _ _ ?_
  refine Runs.load (n := 23) (k := 18) _ _ _ _ ?_
  refine tilesC_runs (fun t ht X c k h => redTile_runs h) ?_
  refine Runs.load (n := 23) (k := 18) _ _ _ _ ?_
  refine Runs.store (n := 23) (k := 18) _ _ _ _ ?_
  exact h

theorem reg5_runs (h : RUNS (reg5S X) k b X') : RUNS X (reg5 M k) b X' := by
  unfold reg5
  refine Runs.load (n := 23) (k := 18) _ _ _ _ ?_
  refine Runs.load (n := 23) (k := 16) _ _ _ _ ?_
  refine Runs.load (n := 23) (k := 17) _ _ _ _ ?_
  refine Runs.store (n := 23) (k := 17) _ _ _ _ ?_
  exact h

theorem reg6_runs (h : RUNS (scalesS 8 (by decide) X) k b X') : RUNS X (reg6 M k) b X' := by
  unfold reg6
  iterate 8 refine scaleTile_runs ?_
  exact h

theorem reg7_runs {h7 : k0_cond7 i = 1#1} (h : RUNS (reg7S i h7 X) k b X') : RUNS X (reg7 M i h7 k) b X' := by
  unfold reg7
  refine Runs.load (n := 23) (k := 21) _ _ _ _ ?_
  refine Runs.load (n := 23) (k := 13) _ _ _ _ ?_
  refine Runs.store (n := 23) (k := 13) _ _ _ _ ?_
  exact h

theorem if_runs {P : Prop} [Decidable P] {f : P → BP F} {g : P → Sta F} (hf : ∀ h : P, RUNS (g h) k b X' → RUNS X (f h) b X')
    (h : RUNS (if h : P then g h else X) k b X') : RUNS X (if h : P then f h else k) b X' := by
  by_cases hp : P
  · rw [dif_pos hp] at h ⊢; exact hf hp h
  · rw [dif_neg hp] at h ⊢; exact h

/-- The body runs from any contents to `bodyS` of them. -/
theorem body_runs : RUNS X (body M hM i) ⟨⟩ (bodyS i X) := by
  unfold body bodyS
  refine if_runs (fun h => reg1_runs) ?_
  refine if_runs (fun h => reg2_runs) ?_
  refine if_runs (fun h => reg3_runs) ?_
  refine if_runs (fun h => reg4_runs) ?_
  refine if_runs (fun h => reg5_runs) ?_
  refine if_runs (fun h => reg6_runs) ?_
  refine if_runs (fun h => reg7_runs) ?_
  exact Runs.ret _ _ _ _ _

end

end Cert.KernelIdeal.Body
-- ==== Proof.Run.lean ====
/- The launch of the kernel, from what its body leaves.

   `bodyS` (`Runs.lean`) says what one grid point leaves in every memref it is handed. Given, for each output window, what
   its contents satisfy after a point (`A`), and what the scratch satisfies before a point (`I`), if `bodyS` keeps both
   (`Step`), every execution of the program ends with the arrays as `Pipeline.RDat.FramePost` says. -/
module

public import proofs.«01_k».proof.Proof.Bridge
public import proofs.«01_k».proof.Proof.Runs

@[expose] public section

set_option maxRecDepth 16384

noncomputable section

namespace Cert.KernelIdeal.Body

open Idealize.ShloMosaic Idealize.SL Idealize.SL.RA Idealize.SL.Sem Cert.KernelIdeal Cert.KernelIdeal.Gen Proof.Tri
open Idealize.SL.BI
open scoped Idealize.SL.BI
open Idealize.SL.BI.BIBase Idealize.SL.BI.Laws Idealize.SL.ProofMode
open Idealize.ShloMosaic.Pipeline (RDat)
open TcCoe

variable {F : FTy → Type} [FloatOps F] [Named F]

local notation "𝕄" => MT nD τ sig Unit (Elt F) ℕ (UR sig nD τ) ℕ

/-- The contents of the scratch buffers. -/
structure Scr (F : FTy → Type) where
  e : (shF 14).Idx → Elt F (elF 14)
  x : (shF 15).Idx → Elt F (elF 15)
  r : (shF 16).Idx → Elt F (elF 16)
  s : (shF 17).Idx → Elt F (elF 17)
  c : (shF 18).Idx → Elt F (elF 18)
  dxt : (shF 19).Idx → Elt F (elF 19)
  amax : (shF 20).Idx → Elt F (elF 20)
  cs : (shF 21).Idx → Elt F (elF 21)
  rs : (shF 22).Idx → Elt F (elF 22)

/-- The contents of the staging buffers. -/
abbrev Win (F : FTy → Type) : Type := (w : Fin 14) → (cfg0.win w).block.Idx → Elt F (cfg0.win w).elt

/-- The memrefs of a point. -/
def fam (t : Fin cfg0.N) : Fam := fun k => match k with
  | ⟨0, _⟩ => st0_0 t
  | ⟨1, _⟩ => st0_1 t
  | ⟨2, _⟩ => st0_2 t
  | ⟨3, _⟩ => st0_3 t
  | ⟨4, _⟩ => st0_4 t
  | ⟨5, _⟩ => st0_5 t
  | ⟨6, _⟩ => st0_6 t
  | ⟨7, _⟩ => st0_7 t
  | ⟨8, _⟩ => st0_8 t
  | ⟨9, _⟩ => st0_9 t
  | ⟨10, _⟩ => st0_10 t
  | ⟨11, _⟩ => st0_11 t
  | ⟨12, _⟩ => st0_12 t
  | ⟨13, _⟩ => st0_13 t
  | ⟨14, _⟩ => Memref.whole cc0_scratch0
  | ⟨15, _⟩ => Memref.whole cc0_scratch1
  | ⟨16, _⟩ => Memref.whole cc0_scratch2
  | ⟨17, _⟩ => Memref.whole cc0_scratch3
  | ⟨18, _⟩ => Memref.whole cc0_scratch4
  | ⟨19, _⟩ => Memref.whole cc0_scratch5
  | ⟨20, _⟩ => Memref.whole cc0_scratch6
  | ⟨21, _⟩ => Memref.whole cc0_scratch7
  | ⟨22, _⟩ => Memref.whole cc0_scratch8
  | ⟨n + 23, h⟩ => absurd h (by omega)

theorem fam_whole (t : Fin cfg0.N) : ∀ k, (fam t k).IsWhole := fun k => match k with
  | ⟨0, _⟩ => hstage0_0 ((cfg0.slots t 0).cast nbuf0_0)
  | ⟨1, _⟩ => hstage0_1 ((cfg0.slots t 1).cast nbuf0_1)
  | ⟨2, _⟩ => hstage0_2 ((cfg0.slots t 2).cast nbuf0_2)
  | ⟨3, _⟩ => hstage0_3 ((cfg0.slots t 3).cast nbuf0_3)
  | ⟨4, _⟩ => hstage0_4 ((cfg0.slots t 4).cast nbuf0_4)
  | ⟨5, _⟩ => hstage0_5 ((cfg0.slots t 5).cast nbuf0_5)
  | ⟨6, _⟩ => hstage0_6 ((cfg0.slots t 6).cast nbuf0_6)
  | ⟨7, _⟩ => hstage0_7 ((cfg0.slots t 7).cast nbuf0_7)
  | ⟨8, _⟩ => hstage0_8 ((cfg0.slots t 8).cast nbuf0_8)
  | ⟨9, _⟩ => hstage0_9 ((cfg0.slots t 9).cast nbuf0_9)
  | ⟨10, _⟩ => hstage0_10 ((cfg0.slots t 10).cast nbuf0_10)
  | ⟨11, _⟩ => hstage0_11 ((cfg0.slots t 11).cast nbuf0_11)
  | ⟨12, _⟩ => hstage0_12 ((cfg0.slots t 12).cast nbuf0_12)
  | ⟨13, _⟩ => hstage0_13 ((cfg0.slots t 13).cast nbuf0_13)
  | ⟨14, _⟩ => Memref.isWhole_whole _
  | ⟨15, _⟩ => Memref.isWhole_whole _
  | ⟨16, _⟩ => Memref.isWhole_whole _
  | ⟨17, _⟩ => Memref.isWhole_whole _
  | ⟨18, _⟩ => Memref.isWhole_whole _
  | ⟨19, _⟩ => Memref.isWhole_whole _
  | ⟨20, _⟩ => Memref.isWhole_whole _
  | ⟨21, _⟩ => Memref.isWhole_whole _
  | ⟨22, _⟩ => Memref.isWhole_whole _
  | ⟨n + 23, h⟩ => absurd h (by omega)

/-- All contents from the staging buffers' and the scratch's. -/
def join (Y : Win F) (Z : Scr F) : Sta F := fun k => match k with
  | ⟨0, _⟩ => Y 0
  | ⟨1, _⟩ => Y 1
  | ⟨2, _⟩ => Y 2
  | ⟨3, _⟩ => Y 3
  | ⟨4, _⟩ => Y 4
  | ⟨5, _⟩ => Y 5
  | ⟨6, _⟩ => Y 6
  | ⟨7, _⟩ => Y 7
  | ⟨8, _⟩ => Y 8
  | ⟨9, _⟩ => Y 9
  | ⟨10, _⟩ => Y 10
  | ⟨11, _⟩ => Y 11
  | ⟨12, _⟩ => Y 12
  | ⟨13, _⟩ => Y 13
  | ⟨14, _⟩ => Z.e
  | ⟨15, _⟩ => Z.x
  | ⟨16, _⟩ => Z.r
  | ⟨17, _⟩ => Z.s
  | ⟨18, _⟩ => Z.c
  | ⟨19, _⟩ => Z.dxt
  | ⟨20, _⟩ => Z.amax
  | ⟨21, _⟩ => Z.cs
  | ⟨22, _⟩ => Z.rs
  | ⟨n + 23, h⟩ => absurd h (by omega)

/-- The scratch's contents among all. -/
def scrOf (X : Sta F) : Scr F where
  e := X 14
  x := X 15
  r := X 16
  s := X 17
  c := X 18
  dxt := X 19
  amax := X 20
  cs := X 21
  rs := X 22

/-- The staging buffers' contents among all. -/
def winOf (X : Sta F) : Win F := fun w => match w with
  | ⟨0, _⟩ => X 0
  | ⟨1, _⟩ => X 1
  | ⟨2, _⟩ => X 2
  | ⟨3, _⟩ => X 3
  | ⟨4, _⟩ => X 4
  | ⟨5, _⟩ => X 5
  | ⟨6, _⟩ => X 6
  | ⟨7, _⟩ => X 7
  | ⟨8, _⟩ => X 8
  | ⟨9, _⟩ => X 9
  | ⟨10, _⟩ => X 10
  | ⟨11, _⟩ => X 11
  | ⟨12, _⟩ => X 12
  | ⟨13, _⟩ => X 13

/-- The scratch buffers owned at their contents. -/
def scrOwn (c : Dev nD) (Z : Scr F) : sProp 𝕄 :=
  iprop((((c : Thread nD τ).loc cc0_scratch0) ↦{fullShare} Z.e) ∗ (((c : Thread nD τ).loc cc0_scratch1) ↦{fullShare} Z.x) ∗ (((c : Thread nD τ).loc cc0_scratch2) ↦{fullShare} Z.r) ∗ (((c : Thread nD τ).loc cc0_scratch3) ↦{fullShare} Z.s) ∗ (((c : Thread nD τ).loc cc0_scratch4) ↦{fullShare} Z.c) ∗ (((c : Thread nD τ).loc cc0_scratch5) ↦{fullShare} Z.dxt) ∗ (((c : Thread nD τ).loc cc0_scratch6) ↦{fullShare} Z.amax) ∗ (((c : Thread nD τ).loc cc0_scratch7) ↦{fullShare} Z.cs) ∗ (((c : Thread nD τ).loc cc0_scratch8) ↦{fullShare} Z.rs))

theorem bigSep_23 {M : Type} [URA M] (Φ : Fin 23 → sProp M) : bigSep Finset.univ Φ = iprop(Φ (0 : Fin 23) ∗ Φ (1 : Fin 23) ∗ Φ (2 : Fin 23) ∗ Φ (3 : Fin 23) ∗ Φ (4 : Fin 23) ∗ Φ (5 : Fin 23) ∗ Φ (6 : Fin 23) ∗ Φ (7 : Fin 23) ∗ Φ (8 : Fin 23) ∗ Φ (9 : Fin 23) ∗ Φ (10 : Fin 23) ∗ Φ (11 : Fin 23) ∗ Φ (12 : Fin 23) ∗ Φ (13 : Fin 23) ∗ Φ (14 : Fin 23) ∗ Φ (15 : Fin 23) ∗ Φ (16 : Fin 23) ∗ Φ (17 : Fin 23) ∗ Φ (18 : Fin 23) ∗ Φ (19 : Fin 23) ∗ Φ (20 : Fin 23) ∗ Φ (21 : Fin 23) ∗ Φ (22 : Fin 23)) :=
  bigSep_univ_eq_bigSepL [(0 : Fin 23), (1 : Fin 23), (2 : Fin 23), (3 : Fin 23), (4 : Fin 23), (5 : Fin 23), (6 : Fin 23), (7 : Fin 23), (8 : Fin 23), (9 : Fin 23), (10 : Fin 23), (11 : Fin 23), (12 : Fin 23), (13 : Fin 23), (14 : Fin 23), (15 : Fin 23), (16 : Fin 23), (17 : Fin 23), (18 : Fin 23), (19 : Fin 23), (20 : Fin 23), (21 : Fin 23), (22 : Fin 23)] (by decide) (by decide) Φ

/-- The memrefs of a point owned, staging buffers and scratch. -/
theorem own_fam (c : Dev nD) (t : Fin cfg0.N) (S : Sta F) :
    (Own (c : Thread nD τ) (fam t) S : sProp 𝕄)
      = iprop(owns (c : Thread nD τ) (st0_0 t) fullShare (winOf S 0) ∗ owns (c : Thread nD τ) (st0_1 t) fullShare (winOf S 1) ∗ owns (c : Thread nD τ) (st0_2 t) fullShare (winOf S 2) ∗ owns (c : Thread nD τ) (st0_3 t) fullShare (winOf S 3) ∗ owns (c : Thread nD τ) (st0_4 t) fullShare (winOf S 4) ∗ owns (c : Thread nD τ) (st0_5 t) fullShare (winOf S 5) ∗ owns (c : Thread nD τ) (st0_6 t) fullShare (winOf S 6) ∗ owns (c : Thread nD τ) (st0_7 t) fullShare (winOf S 7) ∗ owns (c : Thread nD τ) (st0_8 t) fullShare (winOf S 8) ∗ owns (c : Thread nD τ) (st0_9 t) fullShare (winOf S 9) ∗ owns (c : Thread nD τ) (st0_10 t) fullShare (winOf S 10) ∗ owns (c : Thread nD τ) (st0_11 t) fullShare (winOf S 11) ∗ owns (c : Thread nD τ) (st0_12 t) fullShare (winOf S 12) ∗ owns (c : Thread nD τ) (st0_13 t) fullShare (winOf S 13) ∗ scrOwn c (scrOf S)) := by
  unfold Own scrOwn
  rw [bigSep_23]
  simp only [fam, owns_whole]
  rfl

variable (m : (ℓ : Loc nD τ sig) → Buf (Elt F) ℓ) (ρ : Dev nD → PrngReg)
variable (A : Dev nD → (w : Fin 14) → Fin cfg0.N → ((cfg0.win w).block.Idx → Elt F (cfg0.win w).elt) → Prop)
variable (I : Dev nD → Nat → Scr F → Prop)

/-- The relational proof data. -/
def rdat (c : Dev nD) : RDat τ (Elt F) Unit ℕ (UR sig nD τ) ℕ cfg0 c where
  A w := V m c (Pipeline.arrRef spec0 w)
  after w t Y X := ((cfg0.win w).isOut = false → X = Y) ∧ A c w t X
  Φ t := iprop(∃ Z, ⌜I c t.val Z⌝ ∗ scrOwn c Z ∗ ∃ r, prngReg c r)
  q _ := fullShare
  owed _ := 0

/-- One point keeps what is known of the windows and of the scratch. -/
def Step : Prop := ∀ (c : Dev nD) (t : Fin cfg0.N) (Y : Win F) (Z : Scr F), (∀ w, (rdat m A I c).Finds w t (Y w)) → I c t.val Z →
  I c (t.val + 1) (scrOf (bodyS (grid0.coords t) (join Y Z))) ∧ ∀ w, (rdat m A I c).after w t (Y w) (winOf (bodyS (grid0.coords t) (join Y Z)) w)

theorem defs₀_row (t : Fin cfg0.N) :
    defs₀ (F := F) .tc cfg0.body (cfg0.bodyArgs t (cfg0.slots t)) = bodyAt0 t := by
  unfold defs₀; rw [Defs.onTc_tc]

theorem bodyAt0_eq (t : Fin cfg0.N) : bodyAt0 (F := F) t = body (fam t) (fam_whole t) (grid0.coords t) := by
  rw [← body_eq]
  unfold bodyAt0
  rw [cc0_rmsnorm_bwd_fp8_eq_skeleton]
  rfl

variable {m A I}

theorem body_wp (h : Step m A I) (c : Dev nD) (t : Fin cfg0.N) (Y : Win F) (hY : ∀ w, (rdat m A I c).Finds w t (Y w)) :
    (iprop((rdat m A I c).Φ t.castSucc ∗ (rdat m A I c).owesAt () t.castSucc
        ∗ bigSep Finset.univ fun w => owns (c : Thread nD τ) ((cfg0.win w).stage (cfg0.slots t w)) fullShare (Y w)) : sProp 𝕄)
      ⊢ wp frame (wpE (defs₀ (F := F)) Variants.none (c : Thread nD τ) none) Set.univ (bodyAt0 t) fun _ =>
          iprop((rdat m A I c).Φ t.succ ∗ (rdat m A I c).owesAt () t.succ
            ∗ bigSep Finset.univ fun w => iprop(∃ X, ⌜(rdat m A I c).after w t (Y w) X⌝ ∗ owns (c : Thread nD τ) ((cfg0.win w).stage (cfg0.slots t w)) fullShare X)) := by
  rw [bodyAt0_eq, bigSep_W0, bigSep_W0]
  rw [show (rdat m A I c).owesAt () t.succ = (rdat m A I c).owesAt () t.castSucc from rfl]
  rw [show (rdat m A I c).Φ t.castSucc = (iprop(∃ Z, ⌜I c t.val Z⌝ ∗ scrOwn c Z ∗ ∃ r, prngReg c r) : sProp 𝕄) from rfl,
    show (rdat m A I c).Φ t.succ = (iprop(∃ Z, ⌜I c (t.val + 1) Z⌝ ∗ scrOwn c Z ∗ ∃ r, prngReg c r) : sProp 𝕄) from rfl]
  iintro ⟨⟨%Z, %hZ, HZ, Hp⟩, Ho, H0, H1, H2, H3, H4, H5, H6, H7, H8, H9, H10, H11, H12, H13⟩
  obtain ⟨hI, hA⟩ := h c t Y Z hY hZ
  iapply (body_runs (Ix := Unit) (Name := ℕ) (U := UR sig nD τ) (Lvl := ℕ) (defs := defs₀ (F := F)) (𝒱 := Variants.none) (d := c) (bd := none) (E := Set.univ)
    (M := fam t) (hM := fam_whole t) (i := grid0.coords t) (X := join Y Z) iprop((rdat m A I c).owesAt () t.castSucc ∗ ∃ r, prngReg c r) _ ?_)
  rotate_left
  · isplitr [Ho Hp]
    · iapply (Entails.of_eq (own_fam c t (join Y Z)).symm)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HZ
    · isplitl [Ho] <;> iassumption
  · rw [show (Own (c.tc : Thread nD τ) (fam t) (bodyS (grid0.coords t) (join Y Z)) : sProp 𝕄) = _ from own_fam c t _]
    iintro ⟨⟨H0, H1, H2, H3, H4, H5, H6, H7, H8, H9, H10, H11, H12, H13, HZ⟩, Ho, Hp⟩
    isplitl [HZ Hp]
    · iexists (scrOf (bodyS (grid0.coords t) (join Y Z)))
      isplitr; · ipureintro; exact hI
      isplitl [HZ] <;> iassumption
    isplitl [Ho]; · iexact Ho
    isplitl [H0]
    · iexists (winOf (bodyS (grid0.coords t) (join Y Z)) 0); isplitr [H0]
      · ipureintro; exact hA 0
      · iexact H0
    isplitl [H1]
    · iexists (winOf (bodyS (grid0.coords t) (join Y Z)) 1); isplitr [H1]
      · ipureintro; exact hA 1
      · iexact H1
    isplitl [H2]
    · iexists (winOf (bodyS (grid0.coords t) (join Y Z)) 2); isplitr [H2]
      · ipureintro; exact hA 2
      · iexact H2
    isplitl [H3]
    · iexists (winOf (bodyS (grid0.coords t) (join Y Z)) 3); isplitr [H3]
      · ipureintro; exact hA 3
      · iexact H3
    isplitl [H4]
    · iexists (winOf (bodyS (grid0.coords t) (join Y Z)) 4); isplitr [H4]
      · ipureintro; exact hA 4
      · iexact H4
    isplitl [H5]
    · iexists (winOf (bodyS (grid0.coords t) (join Y Z)) 5); isplitr [H5]
      · ipureintro; exact hA 5
      · iexact H5
    isplitl [H6]
    · iexists (winOf (bodyS (grid0.coords t) (join Y Z)) 6); isplitr [H6]
      · ipureintro; exact hA 6
      · iexact H6
    isplitl [H7]
    · iexists (winOf (bodyS (grid0.coords t) (join Y Z)) 7); isplitr [H7]
      · ipureintro; exact hA 7
      · iexact H7
    isplitl [H8]
    · iexists (winOf (bodyS (grid0.coords t) (join Y Z)) 8); isplitr [H8]
      · ipureintro; exact hA 8
      · iexact H8
    isplitl [H9]
    · iexists (winOf (bodyS (grid0.coords t) (join Y Z)) 9); isplitr [H9]
      · ipureintro; exact hA 9
      · iexact H9
    isplitl [H10]
    · iexists (winOf (bodyS (grid0.coords t) (join Y Z)) 10); isplitr [H10]
      · ipureintro; exact hA 10
      · iexact H10
    isplitl [H11]
    · iexists (winOf (bodyS (grid0.coords t) (join Y Z)) 11); isplitr [H11]
      · ipureintro; exact hA 11
      · iexact H11
    isplitl [H12]
    · iexists (winOf (bodyS (grid0.coords t) (join Y Z)) 12); isplitr [H12]
      · ipureintro; exact hA 12
      · iexact H12
    iexists (winOf (bodyS (grid0.coords t) (join Y Z)) 13); isplitr [H13]
    · ipureintro; exact hA 13
    · iexact H13

theorem body_obligation (h : Step m A I) (c : Dev nD) : (rdat m A I c).BodyObligation (defs₀ (F := F)) Variants.none () Set.univ := fun t Y hY => by
  rw [defs₀_row]
  exact triple_restated (body_wp h c t Y hY) rfl .rfl fun _ => .rfl

theorem share_eq (c : Dev nD) (w : Fin cfg0.W) : (rdat m A I c).share w = fullShare := by
  unfold RDat.share; split <;> rfl

set_option backward.isDefEq.respectTransparency.types false in
/-- The run: every array at something the proof data allow, every other buffer as it was, every counter zero. -/
theorem run (h : Step m A I) (h0 : ∀ c Z, I c 0 Z) :
    θ_run defs (onTc (τ := τ) (main (F := F))) (s₀ m ρ) (fun r => RDat.FramePost cfg0 (rdat m A I) (V m) r ∧ r.2.sem = fun _ => 0) :=
  RDat.θ_run_frame_track cfgs 0 launch0 defs₀ Variants.none (rdat m A I) m ρ (main (F := F)) (body_obligation h) share_eq (fun _ _ => rfl) (V m)
    (hmain m Variants.none) (fun _ _ => rfl)
    (fun c => by
      unfold Pipeline.ΦA
      rw [show (Pipeline.scopedRest (cfgs 0).spec c : sProp 𝕄) = _ from scopedRest0_eq c]
      rw [show (rdat m A I c).Φ 0 = (iprop(∃ Z, ⌜I c 0 Z⌝ ∗ scrOwn c Z ∗ ∃ r, prngReg c r) : sProp 𝕄) from rfl]
      iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hp⟩
      iexists (⟨f0, f1, f2, f3, f4, f5, f6, f7, f8⟩ : Scr F)
      isplitr; · ipureintro; exact h0 c _
      isplitr [Hp]
      · unfold scrOwn
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · iexact Hp)
    (fun c => by
      unfold Pipeline.ΦA
      rw [show (Pipeline.scopedRest (cfgs 0).spec c : sProp 𝕄) = _ from scopedRest0_eq c]
      rw [show (rdat m A I c).Φ (Fin.last (cfgs 0).N) = (iprop(∃ Z, ⌜I c cfg0.N Z⌝ ∗ scrOwn c Z ∗ ∃ r, prngReg c r) : sProp 𝕄) from rfl]
      unfold scrOwn
      iintro ⟨%Z, -, ⟨H0, H1, H2, H3, H4, H5, H6, H7, H8⟩, Hp⟩
      isplitr [Hp]
      ·
        isplitl [H0]; · iexists _; iexact H0
        isplitl [H1]; · iexists _; iexact H1
        isplitl [H2]; · iexists _; iexact H2
        isplitl [H3]; · iexists _; iexact H3
        isplitl [H4]; · iexists _; iexact H4
        isplitl [H5]; · iexists _; iexact H5
        isplitl [H6]; · iexists _; iexact H6
        isplitl [H7]; · iexists _; iexact H7
        iexists _; iexact H8
      · iexact Hp)
    _ (fun _ h => h)

end Cert.KernelIdeal.Body
-- ==== Proof.Keep.lean ====
/- The body writes no input. -/
module

public import proofs.«01_k».proof.Proof.Runs

@[expose] public section

noncomputable section

namespace Cert.KernelIdeal.Body

open Idealize.ShloMosaic Idealize.SL.Sem Cert.KernelIdeal Cert.KernelIdeal.Gen Proof.Tri

variable {F : FTy → Type} [FloatOps F] [Named F]

theorem emitS_keep (i : grid0.Coords) (h3 : k0_cond3 i = 1#1) (s : Vec F S128x128 .f32) (t : Nat) (ht : t < 18) (X : Sta F) {k : Fin 23}
    (hk : k ≠ 7 ∧ k ≠ 12 ∧ k ≠ 19 ∧ k ≠ 20 ∧ k ≠ 21) : emitS i h3 s t ht X k = X k := by
  obtain ⟨h7, h12, h19, h20, h21⟩ := hk
  unfold emitS
  simp only [Function.update_of_ne, h7, h12, h19, h20, h21, ne_eq, not_false_iff]

theorem rowS_keep (inv : FVec F S128x128 .f32) (t : Nat) (ht : t < 18) (X : Sta F) {k : Fin 23} (hk : k ≠ 10) : rowS inv t ht X k = X k := by
  unfold rowS
  simp only [Function.update_of_ne, hk, ne_eq, not_false_iff]

theorem redS_keep (i : grid0.Coords) (h4 : k0_cond4 i = 1#1) (r : Vec F S128x128 .f32) (t : Nat) (ht : t < 18) (X : Sta F) {k : Fin 23}
    (hk : k ≠ 8 ∧ k ≠ 9 ∧ k ≠ 14 ∧ k ≠ 15) : redS i h4 r t ht X k = X k := by
  obtain ⟨h8, h9, h14, h15⟩ := hk
  unfold redS
  simp only [Function.update_of_ne, h8, h9, h14, h15, ne_eq, not_false_iff]

theorem scaleS_keep (t : Nat) (ht : t < 8) (X : Sta F) {k : Fin 23} (hk : k ≠ 11) : scaleS t ht X k = X k := by
  unfold scaleS
  simp only [Function.update_of_ne, hk, ne_eq, not_false_iff]

theorem tilesS_keep {f : (t : Nat) → t < 18 → Sta F → Sta F} {k : Fin 23} (hf : ∀ (t : Nat) (ht : t < 18) (X : Sta F), f t ht X k = X k) :
    ∀ (n : Nat) (hn : n ≤ 18) (X : Sta F), tilesS f n hn X k = X k
  | 0, _, _ => rfl
  | n + 1, hn, X => (hf n (by omega) _).trans (tilesS_keep hf n (by omega) X)

theorem scalesS_keep {k : Fin 23} (hk : k ≠ 11) : ∀ (n : Nat) (hn : n ≤ 8) (X : Sta F), scalesS n hn X k = X k
  | 0, _, _ => rfl
  | n + 1, hn, X => (scaleS_keep n (by omega) _ hk).trans (scalesS_keep hk n (by omega) X)

theorem reg1S_keep (X : Sta F) {k : Fin 23} (hk : k ≠ 8 ∧ k ≠ 20) : reg1S X k = X k := by
  obtain ⟨h1, h2⟩ := hk
  unfold reg1S
  simp only [Function.update_of_ne, h1, h2, ne_eq, not_false_iff]

theorem reg2S_keep (i : grid0.Coords) (h2 : k0_cond2 i = 1#1) (X : Sta F) {k : Fin 23} (hk : k ≠ 16 ∧ k ≠ 18) : reg2S i h2 X k = X k := by
  obtain ⟨ha, hb⟩ := hk
  unfold reg2S
  simp only [Function.update_of_ne, ha, hb, ne_eq, not_false_iff]

theorem reg3S_keep (i : grid0.Coords) (h3 : k0_cond3 i = 1#1) (X : Sta F) {k : Fin 23}
    (hk : k ≠ 7 ∧ k ≠ 12 ∧ k ≠ 19 ∧ k ≠ 20 ∧ k ≠ 21) (h10 : k ≠ 10) (h22 : k ≠ 22) : reg3S i h3 X k = X k := by
  unfold reg3S
  rw [tilesS_keep (fun t ht X => rowS_keep _ t ht X h10), Function.update_of_ne h22, tilesS_keep (fun t ht X => emitS_keep i h3 _ t ht X hk)]

theorem reg4S_keep (i : grid0.Coords) (h4 : k0_cond4 i = 1#1) (X : Sta F) {k : Fin 23}
    (hk : k ≠ 8 ∧ k ≠ 9 ∧ k ≠ 14 ∧ k ≠ 15) (h18 : k ≠ 18) : reg4S i h4 X k = X k := by
  unfold reg4S
  rw [Function.update_of_ne h18, tilesS_keep (fun t ht X => redS_keep i h4 _ t ht X hk)]

theorem reg5S_keep (X : Sta F) {k : Fin 23} (hk : k ≠ 17) : reg5S X k = X k := by
  unfold reg5S
  simp only [Function.update_of_ne, hk, ne_eq, not_false_iff]

theorem reg7S_keep (i : grid0.Coords) (h7 : k0_cond7 i = 1#1) (X : Sta F) {k : Fin 23} (hk : k ≠ 13) : reg7S i h7 X k = X k := by
  unfold reg7S
  simp only [Function.update_of_ne, hk, ne_eq, not_false_iff]

theorem dite_keep {P : Prop} [Decidable P] {g : P → Sta F} {X : Sta F} {k : Fin 23} (hg : ∀ h : P, g h k = X k) :
    (if h : P then g h else X) k = X k := by
  by_cases h : P
  · rw [dif_pos h]; exact hg h
  · rw [dif_neg h]

/-- The inputs are left as they were. -/
theorem bodyS_in (i : grid0.Coords) (X : Sta F) (k : Fin 23) (hk : k.val < 7) : bodyS i X k = X k := by
  have ne (n : Fin 23) (hn : 7 ≤ n.val) : k ≠ n := fun e => by subst e; omega
  unfold bodyS
  rw [dite_keep (fun h => reg7S_keep i h _ (ne 13 (by decide))), dite_keep (fun h => scalesS_keep (ne 11 (by decide)) _ _ _),
    dite_keep (fun h => reg5S_keep _ (ne 17 (by decide))),
    dite_keep (fun h => reg4S_keep i h _ ⟨ne 8 (by decide), ne 9 (by decide), ne 14 (by decide), ne 15 (by decide)⟩ (ne 18 (by decide))),
    dite_keep (fun h => reg3S_keep i h _ ⟨ne 7 (by decide), ne 12 (by decide), ne 19 (by decide), ne 20 (by decide), ne 21 (by decide)⟩ (ne 10 (by decide)) (ne 22 (by decide))),
    dite_keep (fun h => reg2S_keep i h _ ⟨ne 16 (by decide), ne 18 (by decide)⟩),
    dite_keep (fun h => reg1S_keep _ ⟨ne 8 (by decide), ne 20 (by decide)⟩)]

end Cert.KernelIdeal.Body
-- ==== Proof.Frames.lean ====
/- The frame of the kernel: nothing is asked of the outputs nor of the scratch. -/
module

public import proofs.«01_k».proof.Proof.Run
public import proofs.«01_k».proof.Proof.Keep

@[expose] public section

set_option maxRecDepth 16384

noncomputable section

namespace Cert.KernelIdeal.Body

open Idealize.ShloMosaic Idealize.SL Idealize.SL.RA Idealize.SL.Sem Cert.KernelIdeal Cert.KernelIdeal.Gen Proof.Tri
open Idealize.ShloMosaic.Pipeline (RDat)
open TcCoe

variable {F : FTy → Type} [FloatOps F] [Named F]
variable (m : (ℓ : Loc nD τ sig) → Buf (Elt F) ℓ) (ρ : Dev nD → PrngReg)

/-- The inputs among the windows are left as they were. -/
theorem winOf_in (i : grid0.Coords) (Y : Win F) (Z : Scr F) : ∀ w : Fin 14, (cfg0.win w).isOut = false → winOf (bodyS i (join Y Z)) w = Y w
  | 0, _ => bodyS_in i _ 0 (by decide)
  | 1, _ => bodyS_in i _ 1 (by decide)
  | 2, _ => bodyS_in i _ 2 (by decide)
  | 3, _ => bodyS_in i _ 3 (by decide)
  | 4, _ => bodyS_in i _ 4 (by decide)
  | 5, _ => bodyS_in i _ 5 (by decide)
  | 6, _ => bodyS_in i _ 6 (by decide)
  | 7, h => absurd h (by decide)
  | 8, h => absurd h (by decide)
  | 9, h => absurd h (by decide)
  | 10, h => absurd h (by decide)
  | 11, h => absurd h (by decide)
  | 12, h => absurd h (by decide)
  | 13, h => absurd h (by decide)

/-- The arguments after a run are those before it. -/
theorem args_of {A : Dev nD → (w : Fin 14) → Fin cfg0.N → ((cfg0.win w).block.Idx → Elt F (cfg0.win w).elt) → Prop} {I : Dev nD → Nat → Scr F → Prop}
    {r : PUnit × MemSt nD τ sig (Elt F)} (h : RDat.FramePost cfg0 (rdat m A I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    (RDat.FramePost.arr_in h c 6 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The kernel runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m h.1 c, h.2⟩)
    (run (m := m) (A := fun _ _ _ _ => True) (I := fun _ _ _ => True) ρ
      (fun c t Y Z _ _ => ⟨trivial, fun w => ⟨winOf_in _ Y Z w, trivial⟩⟩) fun _ _ => trivial)

end Cert.KernelIdeal.Body
-- ==== Proof.BitsBody.lean ====
/- The kernel body as a program over its family of memrefs, tile by tile.

   The printed body repeats one text for each of the eighteen 128-lane tiles of a chunk. Here each repeated text is
   written once, with the tile number `t` as a variable and the rest of the program as a continuation; the body built
   from them is the printed one (`body_eq`). -/
module

public import proofs.«01_k».proof.Proof.Gen.Kernel.Skeleton
public import proofs.«01_k».proof.Proof.Gen.Kernel.Frame
public import proofs.«01_k».proof.Proof.Tri

@[expose] public section

noncomputable section

namespace Cert.Kernel.Body

open Idealize.ShloMosaic Idealize.SL.Sem Cert.Kernel Cert.Kernel.Gen

variable {F : FTy → Type} [FloatOps F]

/-- The shapes of the body's memrefs, in the order of its arguments: x, the three gradients, the residual gradient,
    gamma, rstd; dx, dgamma, dgamma_part, row codes, row scales, column codes, column scales; and the scratch. -/
abbrev shF (k : Fin 23) : Shape := match k.val with
  | 0 => S128x2304
  | 1 => S128x2304
  | 2 => S128x2304
  | 3 => S128x2304
  | 4 => S128x2304
  | 5 => S1x18432
  | 6 => S2x3072
  | 7 => S128x2304
  | 8 => S1x18432
  | 9 => S1x8x18432
  | 10 => S128x2304
  | 11 => S128x144
  | 12 => S2304x128
  | 13 => S2304x48
  | 14 => S8x128x2304
  | 15 => S8x128x2304
  | 16 => S128x128
  | 17 => S128x128
  | 18 => S128x128
  | 19 => S128x2304
  | 20 => S128x128
  | 21 => S48x18432
  | _ => S8x128x128

/-- Their element types. -/
abbrev elF (k : Fin 23) : EltTy := match k.val with
  | 0 => .bf16
  | 1 => .bf16
  | 2 => .bf16
  | 3 => .bf16
  | 4 => .bf16
  | 5 => .f32
  | 6 => .f32
  | 7 => .bf16
  | 8 => .f32
  | 9 => .f32
  | 10 => .fp8e4m3
  | 11 => .f32
  | 12 => .fp8e4m3
  | 13 => .f32
  | 14 => .f32
  | 15 => .bf16
  | 16 => .f32
  | 17 => .f32
  | 18 => .f32
  | 19 => .f32
  | 20 => .f32
  | 21 => .f32
  | _ => .f32

/-- The family of memrefs. -/
abbrev Fam : Type := (k : Fin 23) → Memref sig .tc .vmem (shF k) (elF k)

/-- A program of the body. -/
abbrev BP (F : FTy → Type) : Type 1 := Prog (TpuEff nD τ sig (Elt F) Λ₀ .tc) PUnit

/-! ## Offsets and their evidence -/

/-- The chunk number as the kernel reads it. -/
abbrev ch (i : grid0.Coords) : Nat := (Scalar.indexCast (BitVec.ofNat 32 (i 1).val)).toNat

theorem ch_eq (i : grid0.Coords) : ch i = (i 1).val := by
  have h : (i 1).val < 8 := (i 1).isLt
  simp only [ch, Scalar.indexCast]
  first
    | (rw [BitVec.toNat_ofNat]; omega)
    | (simp; omega)

theorem inbE (i : grid0.Coords) (t : Nat) (ht : t < 18) : ∀ a, (![ch i, 0, 128 * t] : Fin 3 → Nat) a + S1x128x128.size a ≤ S8x128x2304.size a := by
  have h : (i 1).val < 8 := (i 1).isLt
  intro a; rw [ch_eq]; fin_cases a <;> simp [Shape.size] <;> omega

theorem inbL (t : Nat) (ht : t < 18) : ∀ a, (![0, 128 * t] : Fin 2 → Nat) a + S128x128.size a ≤ S128x2304.size a := by
  intro a; fin_cases a <;> simp [Shape.size] <;> omega

theorem inbT (t : Nat) (ht : t < 18) : ∀ a, (![128 * t, 0] : Fin 2 → Nat) a + S128x128.size a ≤ S2304x128.size a := by
  intro a; fin_cases a <;> simp [Shape.size] <;> omega

theorem inbA (t : Nat) (ht : t < 18) : ∀ a, (![0, t] : Fin 2 → Nat) a + S128x1.size a ≤ S128x128.size a := by
  intro a; fin_cases a <;> simp [Shape.size] <;> omega

theorem inbR (i : grid0.Coords) : ∀ a, (![ch i, 0, 0] : Fin 3 → Nat) a + S1x128x128.size a ≤ S8x128x128.size a := by
  have h : (i 1).val < 8 := (i 1).isLt
  intro a; rw [ch_eq]; fin_cases a <;> simp [Shape.size] <;> omega

theorem inbQ (t : Nat) (ht : t < 8) : ∀ a, (![t, 0, 0] : Fin 3 → Nat) a + S1x128x18.size a ≤ S8x128x128.size a := by
  intro a; fin_cases a <;> simp [Shape.size] <;> omega

theorem inbS (t : Nat) (ht : t < 8) : ∀ a, (![0, 18 * t] : Fin 2 → Nat) a + S128x18.size a ≤ S128x144.size a := by
  intro a; fin_cases a <;> simp [Shape.size] <;> omega

theorem packL16 (t : Nat) (ht : t < 18) : (Rect.unit (s := S128x2304) ![0, 128 * t] S128x128.size (inbL t ht)).PackedRows (EltTy.packing .bf16) :=
  .inr ⟨by decide, rfl, .inl ⟨⟨0, rfl⟩, ⟨64, rfl⟩⟩⟩

theorem packL8 (t : Nat) (ht : t < 18) : (Rect.unit (s := S128x2304) ![0, 128 * t] S128x128.size (inbL t ht)).PackedRows (EltTy.packing .fp8e4m3) :=
  .inr ⟨by decide, rfl, .inl ⟨⟨0, rfl⟩, ⟨32, rfl⟩⟩⟩

theorem packT8 (t : Nat) (ht : t < 18) : (Rect.unit (s := S2304x128) ![128 * t, 0] S128x128.size (inbT t ht)).PackedRows (EltTy.packing .fp8e4m3) := by
  refine .inr ⟨by decide, rfl, .inl ⟨⟨32 * t, ?_⟩, ⟨32, rfl⟩⟩⟩
  change 128 * t = 4 * (32 * t); omega

theorem packE16 (i : grid0.Coords) (t : Nat) (ht : t < 18) : (Rect.unit (s := S8x128x2304) ![ch i, 0, 128 * t] S1x128x128.size (inbE i t ht)).PackedRows (EltTy.packing .bf16) :=
  .inr ⟨by decide, rfl, .inl ⟨⟨0, rfl⟩, ⟨64, rfl⟩⟩⟩

/-! ## The rectangles -/

/-- Chunk row `ch i`, tile `t` of the kept chunks. -/
abbrev rE (i : grid0.Coords) (t : Nat) (ht : t < 18) : Rect S8x128x2304 := Rect.unit (s := S8x128x2304) (![ch i, 0, 128 * t]) S1x128x128.size (inbE i t ht)

/-- Tile `t` of a chunk. -/
abbrev rL (t : Nat) (ht : t < 18) : Rect S128x2304 := Rect.unit (s := S128x2304) (![0, 128 * t]) S128x128.size (inbL t ht)

/-- Tile `t` of a transposed chunk. -/
abbrev rT (t : Nat) (ht : t < 18) : Rect S2304x128 := Rect.unit (s := S2304x128) (![128 * t, 0]) S128x128.size (inbT t ht)

/-- Lane `t` of the row maxima. -/
abbrev rA (t : Nat) (ht : t < 18) : Rect S128x128 := Rect.unit (s := S128x128) (![0, t]) S128x1.size (inbA t ht)

/-- Chunk row `ch i` of the row scales. -/
abbrev rR (i : grid0.Coords) : Rect S8x128x128 := Rect.unit (s := S8x128x128) (![ch i, 0, 0]) S1x128x128.size (inbR i)

/-- The eighteen row scales of chunk `t`. -/
abbrev rQ (t : Nat) (ht : t < 8) : Rect S8x128x128 := Rect.unit (s := S8x128x128) (![t, 0, 0]) S1x128x18.size (inbQ t ht)

/-- Their place in the result. -/
abbrev rS (t : Nat) (ht : t < 8) : Rect S128x144 := Rect.unit (s := S128x144) (![0, 18 * t]) S128x18.size (inbS t ht)

/-- A whole 128-square. -/
abbrev rW : Rect S128x128 := Rect.unit (s := S128x128) (![0, 0]) S128x128.size (inb_S128x128_S128x128_0_0)

/-- The whole of dgamma. -/
abbrev rG : Rect S1x18432 := Rect.unit (s := S1x18432) (![0, 0]) S1x18432.size (inb_S1x18432_S1x18432_0_0)

/-- The whole block of column scales. -/
abbrev rCS : Rect S2304x48 := Rect.unit (s := S2304x48) (![0, 0]) S2304x48.size (inb_S2304x48_S2304x48_0_0)

/-- Gamma at chunk `i 1`, tile `t`. -/
abbrev rG3 (i : grid0.Coords) (h3 : k0_cond3 i = 1#1) (t : Nat) (ht : t < 18) : Rect S1x18432 := Rect.unit (s := S1x18432) (k0_off4 i (BitVec.ofNat 32 (128 * t))) S1x128.size (k0_off4_inb i h3 ⟨t, ht⟩)

/-- The group of eight rows of the column scales, tile `t`. -/
abbrev rC3 (i : grid0.Coords) (h3 : k0_cond3 i = 1#1) (t : Nat) (ht : t < 18) : Rect S48x18432 := Rect.unit (s := S48x18432) (k0_off5 i (BitVec.ofNat 32 (128 * t))) S8x128.size (k0_off5_inb i h3 ⟨t, ht⟩)

/-- Gamma or dgamma at chunk `i 1`, tile `t`. -/
abbrev rG4 (i : grid0.Coords) (h4 : k0_cond4 i = 1#1) (t : Nat) (ht : t < 18) : Rect S1x18432 := Rect.unit (s := S1x18432) (k0_off26 i (BitVec.ofNat 32 (128 * t))) S1x128.size (k0_off26_inb i h4 ⟨t, ht⟩)

/-- The group of eight rows of dgamma_part, tile `t`. -/
abbrev rP4 (i : grid0.Coords) (h4 : k0_cond4 i = 1#1) (t : Nat) (ht : t < 18) : Rect S1x8x18432 := Rect.unit (s := S1x8x18432) (k0_off25 i (BitVec.ofNat 32 (128 * t))) S1x8x128.size (k0_off25_inb i h4 ⟨t, ht⟩)

/-- Rstd of batch 0 at the block's tokens. -/
abbrev rB1 (i : grid0.Coords) (h2 : k0_cond2 i = 1#1) : Rect S2x3072 := Rect.unit (s := S2x3072) (k0_off1 i) S1x128.size (k0_off1_inb i h2)

/-- Rstd of batch 1 at the block's tokens. -/
abbrev rB2 (i : grid0.Coords) (h2 : k0_cond2 i = 1#1) : Rect S2x3072 := Rect.unit (s := S2x3072) (k0_off2 i) S1x128.size (k0_off2_inb i h2)

/-- Chunk `i 1` of the column scales. -/
abbrev rK7 (i : grid0.Coords) (h7 : k0_cond7 i = 1#1) : Rect S48x18432 := Rect.unit (s := S48x18432) (k0_off44 i) S48x2304.size (k0_off44_inb i h7)

/-! ## The repeated texts -/

/-- Tile `t` of the emission: the gradient tile, its row maxima, its column scales and its column codes. -/
def emitTile (M : Fam) (hM : ∀ k, (M k).IsWhole) (i : grid0.Coords) (h3 : k0_cond3 i = 1#1) (s : Vec F S128x128 .f32) (t : Nat) (ht : t < 18) (k : BP F) : BP F :=
  .op (.load (M 14) (rE i t ht).toLoadRect (View.loadsAt_vmem h_S1x128x128)) fun e =>
  .op (.load (M 5) (rG3 i h3 t ht).toLoadRect (View.loadsAt_vmem h_S1x128)) fun g =>
  .op (.load (M 15) (rE i t ht).toLoadRect (View.loadsAt_vmem h_S1x128x128)) fun x =>
  .op (.load (M 4) (rL t ht).toLoadRect (View.loadsAt_vmem h_S128x128)) fun d =>
  .op (.load (M 19) (rL t ht).toLoadRect (View.loadsAt_vmem h_S128x128)) fun _ =>
  .op (.store (M 19) (rL t ht) (k0_pay12 s e g x d) Finset.univ (View.stores_vmem_bits_univ h_S128x128 rfl) (.inl rfl)) fun _ =>
  .op (.load (M 7) (rL t ht).toLoadRect (View.loadsAt_vmem h_S128x128)) fun _ =>
  .op (.store (M 7) (rL t ht) (k0_pay13 s e g x d) Finset.univ (View.stores_vmem h_S128x128 ((hM 7).storeExact_slice rfl _ (packL16 t ht)) (fun _ => rfl)) (.inl rfl)) fun _ =>
  .op (.load (M 20) (rA t ht).toLoadRect (View.loadsAt_vmem h_S128x1)) fun _ =>
  .op (.store (M 20) (rA t ht) (k0_pay15 s e g x d) Finset.univ (View.stores_vmem_bits_univ h_S128x1 rfl) (.inl rfl)) fun _ =>
  .op (.load (M 21) (rC3 i h3 t ht).toLoadRect (View.loadsAt_vmem h_S8x128)) fun _ =>
  .op (.store (M 21) (rC3 i h3 t ht) (k0_pay21 (k0_pay20 (k0_pay17 (k0_pay16 s e g x d)))) (IVec.on (k0_pay22 (k0_pay19 (BitVec.ofNat 32 (i 0).val)))) (View.stores_vmem_bits h_S8x128 rfl (fun h => nomatch h)) (.inr (fun _ => rfl))) fun _ =>
  .op (.load (M 12) (rT t ht).toLoadRect (View.loadsAt_vmem h_S128x128)) fun _ =>
  .op (.store (M 12) (rT t ht) (k0_pay23 (k0_pay11 s e g x d) (k0_pay18 (k0_pay17 (k0_pay16 s e g x d)) 2130706432#32)) Finset.univ (View.stores_vmem h_S128x128 ((hM 12).storeExact_slice rfl _ (packT8 t ht)) (fun _ => rfl)) (.inl rfl)) fun _ =>
  k

theorem sliceA (t : Nat) (ht : t < 18) : S128x128.Slices ![0, t] S128x1 := ⟨rfl, fun a => by fin_cases a <;> simp [Shape.size] <;> omega⟩

/-- The row scales of a block's chunk from its row maxima, -/
def rowScale (a : Vec F S128x128 .f32) : FVec F S128x128 .f32 := k0_pay282 (k0_pay279 a) (k0_pay280 a) 528482304#32

/-- and their inverses. -/
def rowInv (a : Vec F S128x128 .f32) : FVec F S128x128 .f32 := k0_pay283 (k0_pay279 a) (k0_pay280 a) 528482304#32

/-- Tile `t`'s row codes from the inverse scales and the gradient tile. -/
def rowCode (v2639 : FVec F S128x128 .f32) (t : Nat) (ht : t < 18) (v2644 : Vec F S128x128 .f32) : FVec F S128x128 .fp8e4m3 :=
  have v2645 : FVec F S128x1 .f32 := extractStridedSlice S128x1 ![0, t] v2639 (sliceA t ht)
  have v2646 : FVec F S128x128 .f32 := broadcastTo S128x128 v2645 broadcasts_S128x1_S128x128
  have v2647 : FVec F S128x128 .f32 := mulf v2644 v2646
  have cst_907 : F .f32 := Scalar.ofBits .f32 0xC3E00000#32
  have cst_908 : F .f32 := Scalar.ofBits .f32 0x43E00000#32
  have v2648 : FVec F S128x128 .f32 := broadcast S128x128 cst_907
  have v2649 : FVec F S128x128 .f32 := maximumf v2648 v2647
  have v2650 : FVec F S128x128 .f32 := broadcast S128x128 cst_908
  have v2651 : FVec F S128x128 .f32 := minimumf v2650 v2649
  truncf .fp8e4m3 v2651 bitsLt_fp8e4m3_f32

/-- Tile `t` of the row codes. -/
def rowTile (M : Fam) (hM : ∀ k, (M k).IsWhole) (inv : FVec F S128x128 .f32) (t : Nat) (ht : t < 18) (k : BP F) : BP F :=
  .op (.load (M 19) (rL t ht).toLoadRect (View.loadsAt_vmem h_S128x128)) fun d =>
  .op (.load (M 10) (rL t ht).toLoadRect (View.loadsAt_vmem h_S128x128)) fun _ =>
  .op (.store (M 10) (rL t ht) (rowCode inv t ht d) Finset.univ (View.stores_vmem h_S128x128 ((hM 10).storeExact_slice rfl _ (packL8 t ht)) (fun _ => rfl)) (.inl rfl)) fun _ =>
  k

/-- The row of the eight the block's partial sums go to, as the kernel reads it off the block number. -/
def maskP (arg0 : BitVec 32) : IVec S8x128 1 :=
  let v58 : BitVec 32 := Scalar.select (Scalar.cmpi .eq 8#32 0#32) 1#32 8#32
  let v59 : BitVec 32 := Scalar.remsi arg0 v58
  k0_pay312 v58 v59 (Scalar.cmpi .ne v59 0#32) (Scalar.xori (Scalar.cmpi .slt v59 0#32) (Scalar.cmpi .slt v58 0#32))

/-- Tile `t` of the reduction, `c` the sum so far: the gradient times rstd and x kept, dgamma and its part added to. -/
def redTile (M : Fam) (hM : ∀ k, (M k).IsWhole) (i : grid0.Coords) (h4 : k0_cond4 i = 1#1) (r : Vec F S128x128 .f32) (t : Nat) (ht : t < 18) (c : Vec F S128x128 .f32) (kont : Vec F S128x128 .f32 → BP F) : BP F :=
  .op (.load (M 1) (rL t ht).toLoadRect (View.loadsAt_vmem h_S128x128)) fun q =>
  .op (.load (M 2) (rL t ht).toLoadRect (View.loadsAt_vmem h_S128x128)) fun k =>
  .op (.load (M 3) (rL t ht).toLoadRect (View.loadsAt_vmem h_S128x128)) fun v =>
  .op (.load (M 0) (rL t ht).toLoadRect (View.loadsAt_vmem h_S128x128)) fun x =>
  .op (.load (M 14) (rE i t ht).toLoadRect (View.loadsAt_vmem h_S1x128x128)) fun _ =>
  .op (.store (M 14) (rE i t ht) (k0_pay309 r q k v) Finset.univ (View.stores_vmem_bits_univ h_S1x128x128 rfl) (.inl rfl)) fun _ =>
  .op (.load (M 15) (rE i t ht).toLoadRect (View.loadsAt_vmem h_S1x128x128)) fun _ =>
  .op (.store (M 15) (rE i t ht) (k0_pay310 x) Finset.univ (View.stores_vmem h_S1x128x128 ((hM 15).storeExact_slice rfl _ (packE16 i t ht)) (fun _ => rfl)) (.inl rfl)) fun _ =>
  .op (.load (M 9) (rP4 i h4 t ht).toLoadRect (View.loadsAt_vmem h_S1x8x128)) fun _ =>
  .op (.store (M 9) (rP4 i h4 t ht) (k0_pay314 (k0_pay313 (k0_pay311 r q k v x))) (IVec.on (k0_pay315 (maskP (BitVec.ofNat 32 (i 0).val)))) (View.stores_vmem_bits h_S1x8x128 rfl (fun h => nomatch h)) (.inr (fun _ => rfl))) fun _ =>
  .op (.load (M 8) (rG4 i h4 t ht).toLoadRect (View.loadsAt_vmem h_S1x128)) fun g0 =>
  .op (.load (M 8) (rG4 i h4 t ht).toLoadRect (View.loadsAt_vmem h_S1x128)) fun _ =>
  .op (.store (M 8) (rG4 i h4 t ht) (k0_pay316 (k0_pay311 r q k v x) g0) Finset.univ (View.stores_vmem_bits_univ h_S1x128 rfl) (.inl rfl)) fun _ =>
  .op (.load (M 5) (rG4 i h4 t ht).toLoadRect (View.loadsAt_vmem h_S1x128)) fun g =>
  kont (k0_pay317 c (k0_pay308 r q k v x) g)

/-- Chunk `t` of the row scales copied to the result. -/
def scaleTile (M : Fam) (t : Nat) (ht : t < 8) (k : BP F) : BP F :=
  .op (.load (M 22) (rQ t ht).toLoadRect (View.loadsAt_vmem h_S1x128x18)) fun r =>
  .op (.load (M 11) (rS t ht).toLoadRect (View.loadsAt_vmem h_S128x18)) fun _ =>
  .op (.store (M 11) (rS t ht) (k0_pay8 r) Finset.univ (View.stores_vmem_bits_univ h_S128x18 rfl) (.inl rfl)) fun _ =>
  k

/-! ## The regions -/

/-- Every tile from `t` on. -/
def tiles {A : Type 1} (f : (t : Nat) → t < 18 → A → A) (k : A) : A :=
  f 0 (by decide) <| f 1 (by decide) <| f 2 (by decide) <| f 3 (by decide) <| f 4 (by decide) <| f 5 (by decide) <| f 6 (by decide) <| f 7 (by decide) <| f 8 (by decide) <| f 9 (by decide) <| f 10 (by decide) <| f 11 (by decide) <| f 12 (by decide) <| f 13 (by decide) <| f 14 (by decide) <| f 15 (by decide) <| f 16 (by decide) <| f 17 (by decide) <| k

/-- Every tile from the first on, a sum passed along. -/
def tilesC {A : Type 1} {C : Type} (f : (t : Nat) → t < 18 → C → (C → A) → A) (c : C) (k : C → A) : A :=
  f 0 (by decide) c fun c => f 1 (by decide) c fun c => f 2 (by decide) c fun c => f 3 (by decide) c fun c => f 4 (by decide) c fun c => f 5 (by decide) c fun c => f 6 (by decide) c fun c => f 7 (by decide) c fun c => f 8 (by decide) c fun c => f 9 (by decide) c fun c => f 10 (by decide) c fun c => f 11 (by decide) c fun c => f 12 (by decide) c fun c => f 13 (by decide) c fun c => f 14 (by decide) c fun c => f 15 (by decide) c fun c => f 16 (by decide) c fun c => f 17 (by decide) c fun c => k c

/-- Zeroing dgamma and the row maxima. -/
def reg1 (M : Fam) (k : BP F) : BP F :=
  .op (.load (M 8) rG.toLoadRect (View.loadsAt_vmem h_S1x18432)) fun _ =>
  .op (.store (M 8) rG (k0_pay1 (F := F)) Finset.univ (View.stores_vmem_bits_univ h_S1x18432 rfl) (.inl rfl)) fun _ =>
  .op (.load (M 20) rW.toLoadRect (View.loadsAt_vmem h_S128x128)) fun _ =>
  .op (.store (M 20) rW (k0_pay2 (F := F)) Finset.univ (View.stores_vmem_bits_univ h_S128x128 rfl) (.inl rfl)) fun _ =>
  k

/-- The block's rstd spread over a 128-square, and the sum zeroed. -/
def reg2 (M : Fam) (i : grid0.Coords) (h2 : k0_cond2 i = 1#1) (k : BP F) : BP F :=
  .op (.load (M 6) (rB1 i h2).toLoadRect (View.loadsAt_vmem h_S1x128)) fun a =>
  .op (.load (M 6) (rB2 i h2).toLoadRect (View.loadsAt_vmem h_S1x128)) fun b =>
  .op (.load (M 16) rW.toLoadRect (View.loadsAt_vmem h_S128x128)) fun _ =>
  .op (.store (M 16) rW (k0_pay10 (BitVec.ofNat 32 (i 0).val) a b) Finset.univ (View.stores_vmem_bits_univ h_S128x128 rfl) (.inl rfl)) fun _ =>
  .op (.load (M 18) rW.toLoadRect (View.loadsAt_vmem h_S128x128)) fun _ =>
  .op (.store (M 18) rW (k0_pay3 (F := F)) Finset.univ (View.stores_vmem_bits_univ h_S128x128 rfl) (.inl rfl)) fun _ =>
  k

/-- The emission: the tiles, the row scales, the row codes. -/
def reg3 (M : Fam) (hM : ∀ k, (M k).IsWhole) (i : grid0.Coords) (h3 : k0_cond3 i = 1#1) (k : BP F) : BP F :=
  .op (.load (M 17) rW.toLoadRect (View.loadsAt_vmem h_S128x128)) fun s =>
  tiles (emitTile M hM i h3 s) <|
  .op (.load (M 20) rW.toLoadRect (View.loadsAt_vmem h_S128x128)) fun a =>
  .op (.load (M 22) (rR i).toLoadRect (View.loadsAt_vmem h_S1x128x128)) fun _ =>
  .op (.store (M 22) (rR i) (k0_pay284 (rowScale a)) Finset.univ (View.stores_vmem_bits_univ h_S1x128x128 rfl) (.inl rfl)) fun _ =>
  tiles (rowTile M hM (rowInv a)) k

/-- The reduction: the tiles, the sum stored. -/
def reg4 (M : Fam) (hM : ∀ k, (M k).IsWhole) (i : grid0.Coords) (h4 : k0_cond4 i = 1#1) (k : BP F) : BP F :=
  .op (.load (M 16) rW.toLoadRect (View.loadsAt_vmem h_S128x128)) fun r =>
  .op (.load (M 18) rW.toLoadRect (View.loadsAt_vmem h_S128x128)) fun c =>
  tilesC (redTile M hM i h4 r) c fun c =>
  .op (.load (M 18) rW.toLoadRect (View.loadsAt_vmem h_S128x128)) fun _ =>
  .op (.store (M 18) rW (shapeCast S128x128 c shapeCasts_S128x128_S128x128) Finset.univ (View.stores_vmem_bits_univ h_S128x128 rfl) (.inl rfl)) fun _ =>
  k

/-- The block's `s` from its sum. -/
def reg5 (M : Fam) (k : BP F) : BP F :=
  .op (.load (M 18) rW.toLoadRect (View.loadsAt_vmem h_S128x128)) fun c =>
  .op (.load (M 16) rW.toLoadRect (View.loadsAt_vmem h_S128x128)) fun r =>
  .op (.load (M 17) rW.toLoadRect (View.loadsAt_vmem h_S128x128)) fun _ =>
  .op (.store (M 17) rW (k0_pay7 c r) Finset.univ (View.stores_vmem_bits_univ h_S128x128 rfl) (.inl rfl)) fun _ =>
  k

/-- The block's row scales copied to the result. -/
def reg6 (M : Fam) (k : BP F) : BP F :=
  scaleTile M 0 (by decide) <| scaleTile M 1 (by decide) <| scaleTile M 2 (by decide) <| scaleTile M 3 (by decide) <| scaleTile M 4 (by decide) <| scaleTile M 5 (by decide) <| scaleTile M 6 (by decide) <| scaleTile M 7 (by decide) <| k

/-- The column scales of a chunk copied, transposed, to the result. -/
def reg7 (M : Fam) (i : grid0.Coords) (h7 : k0_cond7 i = 1#1) (k : BP F) : BP F :=
  .op (.load (M 21) (rK7 i h7).toLoadRect (View.loadsAt_vmem h_S48x2304)) fun a =>
  .op (.load (M 13) rCS.toLoadRect (View.loadsAt_vmem h_S2304x48)) fun _ =>
  .op (.store (M 13) rCS (k0_pay9 a) Finset.univ (View.stores_vmem_bits_univ h_S2304x48 rfl) (.inl rfl)) fun _ =>
  k

/-- The condition of the fifth region. -/
abbrev cond5 (i : grid0.Coords) : BitVec 1 :=
  Scalar.cmpi .ne (Scalar.extui (Scalar.andi (Scalar.cmpi .slt (BitVec.ofNat 32 (i 0).val) 48#32) (Scalar.cmpi .eq (BitVec.ofNat 32 (i 1).val) 7#32)) : BitVec 32) 0#32

/-- The body. -/
def body (M : Fam) (hM : ∀ k, (M k).IsWhole) (i : grid0.Coords) : BP F :=
  let j7 : BP F := if h7 : k0_cond7 i = 1#1 then reg7 M i h7 (pure ⟨⟩) else pure ⟨⟩
  let j6 : BP F := if h6 : k0_cond6 i = 1#1 then reg6 M j7 else j7
  let j5 : BP F := if h5 : cond5 i = 1#1 then reg5 M j6 else j6
  let j4 : BP F := if h4 : k0_cond4 i = 1#1 then reg4 M hM i h4 j5 else j5
  let j3 : BP F := if h3 : k0_cond3 i = 1#1 then reg3 M hM i h3 j4 else j4
  let j2 : BP F := if h2 : k0_cond2 i = 1#1 then reg2 M i h2 j3 else j3
  if h1 : k0_cond1 i = 1#1 then reg1 M j2 else j2

end Cert.Kernel.Body
-- ==== Proof.BitsBridge.lean ====
/- The printed body is the one of `BitsBody.lean`: the printed regions, each followed by any continuation. -/
module

public import proofs.«01_k».proof.Proof.BitsBody

@[expose] public section

noncomputable section

namespace Cert.Kernel.Body

open Idealize.ShloMosaic Idealize.SL.Sem Cert.Kernel Cert.Kernel.Gen

variable {F : FTy → Type} [FloatOps F]

set_option maxRecDepth 100000

/-- Region 1 as printed, before the rest `K`. -/
def seg1 (M : Fam) (hM : ∀ k, (M k).IsWhole) (i : grid0.Coords) (K : BP F) : BP F :=
  let arg0 : BitVec 32 := BitVec.ofNat 32 (i 0).val
  let arg1 : BitVec 32 := BitVec.ofNat 32 (i 1).val
  if h : k0_cond1 i = 1#1 then
    (do
      let v30 : Vec F S1x18432 .f32 ← Prog.lift (.load (M 8) (Rect.unit (s := S1x18432) ![0, 0] S1x18432.size inb_S1x18432_S1x18432_0_0).toLoadRect (View.loadsAt_vmem h_S1x18432))
      Prog.lift (.store (M 8) (Rect.unit (s := S1x18432) ![0, 0] S1x18432.size inb_S1x18432_S1x18432_0_0) (k0_pay1 (F := F)) Finset.univ (View.stores_vmem_bits_univ h_S1x18432 rfl) (.inl rfl))
      let v32 : Vec F S128x128 .f32 ← Prog.lift (.load (M 20) (Rect.unit (s := S128x128) ![0, 0] S128x128.size inb_S128x128_S128x128_0_0).toLoadRect (View.loadsAt_vmem h_S128x128))
      Prog.lift (.store (M 20) (Rect.unit (s := S128x128) ![0, 0] S128x128.size inb_S128x128_S128x128_0_0) (k0_pay2 (F := F)) Finset.univ (View.stores_vmem_bits_univ h_S128x128 rfl) (.inl rfl))
      K : BP F)
  else K

/-- Region 2 as printed, before the rest `K`. -/
def seg2 (M : Fam) (hM : ∀ k, (M k).IsWhole) (i : grid0.Coords) (K : BP F) : BP F :=
  let arg0 : BitVec 32 := BitVec.ofNat 32 (i 0).val
  let arg1 : BitVec 32 := BitVec.ofNat 32 (i 1).val
  if k0_h2 : k0_cond2 i = 1#1 then
    (do
      let v69 : FVec F S128x128 .f32 ← k0_part1 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) arg0 k0_h2
      Prog.lift (.store (M 16) (Rect.unit (s := S128x128) ![0, 0] S128x128.size inb_S128x128_S128x128_0_0) v69 Finset.univ (View.stores_vmem_bits_univ h_S128x128 rfl) (.inl rfl))
      let v71 : Vec F S128x128 .f32 ← Prog.lift (.load (M 18) (Rect.unit (s := S128x128) ![0, 0] S128x128.size inb_S128x128_S128x128_0_0).toLoadRect (View.loadsAt_vmem h_S128x128))
      Prog.lift (.store (M 18) (Rect.unit (s := S128x128) ![0, 0] S128x128.size inb_S128x128_S128x128_0_0) (k0_pay3 (F := F)) Finset.univ (View.stores_vmem_bits_univ h_S128x128 rfl) (.inl rfl))
      K : BP F)
  else K

/-- Region 3 as printed, before the rest `K`. -/
def seg3 (M : Fam) (hM : ∀ k, (M k).IsWhole) (i : grid0.Coords) (K : BP F) : BP F :=
  let arg0 : BitVec 32 := BitVec.ofNat 32 (i 0).val
  let arg1 : BitVec 32 := BitVec.ofNat 32 (i 1).val
  if k0_h3 : k0_cond3 i = 1#1 then
    (do
      let ⟨v2588, v2594, c528482304_i32_892⟩ : Σ' (v2588 : FVec F S128x128 .f32) (v2594 : IVec S128x128 32), BitVec 32 ← k0_part68 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) arg0 arg1 k0_h3
      let ⟨v2638, v2639⟩ : Σ' (v2638 : FVec F S128x128 .f32), FVec F S128x128 .f32 ← k0_part62 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) arg1 k0_h3 v2588 v2594 c528482304_i32_892
      let ⟨v2677, cst_925⟩ : Σ' (v2677 : FVec F S128x128 .f32), F .f32 ← k0_part63 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) k0_h3 v2638 v2639
      let v2712 : FVec F S128x128 .fp8e4m3 ← k0_part64 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) v2639 v2677 cst_925
      let ⟨v2747, cst_967, cst_968⟩ : Σ' (v2747 : FVec F S128x128 .f32) (cst_967 : F .f32), F .f32 ← k0_part65 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) v2639 v2712
      k0_part66 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) v2639 v2747 cst_967 cst_968
      let ⟨v2817, cst_1010, v2818⟩ : Σ' (v2817 : FVec F S128x128 .f32) (cst_1010 : F .f32), FVec F S128x128 .f32 ← k0_part67 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) v2639
      let v2823 : Vec F S128x128 .fp8e4m3 ← Prog.lift (.load (M 10) (Rect.unit (s := S128x2304) ![0, 2176] S128x128.size inb_S128x2304_S128x128_0_2176).toLoadRect (View.loadsAt_vmem h_S128x128))
      Prog.lift (.store (M 10) (Rect.unit (s := S128x2304) ![0, 2176] S128x128.size inb_S128x2304_S128x128_0_2176) (k0_pay4 v2817 cst_1010 v2818) Finset.univ (View.stores_vmem h_S128x128 ((hM 10).storeExact_slice rfl _ packedfp8e4m3_S128x2304_S128x128_0_2176) (fun _ => rfl)) (.inl rfl))
      K : BP F)
  else K

/-- Region 4 as printed, before the rest `K`. -/
def seg4 (M : Fam) (hM : ∀ k, (M k).IsWhole) (i : grid0.Coords) (K : BP F) : BP F :=
  let arg0 : BitVec 32 := BitVec.ofNat 32 (i 0).val
  let arg1 : BitVec 32 := BitVec.ofNat 32 (i 1).val
  if k0_h4 : k0_cond4 i = 1#1 then
    (do
      let ⟨v1730, v1746, v1756, v1808, v1809⟩ : Σ' (v1730 : FVec F S128x128 .f32) (v1746 : FVec F S128x128 .f32) (v1756 : FVec F S1x128 .f32) (v1808 : FVec F S1x8x128 .f32), IVec S1x8x128 1 ← k0_part113 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) arg0 arg1 k0_h4
      Prog.lift (.store (M 9) (Rect.unit (s := S1x8x18432) (k0_off25 i 2176#32) S1x8x128.size (k0_off25_inb i k0_h4 17)) v1808 (IVec.on v1809) (View.stores_vmem_bits h_S1x8x128 rfl (fun h => nomatch h)) (.inr (fun _ => rfl)))
      let v1814 : Vec F S1x128 .f32 ← Prog.lift (.load (M 8) (Rect.unit (s := S1x18432) (k0_off26 i 2176#32) S1x128.size (k0_off26_inb i k0_h4 17)).toLoadRect (View.loadsAt_vmem h_S1x128))
      let v1821 : Vec F S1x128 .f32 ← Prog.lift (.load (M 8) (Rect.unit (s := S1x18432) (k0_off26 i 2176#32) S1x128.size (k0_off26_inb i k0_h4 17)).toLoadRect (View.loadsAt_vmem h_S1x128))
      Prog.lift (.store (M 8) (Rect.unit (s := S1x18432) (k0_off26 i 2176#32) S1x128.size (k0_off26_inb i k0_h4 17)) (k0_pay5 v1756 v1814) Finset.univ (View.stores_vmem_bits_univ h_S1x128 rfl) (.inl rfl))
      let v1826 : Vec F S1x128 .f32 ← Prog.lift (.load (M 5) (Rect.unit (s := S1x18432) (k0_off26 i 2176#32) S1x128.size (k0_off26_inb i k0_h4 17)).toLoadRect (View.loadsAt_vmem h_S1x128))
      let v1831 : Vec F S128x128 .f32 ← Prog.lift (.load (M 18) (Rect.unit (s := S128x128) ![0, 0] S128x128.size inb_S128x128_S128x128_0_0).toLoadRect (View.loadsAt_vmem h_S128x128))
      Prog.lift (.store (M 18) (Rect.unit (s := S128x128) ![0, 0] S128x128.size inb_S128x128_S128x128_0_0) (k0_pay6 v1730 v1746 v1826) Finset.univ (View.stores_vmem_bits_univ h_S128x128 rfl) (.inl rfl))
      K : BP F)
  else K

/-- Region 5 as printed, before the rest `K`. -/
def seg5 (M : Fam) (hM : ∀ k, (M k).IsWhole) (i : grid0.Coords) (K : BP F) : BP F :=
  let arg0 : BitVec 32 := BitVec.ofNat 32 (i 0).val
  let arg1 : BitVec 32 := BitVec.ofNat 32 (i 1).val
  if h : cond5 i = 1#1 then
    (do
      let v29 : Vec F S128x128 .f32 ← Prog.lift (.load (M 18) (Rect.unit (s := S128x128) ![0, 0] S128x128.size inb_S128x128_S128x128_0_0).toLoadRect (View.loadsAt_vmem h_S128x128))
      let v34 : Vec F S128x128 .f32 ← Prog.lift (.load (M 16) (Rect.unit (s := S128x128) ![0, 0] S128x128.size inb_S128x128_S128x128_0_0).toLoadRect (View.loadsAt_vmem h_S128x128))
      let v39 : Vec F S128x128 .f32 ← Prog.lift (.load (M 17) (Rect.unit (s := S128x128) ![0, 0] S128x128.size inb_S128x128_S128x128_0_0).toLoadRect (View.loadsAt_vmem h_S128x128))
      Prog.lift (.store (M 17) (Rect.unit (s := S128x128) ![0, 0] S128x128.size inb_S128x128_S128x128_0_0) (k0_pay7 v29 v34) Finset.univ (View.stores_vmem_bits_univ h_S128x128 rfl) (.inl rfl))
      K : BP F)
  else K

/-- Region 6 as printed, before the rest `K`. -/
def seg6 (M : Fam) (hM : ∀ k, (M k).IsWhole) (i : grid0.Coords) (K : BP F) : BP F :=
  let arg0 : BitVec 32 := BitVec.ofNat 32 (i 0).val
  let arg1 : BitVec 32 := BitVec.ofNat 32 (i 1).val
  if h : k0_cond6 i = 1#1 then
    (do
      let v48 : FVec F S128x18 .f32 ← k0_part114 i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22)
      let v49 : Vec F S128x18 .f32 ← Prog.lift (.load (M 11) (Rect.unit (s := S128x144) ![0, 108] S128x18.size inb_S128x144_S128x18_0_108).toLoadRect (View.loadsAt_vmem h_S128x18))
      Prog.lift (.store (M 11) (Rect.unit (s := S128x144) ![0, 108] S128x18.size inb_S128x144_S128x18_0_108) v48 Finset.univ (View.stores_vmem_bits_univ h_S128x18 rfl) (.inl rfl))
      let v50 : Vec F S1x128x18 .f32 ← Prog.lift (.load (M 22) (Rect.unit (s := S8x128x128) ![7, 0, 0] S1x128x18.size inb_S8x128x128_S1x128x18_7_0_0).toLoadRect (View.loadsAt_vmem h_S1x128x18))
      let v52 : Vec F S128x18 .f32 ← Prog.lift (.load (M 11) (Rect.unit (s := S128x144) ![0, 126] S128x18.size inb_S128x144_S128x18_0_126).toLoadRect (View.loadsAt_vmem h_S128x18))
      Prog.lift (.store (M 11) (Rect.unit (s := S128x144) ![0, 126] S128x18.size inb_S128x144_S128x18_0_126) (k0_pay8 v50) Finset.univ (View.stores_vmem_bits_univ h_S128x18 rfl) (.inl rfl))
      K : BP F)
  else K

/-- Region 7 as printed, before the rest `K`. -/
def seg7 (M : Fam) (hM : ∀ k, (M k).IsWhole) (i : grid0.Coords) (K : BP F) : BP F :=
  let arg0 : BitVec 32 := BitVec.ofNat 32 (i 0).val
  let arg1 : BitVec 32 := BitVec.ofNat 32 (i 1).val
  if k0_h7 : k0_cond7 i = 1#1 then
    (do
      let v32 : Vec F S48x2304 .f32 ← Prog.lift (.load (M 21) (Rect.unit (s := S48x18432) (k0_off44 i) S48x2304.size (k0_off44_inb i k0_h7)).toLoadRect (View.loadsAt_vmem h_S48x2304))
      let v34 : Vec F S2304x48 .f32 ← Prog.lift (.load (M 13) (Rect.unit (s := S2304x48) ![0, 0] S2304x48.size inb_S2304x48_S2304x48_0_0).toLoadRect (View.loadsAt_vmem h_S2304x48))
      Prog.lift (.store (M 13) (Rect.unit (s := S2304x48) ![0, 0] S2304x48.size inb_S2304x48_S2304x48_0_0) (k0_pay9 v32) Finset.univ (View.stores_vmem_bits_univ h_S2304x48 rfl) (.inl rfl))
      K : BP F)
  else K

theorem seg1_eq (M : Fam) (hM : ∀ k, (M k).IsWhole) (i : grid0.Coords) (K : BP F) :
    seg1 M hM i K = if h : k0_cond1 i = 1#1 then reg1 M K else K := by
  unfold seg1
  refine dite_congr rfl (fun h => ?_) (fun _ => rfl)
  rfl

theorem seg2_eq (M : Fam) (hM : ∀ k, (M k).IsWhole) (i : grid0.Coords) (K : BP F) :
    seg2 M hM i K = if k0_h2 : k0_cond2 i = 1#1 then reg2 M i k0_h2 K else K := by
  unfold seg2
  refine dite_congr rfl (fun k0_h2 => ?_) (fun _ => rfl)
  rfl

theorem seg3_eq (M : Fam) (hM : ∀ k, (M k).IsWhole) (i : grid0.Coords) (K : BP F) :
    seg3 M hM i K = if k0_h3 : k0_cond3 i = 1#1 then reg3 M hM i k0_h3 K else K := by
  unfold seg3
  refine dite_congr rfl (fun k0_h3 => ?_) (fun _ => rfl)
  rw [k0_part68_eq_skeleton]
  unfold k0_part68_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  rfl

set_option maxHeartbeats 2000000 in
theorem seg4_eq (M : Fam) (hM : ∀ k, (M k).IsWhole) (i : grid0.Coords) (K : BP F) :
    seg4 M hM i K = if k0_h4 : k0_cond4 i = 1#1 then reg4 M hM i k0_h4 K else K := by
  unfold seg4
  refine dite_congr rfl (fun k0_h4 => ?_) (fun _ => rfl)
  rw [k0_part113_eq_skeleton]
  unfold k0_part113_skel
  simp only [k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton]
  rfl

theorem seg5_eq (M : Fam) (hM : ∀ k, (M k).IsWhole) (i : grid0.Coords) (K : BP F) :
    seg5 M hM i K = if h : cond5 i = 1#1 then reg5 M K else K := by
  unfold seg5
  refine dite_congr rfl (fun h => ?_) (fun _ => rfl)
  rfl

theorem seg6_eq (M : Fam) (hM : ∀ k, (M k).IsWhole) (i : grid0.Coords) (K : BP F) :
    seg6 M hM i K = if h : k0_cond6 i = 1#1 then reg6 M K else K := by
  unfold seg6
  refine dite_congr rfl (fun h => ?_) (fun _ => rfl)
  rfl

theorem seg7_eq (M : Fam) (hM : ∀ k, (M k).IsWhole) (i : grid0.Coords) (K : BP F) :
    seg7 M hM i K = if k0_h7 : k0_cond7 i = 1#1 then reg7 M i k0_h7 K else K := by
  unfold seg7
  refine dite_congr rfl (fun k0_h7 => ?_) (fun _ => rfl)
  rfl

theorem body_eq (M : Fam) (hM : ∀ k, (M k).IsWhole) (i : grid0.Coords) :
    cc0_rmsnorm_bwd_fp8_skel (F := F) i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22) = body (F := F) M hM i := by
  have e : cc0_rmsnorm_bwd_fp8_skel (F := F) i (M 0) (hM 0) (M 1) (hM 1) (M 2) (hM 2) (M 3) (hM 3) (M 4) (hM 4) (M 5) (hM 5) (M 6) (hM 6) (M 7) (hM 7) (M 8) (hM 8) (M 9) (hM 9) (M 10) (hM 10) (M 11) (hM 11) (M 12) (hM 12) (M 13) (hM 13) (M 14) (hM 14) (M 15) (hM 15) (M 16) (hM 16) (M 17) (hM 17) (M 18) (hM 18) (M 19) (hM 19) (M 20) (hM 20) (M 21) (hM 21) (M 22) (hM 22)
      = seg1 M hM i (seg2 M hM i (seg3 M hM i (seg4 M hM i (seg5 M hM i (seg6 M hM i (seg7 M hM i (pure ⟨⟩))))))) := rfl
  rw [e, seg1_eq, seg2_eq, seg3_eq, seg4_eq, seg5_eq, seg6_eq, seg7_eq]
  rfl

end Cert.Kernel.Body
-- ==== Proof.BitsRuns.lean ====
/- What the body's texts leave in the memrefs, as functions of the contents they start from.

   For each repeated text of `BitsBody.lean`: the contents after it (`…S`), and that the text runs from the contents
   before to those (`…_runs`). -/
module

public import proofs.«01_k».proof.Proof.BitsBody

@[expose] public section

noncomputable section

namespace Cert.Kernel.Body

open Idealize.ShloMosaic Idealize.SL Idealize.SL.RA Idealize.SL.Sem Cert.Kernel Cert.Kernel.Gen Proof.Tri

variable {F : FTy → Type} [FloatOps F]

/-- The contents of the family of memrefs. -/
abbrev Sta (F : FTy → Type) : Type := St (Elt F) shF elF

/-- After tile `t` of the emission. -/
def emitS (i : grid0.Coords) (h3 : k0_cond3 i = 1#1) (s : Vec F S128x128 .f32) (t : Nat) (ht : t < 18) (X : Sta F) : Sta F :=
  let e : (_ → _) := fun y => X 14 ((rE i t ht).emb y)
  let g : (_ → _) := fun y => X 5 ((rG3 i h3 t ht).emb y)
  let x : (_ → _) := fun y => X 15 ((rE i t ht).emb y)
  let d : (_ → _) := fun y => X 4 ((rL t ht).emb y)
  let X : Sta F := Function.update X 19 (put (rL t ht) (k0_pay12 s e g x d) Finset.univ (X 19))
  let X : Sta F := Function.update X 7 (put (rL t ht) (k0_pay13 s e g x d) Finset.univ (X 7))
  let X : Sta F := Function.update X 20 (put (rA t ht) (k0_pay15 s e g x d) Finset.univ (X 20))
  let X : Sta F := Function.update X 21 (put (rC3 i h3 t ht) (k0_pay21 (k0_pay20 (k0_pay17 (k0_pay16 s e g x d)))) (IVec.on (k0_pay22 (k0_pay19 (BitVec.ofNat 32 (i 0).val)))) (X 21))
  let X : Sta F := Function.update X 12 (put (rT t ht) (k0_pay23 (k0_pay11 s e g x d) (k0_pay18 (k0_pay17 (k0_pay16 s e g x d)) 2130706432#32)) Finset.univ (X 12))
  X

/-- After tile `t` of the row codes. -/
def rowS (inv : FVec F S128x128 .f32) (t : Nat) (ht : t < 18) (X : Sta F) : Sta F :=
  let d : (_ → _) := fun y => X 19 ((rL t ht).emb y)
  let X : Sta F := Function.update X 10 (put (rL t ht) (rowCode inv t ht d) Finset.univ (X 10))
  X

/-- After tile `t` of the reduction. -/
def redS (i : grid0.Coords) (h4 : k0_cond4 i = 1#1) (r : Vec F S128x128 .f32) (t : Nat) (ht : t < 18) (X : Sta F) : Sta F :=
  let q : (_ → _) := fun y => X 1 ((rL t ht).emb y)
  let k : (_ → _) := fun y => X 2 ((rL t ht).emb y)
  let v : (_ → _) := fun y => X 3 ((rL t ht).emb y)
  let x : (_ → _) := fun y => X 0 ((rL t ht).emb y)
  let X : Sta F := Function.update X 14 (put (rE i t ht) (k0_pay309 r q k v) Finset.univ (X 14))
  let X : Sta F := Function.update X 15 (put (rE i t ht) (k0_pay310 x) Finset.univ (X 15))
  let X : Sta F := Function.update X 9 (put (rP4 i h4 t ht) (k0_pay314 (k0_pay313 (k0_pay311 r q k v x))) (IVec.on (k0_pay315 (maskP (BitVec.ofNat 32 (i 0).val)))) (X 9))
  let g0 : (_ → _) := fun y => X 8 ((rG4 i h4 t ht).emb y)
  let X : Sta F := Function.update X 8 (put (rG4 i h4 t ht) (k0_pay316 (k0_pay311 r q k v x) g0) Finset.univ (X 8))
  X

/-- The sum after tile `t` of the reduction. -/
def redC (i : grid0.Coords) (h4 : k0_cond4 i = 1#1) (r : Vec F S128x128 .f32) (t : Nat) (ht : t < 18) (X : Sta F) (c : Vec F S128x128 .f32) : Vec F S128x128 .f32 :=
  let q : (_ → _) := fun y => X 1 ((rL t ht).emb y)
  let k : (_ → _) := fun y => X 2 ((rL t ht).emb y)
  let v : (_ → _) := fun y => X 3 ((rL t ht).emb y)
  let x : (_ → _) := fun y => X 0 ((rL t ht).emb y)
  let g : (_ → _) := fun y => X 5 ((rG4 i h4 t ht).emb y)
  k0_pay317 c (k0_pay308 r q k v x) g

/-- After chunk `t` of the row scales' copy. -/
def scaleS (t : Nat) (ht : t < 8) (X : Sta F) : Sta F :=
  let r : (_ → _) := fun y => X 22 ((rQ t ht).emb y)
  let X : Sta F := Function.update X 11 (put (rS t ht) (k0_pay8 r) Finset.univ (X 11))
  X

/-- After zeroing. -/
def reg1S (X : Sta F) : Sta F :=
  let X : Sta F := Function.update X 8 (put rG (k0_pay1 (F := F)) Finset.univ (X 8))
  let X : Sta F := Function.update X 20 (put rW (k0_pay2 (F := F)) Finset.univ (X 20))
  X

/-- After the start of a block's reduction. -/
def reg2S (i : grid0.Coords) (h2 : k0_cond2 i = 1#1) (X : Sta F) : Sta F :=
  let a : (_ → _) := fun y => X 6 ((rB1 i h2).emb y)
  let b : (_ → _) := fun y => X 6 ((rB2 i h2).emb y)
  let X : Sta F := Function.update X 16 (put rW (k0_pay10 (BitVec.ofNat 32 (i 0).val) a b) Finset.univ (X 16))
  let X : Sta F := Function.update X 18 (put rW (k0_pay3 (F := F)) Finset.univ (X 18))
  X

/-- After the tiles below `n`. -/
def tilesS (f : (t : Nat) → t < 18 → Sta F → Sta F) : (n : Nat) → n ≤ 18 → Sta F → Sta F
  | 0, _, X => X
  | n + 1, h, X => f n (by omega) (tilesS f n (by omega) X)

/-- The sum after the tiles below `n`, from the contents of the family then. -/
def tilesSum (f : (t : Nat) → t < 18 → Sta F → Sta F) (g : (t : Nat) → t < 18 → Sta F → Vec F S128x128 .f32 → Vec F S128x128 .f32) :
    (n : Nat) → n ≤ 18 → Sta F → Vec F S128x128 .f32 → Vec F S128x128 .f32
  | 0, _, _, c => c
  | n + 1, h, X, c => g n (by omega) (tilesS f n (by omega) X) (tilesSum f g n (by omega) X c)

/-- After the emission. -/
def reg3S (i : grid0.Coords) (h3 : k0_cond3 i = 1#1) (X : Sta F) : Sta F :=
  let s : (_ → _) := fun y => X 17 (rW.emb y)
  let X : Sta F := tilesS (emitS i h3 s) 18 (by decide) X
  let a : (_ → _) := fun y => X 20 (rW.emb y)
  let X : Sta F := Function.update X 22 (put (rR i) (k0_pay284 (rowScale a)) Finset.univ (X 22))
  tilesS (rowS (rowInv a)) 18 (by decide) X

/-- After the reduction. -/
def reg4S (i : grid0.Coords) (h4 : k0_cond4 i = 1#1) (X : Sta F) : Sta F :=
  let r : (_ → _) := fun y => X 16 (rW.emb y)
  let c : (_ → _) := fun y => X 18 (rW.emb y)
  let c' := tilesSum (redS i h4 r) (redC i h4 r) 18 (by decide) X c
  let X : Sta F := tilesS (redS i h4 r) 18 (by decide) X
  Function.update X 18 (put rW (shapeCast S128x128 c' shapeCasts_S128x128_S128x128) Finset.univ (X 18))

/-- After the block's `s`. -/
def reg5S (X : Sta F) : Sta F :=
  let c : (_ → _) := fun y => X 18 (rW.emb y)
  let r : (_ → _) := fun y => X 16 (rW.emb y)
  let X : Sta F := Function.update X 17 (put rW (k0_pay7 c r) Finset.univ (X 17))
  X

/-- After the chunks below `n` of the row scales' copy. -/
def scalesS : (n : Nat) → n ≤ 8 → Sta F → Sta F
  | 0, _, X => X
  | n + 1, h, X => scaleS n (by omega) (scalesS n (by omega) X)

/-- After the column scales' copy. -/
def reg7S (i : grid0.Coords) (h7 : k0_cond7 i = 1#1) (X : Sta F) : Sta F :=
  let a : (_ → _) := fun y => X 21 ((rK7 i h7).emb y)
  let X : Sta F := Function.update X 13 (put rCS (k0_pay9 a) Finset.univ (X 13))
  X

/-- After the body. -/
def bodyS (i : grid0.Coords) (X : Sta F) : Sta F :=
  let X : Sta F := if h1 : k0_cond1 i = 1#1 then reg1S X else X
  let X : Sta F := if h2 : k0_cond2 i = 1#1 then reg2S i h2 X else X
  let X : Sta F := if h3 : k0_cond3 i = 1#1 then reg3S i h3 X else X
  let X : Sta F := if h4 : k0_cond4 i = 1#1 then reg4S i h4 X else X
  let X : Sta F := if h5 : cond5 i = 1#1 then reg5S X else X
  let X : Sta F := if h6 : k0_cond6 i = 1#1 then scalesS 8 (by decide) X else X
  if h7 : k0_cond7 i = 1#1 then reg7S i h7 X else X

section
variable {Ix : Type} [DecidableEq Ix] {Name : Type} [DecidableEq Name] {U : Type} [URA U] {Lvl : Type} [Preorder Lvl]
variable {defs : Defs nD τ sig (Elt F) Λ₀} {𝒱 : Variants} {d : Dev nD} {bd : Option 𝒱.V} {E : Set Name}
variable {M : Fam} {hM : ∀ k, (M k).IsWhole} {i : grid0.Coords} {X X' : Sta F} {k : BP F} {b : PUnit}

local notation "RUNS" => Runs (α := PUnit) (n := 23) (sh := shF) (el := elF) Ix Name U Lvl defs 𝒱 (d.tc : Thread nD τ) bd E M

theorem emitTile_runs {h3 : k0_cond3 i = 1#1} {s : Vec F S128x128 .f32} {t : Nat} {ht : t < 18}
    (h : RUNS (emitS i h3 s t ht X) k b X') : RUNS X (emitTile M hM i h3 s t ht k) b X' := by
  unfold emitTile
  refine Runs.load (n := 23) (k := 14) _ _ _ _ ?_
  refine Runs.load (n := 23) (k := 5) _ _ _ _ ?_
  refine Runs.load (n := 23) (k := 15) _ _ _ _ ?_
  refine Runs.load (n := 23) (k := 4) _ _ _ _ ?_
  refine Runs.load (n := 23) (k := 19) _ _ _ _ ?_
  refine Runs.store (n := 23) (k := 19) _ _ _ _ ?_
  refine Runs.load (n := 23) (k := 7) _ _ _ _ ?_
  refine Runs.store (n := 23) (k := 7) _ _ _ _ ?_
  refine Runs.load (n := 23) (k := 20) _ _ _ _ ?_
  refine Runs.store (n := 23) (k := 20) _ _ _ _ ?_
  refine Runs.load (n := 23) (k := 21) _ _ _ _ ?_
  refine Runs.store (n := 23) (k := 21) _ _ _ _ ?_
  refine Runs.load (n := 23) (k := 12) _ _ _ _ ?_
  refine Runs.store (n := 23) (k := 12) _ _ _ _ ?_
  exact h

theorem rowTile_runs {inv : FVec F S128x128 .f32} {t : Nat} {ht : t < 18}
    (h : RUNS (rowS inv t ht X) k b X') : RUNS X (rowTile M hM inv t ht k) b X' := by
  unfold rowTile
  refine Runs.load (n := 23) (k := 19) _ _ _ _ ?_
  refine Runs.load (n := 23) (k := 10) _ _ _ _ ?_
  refine Runs.store (n := 23) (k := 10) _ _ _ _ ?_
  exact h

theorem redTile_runs {h4 : k0_cond4 i = 1#1} {r : Vec F S128x128 .f32} {t : Nat} {ht : t < 18} {c : Vec F S128x128 .f32} {k : Vec F S128x128 .f32 → BP F}
    (h : RUNS (redS i h4 r t ht X) (k (redC i h4 r t ht X c)) b X') : RUNS X (redTile M hM i h4 r t ht c k) b X' := by
  unfold redTile
  refine Runs.load (n := 23) (k := 1) _ _ _ _ ?_
  refine Runs.load (n := 23) (k := 2) _ _ _ _ ?_
  refine Runs.load (n := 23) (k := 3) _ _ _ _ ?_
  refine Runs.load (n := 23) (k := 0) _ _ _ _ ?_
  refine Runs.load (n := 23) (k := 14) _ _ _ _ ?_
  refine Runs.store (n := 23) (k := 14) _ _ _ _ ?_
  refine Runs.load (n := 23) (k := 15) _ _ _ _ ?_
  refine Runs.store (n := 23) (k := 15) _ _ _ _ ?_
  refine Runs.load (n := 23) (k := 9) _ _ _ _ ?_
  refine Runs.store (n := 23) (k := 9) _ _ _ _ ?_
  refine Runs.load (n := 23) (k := 8) _ _ _ _ ?_
  refine Runs.load (n := 23) (k := 8) _ _ _ _ ?_
  refine Runs.store (n := 23) (k := 8) _ _ _ _ ?_
  refine Runs.load (n := 23) (k := 5) _ _ _ _ ?_
  exact h

theorem scaleTile_runs {t : Nat} {ht : t < 8} (h : RUNS (scaleS t ht X) k b X') : RUNS X (scaleTile M t ht k) b X' := by
  unfold scaleTile
  refine Runs.load (n := 23) (k := 22) _ _ _ _ ?_
  refine Runs.load (n := 23) (k := 11) _ _ _ _ ?_
  refine Runs.store (n := 23) (k := 11) _ _ _ _ ?_
  exact h

theorem reg1_runs (h : RUNS (reg1S X) k b X') : RUNS X (reg1 M k) b X' := by
  unfold reg1
  refine Runs.load (n := 23) (k := 8) _ _ _ _ ?_
  refine Runs.store (n := 23) (k := 8) _ _ _ _ ?_
  refine Runs.load (n := 23) (k := 20) _ _ _ _ ?_
  refine Runs.store (n := 23) (k := 20) _ _ _ _ ?_
  exact h

theorem reg2_runs {h2 : k0_cond2 i = 1#1} (h : RUNS (reg2S i h2 X) k b X') : RUNS X (reg2 M i h2 k) b X' := by
  unfold reg2
  refine Runs.load (n := 23) (k := 6) _ _ _ _ ?_
  refine Runs.load (n := 23) (k := 6) _ _ _ _ ?_
  refine Runs.load (n := 23) (k := 16) _ _ _ _ ?_
  refine Runs.store (n := 23) (k := 16) _ _ _ _ ?_
  refine Runs.load (n := 23) (k := 18) _ _ _ _ ?_
  refine Runs.store (n := 23) (k := 18) _ _ _ _ ?_
  exact h

theorem tiles_runs {f : (t : Nat) → t < 18 → BP F → BP F} {g : (t : Nat) → t < 18 → Sta F → Sta F}
    (hf : ∀ (t : Nat) (ht : t < 18) (X : Sta F) (k : BP F), RUNS (g t ht X) k b X' → RUNS X (f t ht k) b X')
    (h : RUNS (tilesS g 18 (by decide) X) k b X') : RUNS X (tiles f k) b X' := by
  unfold tiles
  iterate 18 refine hf _ _ _ _ ?_
  exact h

theorem tilesC_runs {f : (t : Nat) → t < 18 → Vec F S128x128 .f32 → (Vec F S128x128 .f32 → BP F) → BP F} {g : (t : Nat) → t < 18 → Sta F → Sta F}
    {gc : (t : Nat) → t < 18 → Sta F → Vec F S128x128 .f32 → Vec F S128x128 .f32} {c : Vec F S128x128 .f32} {k : Vec F S128x128 .f32 → BP F}
    (hf : ∀ (t : Nat) (ht : t < 18) (X : Sta F) (c : Vec F S128x128 .f32) (k : Vec F S128x128 .f32 → BP F), RUNS (g t ht X) (k (gc t ht X c)) b X' → RUNS X (f t ht c k) b X')
    (h : RUNS (tilesS g 18 (by decide) X) (k (tilesSum g gc 18 (by decide) X c)) b X') : RUNS X (tilesC f c k) b X' := by
  unfold tilesC
  iterate 18 refine hf _ _ _ _ _ ?_
  exact h

theorem reg3_runs {h3 : k0_cond3 i = 1#1} (h : RUNS (reg3S i h3 X) k b X') : RUNS X (reg3 M hM i h3 k) b X' := by
  unfold reg3
  refine Runs.load (n := 23) (k := 17) _ _ _ _ ?_
  refine tiles_runs (fun t ht X k h => emitTile_runs h) ?_
  refine Runs.load (n := 23) (k := 20) _ _ _ _ ?_
  refine Runs.load (n := 23) (k := 22) _ _ _ _ ?_
  refine Runs.store (n := 23) (k := 22) _ _ _ _ ?_
  refine tiles_runs (fun t ht X k h => rowTile_runs h) ?_
  exact h

theorem reg4_runs {h4 : k0_cond4 i = 1#1} (h : RUNS (reg4S i h4 X) k b X') : RUNS X (reg4 M hM i h4 k) b X' := by
  unfold reg4
  refine Runs.load (n := 23) (k := 16) _ _ _ _ ?_
  refine Runs.load (n := 23) (k := 18) _ _ _ _ ?_
  refine tilesC_runs (fun t ht X c k h => redTile_runs h) ?_
  refine Runs.load (n := 23) (k := 18) _ _ _ _ ?_
  refine Runs.store (n := 23) (k := 18) _ _ _ _ ?_
  exact h

theorem reg5_runs (h : RUNS (reg5S X) k b X') : RUNS X (reg5 M k) b X' := by
  unfold reg5
  refine Runs.load (n := 23) (k := 18) _ _ _ _ ?_
  refine Runs.load (n := 23) (k := 16) _ _ _ _ ?_
  refine Runs.load (n := 23) (k := 17) _ _ _ _ ?_
  refine Runs.store (n := 23) (k := 17) _ _ _ _ ?_
  exact h

theorem reg6_runs (h : RUNS (scalesS 8 (by decide) X) k b X') : RUNS X (reg6 M k) b X' := by
  unfold reg6
  iterate 8 refine scaleTile_runs ?_
  exact h

theorem reg7_runs {h7 : k0_cond7 i = 1#1} (h : RUNS (reg7S i h7 X) k b X') : RUNS X (reg7 M i h7 k) b X' := by
  unfold reg7
  refine Runs.load (n := 23) (k := 21) _ _ _ _ ?_
  refine Runs.load (n := 23) (k := 13) _ _ _ _ ?_
  refine Runs.store (n := 23) (k := 13) _ _ _ _ ?_
  exact h

theorem if_runs {P : Prop} [Decidable P] {f : P → BP F} {g : P → Sta F} (hf : ∀ h : P, RUNS (g h) k b X' → RUNS X (f h) b X')
    (h : RUNS (if h : P then g h else X) k b X') : RUNS X (if h : P then f h else k) b X' := by
  by_cases hp : P
  · rw [dif_pos hp] at h ⊢; exact hf hp h
  · rw [dif_neg hp] at h ⊢; exact h

/-- The body runs from any contents to `bodyS` of them. -/
theorem body_runs : RUNS X (body M hM i) ⟨⟩ (bodyS i X) := by
  unfold body bodyS
  refine if_runs (fun h => reg1_runs) ?_
  refine if_runs (fun h => reg2_runs) ?_
  refine if_runs (fun h => reg3_runs) ?_
  refine if_runs (fun h => reg4_runs) ?_
  refine if_runs (fun h => reg5_runs) ?_
  refine if_runs (fun h => reg6_runs) ?_
  refine if_runs (fun h => reg7_runs) ?_
  exact Runs.ret _ _ _ _ _

end

end Cert.Kernel.Body
-- ==== Proof.BitsRun.lean ====
/- The launch of the kernel, from what its body leaves.

   `bodyS` (`BitsRuns.lean`) says what one grid point leaves in every memref it is handed. Given, for each output window, what
   its contents satisfy after a point (`A`), and what the scratch satisfies before a point (`I`), if `bodyS` keeps both
   (`Step`), every execution of the program ends with the arrays as `Pipeline.RDat.FramePost` says. -/
module

public import proofs.«01_k».proof.Proof.BitsBridge
public import proofs.«01_k».proof.Proof.BitsRuns

@[expose] public section

set_option maxRecDepth 16384

noncomputable section

namespace Cert.Kernel.Body

open Idealize.ShloMosaic Idealize.SL Idealize.SL.RA Idealize.SL.Sem Cert.Kernel Cert.Kernel.Gen Proof.Tri
open Idealize.SL.BI
open scoped Idealize.SL.BI
open Idealize.SL.BI.BIBase Idealize.SL.BI.Laws Idealize.SL.ProofMode
open Idealize.ShloMosaic.Pipeline (RDat)
open TcCoe

variable {F : FTy → Type} [FloatOps F]

local notation "𝕄" => MT nD τ sig Unit (Elt F) ℕ (UR sig nD τ) ℕ

/-- The contents of the scratch buffers. -/
structure Scr (F : FTy → Type) where
  e : (shF 14).Idx → Elt F (elF 14)
  x : (shF 15).Idx → Elt F (elF 15)
  r : (shF 16).Idx → Elt F (elF 16)
  s : (shF 17).Idx → Elt F (elF 17)
  c : (shF 18).Idx → Elt F (elF 18)
  dxt : (shF 19).Idx → Elt F (elF 19)
  amax : (shF 20).Idx → Elt F (elF 20)
  cs : (shF 21).Idx → Elt F (elF 21)
  rs : (shF 22).Idx → Elt F (elF 22)

/-- The contents of the staging buffers. -/
abbrev Win (F : FTy → Type) : Type := (w : Fin 14) → (cfg0.win w).block.Idx → Elt F (cfg0.win w).elt

/-- The memrefs of a point. -/
def fam (t : Fin cfg0.N) : Fam := fun k => match k with
  | ⟨0, _⟩ => st0_0 t
  | ⟨1, _⟩ => st0_1 t
  | ⟨2, _⟩ => st0_2 t
  | ⟨3, _⟩ => st0_3 t
  | ⟨4, _⟩ => st0_4 t
  | ⟨5, _⟩ => st0_5 t
  | ⟨6, _⟩ => st0_6 t
  | ⟨7, _⟩ => st0_7 t
  | ⟨8, _⟩ => st0_8 t
  | ⟨9, _⟩ => st0_9 t
  | ⟨10, _⟩ => st0_10 t
  | ⟨11, _⟩ => st0_11 t
  | ⟨12, _⟩ => st0_12 t
  | ⟨13, _⟩ => st0_13 t
  | ⟨14, _⟩ => Memref.whole cc0_scratch0
  | ⟨15, _⟩ => Memref.whole cc0_scratch1
  | ⟨16, _⟩ => Memref.whole cc0_scratch2
  | ⟨17, _⟩ => Memref.whole cc0_scratch3
  | ⟨18, _⟩ => Memref.whole cc0_scratch4
  | ⟨19, _⟩ => Memref.whole cc0_scratch5
  | ⟨20, _⟩ => Memref.whole cc0_scratch6
  | ⟨21, _⟩ => Memref.whole cc0_scratch7
  | ⟨22, _⟩ => Memref.whole cc0_scratch8
  | ⟨n + 23, h⟩ => absurd h (by omega)

theorem fam_whole (t : Fin cfg0.N) : ∀ k, (fam t k).IsWhole := fun k => match k with
  | ⟨0, _⟩ => hstage0_0 ((cfg0.slots t 0).cast nbuf0_0)
  | ⟨1, _⟩ => hstage0_1 ((cfg0.slots t 1).cast nbuf0_1)
  | ⟨2, _⟩ => hstage0_2 ((cfg0.slots t 2).cast nbuf0_2)
  | ⟨3, _⟩ => hstage0_3 ((cfg0.slots t 3).cast nbuf0_3)
  | ⟨4, _⟩ => hstage0_4 ((cfg0.slots t 4).cast nbuf0_4)
  | ⟨5, _⟩ => hstage0_5 ((cfg0.slots t 5).cast nbuf0_5)
  | ⟨6, _⟩ => hstage0_6 ((cfg0.slots t 6).cast nbuf0_6)
  | ⟨7, _⟩ => hstage0_7 ((cfg0.slots t 7).cast nbuf0_7)
  | ⟨8, _⟩ => hstage0_8 ((cfg0.slots t 8).cast nbuf0_8)
  | ⟨9, _⟩ => hstage0_9 ((cfg0.slots t 9).cast nbuf0_9)
  | ⟨10, _⟩ => hstage0_10 ((cfg0.slots t 10).cast nbuf0_10)
  | ⟨11, _⟩ => hstage0_11 ((cfg0.slots t 11).cast nbuf0_11)
  | ⟨12, _⟩ => hstage0_12 ((cfg0.slots t 12).cast nbuf0_12)
  | ⟨13, _⟩ => hstage0_13 ((cfg0.slots t 13).cast nbuf0_13)
  | ⟨14, _⟩ => Memref.isWhole_whole _
  | ⟨15, _⟩ => Memref.isWhole_whole _
  | ⟨16, _⟩ => Memref.isWhole_whole _
  | ⟨17, _⟩ => Memref.isWhole_whole _
  | ⟨18, _⟩ => Memref.isWhole_whole _
  | ⟨19, _⟩ => Memref.isWhole_whole _
  | ⟨20, _⟩ => Memref.isWhole_whole _
  | ⟨21, _⟩ => Memref.isWhole_whole _
  | ⟨22, _⟩ => Memref.isWhole_whole _
  | ⟨n + 23, h⟩ => absurd h (by omega)

/-- All contents from the staging buffers' and the scratch's. -/
def join (Y : Win F) (Z : Scr F) : Sta F := fun k => match k with
  | ⟨0, _⟩ => Y 0
  | ⟨1, _⟩ => Y 1
  | ⟨2, _⟩ => Y 2
  | ⟨3, _⟩ => Y 3
  | ⟨4, _⟩ => Y 4
  | ⟨5, _⟩ => Y 5
  | ⟨6, _⟩ => Y 6
  | ⟨7, _⟩ => Y 7
  | ⟨8, _⟩ => Y 8
  | ⟨9, _⟩ => Y 9
  | ⟨10, _⟩ => Y 10
  | ⟨11, _⟩ => Y 11
  | ⟨12, _⟩ => Y 12
  | ⟨13, _⟩ => Y 13
  | ⟨14, _⟩ => Z.e
  | ⟨15, _⟩ => Z.x
  | ⟨16, _⟩ => Z.r
  | ⟨17, _⟩ => Z.s
  | ⟨18, _⟩ => Z.c
  | ⟨19, _⟩ => Z.dxt
  | ⟨20, _⟩ => Z.amax
  | ⟨21, _⟩ => Z.cs
  | ⟨22, _⟩ => Z.rs
  | ⟨n + 23, h⟩ => absurd h (by omega)

/-- The scratch's contents among all. -/
def scrOf (X : Sta F) : Scr F where
  e := X 14
  x := X 15
  r := X 16
  s := X 17
  c := X 18
  dxt := X 19
  amax := X 20
  cs := X 21
  rs := X 22

/-- The staging buffers' contents among all. -/
def winOf (X : Sta F) : Win F := fun w => match w with
  | ⟨0, _⟩ => X 0
  | ⟨1, _⟩ => X 1
  | ⟨2, _⟩ => X 2
  | ⟨3, _⟩ => X 3
  | ⟨4, _⟩ => X 4
  | ⟨5, _⟩ => X 5
  | ⟨6, _⟩ => X 6
  | ⟨7, _⟩ => X 7
  | ⟨8, _⟩ => X 8
  | ⟨9, _⟩ => X 9
  | ⟨10, _⟩ => X 10
  | ⟨11, _⟩ => X 11
  | ⟨12, _⟩ => X 12
  | ⟨13, _⟩ => X 13

/-- The scratch buffers owned at their contents. -/
def scrOwn (c : Dev nD) (Z : Scr F) : sProp 𝕄 :=
  iprop((((c : Thread nD τ).loc cc0_scratch0) ↦{fullShare} Z.e) ∗ (((c : Thread nD τ).loc cc0_scratch1) ↦{fullShare} Z.x) ∗ (((c : Thread nD τ).loc cc0_scratch2) ↦{fullShare} Z.r) ∗ (((c : Thread nD τ).loc cc0_scratch3) ↦{fullShare} Z.s) ∗ (((c : Thread nD τ).loc cc0_scratch4) ↦{fullShare} Z.c) ∗ (((c : Thread nD τ).loc cc0_scratch5) ↦{fullShare} Z.dxt) ∗ (((c : Thread nD τ).loc cc0_scratch6) ↦{fullShare} Z.amax) ∗ (((c : Thread nD τ).loc cc0_scratch7) ↦{fullShare} Z.cs) ∗ (((c : Thread nD τ).loc cc0_scratch8) ↦{fullShare} Z.rs))

theorem bigSep_23 {M : Type} [URA M] (Φ : Fin 23 → sProp M) : bigSep Finset.univ Φ = iprop(Φ (0 : Fin 23) ∗ Φ (1 : Fin 23) ∗ Φ (2 : Fin 23) ∗ Φ (3 : Fin 23) ∗ Φ (4 : Fin 23) ∗ Φ (5 : Fin 23) ∗ Φ (6 : Fin 23) ∗ Φ (7 : Fin 23) ∗ Φ (8 : Fin 23) ∗ Φ (9 : Fin 23) ∗ Φ (10 : Fin 23) ∗ Φ (11 : Fin 23) ∗ Φ (12 : Fin 23) ∗ Φ (13 : Fin 23) ∗ Φ (14 : Fin 23) ∗ Φ (15 : Fin 23) ∗ Φ (16 : Fin 23) ∗ Φ (17 : Fin 23) ∗ Φ (18 : Fin 23) ∗ Φ (19 : Fin 23) ∗ Φ (20 : Fin 23) ∗ Φ (21 : Fin 23) ∗ Φ (22 : Fin 23)) :=
  bigSep_univ_eq_bigSepL [(0 : Fin 23), (1 : Fin 23), (2 : Fin 23), (3 : Fin 23), (4 : Fin 23), (5 : Fin 23), (6 : Fin 23), (7 : Fin 23), (8 : Fin 23), (9 : Fin 23), (10 : Fin 23), (11 : Fin 23), (12 : Fin 23), (13 : Fin 23), (14 : Fin 23), (15 : Fin 23), (16 : Fin 23), (17 : Fin 23), (18 : Fin 23), (19 : Fin 23), (20 : Fin 23), (21 : Fin 23), (22 : Fin 23)] (by decide) (by decide) Φ

/-- The memrefs of a point owned, staging buffers and scratch. -/
theorem own_fam (c : Dev nD) (t : Fin cfg0.N) (S : Sta F) :
    (Own (c : Thread nD τ) (fam t) S : sProp 𝕄)
      = iprop(owns (c : Thread nD τ) (st0_0 t) fullShare (winOf S 0) ∗ owns (c : Thread nD τ) (st0_1 t) fullShare (winOf S 1) ∗ owns (c : Thread nD τ) (st0_2 t) fullShare (winOf S 2) ∗ owns (c : Thread nD τ) (st0_3 t) fullShare (winOf S 3) ∗ owns (c : Thread nD τ) (st0_4 t) fullShare (winOf S 4) ∗ owns (c : Thread nD τ) (st0_5 t) fullShare (winOf S 5) ∗ owns (c : Thread nD τ) (st0_6 t) fullShare (winOf S 6) ∗ owns (c : Thread nD τ) (st0_7 t) fullShare (winOf S 7) ∗ owns (c : Thread nD τ) (st0_8 t) fullShare (winOf S 8) ∗ owns (c : Thread nD τ) (st0_9 t) fullShare (winOf S 9) ∗ owns (c : Thread nD τ) (st0_10 t) fullShare (winOf S 10) ∗ owns (c : Thread nD τ) (st0_11 t) fullShare (winOf S 11) ∗ owns (c : Thread nD τ) (st0_12 t) fullShare (winOf S 12) ∗ owns (c : Thread nD τ) (st0_13 t) fullShare (winOf S 13) ∗ scrOwn c (scrOf S)) := by
  unfold Own scrOwn
  rw [bigSep_23]
  simp only [fam, owns_whole]
  rfl

variable (m : (ℓ : Loc nD τ sig) → Buf (Elt F) ℓ) (ρ : Dev nD → PrngReg)
variable (A : Dev nD → (w : Fin 14) → Fin cfg0.N → ((cfg0.win w).block.Idx → Elt F (cfg0.win w).elt) → Prop)
variable (I : Dev nD → Nat → Scr F → Prop)

/-- The relational proof data. -/
def rdat (c : Dev nD) : RDat τ (Elt F) Unit ℕ (UR sig nD τ) ℕ cfg0 c where
  A w := V m c (Pipeline.arrRef spec0 w)
  after w t Y X := ((cfg0.win w).isOut = false → X = Y) ∧ A c w t X
  Φ t := iprop(∃ Z, ⌜I c t.val Z⌝ ∗ scrOwn c Z ∗ ∃ r, prngReg c r)
  q _ := fullShare
  owed _ := 0

/-- One point keeps what is known of the windows and of the scratch. -/
def Step : Prop := ∀ (c : Dev nD) (t : Fin cfg0.N) (Y : Win F) (Z : Scr F), (∀ w, (rdat m A I c).Finds w t (Y w)) → I c t.val Z →
  I c (t.val + 1) (scrOf (bodyS (grid0.coords t) (join Y Z))) ∧ ∀ w, (rdat m A I c).after w t (Y w) (winOf (bodyS (grid0.coords t) (join Y Z)) w)

theorem defs₀_row (t : Fin cfg0.N) :
    defs₀ (F := F) .tc cfg0.body (cfg0.bodyArgs t (cfg0.slots t)) = bodyAt0 t := by
  unfold defs₀; rw [Defs.onTc_tc]

theorem bodyAt0_eq (t : Fin cfg0.N) : bodyAt0 (F := F) t = body (fam t) (fam_whole t) (grid0.coords t) := by
  rw [← body_eq]
  unfold bodyAt0
  rw [cc0_rmsnorm_bwd_fp8_eq_skeleton]
  rfl

variable {m A I}

theorem body_wp (h : Step m A I) (c : Dev nD) (t : Fin cfg0.N) (Y : Win F) (hY : ∀ w, (rdat m A I c).Finds w t (Y w)) :
    (iprop((rdat m A I c).Φ t.castSucc ∗ (rdat m A I c).owesAt () t.castSucc
        ∗ bigSep Finset.univ fun w => owns (c : Thread nD τ) ((cfg0.win w).stage (cfg0.slots t w)) fullShare (Y w)) : sProp 𝕄)
      ⊢ wp frame (wpE (defs₀ (F := F)) Variants.none (c : Thread nD τ) none) Set.univ (bodyAt0 t) fun _ =>
          iprop((rdat m A I c).Φ t.succ ∗ (rdat m A I c).owesAt () t.succ
            ∗ bigSep Finset.univ fun w => iprop(∃ X, ⌜(rdat m A I c).after w t (Y w) X⌝ ∗ owns (c : Thread nD τ) ((cfg0.win w).stage (cfg0.slots t w)) fullShare X)) := by
  rw [bodyAt0_eq, bigSep_W0, bigSep_W0]
  rw [show (rdat m A I c).owesAt () t.succ = (rdat m A I c).owesAt () t.castSucc from rfl]
  rw [show (rdat m A I c).Φ t.castSucc = (iprop(∃ Z, ⌜I c t.val Z⌝ ∗ scrOwn c Z ∗ ∃ r, prngReg c r) : sProp 𝕄) from rfl,
    show (rdat m A I c).Φ t.succ = (iprop(∃ Z, ⌜I c (t.val + 1) Z⌝ ∗ scrOwn c Z ∗ ∃ r, prngReg c r) : sProp 𝕄) from rfl]
  iintro ⟨⟨%Z, %hZ, HZ, Hp⟩, Ho, H0, H1, H2, H3, H4, H5, H6, H7, H8, H9, H10, H11, H12, H13⟩
  obtain ⟨hI, hA⟩ := h c t Y Z hY hZ
  iapply (body_runs (Ix := Unit) (Name := ℕ) (U := UR sig nD τ) (Lvl := ℕ) (defs := defs₀ (F := F)) (𝒱 := Variants.none) (d := c) (bd := none) (E := Set.univ)
    (M := fam t) (hM := fam_whole t) (i := grid0.coords t) (X := join Y Z) iprop((rdat m A I c).owesAt () t.castSucc ∗ ∃ r, prngReg c r) _ ?_)
  rotate_left
  · isplitr [Ho Hp]
    · iapply (Entails.of_eq (own_fam c t (join Y Z)).symm)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact HZ
    · isplitl [Ho] <;> iassumption
  · rw [show (Own (c.tc : Thread nD τ) (fam t) (bodyS (grid0.coords t) (join Y Z)) : sProp 𝕄) = _ from own_fam c t _]
    iintro ⟨⟨H0, H1, H2, H3, H4, H5, H6, H7, H8, H9, H10, H11, H12, H13, HZ⟩, Ho, Hp⟩
    isplitl [HZ Hp]
    · iexists (scrOf (bodyS (grid0.coords t) (join Y Z)))
      isplitr; · ipureintro; exact hI
      isplitl [HZ] <;> iassumption
    isplitl [Ho]; · iexact Ho
    isplitl [H0]
    · iexists (winOf (bodyS (grid0.coords t) (join Y Z)) 0); isplitr [H0]
      · ipureintro; exact hA 0
      · iexact H0
    isplitl [H1]
    · iexists (winOf (bodyS (grid0.coords t) (join Y Z)) 1); isplitr [H1]
      · ipureintro; exact hA 1
      · iexact H1
    isplitl [H2]
    · iexists (winOf (bodyS (grid0.coords t) (join Y Z)) 2); isplitr [H2]
      · ipureintro; exact hA 2
      · iexact H2
    isplitl [H3]
    · iexists (winOf (bodyS (grid0.coords t) (join Y Z)) 3); isplitr [H3]
      · ipureintro; exact hA 3
      · iexact H3
    isplitl [H4]
    · iexists (winOf (bodyS (grid0.coords t) (join Y Z)) 4); isplitr [H4]
      · ipureintro; exact hA 4
      · iexact H4
    isplitl [H5]
    · iexists (winOf (bodyS (grid0.coords t) (join Y Z)) 5); isplitr [H5]
      · ipureintro; exact hA 5
      · iexact H5
    isplitl [H6]
    · iexists (winOf (bodyS (grid0.coords t) (join Y Z)) 6); isplitr [H6]
      · ipureintro; exact hA 6
      · iexact H6
    isplitl [H7]
    · iexists (winOf (bodyS (grid0.coords t) (join Y Z)) 7); isplitr [H7]
      · ipureintro; exact hA 7
      · iexact H7
    isplitl [H8]
    · iexists (winOf (bodyS (grid0.coords t) (join Y Z)) 8); isplitr [H8]
      · ipureintro; exact hA 8
      · iexact H8
    isplitl [H9]
    · iexists (winOf (bodyS (grid0.coords t) (join Y Z)) 9); isplitr [H9]
      · ipureintro; exact hA 9
      · iexact H9
    isplitl [H10]
    · iexists (winOf (bodyS (grid0.coords t) (join Y Z)) 10); isplitr [H10]
      · ipureintro; exact hA 10
      · iexact H10
    isplitl [H11]
    · iexists (winOf (bodyS (grid0.coords t) (join Y Z)) 11); isplitr [H11]
      · ipureintro; exact hA 11
      · iexact H11
    isplitl [H12]
    · iexists (winOf (bodyS (grid0.coords t) (join Y Z)) 12); isplitr [H12]
      · ipureintro; exact hA 12
      · iexact H12
    iexists (winOf (bodyS (grid0.coords t) (join Y Z)) 13); isplitr [H13]
    · ipureintro; exact hA 13
    · iexact H13

theorem body_obligation (h : Step m A I) (c : Dev nD) : (rdat m A I c).BodyObligation (defs₀ (F := F)) Variants.none () Set.univ := fun t Y hY => by
  rw [defs₀_row]
  exact triple_restated (body_wp h c t Y hY) rfl .rfl fun _ => .rfl

theorem share_eq (c : Dev nD) (w : Fin cfg0.W) : (rdat m A I c).share w = fullShare := by
  unfold RDat.share; split <;> rfl

set_option backward.isDefEq.respectTransparency.types false in
/-- The run: every array at something the proof data allow, every other buffer as it was, every counter zero. -/
theorem run (h : Step m A I) (h0 : ∀ c Z, I c 0 Z) :
    θ_run defs (onTc (τ := τ) (main (F := F))) (s₀ m ρ) (fun r => RDat.FramePost cfg0 (rdat m A I) (V m) r ∧ r.2.sem = fun _ => 0) :=
  RDat.θ_run_frame_track cfgs 0 launch0 defs₀ Variants.none (rdat m A I) m ρ (main (F := F)) (body_obligation h) share_eq (fun _ _ => rfl) (V m)
    (hmain m Variants.none) (fun _ _ => rfl)
    (fun c => by
      unfold Pipeline.ΦA
      rw [show (Pipeline.scopedRest (cfgs 0).spec c : sProp 𝕄) = _ from scopedRest0_eq c]
      rw [show (rdat m A I c).Φ 0 = (iprop(∃ Z, ⌜I c 0 Z⌝ ∗ scrOwn c Z ∗ ∃ r, prngReg c r) : sProp 𝕄) from rfl]
      iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hp⟩
      iexists (⟨f0, f1, f2, f3, f4, f5, f6, f7, f8⟩ : Scr F)
      isplitr; · ipureintro; exact h0 c _
      isplitr [Hp]
      · unfold scrOwn
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · iexact Hp)
    (fun c => by
      unfold Pipeline.ΦA
      rw [show (Pipeline.scopedRest (cfgs 0).spec c : sProp 𝕄) = _ from scopedRest0_eq c]
      rw [show (rdat m A I c).Φ (Fin.last (cfgs 0).N) = (iprop(∃ Z, ⌜I c cfg0.N Z⌝ ∗ scrOwn c Z ∗ ∃ r, prngReg c r) : sProp 𝕄) from rfl]
      unfold scrOwn
      iintro ⟨%Z, -, ⟨H0, H1, H2, H3, H4, H5, H6, H7, H8⟩, Hp⟩
      isplitr [Hp]
      ·
        isplitl [H0]; · iexists _; iexact H0
        isplitl [H1]; · iexists _; iexact H1
        isplitl [H2]; · iexists _; iexact H2
        isplitl [H3]; · iexists _; iexact H3
        isplitl [H4]; · iexists _; iexact H4
        isplitl [H5]; · iexists _; iexact H5
        isplitl [H6]; · iexists _; iexact H6
        isplitl [H7]; · iexists _; iexact H7
        iexists _; iexact H8
      · iexact Hp)
    _ (fun _ h => h)

end Cert.Kernel.Body
-- ==== Proof.BitsKeep.lean ====
/- The body writes no input. -/
module

public import proofs.«01_k».proof.Proof.BitsRuns

@[expose] public section

noncomputable section

namespace Cert.Kernel.Body

open Idealize.ShloMosaic Idealize.SL.Sem Cert.Kernel Cert.Kernel.Gen Proof.Tri

variable {F : FTy → Type} [FloatOps F]

theorem emitS_keep (i : grid0.Coords) (h3 : k0_cond3 i = 1#1) (s : Vec F S128x128 .f32) (t : Nat) (ht : t < 18) (X : Sta F) {k : Fin 23}
    (hk : k ≠ 7 ∧ k ≠ 12 ∧ k ≠ 19 ∧ k ≠ 20 ∧ k ≠ 21) : emitS i h3 s t ht X k = X k := by
  obtain ⟨h7, h12, h19, h20, h21⟩ := hk
  unfold emitS
  simp only [Function.update_of_ne, h7, h12, h19, h20, h21, ne_eq, not_false_iff]

theorem rowS_keep (inv : FVec F S128x128 .f32) (t : Nat) (ht : t < 18) (X : Sta F) {k : Fin 23} (hk : k ≠ 10) : rowS inv t ht X k = X k := by
  unfold rowS
  simp only [Function.update_of_ne, hk, ne_eq, not_false_iff]

theorem redS_keep (i : grid0.Coords) (h4 : k0_cond4 i = 1#1) (r : Vec F S128x128 .f32) (t : Nat) (ht : t < 18) (X : Sta F) {k : Fin 23}
    (hk : k ≠ 8 ∧ k ≠ 9 ∧ k ≠ 14 ∧ k ≠ 15) : redS i h4 r t ht X k = X k := by
  obtain ⟨h8, h9, h14, h15⟩ := hk
  unfold redS
  simp only [Function.update_of_ne, h8, h9, h14, h15, ne_eq, not_false_iff]

theorem scaleS_keep (t : Nat) (ht : t < 8) (X : Sta F) {k : Fin 23} (hk : k ≠ 11) : scaleS t ht X k = X k := by
  unfold scaleS
  simp only [Function.update_of_ne, hk, ne_eq, not_false_iff]

theorem tilesS_keep {f : (t : Nat) → t < 18 → Sta F → Sta F} {k : Fin 23} (hf : ∀ (t : Nat) (ht : t < 18) (X : Sta F), f t ht X k = X k) :
    ∀ (n : Nat) (hn : n ≤ 18) (X : Sta F), tilesS f n hn X k = X k
  | 0, _, _ => rfl
  | n + 1, hn, X => (hf n (by omega) _).trans (tilesS_keep hf n (by omega) X)

theorem scalesS_keep {k : Fin 23} (hk : k ≠ 11) : ∀ (n : Nat) (hn : n ≤ 8) (X : Sta F), scalesS n hn X k = X k
  | 0, _, _ => rfl
  | n + 1, hn, X => (scaleS_keep n (by omega) _ hk).trans (scalesS_keep hk n (by omega) X)

theorem reg1S_keep (X : Sta F) {k : Fin 23} (hk : k ≠ 8 ∧ k ≠ 20) : reg1S X k = X k := by
  obtain ⟨h1, h2⟩ := hk
  unfold reg1S
  simp only [Function.update_of_ne, h1, h2, ne_eq, not_false_iff]

theorem reg2S_keep (i : grid0.Coords) (h2 : k0_cond2 i = 1#1) (X : Sta F) {k : Fin 23} (hk : k ≠ 16 ∧ k ≠ 18) : reg2S i h2 X k = X k := by
  obtain ⟨ha, hb⟩ := hk
  unfold reg2S
  simp only [Function.update_of_ne, ha, hb, ne_eq, not_false_iff]

theorem reg3S_keep (i : grid0.Coords) (h3 : k0_cond3 i = 1#1) (X : Sta F) {k : Fin 23}
    (hk : k ≠ 7 ∧ k ≠ 12 ∧ k ≠ 19 ∧ k ≠ 20 ∧ k ≠ 21) (h10 : k ≠ 10) (h22 : k ≠ 22) : reg3S i h3 X k = X k := by
  unfold reg3S
  rw [tilesS_keep (fun t ht X => rowS_keep _ t ht X h10), Function.update_of_ne h22, tilesS_keep (fun t ht X => emitS_keep i h3 _ t ht X hk)]

theorem reg4S_keep (i : grid0.Coords) (h4 : k0_cond4 i = 1#1) (X : Sta F) {k : Fin 23}
    (hk : k ≠ 8 ∧ k ≠ 9 ∧ k ≠ 14 ∧ k ≠ 15) (h18 : k ≠ 18) : reg4S i h4 X k = X k := by
  unfold reg4S
  rw [Function.update_of_ne h18, tilesS_keep (fun t ht X => redS_keep i h4 _ t ht X hk)]

theorem reg5S_keep (X : Sta F) {k : Fin 23} (hk : k ≠ 17) : reg5S X k = X k := by
  unfold reg5S
  simp only [Function.update_of_ne, hk, ne_eq, not_false_iff]

theorem reg7S_keep (i : grid0.Coords) (h7 : k0_cond7 i = 1#1) (X : Sta F) {k : Fin 23} (hk : k ≠ 13) : reg7S i h7 X k = X k := by
  unfold reg7S
  simp only [Function.update_of_ne, hk, ne_eq, not_false_iff]

theorem dite_keep {P : Prop} [Decidable P] {g : P → Sta F} {X : Sta F} {k : Fin 23} (hg : ∀ h : P, g h k = X k) :
    (if h : P then g h else X) k = X k := by
  by_cases h : P
  · rw [dif_pos h]; exact hg h
  · rw [dif_neg h]

/-- The inputs are left as they were. -/
theorem bodyS_in (i : grid0.Coords) (X : Sta F) (k : Fin 23) (hk : k.val < 7) : bodyS i X k = X k := by
  have ne (n : Fin 23) (hn : 7 ≤ n.val) : k ≠ n := fun e => by subst e; omega
  unfold bodyS
  rw [dite_keep (fun h => reg7S_keep i h _ (ne 13 (by decide))), dite_keep (fun h => scalesS_keep (ne 11 (by decide)) _ _ _),
    dite_keep (fun h => reg5S_keep _ (ne 17 (by decide))),
    dite_keep (fun h => reg4S_keep i h _ ⟨ne 8 (by decide), ne 9 (by decide), ne 14 (by decide), ne 15 (by decide)⟩ (ne 18 (by decide))),
    dite_keep (fun h => reg3S_keep i h _ ⟨ne 7 (by decide), ne 12 (by decide), ne 19 (by decide), ne 20 (by decide), ne 21 (by decide)⟩ (ne 10 (by decide)) (ne 22 (by decide))),
    dite_keep (fun h => reg2S_keep i h _ ⟨ne 16 (by decide), ne 18 (by decide)⟩),
    dite_keep (fun h => reg1S_keep _ ⟨ne 8 (by decide), ne 20 (by decide)⟩)]

end Cert.Kernel.Body
-- ==== Proof.BitsFrames.lean ====
/- The frame of the kernel: nothing is asked of the outputs nor of the scratch. -/
module

public import proofs.«01_k».proof.Proof.BitsRun
public import proofs.«01_k».proof.Proof.BitsKeep

@[expose] public section

set_option maxRecDepth 16384

noncomputable section

namespace Cert.Kernel.Body

open Idealize.ShloMosaic Idealize.SL Idealize.SL.RA Idealize.SL.Sem Cert.Kernel Cert.Kernel.Gen Proof.Tri
open Idealize.ShloMosaic.Pipeline (RDat)
open TcCoe

variable {F : FTy → Type} [FloatOps F]
variable (m : (ℓ : Loc nD τ sig) → Buf (Elt F) ℓ) (ρ : Dev nD → PrngReg)

/-- The inputs among the windows are left as they were. -/
theorem winOf_in (i : grid0.Coords) (Y : Win F) (Z : Scr F) : ∀ w : Fin 14, (cfg0.win w).isOut = false → winOf (bodyS i (join Y Z)) w = Y w
  | 0, _ => bodyS_in i _ 0 (by decide)
  | 1, _ => bodyS_in i _ 1 (by decide)
  | 2, _ => bodyS_in i _ 2 (by decide)
  | 3, _ => bodyS_in i _ 3 (by decide)
  | 4, _ => bodyS_in i _ 4 (by decide)
  | 5, _ => bodyS_in i _ 5 (by decide)
  | 6, _ => bodyS_in i _ 6 (by decide)
  | 7, h => absurd h (by decide)
  | 8, h => absurd h (by decide)
  | 9, h => absurd h (by decide)
  | 10, h => absurd h (by decide)
  | 11, h => absurd h (by decide)
  | 12, h => absurd h (by decide)
  | 13, h => absurd h (by decide)

/-- The arguments after a run are those before it. -/
theorem args_of {A : Dev nD → (w : Fin 14) → Fin cfg0.N → ((cfg0.win w).block.Idx → Elt F (cfg0.win w).elt) → Prop} {I : Dev nD → Nat → Scr F → Prop}
    {r : PUnit × MemSt nD τ sig (Elt F)} (h : RDat.FramePost cfg0 (rdat m A I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    (RDat.FramePost.arr_in h c 6 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- The kernel runs, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => args_of m h.1 c, h.2⟩)
    (run (m := m) (A := fun _ _ _ _ => True) (I := fun _ _ _ => True) ρ
      (fun c t Y Z _ _ => ⟨trivial, fun w => ⟨winOf_in _ Y Z w, trivial⟩⟩) fun _ _ => trivial)

end Cert.Kernel.Body
-- ==== Proof.Finite.lean ====
/- What the precondition says: every factor is a real number. -/
module

public import proofs.«01_k».proof.Pre_finite
public import Idealize.ShloMosaic.Lib.ReduceAll
public import Idealize.ShloMosaic.Lib.WordCmp
public import Idealize.ShloMosaic.Lib.IdealHost
public import Idealize.ShloMosaic.Lib.Pointwise

@[expose] public section

noncomputable section

namespace Cert.Pre_finite

open Idealize.ShloMosaic

/-- The side conditions of the precondition's program. -/
theorem facts : Facts where
  bcast_S_S2x3072 := by decide
  reducesTo_S2x3072_S_d0_1 := by decide
  h_S_ := by decide
  bcast_S_S18432 := by decide
  reducesTo_S18432_S_d0 := by decide
  bcast_S_S2x3072x18432 := by decide
  reducesTo_S2x3072x18432_S_d0_1_2 := by decide

instance : Facts := facts

theorem and_one {a b : BitVec 1} (h : IntOp.andi a b = 1#1) : a = 1#1 ∧ b = 1#1 := by
  revert a b; decide

theorem andi_at' {s : Shape} {w : Nat} (x y : IVec s w) (i : s.Idx) : andi x y i = IntOp.andi (x i) (y i) := rfl

theorem inf_f32 : Ideal.ofBits .f32 0x7F800000#32 = (⊤ : EReal) := by simp [Ideal.ofBits, Ideal.ieee]
theorem inf_bf16 : Ideal.ofBits .bf16 0x7F80#16 = (⊤ : EReal) := by simp [Ideal.ofBits, Ideal.ieee]

theorem real_of {x : EReal} (h : BitVec.ofBool (decide (max x (-x) < ⊤)) = 1#1) : ∃ y : ℝ, x = (y : EReal) := by
  have h' : max x (-x) < ⊤ := by
    by_contra hn
    rw [decide_eq_false hn] at h
    exact absurd h (by decide)
  induction x using EReal.rec with
  | bot => simp at h'
  | coe y => exact ⟨y, rfl⟩
  | top => simp at h'

theorem real_f32 {s : Shape} {hb : S_.BroadcastsInDim s (![] : Fin 0 → Fin s.rank)} (x : FVec Ideal s .f32) (i : s.Idx)
    (h : cmpf .olt (Host.absf x) (broadcastInDim s ![] hb (constant S_ .f32 0x7F800000#32)) i = 1#1) : ∃ y : ℝ, (x i : EReal) = (y : EReal) := by
  have h' : BitVec.ofBool (decide (max (x i : EReal) (-(x i : EReal)) < Ideal.ofBits .f32 0x7F800000#32)) = 1#1 := h
  rw [inf_f32] at h'
  exact real_of h'

theorem real_bf16 {s : Shape} {hb : S_.BroadcastsInDim s (![] : Fin 0 → Fin s.rank)} (x : FVec Ideal s .bf16) (i : s.Idx)
    (h : cmpf .olt (Host.absf x) (broadcastInDim s ![] hb (constant S_ .bf16 0x7F80#16)) i = 1#1) : ∃ y : ℝ, (x i : EReal) = (y : EReal) := by
  have h' : BitVec.ofBool (decide (max (x i : EReal) (-(x i : EReal)) < Ideal.ofBits .bf16 0x7F80#16)) = 1#1 := h
  rw [inf_bf16] at h'
  exact real_of h'

theorem reals [hF : Facts] {a0 a3 a4 a5 a6 : FVec Ideal S2x3072x18432 .bf16} {a1 : FVec Ideal S2x3072 .f32} {a2 : FVec Ideal S18432 .f32}
    (h : fn (F := Ideal) a0 a1 a2 a3 a4 a5 a6 = fun _ => 1#1) :
    (∀ i, ∃ y : ℝ, (a1 i : EReal) = (y : EReal)) ∧ (∀ i, ∃ y : ℝ, (a2 i : EReal) = (y : EReal)) ∧ (∀ i, ∃ y : ℝ, (a0 i : EReal) = (y : EReal))
      ∧ (∀ i, ∃ y : ℝ, (a4 i : EReal) = (y : EReal)) ∧ (∀ i, ∃ y : ℝ, (a5 i : EReal) = (y : EReal)) ∧ (∀ i, ∃ y : ℝ, (a6 i : EReal) = (y : EReal)) := by
  have e := congrFun h ix0
  unfold fn fn_part1 at e
  simp only [andi_at'] at e
  obtain ⟨e, h6⟩ := and_one e
  obtain ⟨e, h5⟩ := and_one e
  obtain ⟨e, h4⟩ := and_one e
  obtain ⟨e, h0⟩ := and_one e
  obtain ⟨h1, h2⟩ := and_one e
  exact ⟨fun i => real_f32 a1 i (Host.reduce_andi_all _ _ _ _ _ h1 i), fun i => real_f32 a2 i (Host.reduce_andi_all _ _ _ _ _ h2 i),
    fun i => real_bf16 a0 i (Host.reduce_andi_all _ _ _ _ _ h0 i), fun i => real_bf16 a4 i (Host.reduce_andi_all _ _ _ _ _ h4 i),
    fun i => real_bf16 a5 i (Host.reduce_andi_all _ _ _ _ _ h5 i), fun i => real_bf16 a6 i (Host.reduce_andi_all _ _ _ _ _ h6 i)⟩

end Cert.Pre_finite
-- ==== Proof.Pay.lean ====
/- What the kernel's payloads are, element by element, over the extended reals. -/
module

public import proofs.«01_k».proof.Proof.Runs
public import Idealize.ShloMosaic.Lib.Pointwise

@[expose] public section

set_option maxRecDepth 16384

noncomputable section

namespace Cert.KernelIdeal.Body

open Idealize.ShloMosaic Idealize.SL.Sem Cert.KernelIdeal Cert.KernelIdeal.Gen

theorem pay308_at (r : Vec Ideal S128x128 .f32) (q k v x : Vec Ideal S128x128 .bf16) (a b : Fin 128) :
    k0_pay308 r q k v x (ix2 a b) = (q (ix2 a b) + k (ix2 a b) + v (ix2 a b)) * r (ix2 a b) * x (ix2 a b) := by
  pointwise [k0_pay308, k0_pay307, k0_pay306, k0_pay305, k0_pay304, k0_pay303]

theorem pay309_at (r : Vec Ideal S128x128 .f32) (q k v : Vec Ideal S128x128 .bf16) (a b : Fin 128) :
    k0_pay309 r q k v (ix3 0 a b) = (q (ix2 a b) + k (ix2 a b) + v (ix2 a b)) * r (ix2 a b) := by
  pointwise [k0_pay309, k0_pay307]

theorem pay310_at (x : Vec Ideal S128x128 .bf16) (a b : Fin 128) : k0_pay310 x (ix3 0 a b) = x (ix2 a b) := by
  pointwise [k0_pay310, k0_pay306]

theorem pay311_at (r : Vec Ideal S128x128 .f32) (q k v x : Vec Ideal S128x128 .bf16) (b : Fin 128) :
    k0_pay311 r q k v x (ix2 0 b) = ∑ a : Fin 128, (q (ix2 a b) + k (ix2 a b) + v (ix2 a b)) * r (ix2 a b) * x (ix2 a b) := by
  pointwise [k0_pay311, k0_pay308, k0_pay307, k0_pay306]

theorem pay314_at (p : FVec Ideal S1x128 .f32) (s : Fin 8) (b : Fin 128) : k0_pay314 (k0_pay313 p) (ix3 0 s b) = p (ix2 0 b) := by
  pointwise [k0_pay314, k0_pay313]

theorem pay316_at (p : FVec Ideal S1x128 .f32) (g : Vec Ideal S1x128 .f32) (b : Fin 128) : k0_pay316 p g (ix2 0 b) = g (ix2 0 b) + p (ix2 0 b) := by
  pointwise [k0_pay316]

theorem pay317_at (c : Vec Ideal S128x128 .f32) (p : FVec Ideal S128x128 .f32) (g : Vec Ideal S1x128 .f32) (a b : Fin 128) :
    k0_pay317 c p g (ix2 a b) = c (ix2 a b) + p (ix2 a b) * g (ix2 0 b) := by
  pointwise [k0_pay317]

theorem pay7_at (c r : Vec Ideal S128x128 .f32) (a b : Fin 128) :
    k0_pay7 c r (ix2 a b) = r (ix2 a b) * ((∑ l : Fin 128, c (ix2 a l)) * ((1 / 18432 : ℝ) : EReal)) * r (ix2 a b) := by
  pointwise [k0_pay7]
  rw [IdealRules.named_const.ideal_named_scalar κ "inv_d" _ ((1 / 18432 : ℝ) : EReal) rfl]

theorem pay11_at (s : Vec Ideal S128x128 .f32) (e : Vec Ideal S1x128x128 .f32) (g : Vec Ideal S1x128 .f32) (x : Vec Ideal S1x128x128 .bf16) (d : Vec Ideal S128x128 .bf16) (a b : Fin 128) :
    k0_pay11 s e g x d (ix2 a b) = e (ix3 0 a b) * g (ix2 0 b) - x (ix3 0 a b) * s (ix2 a b) + d (ix2 a b) := by
  pointwise [k0_pay11]

theorem pay12_at (s : Vec Ideal S128x128 .f32) (e : Vec Ideal S1x128x128 .f32) (g : Vec Ideal S1x128 .f32) (x : Vec Ideal S1x128x128 .bf16) (d : Vec Ideal S128x128 .bf16) (a b : Fin 128) :
    k0_pay12 s e g x d (ix2 a b) = k0_pay11 s e g x d (ix2 a b) := by
  pointwise [k0_pay12]

theorem pay13_at (s : Vec Ideal S128x128 .f32) (e : Vec Ideal S1x128x128 .f32) (g : Vec Ideal S1x128 .f32) (x : Vec Ideal S1x128x128 .bf16) (d : Vec Ideal S128x128 .bf16) (a b : Fin 128) :
    k0_pay13 s e g x d (ix2 a b) = k0_pay11 s e g x d (ix2 a b) := by
  pointwise [k0_pay13]

/-- The greatest of 128 numbers, from −∞. -/
def fmax (f : Fin 128 → EReal) : EReal := Finset.fold max (Ideal.ofBits FTy.f32 0xFF800000#32) f Finset.univ

/-- The 448th part of a number. -/
def part448 (a : EReal) : EReal := a * Ideal.ofBits FTy.f32 0x3B124925#32

/-- A number clipped to ±448. -/
def clip (a : EReal) : EReal := min (Ideal.ofBits FTy.f32 0x43E00000#32) (max (Ideal.ofBits FTy.f32 0xC3E00000#32) a)

/-- The absolute value. -/
abbrev eabs (a : EReal) : EReal := FloatOps.absf (F := Ideal) (φ := .f32) a

theorem pay15_at (s : Vec Ideal S128x128 .f32) (e : Vec Ideal S1x128x128 .f32) (g : Vec Ideal S1x128 .f32) (x : Vec Ideal S1x128x128 .bf16) (d : Vec Ideal S128x128 .bf16) (a : Fin 128) :
    k0_pay15 s e g x d (ix2 a 0) = fmax fun b => eabs (k0_pay11 s e g x d (ix2 a b)) := by
  pointwise [k0_pay15, k0_pay14]
  rfl

theorem pay16_at (s : Vec Ideal S128x128 .f32) (e : Vec Ideal S1x128x128 .f32) (g : Vec Ideal S1x128 .f32) (x : Vec Ideal S1x128x128 .bf16) (d : Vec Ideal S128x128 .bf16) (b : Fin 128) :
    k0_pay16 s e g x d (ix2 0 b) = part448 (fmax fun a => eabs (k0_pay11 s e g x d (ix2 a b))) := by
  pointwise [k0_pay16, k0_pay14]
  rfl

/-- One step of the bisection: `c` is added to the word if the float of the sum is still at most `u`. -/
def stepW (u : EReal) (c w : BitVec 32) : BitVec 32 := if Ideal.ofBits FTy.f32 (IntOp.addi w c) ≤ u then IntOp.addi w c else w

/-- The word of the scale of `u`: its exponent field up to 252, found from the top, plus one; 127 where the field is zero. -/
def wordOf (u : EReal) : BitVec 32 :=
  let f := stepW u 8388608#32 (stepW u 16777216#32 (stepW u 33554432#32 (stepW u 67108864#32 (stepW u 134217728#32 (stepW u 268435456#32 (stepW u 528482304#32 (stepW u 1056964608#32 0#32)))))))
  if f = 0#32 then 1065353216#32 else IntOp.addi f 8388608#32

/-- The step on vectors. -/
def stepV {s : Shape} (u : FVec Ideal s .f32) (c : BitVec 32) (w : IVec s 32) : IVec s 32 :=
  select (cmpf .oge u (bitcastToFloat .f32 (addi w (broadcast s c)))) (addi w (broadcast s c)) w

theorem stepV_at {s : Shape} (u : FVec Ideal s .f32) (c : BitVec 32) (w : IVec s 32) (y : s.Idx) : stepV u c w y = stepW (u y) c (w y) := by
  pointwise [stepV, stepW]

/-- The end of the bisection on vectors. -/
def endV {s : Shape} (w : IVec s 32) : IVec s 32 := select (cmpi .eq w (broadcast s 0#32)) (broadcast s 1065353216#32) (addi w (broadcast s 8388608#32))

theorem endV_at {s : Shape} (w : IVec s 32) (y : s.Idx) : endV w y = if w y = 0#32 then 1065353216#32 else IntOp.addi (w y) 8388608#32 := by
  pointwise [endV]
  by_cases h : w y = 0#32
  · rw [if_pos h, h]; rfl
  · rw [if_neg h]; simp only [Scalar.select, IntOp.cmpi, beq_eq_false_iff_ne.mpr h]; rfl

theorem pay17_eq (u : FVec Ideal S1x128 .f32) : k0_pay17 u = endV (stepV u 8388608#32 (stepV u 16777216#32 (stepV u 33554432#32 (stepV u 67108864#32 (stepV u 134217728#32 (stepV u 268435456#32 (stepV u 528482304#32 (stepV u 1056964608#32 (broadcast _ 0#32))))))))) := rfl

theorem pay17_at (u : FVec Ideal S1x128 .f32) (y : S1x128.Idx) : k0_pay17 u y = wordOf (u y) := by
  rw [pay17_eq, endV_at]
  simp only [stepV_at]
  rfl

theorem pay281_eq (u : Vec Ideal S128x128 .f32) : k0_pay281 (k0_pay279 u) (k0_pay280 u) 528482304#32 = endV (stepV (k0_pay279 u) 8388608#32 (stepV (k0_pay279 u) 16777216#32 (stepV (k0_pay279 u) 33554432#32 (stepV (k0_pay279 u) 67108864#32 (stepV (k0_pay279 u) 134217728#32 (stepV (k0_pay279 u) 268435456#32 (stepV (k0_pay279 u) 528482304#32 (stepV (k0_pay279 u) 1056964608#32 (broadcast _ 0#32))))))))) := rfl

theorem pay281_at (u : Vec Ideal S128x128 .f32) (y : S128x128.Idx) : k0_pay281 (k0_pay279 u) (k0_pay280 u) 528482304#32 y = wordOf (part448 (u y)) := by
  rw [pay281_eq, endV_at]
  simp only [stepV_at]
  rfl

/-- The scale of a greatest absolute value. -/
def scaleK (a : EReal) : EReal := Ideal.ofBits FTy.f32 (wordOf (part448 a))

/-- Its inverse. -/
def invK (a : EReal) : EReal := Ideal.ofBits FTy.f32 (IntOp.subi 2130706432#32 (wordOf (part448 a)))

theorem rowScale_at (v : Vec Ideal S128x128 .f32) (a b : Fin 128) : k0_pay284 (rowScale v) (ix3 0 a b) = scaleK (v (ix2 a b)) := by
  pointwise [rowScale, k0_pay284, k0_pay282, pay281_at]
  rfl

theorem rowCode_at (v : Vec Ideal S128x128 .f32) (t : Nat) (ht : t < 18) (d : Vec Ideal S128x128 .f32) (a b : Fin 128) :
    rowCode (rowInv v) t ht d (ix2 a b) = clip (d (ix2 a b) * invK (v (ix2 a ⟨t, by omega⟩))) := by
  pointwise [rowCode, rowInv, k0_pay283, pay281_at]
  rfl

theorem colScale_at (u : FVec Ideal S1x128 .f32) (s : Fin 8) (b : Fin 128) : k0_pay21 (k0_pay20 (F := Ideal) (k0_pay17 u)) (ix2 s b) = Ideal.ofBits FTy.f32 (wordOf (u (ix2 0 b))) := by
  pointwise [k0_pay21, k0_pay20, pay17_at]

theorem colCode_at (v : FVec Ideal S128x128 .f32) (u : FVec Ideal S1x128 .f32) (a b : Fin 128) :
    k0_pay23 v (k0_pay18 (k0_pay17 u) 2130706432#32) (ix2 a b) = clip (v (ix2 b a) * Ideal.ofBits FTy.f32 (IntOp.subi 2130706432#32 (wordOf (u (ix2 0 a))))) := by
  pointwise [k0_pay23, k0_pay18, pay17_at]
  rfl

theorem pay9_at (v : Vec Ideal S48x2304 .f32) (a : Fin 2304) (b : Fin 48) : k0_pay9 v (ix2 a b) = v (ix2 b a) := by
  pointwise [k0_pay9]

theorem pay8_at (v : Vec Ideal S1x128x18 .f32) (a : Fin 128) (b : Fin 18) : k0_pay8 v (ix2 a b) = v (ix3 0 a b) := by
  pointwise [k0_pay8]

theorem pay1_at (y : S1x18432.Idx) : k0_pay1 (F := Ideal) y = 0 := by
  pointwise [k0_pay1]

theorem pay3_at (y : S128x128.Idx) : k0_pay3 (F := Ideal) y = 0 := by
  pointwise [k0_pay3]

/-- The row of the column scales that block `n`'s emission writes. -/
theorem mask_cs (n : Fin 49) (h : 0 < n.val) (s : Fin 8) (b : Fin 128) : k0_pay22 (k0_pay19 (BitVec.ofNat 32 n.val)) (ix2 s b) = 1#1 ↔ s.val = (n.val - 1) % 8 := by
  pointwise [k0_pay22, k0_pay19]
  revert n s
  decide +kernel

/-- The row of the partial sums that block `n`'s reduction writes. -/
theorem mask_gp (n : Fin 49) (s : Fin 8) (b : Fin 128) : k0_pay315 (maskP (BitVec.ofNat 32 n.val)) (ix3 0 s b) = 1#1 ↔ s.val = n.val % 8 := by
  pointwise [k0_pay315, maskP, k0_pay312]
  revert n s
  decide +kernel

/-- The block's rstd, spread along the lanes. -/
theorem pay10_at (n : Fin 49) (u v : Vec Ideal S1x128 .f32) (a b : Fin 128) :
    k0_pay10 (BitVec.ofNat 32 n.val) u v (ix2 a b) = if n.val / 24 = 1 then v (ix2 0 a) else u (ix2 0 a) := by
  pointwise [k0_pay10]
  generalize v (ix2 0 a) = p
  generalize u (ix2 0 a) = q
  have h : ∀ n : Fin 49, Scalar.cmpi CmpIPredicate.eq
        (Scalar.select
          (Scalar.andi
            (Scalar.cmpi CmpIPredicate.ne
              (Scalar.subi (Scalar.extui (Scalar.cmpi CmpIPredicate.sgt (BitVec.ofNat 32 n.val) 0#32) : BitVec 32)
                (Scalar.extui (Scalar.cmpi CmpIPredicate.slt (BitVec.ofNat 32 n.val) 0#32)))
              (Scalar.subi (Scalar.extui (Scalar.cmpi CmpIPredicate.sgt 24#32 0#32))
                (Scalar.extui (Scalar.cmpi CmpIPredicate.slt 24#32 0#32))))
            (Scalar.cmpi CmpIPredicate.ne (Scalar.remsi (BitVec.ofNat 32 n.val) 24#32) 0#32))
          (Scalar.subi (Scalar.divsi (BitVec.ofNat 32 n.val) 24#32) 1#32) (Scalar.divsi (BitVec.ofNat 32 n.val) 24#32))
        1#32 = if n.val / 24 = 1 then 1#1 else 0#1 := by decide +kernel
  rw [h n]
  split
  · rfl
  · rfl

end Cert.KernelIdeal.Body
-- ==== Proof.Lines.lean ====
/- The reference's host lines, element by element. -/
module

public import proofs.«01_k».proof.Proof.Gen.ReferenceIdeal.Value
public import Idealize.ShloMosaic.Lib.StableHlo.ReadAt
public import Idealize.ShloMosaic.Lib.Pointwise

@[expose] public section

set_option maxRecDepth 16384

noncomputable section

namespace Cert.ReferenceIdeal.Read

open Idealize.ShloMosaic Idealize.SL.Sem Cert.ReferenceIdeal Cert.ReferenceIdeal.Gen
open TcCoe

section

variable {F : FTy → Type} [FloatOps F]

/-- The lines up to the gradient of the input. -/
abbrev headOps : List (HloOp τ sig (Elt F)) :=
  [ StableHlo.nullary main_cst (fun i => FloatOps.ofBits .f32 (lit0 (S252.rowMajor i))),
    StableHlo.nullary main_cst_0 (fun i => FloatOps.ofBits .f32 (lit1 (S252.rowMajor i))),
    StableHlo.reshape main_arg1 main_v0 (rfl : (.f32 : EltTy) = .f32) shapeCasts_S2x3072_S6144x1,
    StableHlo.reshape main_arg4 main_v1 (rfl : (.bf16 : EltTy) = .bf16) shapeCasts_S2x3072x18432_S6144x18432,
    StableHlo.unary main_v1 main_v2 ((extf .f32 · bitsLt_bf16_f32) : (⟨S6144x18432, .bf16⟩ : BufTy).Contents (Elt F) → (⟨S6144x18432, .f32⟩ : BufTy).Contents (Elt F)),
    StableHlo.reshape main_arg5 main_v3 (rfl : (.bf16 : EltTy) = .bf16) shapeCasts_S2x3072x18432_S6144x18432,
    StableHlo.unary main_v3 main_v4 ((extf .f32 · bitsLt_bf16_f32) : (⟨S6144x18432, .bf16⟩ : BufTy).Contents (Elt F) → (⟨S6144x18432, .f32⟩ : BufTy).Contents (Elt F)),
    StableHlo.binary main_v2 main_v4 main_v5 (addf : (⟨S6144x18432, .f32⟩ : BufTy).Contents (Elt F) → (⟨S6144x18432, .f32⟩ : BufTy).Contents (Elt F) → (⟨S6144x18432, .f32⟩ : BufTy).Contents (Elt F)),
    StableHlo.reshape main_arg6 main_v6 (rfl : (.bf16 : EltTy) = .bf16) shapeCasts_S2x3072x18432_S6144x18432,
    StableHlo.unary main_v6 main_v7 ((extf .f32 · bitsLt_bf16_f32) : (⟨S6144x18432, .bf16⟩ : BufTy).Contents (Elt F) → (⟨S6144x18432, .f32⟩ : BufTy).Contents (Elt F)),
    StableHlo.binary main_v5 main_v7 main_v8 (addf : (⟨S6144x18432, .f32⟩ : BufTy).Contents (Elt F) → (⟨S6144x18432, .f32⟩ : BufTy).Contents (Elt F) → (⟨S6144x18432, .f32⟩ : BufTy).Contents (Elt F)),
    StableHlo.reshape main_arg0 main_v9 (rfl : (.bf16 : EltTy) = .bf16) shapeCasts_S2x3072x18432_S6144x18432,
    StableHlo.unary main_v9 main_v10 ((extf .f32 · bitsLt_bf16_f32) : (⟨S6144x18432, .bf16⟩ : BufTy).Contents (Elt F) → (⟨S6144x18432, .f32⟩ : BufTy).Contents (Elt F)),
    StableHlo.unary main_v0 main_v11 (broadcastInDim S6144x18432 ![0, 1] bcast_S6144x1_S6144x18432_0_1 : (⟨S6144x1, .f32⟩ : BufTy).Contents (Elt F) → (⟨S6144x18432, .f32⟩ : BufTy).Contents (Elt F)),
    StableHlo.binary main_v10 main_v11 main_v12 (mulf : (⟨S6144x18432, .f32⟩ : BufTy).Contents (Elt F) → (⟨S6144x18432, .f32⟩ : BufTy).Contents (Elt F) → (⟨S6144x18432, .f32⟩ : BufTy).Contents (Elt F)),
    StableHlo.unary main_arg2 main_v13 (broadcastInDim S1x18432 ![1] bcast_S18432_S1x18432_1 : (⟨S18432, .f32⟩ : BufTy).Contents (Elt F) → (⟨S1x18432, .f32⟩ : BufTy).Contents (Elt F)),
    StableHlo.unary main_v13 main_v14 (broadcastInDim S6144x18432 ![0, 1] bcast_S1x18432_S6144x18432_0_1 : (⟨S1x18432, .f32⟩ : BufTy).Contents (Elt F) → (⟨S6144x18432, .f32⟩ : BufTy).Contents (Elt F)),
    StableHlo.binary main_v8 main_v14 main_v15 (mulf : (⟨S6144x18432, .f32⟩ : BufTy).Contents (Elt F) → (⟨S6144x18432, .f32⟩ : BufTy).Contents (Elt F) → (⟨S6144x18432, .f32⟩ : BufTy).Contents (Elt F)),
    StableHlo.binary main_v15 main_v12 main_v16 (mulf : (⟨S6144x18432, .f32⟩ : BufTy).Contents (Elt F) → (⟨S6144x18432, .f32⟩ : BufTy).Contents (Elt F) → (⟨S6144x18432, .f32⟩ : BufTy).Contents (Elt F)),
    StableHlo.nullary main_cst_1 (constant S_ .f32 0x00000000#32),
    StableHlo.binary main_v16 main_cst_1 main_v17 ((fun x v => Host.reduceAdd x v reducesTo_S6144x18432_S6144_d1 h_S_) : (⟨S6144x18432, .f32⟩ : BufTy).Contents (Elt F) → (⟨S_, .f32⟩ : BufTy).Contents (Elt F) → (⟨S6144, .f32⟩ : BufTy).Contents (Elt F)),
    StableHlo.unary main_v17 main_v18 (broadcastInDim S6144x1 ![0] bcast_S6144_S6144x1_0 : (⟨S6144, .f32⟩ : BufTy).Contents (Elt F) → (⟨S6144x1, .f32⟩ : BufTy).Contents (Elt F)),
    StableHlo.nullary main_cst_2 (constant S_ .f32 0x46900000#32),
    StableHlo.unary main_cst_2 main_v19 (broadcastInDim S6144x1 ![] bcast_S_S6144x1 : (⟨S_, .f32⟩ : BufTy).Contents (Elt F) → (⟨S6144x1, .f32⟩ : BufTy).Contents (Elt F)),
    StableHlo.binary main_v18 main_v19 main_v20 (Host.divf : (⟨S6144x1, .f32⟩ : BufTy).Contents (Elt F) → (⟨S6144x1, .f32⟩ : BufTy).Contents (Elt F) → (⟨S6144x1, .f32⟩ : BufTy).Contents (Elt F)),
    StableHlo.binary main_v8 main_v12 main_v21 (mulf : (⟨S6144x18432, .f32⟩ : BufTy).Contents (Elt F) → (⟨S6144x18432, .f32⟩ : BufTy).Contents (Elt F) → (⟨S6144x18432, .f32⟩ : BufTy).Contents (Elt F)),
    StableHlo.reshape main_v21 main_v22 (rfl : (.f32 : EltTy) = .f32) shapeCasts_S6144x18432_S2x24x128x18432,
    StableHlo.nullary main_cst_3 (constant S_ .f32 0x00000000#32),
    StableHlo.binary main_v22 main_cst_3 main_v23 ((fun x v => Host.reduceAdd x v reducesTo_S2x24x128x18432_S2x24x18432_d2 h_S_) : (⟨S2x24x128x18432, .f32⟩ : BufTy).Contents (Elt F) → (⟨S_, .f32⟩ : BufTy).Contents (Elt F) → (⟨S2x24x18432, .f32⟩ : BufTy).Contents (Elt F)),
    StableHlo.nullary main_cst_4 (constant S_ .f32 0x00000000#32),
    StableHlo.binary main_v23 main_cst_4 main_v24 ((fun x v => Host.reduceAdd x v reducesTo_S2x24x18432_S18432_d0_1 h_S_) : (⟨S2x24x18432, .f32⟩ : BufTy).Contents (Elt F) → (⟨S_, .f32⟩ : BufTy).Contents (Elt F) → (⟨S18432, .f32⟩ : BufTy).Contents (Elt F)),
    StableHlo.reshape main_v24 main_v25 (rfl : (.f32 : EltTy) = .f32) shapeCasts_S18432_S1x18432,
    StableHlo.unary main_v20 main_v26 (broadcastInDim S6144x18432 ![0, 1] bcast_S6144x1_S6144x18432_0_1 : (⟨S6144x1, .f32⟩ : BufTy).Contents (Elt F) → (⟨S6144x18432, .f32⟩ : BufTy).Contents (Elt F)),
    StableHlo.binary main_v12 main_v26 main_v27 (mulf : (⟨S6144x18432, .f32⟩ : BufTy).Contents (Elt F) → (⟨S6144x18432, .f32⟩ : BufTy).Contents (Elt F) → (⟨S6144x18432, .f32⟩ : BufTy).Contents (Elt F)),
    StableHlo.binary main_v15 main_v27 main_v28 (subf : (⟨S6144x18432, .f32⟩ : BufTy).Contents (Elt F) → (⟨S6144x18432, .f32⟩ : BufTy).Contents (Elt F) → (⟨S6144x18432, .f32⟩ : BufTy).Contents (Elt F)),
    StableHlo.unary main_v0 main_v29 (broadcastInDim S6144x18432 ![0, 1] bcast_S6144x1_S6144x18432_0_1 : (⟨S6144x1, .f32⟩ : BufTy).Contents (Elt F) → (⟨S6144x18432, .f32⟩ : BufTy).Contents (Elt F)),
    StableHlo.binary main_v29 main_v28 main_v30 (mulf : (⟨S6144x18432, .f32⟩ : BufTy).Contents (Elt F) → (⟨S6144x18432, .f32⟩ : BufTy).Contents (Elt F) → (⟨S6144x18432, .f32⟩ : BufTy).Contents (Elt F)),
    StableHlo.reshape main_arg3 main_v31 (rfl : (.bf16 : EltTy) = .bf16) shapeCasts_S2x3072x18432_S6144x18432,
    StableHlo.unary main_v31 main_v32 ((extf .f32 · bitsLt_bf16_f32) : (⟨S6144x18432, .bf16⟩ : BufTy).Contents (Elt F) → (⟨S6144x18432, .f32⟩ : BufTy).Contents (Elt F)),
    StableHlo.binary main_v30 main_v32 main_v33 (addf : (⟨S6144x18432, .f32⟩ : BufTy).Contents (Elt F) → (⟨S6144x18432, .f32⟩ : BufTy).Contents (Elt F) → (⟨S6144x18432, .f32⟩ : BufTy).Contents (Elt F)) ]

/-- The absolute values, row tiled. -/
abbrev absOps : List (HloOp τ sig (Elt F)) :=
  [ StableHlo.reshape main_v33 main_v34 (rfl : (.f32 : EltTy) = .f32) shapeCasts_S6144x18432_S6144x144x128,
    StableHlo.unary main_v34 main_v35 (Host.absf : (⟨S6144x144x128, .f32⟩ : BufTy).Contents (Elt F) → (⟨S6144x144x128, .f32⟩ : BufTy).Contents (Elt F)) ]

/-- The greatest absolute values, row tiled. -/
abbrev maxOps : List (HloOp τ sig (Elt F)) :=
  [ StableHlo.nullary main_cst_5 (constant S_ .f32 0xFF800000#32),
    StableHlo.binary main_v35 main_cst_5 main_v36 ((fun x v => Host.reduce FloatOps.maximumf x v reducesTo_S6144x144x128_S6144x144_d2 h_S_) : (⟨S6144x144x128, .f32⟩ : BufTy).Contents (Elt F) → (⟨S_, .f32⟩ : BufTy).Contents (Elt F) → (⟨S6144x144, .f32⟩ : BufTy).Contents (Elt F)) ]

/-- Their parts, row tiled. -/
abbrev partOps : List (HloOp τ sig (Elt F)) :=
  [ StableHlo.nullary main_cst_6 (constant S_ .f32 0x3B124925#32),
    StableHlo.unary main_cst_6 main_v37 (broadcastInDim S6144x144 ![] bcast_S_S6144x144 : (⟨S_, .f32⟩ : BufTy).Contents (Elt F) → (⟨S6144x144, .f32⟩ : BufTy).Contents (Elt F)),
    StableHlo.binary main_v36 main_v37 main_v38 (mulf : (⟨S6144x144, .f32⟩ : BufTy).Contents (Elt F) → (⟨S6144x144, .f32⟩ : BufTy).Contents (Elt F) → (⟨S6144x144, .f32⟩ : BufTy).Contents (Elt F)) ]

/-- The row comparisons. -/
abbrev cmpOps : List (HloOp τ sig (Elt F)) :=
  [ StableHlo.unary main_v38 main_v39 (broadcastInDim S6144x144x1 ![0, 1] bcast_S6144x144_S6144x144x1_0_1 : (⟨S6144x144, .f32⟩ : BufTy).Contents (Elt F) → (⟨S6144x144x1, .f32⟩ : BufTy).Contents (Elt F)),
    StableHlo.unary main_cst main_v40 (broadcastInDim S1x1x252 ![2] bcast_S252_S1x1x252_2 : (⟨S252, .f32⟩ : BufTy).Contents (Elt F) → (⟨S1x1x252, .f32⟩ : BufTy).Contents (Elt F)),
    StableHlo.unary main_v40 main_v41 (broadcastInDim S6144x144x252 ![0, 1, 2] bcast_S1x1x252_S6144x144x252_0_1_2 : (⟨S1x1x252, .f32⟩ : BufTy).Contents (Elt F) → (⟨S6144x144x252, .f32⟩ : BufTy).Contents (Elt F)),
    StableHlo.unary main_v39 main_v42 (broadcastInDim S6144x144x252 ![0, 1, 2] bcast_S6144x144x1_S6144x144x252_0_1_2 : (⟨S6144x144x1, .f32⟩ : BufTy).Contents (Elt F) → (⟨S6144x144x252, .f32⟩ : BufTy).Contents (Elt F)),
    StableHlo.binary main_v41 main_v42 main_v43 (cmpf .ogt : (⟨S6144x144x252, .f32⟩ : BufTy).Contents (Elt F) → (⟨S6144x144x252, .f32⟩ : BufTy).Contents (Elt F) → (⟨S6144x144x252, .i1⟩ : BufTy).Contents (Elt F)),
    StableHlo.nullary main_cst_7 (constant S_ .f32 0x7E800000#32) ]

/-- The absolute values, column tiled. -/
abbrev absOps6 : List (HloOp τ sig (Elt F)) :=
  [ StableHlo.reshape main_v54 main_v55 (rfl : (.f32 : EltTy) = .f32) shapeCasts_S6144x144x128_S6144x18432,
    StableHlo.reshape main_v33 main_v56 (rfl : (.f32 : EltTy) = .f32) shapeCasts_S6144x18432_S48x128x18432,
    StableHlo.unary main_v56 main_v57 (Host.absf : (⟨S48x128x18432, .f32⟩ : BufTy).Contents (Elt F) → (⟨S48x128x18432, .f32⟩ : BufTy).Contents (Elt F)) ]

/-- The greatest absolute values, column tiled. -/
abbrev maxOps6 : List (HloOp τ sig (Elt F)) :=
  [ StableHlo.nullary main_cst_14 (constant S_ .f32 0xFF800000#32),
    StableHlo.binary main_v57 main_cst_14 main_v58 ((fun x v => Host.reduce FloatOps.maximumf x v reducesTo_S48x128x18432_S48x18432_d1 h_S_) : (⟨S48x128x18432, .f32⟩ : BufTy).Contents (Elt F) → (⟨S_, .f32⟩ : BufTy).Contents (Elt F) → (⟨S48x18432, .f32⟩ : BufTy).Contents (Elt F)) ]

/-- Their parts, column tiled. -/
abbrev partOps6 : List (HloOp τ sig (Elt F)) :=
  [ StableHlo.nullary main_cst_15 (constant S_ .f32 0x3B124925#32),
    StableHlo.unary main_cst_15 main_v59 (broadcastInDim S48x18432 ![] bcast_S_S48x18432 : (⟨S_, .f32⟩ : BufTy).Contents (Elt F) → (⟨S48x18432, .f32⟩ : BufTy).Contents (Elt F)),
    StableHlo.binary main_v58 main_v59 main_v60 (mulf : (⟨S48x18432, .f32⟩ : BufTy).Contents (Elt F) → (⟨S48x18432, .f32⟩ : BufTy).Contents (Elt F) → (⟨S48x18432, .f32⟩ : BufTy).Contents (Elt F)) ]

/-- The column comparisons. -/
abbrev cmpOps6 : List (HloOp τ sig (Elt F)) :=
  [ StableHlo.unary main_v60 main_v61 (broadcastInDim S48x18432x1 ![0, 1] bcast_S48x18432_S48x18432x1_0_1 : (⟨S48x18432, .f32⟩ : BufTy).Contents (Elt F) → (⟨S48x18432x1, .f32⟩ : BufTy).Contents (Elt F)),
    StableHlo.unary main_cst_0 main_v62 (broadcastInDim S1x1x252 ![2] bcast_S252_S1x1x252_2 : (⟨S252, .f32⟩ : BufTy).Contents (Elt F) → (⟨S1x1x252, .f32⟩ : BufTy).Contents (Elt F)),
    StableHlo.unary main_v62 main_v63 (broadcastInDim S48x18432x252 ![0, 1, 2] bcast_S1x1x252_S48x18432x252_0_1_2 : (⟨S1x1x252, .f32⟩ : BufTy).Contents (Elt F) → (⟨S48x18432x252, .f32⟩ : BufTy).Contents (Elt F)),
    StableHlo.unary main_v61 main_v64 (broadcastInDim S48x18432x252 ![0, 1, 2] bcast_S48x18432x1_S48x18432x252_0_1_2 : (⟨S48x18432x1, .f32⟩ : BufTy).Contents (Elt F) → (⟨S48x18432x252, .f32⟩ : BufTy).Contents (Elt F)),
    StableHlo.binary main_v63 main_v64 main_v65 (cmpf .ogt : (⟨S48x18432x252, .f32⟩ : BufTy).Contents (Elt F) → (⟨S48x18432x252, .f32⟩ : BufTy).Contents (Elt F) → (⟨S48x18432x252, .i1⟩ : BufTy).Contents (Elt F)),
    StableHlo.nullary main_cst_16 (constant S_ .f32 0x7E800000#32) ]

theorem ops_split : (hostOps0 : List (HloOp τ sig (Elt F))) = headOps ++ (absOps ++ (maxOps ++ (partOps ++ cmpOps))) := by
  simp only [hostOps0, headOps, absOps, maxOps, partOps, cmpOps, List.cons_append, List.nil_append]

theorem ops_split6 : (hostOps0_6 : List (HloOp τ sig (Elt F))) = absOps6 ++ (maxOps6 ++ (partOps6 ++ cmpOps6)) := by
  simp only [hostOps0_6, absOps6, maxOps6, partOps6, cmpOps6, List.cons_append, List.nil_append]

end

variable (m : (ℓ : Loc nD τ sig) → Buf (Elt Ideal) ℓ) (c : Dev nD)

/-- The buffers after the gradient of the input. -/
def H : Valuation τ sig (Elt Ideal) := StableHlo.after headOps fun b => m (c, b)

/-- After the absolute values, row tiled. -/
def Ha : Valuation τ sig (Elt Ideal) := StableHlo.after absOps (H m c)

/-- After the greatest absolute values, row tiled. -/
def Hb : Valuation τ sig (Elt Ideal) := StableHlo.after maxOps (Ha m c)

/-- After their parts, row tiled. -/
def Hc : Valuation τ sig (Elt Ideal) := StableHlo.after partOps (Hb m c)

/-- After the first host line. -/
def U0 : Valuation τ sig (Elt Ideal) := StableHlo.after hostOps0 fun b => m (c, b)

/-- After the row scales. -/
def U1 : Valuation τ sig (Elt Ideal) := StableHlo.after hostOps0_3 (StableHlo.after hostOps0_2 (StableHlo.after hostOps0_1 (U0 m c)))

/-- After the row codes. -/
def U2 : Valuation τ sig (Elt Ideal) := StableHlo.after hostOps0_5 (StableHlo.after hostOps0_4 (U1 m c))

/-- After the column scales. -/
def U3 : Valuation τ sig (Elt Ideal) := StableHlo.after hostOps0_9 (StableHlo.after hostOps0_8 (StableHlo.after hostOps0_7 (StableHlo.after hostOps0_6 (U2 m c))))

/-- After the column codes. -/
def U4 : Valuation τ sig (Elt Ideal) := StableHlo.after hostOps0_12 (StableHlo.after hostOps0_11 (StableHlo.after hostOps0_10 (U3 m c)))

theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

theorem after_flat (l₀ l₁ l₂ l₃ l₄ l₅ l₆ l₇ l₈ l₉ l₁₀ l₁₁ l₁₂ : List (HloOp τ sig (Elt Ideal))) (V : Valuation τ sig (Elt Ideal)) :
    StableHlo.after (List.flatten [l₀, l₁, l₂, l₃, l₄, l₅, l₆, l₇, l₈, l₉, l₁₀, l₁₁, l₁₂]) V
      = StableHlo.after l₁₂ (StableHlo.after l₁₁ (StableHlo.after l₁₀ (StableHlo.after l₉ (StableHlo.after l₈ (StableHlo.after l₇ (StableHlo.after l₆ (StableHlo.after l₅
          (StableHlo.after l₄ (StableHlo.after l₃ (StableHlo.after l₂ (StableHlo.after l₁ (StableHlo.after l₀ V)))))))))))) := by
  simp only [List.flatten_cons, List.flatten_nil, List.append_nil, after_app]

theorem V_eq (b : Ref sig .tc) : V m c b = U4 m c (Proc.devRef .tc b) := by
  unfold U4 U3 U2 U1 U0
  exact congrFun (after_flat _ _ _ _ _ _ _ _ _ _ _ _ _ _) _

theorem U0_eq : U0 m c = StableHlo.after cmpOps (Hc m c) := by
  unfold U0 Hc Hb Ha H
  exact (congrArg (fun l => StableHlo.after l _) ops_split).trans ((after_app headOps _ _).trans ((after_app absOps _ _).trans ((after_app maxOps _ _).trans (after_app partOps cmpOps _))))

/-- After the absolute values, column tiled. -/
def Ua : Valuation τ sig (Elt Ideal) := StableHlo.after absOps6 (U2 m c)

/-- After the greatest absolute values, column tiled. -/
def Ub : Valuation τ sig (Elt Ideal) := StableHlo.after maxOps6 (Ua m c)

/-- After their parts, column tiled. -/
def Uc : Valuation τ sig (Elt Ideal) := StableHlo.after partOps6 (Ub m c)

/-- After the column comparisons. -/
def Ud : Valuation τ sig (Elt Ideal) := StableHlo.after cmpOps6 (Uc m c)

theorem U3_eq : U3 m c = StableHlo.after hostOps0_9 (StableHlo.after hostOps0_8 (StableHlo.after hostOps0_7 (Ud m c))) := by
  unfold U3 Ud Uc Ub Ua
  exact congrArg (fun V => StableHlo.after hostOps0_9 (StableHlo.after hostOps0_8 (StableHlo.after hostOps0_7 V)))
    ((congrArg (fun l => StableHlo.after l _) ops_split6).trans ((after_app absOps6 _ _).trans ((after_app maxOps6 _ _).trans (after_app partOps6 cmpOps6 _))))

theorem rowRed (f : S6144x144x128.Idx → EReal) (z : S_.Idx → EReal) (n : Fin 6144) (s : Fin 144) :
    Host.reduce (FloatOps.maximumf (F := Ideal) (φ := .f32)) f z reducesTo_S6144x144x128_S6144x144_d2 h_S_ (ix2 n s)
      = Finset.fold max (z (Shape.Idx.first h_S_)) (fun l : Fin 128 => f (ix3 n s l)) Finset.univ := by
  clean_types
  pointwise

theorem colRed (f : S48x128x18432.Idx → EReal) (z : S_.Idx → EReal) (n : Fin 48) (s : Fin 18432) :
    Host.reduce (FloatOps.maximumf (F := Ideal) (φ := .f32)) f z reducesTo_S48x128x18432_S48x18432_d1 h_S_ (ix2 n s)
      = Finset.fold max (z (Shape.Idx.first h_S_)) (fun l : Fin 128 => f (ix3 n l s)) Finset.univ := by
  clean_types
  pointwise

/-! The buffers read below, by stage and line. -/

def hv33 : S6144x18432.Idx → EReal := H m c (Proc.devRef .tc main_v33)
def hcst : S252.Idx → EReal := H m c (Proc.devRef .tc main_cst)
def hcst0 : S252.Idx → EReal := H m c (Proc.devRef .tc main_cst_0)
def hv23 : S2x24x18432.Idx → EReal := H m c (Proc.devRef .tc main_v23)
def hv25 : S1x18432.Idx → EReal := H m c (Proc.devRef .tc main_v25)
def hav34 : S6144x144x128.Idx → EReal := Ha m c (Proc.devRef .tc main_v34)
def hav35 : S6144x144x128.Idx → EReal := Ha m c (Proc.devRef .tc main_v35)
def hbv36 : S6144x144.Idx → EReal := Hb m c (Proc.devRef .tc main_v36)
def hcv38 : S6144x144.Idx → EReal := Hc m c (Proc.devRef .tc main_v38)
def u0v43 : S6144x144x252.Idx → BitVec 1 := U0 m c (Proc.devRef .tc main_v43)
def u1v48 : S6144x144.Idx → EReal := U1 m c (Proc.devRef .tc main_v48)
def u2v54 : S6144x144x128.Idx → EReal := U2 m c (Proc.devRef .tc main_v54)
def uav55 : S6144x18432.Idx → EReal := Ua m c (Proc.devRef .tc main_v55)
def uav56 : S48x128x18432.Idx → EReal := Ua m c (Proc.devRef .tc main_v56)
def uav57 : S48x128x18432.Idx → EReal := Ua m c (Proc.devRef .tc main_v57)
def ubv58 : S48x18432.Idx → EReal := Ub m c (Proc.devRef .tc main_v58)
def ucv60 : S48x18432.Idx → EReal := Uc m c (Proc.devRef .tc main_v60)
def udv65 : S48x18432x252.Idx → BitVec 1 := Ud m c (Proc.devRef .tc main_v65)
def u3v70 : S48x18432.Idx → EReal := U3 m c (Proc.devRef .tc main_v70)
def u4v80 : S18432x6144.Idx → EReal := U4 m c (Proc.devRef .tc main_v80)
def u4v79 : S18432x48.Idx → EReal := U4 m c (Proc.devRef .tc main_v79)
def u4v78 : S6144x18432.Idx → EReal := U4 m c (Proc.devRef .tc main_v78)
def u4v55 : S6144x18432.Idx → EReal := U4 m c (Proc.devRef .tc main_v55)
def u4v48 : S6144x144.Idx → EReal := U4 m c (Proc.devRef .tc main_v48)
def u4v23 : S2x24x18432.Idx → EReal := U4 m c (Proc.devRef .tc main_v23)
def u4v25 : S1x18432.Idx → EReal := U4 m c (Proc.devRef .tc main_v25)

end Cert.ReferenceIdeal.Read
-- ==== Proof.Read.lean ====
/- The reference's lines, element by element. -/
module

public import proofs.«01_k».proof.Proof.Lines
public import Idealize.ShloMosaic.Lib.StableHlo.ReadAt
public import Idealize.ShloMosaic.Lib.Pointwise

@[expose] public section

set_option maxRecDepth 16384

noncomputable section

namespace Cert.ReferenceIdeal.Read

open Idealize.ShloMosaic Idealize.SL.Sem Cert.ReferenceIdeal Cert.ReferenceIdeal.Gen
open TcCoe

variable (W : Valuation τ sig (Elt Ideal))

theorem r_v34 (n : Fin 6144) (s : Fin 144) (l : Fin 128) : (StableHlo.after absOps W (Proc.devRef .tc main_v34) : S6144x144x128.Idx → EReal) (ix3 n s l)
    = (W (Proc.devRef .tc main_v33) : S6144x18432.Idx → EReal) (ix2 n ⟨s.val * 128 + l.val, by omega⟩) := by
  after_reads_at

theorem r_v35 (n : Fin 6144) (s : Fin 144) (l : Fin 128) : (StableHlo.after absOps W (Proc.devRef .tc main_v35) : S6144x144x128.Idx → EReal) (ix3 n s l)
    = FloatOps.absf (F := Ideal) (φ := .f32) ((W (Proc.devRef .tc main_v33) : S6144x18432.Idx → EReal) (ix2 n ⟨s.val * 128 + l.val, by omega⟩)) := by
  after_reads_at

theorem r_v36 (n : Fin 6144) (s : Fin 144) : (StableHlo.after maxOps W (Proc.devRef .tc main_v36) : S6144x144.Idx → EReal) (ix2 n s)
    = Finset.fold max (Ideal.ofBits .f32 0xFF800000#32) (fun l : Fin 128 => (W (Proc.devRef .tc main_v35) : S6144x144x128.Idx → EReal) (ix3 n s l)) Finset.univ := by
  after_reads_simp
  exact rowRed _ _ n s

theorem r_v38 (n : Fin 6144) (s : Fin 144) : (StableHlo.after partOps W (Proc.devRef .tc main_v38) : S6144x144.Idx → EReal) (ix2 n s)
    = (FloatOps.mulf (F := Ideal) (φ := .f32) ((W (Proc.devRef .tc main_v36) : S6144x144.Idx → EReal) (ix2 n s)) (Ideal.ofBits .f32 0x3B124925#32) : EReal) := by
  after_reads_at

theorem r_v43 (n : Fin 6144) (s : Fin 144) (l : Fin 252) : (StableHlo.after cmpOps W (Proc.devRef .tc main_v43) : S6144x144x252.Idx → BitVec 1) (ix3 n s l)
    = FloatOps.cmpf (F := Ideal) (φ := .f32) .ogt ((W (Proc.devRef .tc main_cst) : S252.Idx → EReal) (ix1 l)) ((W (Proc.devRef .tc main_v38) : S6144x144.Idx → EReal) (ix2 n s)) := by
  after_reads_at

theorem r_cst7 : (StableHlo.after cmpOps W (Proc.devRef .tc main_cst_7) : S_.Idx → EReal) ix0 = (Ideal.ofBits .f32 0x7E800000#32 : EReal) := by
  after_reads_at

theorem r_v44 (n : Fin 6144) (s : Fin 144) (l : Fin 252) : (StableHlo.after hostOps0_1 W (Proc.devRef .tc main_v44) : S6144x144x252.Idx → EReal) (ix3 n s l)
    = Scalar.select ((W (Proc.devRef .tc main_v43) : S6144x144x252.Idx → BitVec 1) (ix3 n s l)) ((W (Proc.devRef .tc main_cst) : S252.Idx → EReal) (ix1 l)) ((W (Proc.devRef .tc main_cst_7) : S_.Idx → EReal) ix0) := by
  after_reads_at
  rfl

theorem r_v45 (n : Fin 6144) (s : Fin 144) : (StableHlo.after hostOps0_2 W (Proc.devRef .tc main_v45) : S6144x144.Idx → EReal) (ix2 n s)
    = Finset.fold min (Ideal.ofBits .f32 0x7F800000#32) (fun l : Fin 252 => (W (Proc.devRef .tc main_v44) : S6144x144x252.Idx → EReal) (ix3 n s l)) Finset.univ := by
  after_reads_at

theorem r_v47 (n : Fin 6144) (s : Fin 144) : (StableHlo.after hostOps0_2 W (Proc.devRef .tc main_v47) : S6144x144.Idx → BitVec 1) (ix2 n s)
    = FloatOps.cmpf (F := Ideal) (φ := .f32) .olt ((W (Proc.devRef .tc main_v38) : S6144x144.Idx → EReal) (ix2 n s)) (Ideal.ofBits .f32 0x00800000#32) := by
  after_reads_at

theorem r_cst10 : (StableHlo.after hostOps0_2 W (Proc.devRef .tc main_cst_10) : S_.Idx → EReal) ix0 = (Ideal.ofBits .f32 0x3F800000#32 : EReal) := by
  after_reads_at

theorem r_v48 (n : Fin 6144) (s : Fin 144) : (StableHlo.after hostOps0_3 W (Proc.devRef .tc main_v48) : S6144x144.Idx → EReal) (ix2 n s)
    = Scalar.select ((W (Proc.devRef .tc main_v47) : S6144x144.Idx → BitVec 1) (ix2 n s)) ((W (Proc.devRef .tc main_cst_10) : S_.Idx → EReal) ix0) ((W (Proc.devRef .tc main_v45) : S6144x144.Idx → EReal) (ix2 n s)) := by
  after_reads_at
  rfl

theorem r_v54 (n : Fin 6144) (s : Fin 144) (l : Fin 128) : (StableHlo.after hostOps0_5 (StableHlo.after hostOps0_4 W) (Proc.devRef .tc main_v54) : S6144x144x128.Idx → EReal) (ix3 n s l)
    = (min (Ideal.ofBits .f32 0x43E00000#32) (max (Ideal.ofBits .f32 0xC3E00000#32) (FloatOps.mulf (F := Ideal) (φ := .f32) ((W (Proc.devRef .tc main_v34) : S6144x144x128.Idx → EReal) (ix3 n s l)) (Ideal.div 1 ((W (Proc.devRef .tc main_v48) : S6144x144.Idx → EReal) (ix2 n s))))) : EReal) := by
  after_reads_at
  rfl

theorem r_v55 (n : Fin 6144) (k : Fin 18432) : (StableHlo.after absOps6 W (Proc.devRef .tc main_v55) : S6144x18432.Idx → EReal) (ix2 n k)
    = (W (Proc.devRef .tc main_v54) : S6144x144x128.Idx → EReal) (ix3 n ⟨k.val / 128, by omega⟩ ⟨k.val % 128, by omega⟩) := by
  after_reads_at

theorem r_v56 (b : Fin 48) (a : Fin 128) (k : Fin 18432) : (StableHlo.after absOps6 W (Proc.devRef .tc main_v56) : S48x128x18432.Idx → EReal) (ix3 b a k)
    = (W (Proc.devRef .tc main_v33) : S6144x18432.Idx → EReal) (ix2 ⟨b.val * 128 + a.val, by omega⟩ k) := by
  after_reads_at

theorem r_v57 (b : Fin 48) (a : Fin 128) (k : Fin 18432) : (StableHlo.after absOps6 W (Proc.devRef .tc main_v57) : S48x128x18432.Idx → EReal) (ix3 b a k)
    = FloatOps.absf (F := Ideal) (φ := .f32) ((W (Proc.devRef .tc main_v33) : S6144x18432.Idx → EReal) (ix2 ⟨b.val * 128 + a.val, by omega⟩ k)) := by
  after_reads_at

theorem r_v58 (n : Fin 48) (s : Fin 18432) : (StableHlo.after maxOps6 W (Proc.devRef .tc main_v58) : S48x18432.Idx → EReal) (ix2 n s)
    = Finset.fold max (Ideal.ofBits .f32 0xFF800000#32) (fun l : Fin 128 => (W (Proc.devRef .tc main_v57) : S48x128x18432.Idx → EReal) (ix3 n l s)) Finset.univ := by
  after_reads_simp
  exact colRed _ _ n s

theorem r_v60 (n : Fin 48) (s : Fin 18432) : (StableHlo.after partOps6 W (Proc.devRef .tc main_v60) : S48x18432.Idx → EReal) (ix2 n s)
    = (FloatOps.mulf (F := Ideal) (φ := .f32) ((W (Proc.devRef .tc main_v58) : S48x18432.Idx → EReal) (ix2 n s)) (Ideal.ofBits .f32 0x3B124925#32) : EReal) := by
  after_reads_at

theorem r_v65 (n : Fin 48) (s : Fin 18432) (l : Fin 252) : (StableHlo.after cmpOps6 W (Proc.devRef .tc main_v65) : S48x18432x252.Idx → BitVec 1) (ix3 n s l)
    = FloatOps.cmpf (F := Ideal) (φ := .f32) .ogt ((W (Proc.devRef .tc main_cst_0) : S252.Idx → EReal) (ix1 l)) ((W (Proc.devRef .tc main_v60) : S48x18432.Idx → EReal) (ix2 n s)) := by
  after_reads_at

theorem r_cst16 : (StableHlo.after cmpOps6 W (Proc.devRef .tc main_cst_16) : S_.Idx → EReal) ix0 = (Ideal.ofBits .f32 0x7E800000#32 : EReal) := by
  after_reads_at

theorem r_v66 (n : Fin 48) (s : Fin 18432) (l : Fin 252) : (StableHlo.after hostOps0_7 W (Proc.devRef .tc main_v66) : S48x18432x252.Idx → EReal) (ix3 n s l)
    = Scalar.select ((W (Proc.devRef .tc main_v65) : S48x18432x252.Idx → BitVec 1) (ix3 n s l)) ((W (Proc.devRef .tc main_cst_0) : S252.Idx → EReal) (ix1 l)) ((W (Proc.devRef .tc main_cst_16) : S_.Idx → EReal) ix0) := by
  after_reads_at
  rfl

theorem r_v67 (n : Fin 48) (s : Fin 18432) : (StableHlo.after hostOps0_8 W (Proc.devRef .tc main_v67) : S48x18432.Idx → EReal) (ix2 n s)
    = Finset.fold min (Ideal.ofBits .f32 0x7F800000#32) (fun l : Fin 252 => (W (Proc.devRef .tc main_v66) : S48x18432x252.Idx → EReal) (ix3 n s l)) Finset.univ := by
  after_reads_at

theorem r_v69 (n : Fin 48) (s : Fin 18432) : (StableHlo.after hostOps0_8 W (Proc.devRef .tc main_v69) : S48x18432.Idx → BitVec 1) (ix2 n s)
    = FloatOps.cmpf (F := Ideal) (φ := .f32) .olt ((W (Proc.devRef .tc main_v60) : S48x18432.Idx → EReal) (ix2 n s)) (Ideal.ofBits .f32 0x00800000#32) := by
  after_reads_at

theorem r_cst19 : (StableHlo.after hostOps0_8 W (Proc.devRef .tc main_cst_19) : S_.Idx → EReal) ix0 = (Ideal.ofBits .f32 0x3F800000#32 : EReal) := by
  after_reads_at

theorem r_v70 (n : Fin 48) (s : Fin 18432) : (StableHlo.after hostOps0_9 W (Proc.devRef .tc main_v70) : S48x18432.Idx → EReal) (ix2 n s)
    = Scalar.select ((W (Proc.devRef .tc main_v69) : S48x18432.Idx → BitVec 1) (ix2 n s)) ((W (Proc.devRef .tc main_cst_19) : S_.Idx → EReal) ix0) ((W (Proc.devRef .tc main_v67) : S48x18432.Idx → EReal) (ix2 n s)) := by
  after_reads_at
  rfl

theorem r_v79 (k : Fin 18432) (n : Fin 48) : (StableHlo.after hostOps0_12 W (Proc.devRef .tc main_v79) : S18432x48.Idx → EReal) (ix2 k n)
    = (W (Proc.devRef .tc main_v70) : S48x18432.Idx → EReal) (ix2 n k) := by
  after_reads_at

theorem r_v78 (n : Fin 6144) (k : Fin 18432) : (StableHlo.after hostOps0_12 W (Proc.devRef .tc main_v78) : S6144x18432.Idx → EReal) (ix2 n k)
    = (W (Proc.devRef .tc main_v33) : S6144x18432.Idx → EReal) (ix2 n k) := by
  after_reads_at

theorem r_v80 (k : Fin 18432) (n : Fin 6144) : (StableHlo.after hostOps0_12 (StableHlo.after hostOps0_11 (StableHlo.after hostOps0_10 W)) (Proc.devRef .tc main_v80) : S18432x6144.Idx → EReal) (ix2 k n)
    = (min (Ideal.ofBits .f32 0x43E00000#32) (max (Ideal.ofBits .f32 0xC3E00000#32) (FloatOps.mulf (F := Ideal) (φ := .f32) ((W (Proc.devRef .tc main_v56) : S48x128x18432.Idx → EReal) (ix3 ⟨n.val / 128, by omega⟩ ⟨n.val % 128, by omega⟩ k)) (Ideal.div 1 ((W (Proc.devRef .tc main_v70) : S48x18432.Idx → EReal) (ix2 ⟨n.val / 128, by omega⟩ k))))) : EReal) := by
  after_reads_at
  rfl

end Cert.ReferenceIdeal.Read
-- ==== Proof.Spec.lean ====
/- The computation as functions of the token and the channel. -/
module

public import proofs.«01_k».proof.Proof.Pay

@[expose] public section

noncomputable section

namespace Cert.KernelIdeal.Body

open Idealize.ShloMosaic

/-- The seven inputs, by token and channel. -/
structure Args where
  x : Nat → Nat → EReal
  q : Nat → Nat → EReal
  k : Nat → Nat → EReal
  v : Nat → Nat → EReal
  dr : Nat → Nat → EReal
  g : Nat → EReal
  r : Nat → EReal

namespace Args
variable (A : Args)

/-- The summed gradient times `rstd`. -/
def e (n k : Nat) : EReal := (A.q n k + A.k n k + A.v n k) * A.r n

/-- The summed gradient times the normalised input. -/
def p (n k : Nat) : EReal := A.e n k * A.x n k

/-- A block's part of `dgamma`. -/
def part (b k : Nat) : EReal := ∑ a : Fin 128, A.p (128 * b + a.val) k

/-- Lane `l`'s sum over the first `T` tiles. -/
def lane (n l : Nat) : Nat → EReal
  | 0 => 0
  | T + 1 => lane n l T + A.p n (128 * T + l) * A.g (128 * T + l)

/-- A token's correction. -/
def sN (n : Nat) : EReal := A.r n * ((∑ l : Fin 128, A.lane n l.val 144) * ((1 / 18432 : ℝ) : EReal)) * A.r n

/-- The gradient of the input. -/
def d (n k : Nat) : EReal := A.e n k * A.g k - A.x n k * A.sN n + A.dr n k

/-- The greatest absolute value of a token's block of channels. -/
def rmax (n c : Nat) : EReal := fmax fun l => eabs (A.d n (128 * c + l.val))

/-- The greatest absolute value of a channel's block of tokens. -/
def cmax (b k : Nat) : EReal := fmax fun a => eabs (A.d (128 * b + a.val) k)

/-- `dgamma` over the first `b` blocks. -/
def dg (k : Nat) : Nat → EReal
  | 0 => 0
  | b + 1 => dg k b + A.part b k

/-- The code in the row layout. -/
def rc (n k : Nat) : EReal := clip (A.d n k * invK (A.rmax n (k / 128)))

/-- The code in the column layout. -/
def cc (n k : Nat) : EReal := clip (A.d n k * invK (A.cmax (n / 128) k))

end Args

end Cert.KernelIdeal.Body
-- ==== Proof.Chain.lean ====
/- The reference's lines, element by element. -/
module

public import proofs.«01_k».proof.Proof.Read
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Read

open Idealize.ShloMosaic Idealize.SL.Sem Cert.ReferenceIdeal Cert.ReferenceIdeal.Gen
open TcCoe

variable (W : Valuation τ sig (Elt Ideal))

theorem cast1 (f : S18432.Idx → EReal) (k : Fin 18432) : shapeCast S1x18432 f shapeCasts_S18432_S1x18432 (ix2 0 k) = f (ix1 k) := by
  clean_types
  pointwise

theorem fiber01 (k : Fin 18432) (i : S2x24x18432.Idx) : reducesTo_S2x24x18432_S18432_d0_1.drop i = ix1 k ↔ ∃ p : Fin 2 × Fin 24, ix3 p.1 p.2 k = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl

theorem sum01 (f : S2x24x18432.Idx → EReal) (z : S_.Idx → EReal) (k : Fin 18432) :
    (Host.reduceAdd (F := Ideal) (φ := .f32) f z reducesTo_S2x24x18432_S18432_d0_1 h_S_ : S18432.Idx → EReal) (ix1 k)
      = z (Shape.Idx.first h_S_) + ∑ b : Fin 2, ∑ s : Fin 24, f (ix3 b s k) := by
  show z (Shape.Idx.first h_S_) + ∑ i ∈ Finset.univ.filter (fun i => reducesTo_S2x24x18432_S18432_d0_1.drop i = ix1 k), f i = _
  refine congrArg (fun t => z (Shape.Idx.first h_S_) + t) ?_
  refine (Finset.sum_filter_eq_sum_of_fiber _ (fun p : Fin 2 × Fin 24 => ix3 p.1 p.2 k)
    (fun _ _ e => Prod.ext (congrFun e 0) (congrFun e 1)) (fiber01 k) f).trans ?_
  rw [Fintype.sum_prod_type]

theorem h_v25 (k : Fin 18432) : (StableHlo.after headOps W (Proc.devRef .tc main_v25) : S1x18432.Idx → EReal) (ix2 0 k)
    = (Ideal.ofBits .f32 0x00000000#32 + ∑ b : Fin 2, ∑ s : Fin 24, (show EReal from (StableHlo.after headOps W (Proc.devRef .tc main_v23) : S2x24x18432.Idx → EReal) (ix3 b s k)) : EReal) := by
  after_reads_simp
  exact (cast1 _ k).trans (sum01 _ _ k)

/-! What later lines keep. -/

theorem k38 : StableHlo.after hostOps0_1 (StableHlo.after cmpOps W) (Proc.devRef .tc main_v38) = W (Proc.devRef .tc main_v38) := by
  after_reads_simp

theorem kcst : StableHlo.after cmpOps W (Proc.devRef .tc main_cst) = W (Proc.devRef .tc main_cst) := by
  after_reads_simp

theorem kcst' : StableHlo.after partOps (StableHlo.after maxOps (StableHlo.after absOps W)) (Proc.devRef .tc main_cst) = W (Proc.devRef .tc main_cst) := by
  after_reads_simp

theorem k60 : StableHlo.after hostOps0_7 (StableHlo.after cmpOps6 W) (Proc.devRef .tc main_v60) = W (Proc.devRef .tc main_v60) := by
  after_reads_simp

theorem kcst0 : StableHlo.after cmpOps6 W (Proc.devRef .tc main_cst_0) = W (Proc.devRef .tc main_cst_0) := by
  after_reads_simp

theorem kcst0' : StableHlo.after partOps6 (StableHlo.after maxOps6 (StableHlo.after absOps6 W)) (Proc.devRef .tc main_cst_0) = W (Proc.devRef .tc main_cst_0) := by
  after_reads_simp

/-- The scale of a number by a table of powers. -/
def refScale (T : Fin 252 → EReal) (u : EReal) : EReal :=
  Scalar.select (FloatOps.cmpf (F := Ideal) (φ := .f32) .olt u (Ideal.ofBits .f32 0x00800000#32)) (Ideal.ofBits .f32 0x3F800000#32)
    (Finset.fold min (Ideal.ofBits .f32 0x7F800000#32) (fun l : Fin 252 => Scalar.select (FloatOps.cmpf (F := Ideal) (φ := .f32) .ogt (T l) u) (T l) (Ideal.ofBits .f32 0x7E800000#32)) Finset.univ)

theorem rowPart (n : Fin 6144) (s : Fin 144) :
    (StableHlo.after partOps (StableHlo.after maxOps (StableHlo.after absOps W)) (Proc.devRef .tc main_v38) : S6144x144.Idx → EReal) (ix2 n s)
    = (FloatOps.mulf (F := Ideal) (φ := .f32) (Finset.fold max (Ideal.ofBits .f32 0xFF800000#32)
          (fun l : Fin 128 => FloatOps.absf (F := Ideal) (φ := .f32) ((W (Proc.devRef .tc main_v33) : S6144x18432.Idx → EReal) (ix2 n ⟨s.val * 128 + l.val, by omega⟩))) Finset.univ)
          (Ideal.ofBits .f32 0x3B124925#32) : EReal) := by
  rw [r_v38, r_v36]
  exact congrArg (fun F : Fin 128 → EReal => FloatOps.mulf (F := Ideal) (φ := .f32) (Finset.fold max (Ideal.ofBits .f32 0xFF800000#32) F Finset.univ) (Ideal.ofBits .f32 0x3B124925#32))
    (funext fun l => r_v35 W n s l)

theorem rowScale (n : Fin 6144) (s : Fin 144) :
    (StableHlo.after hostOps0_3 (StableHlo.after hostOps0_2 (StableHlo.after hostOps0_1 (StableHlo.after cmpOps (StableHlo.after partOps (StableHlo.after maxOps (StableHlo.after absOps W))))))
      (Proc.devRef .tc main_v48) : S6144x144.Idx → EReal) (ix2 n s)
    = refScale (fun l => (W (Proc.devRef .tc main_cst) : S252.Idx → EReal) (ix1 l))
        (FloatOps.mulf (F := Ideal) (φ := .f32) (Finset.fold max (Ideal.ofBits .f32 0xFF800000#32)
          (fun l : Fin 128 => FloatOps.absf (F := Ideal) (φ := .f32) ((W (Proc.devRef .tc main_v33) : S6144x18432.Idx → EReal) (ix2 n ⟨s.val * 128 + l.val, by omega⟩))) Finset.univ)
          (Ideal.ofBits .f32 0x3B124925#32)) := by
  rw [r_v48, r_v47, r_cst10, r_v45, k38, ← rowPart]
  refine congrArg (fun F : Fin 252 → EReal => Scalar.select (FloatOps.cmpf (F := Ideal) (φ := .f32) .olt _ (Ideal.ofBits .f32 0x00800000#32)) (Ideal.ofBits .f32 0x3F800000#32)
    (Finset.fold min (Ideal.ofBits .f32 0x7F800000#32) F Finset.univ)) (funext fun l => ?_)
  rw [r_v44, r_v43, r_cst7, kcst, kcst']

theorem colPart (n : Fin 48) (s : Fin 18432) :
    (StableHlo.after partOps6 (StableHlo.after maxOps6 (StableHlo.after absOps6 W)) (Proc.devRef .tc main_v60) : S48x18432.Idx → EReal) (ix2 n s)
    = (FloatOps.mulf (F := Ideal) (φ := .f32) (Finset.fold max (Ideal.ofBits .f32 0xFF800000#32)
          (fun l : Fin 128 => FloatOps.absf (F := Ideal) (φ := .f32) ((W (Proc.devRef .tc main_v33) : S6144x18432.Idx → EReal) (ix2 ⟨n.val * 128 + l.val, by omega⟩ s))) Finset.univ)
          (Ideal.ofBits .f32 0x3B124925#32) : EReal) := by
  rw [r_v60, r_v58]
  exact congrArg (fun F : Fin 128 → EReal => FloatOps.mulf (F := Ideal) (φ := .f32) (Finset.fold max (Ideal.ofBits .f32 0xFF800000#32) F Finset.univ) (Ideal.ofBits .f32 0x3B124925#32))
    (funext fun l => r_v57 W n l s)

theorem colScale (n : Fin 48) (s : Fin 18432) :
    (StableHlo.after hostOps0_9 (StableHlo.after hostOps0_8 (StableHlo.after hostOps0_7 (StableHlo.after cmpOps6 (StableHlo.after partOps6 (StableHlo.after maxOps6 (StableHlo.after absOps6 W))))))
      (Proc.devRef .tc main_v70) : S48x18432.Idx → EReal) (ix2 n s)
    = refScale (fun l => (W (Proc.devRef .tc main_cst_0) : S252.Idx → EReal) (ix1 l))
        (FloatOps.mulf (F := Ideal) (φ := .f32) (Finset.fold max (Ideal.ofBits .f32 0xFF800000#32)
          (fun l : Fin 128 => FloatOps.absf (F := Ideal) (φ := .f32) ((W (Proc.devRef .tc main_v33) : S6144x18432.Idx → EReal) (ix2 ⟨n.val * 128 + l.val, by omega⟩ s))) Finset.univ)
          (Ideal.ofBits .f32 0x3B124925#32)) := by
  rw [r_v70, r_v69, r_cst19, r_v67, k60, ← colPart]
  refine congrArg (fun F : Fin 252 → EReal => Scalar.select (FloatOps.cmpf (F := Ideal) (φ := .f32) .olt _ (Ideal.ofBits .f32 0x00800000#32)) (Ideal.ofBits .f32 0x3F800000#32)
    (Finset.fold min (Ideal.ofBits .f32 0x7F800000#32) F Finset.univ)) (funext fun l => ?_)
  rw [r_v66, r_v65, r_cst16, kcst0, kcst0']

/-! The gradients, by token and channel. -/

open Cert.KernelIdeal.Body (Args)

/-- A batched matrix as a function of the token and the channel. -/
def nat3 (f : S2x3072x18432.Idx → EReal) (n k : Nat) : EReal :=
  if h : n < 6144 ∧ k < 18432 then f (ix3 ⟨n / 3072, by omega⟩ ⟨n % 3072, by omega⟩ ⟨k, h.2⟩) else 0

theorem nat3_of (f : S2x3072x18432.Idx → EReal) {n k : Nat} (hn : n < 6144) (hk : k < 18432) :
    nat3 f n k = f (ix3 ⟨n / 3072, by omega⟩ ⟨n % 3072, by omega⟩ ⟨k, hk⟩) := dif_pos ⟨hn, hk⟩

/-- A batched column as a function of the token. -/
def nat1 (f : S2x3072.Idx → EReal) (n : Nat) : EReal := if h : n < 6144 then f (ix2 ⟨n / 3072, by omega⟩ ⟨n % 3072, by omega⟩) else 0

theorem nat1_of (f : S2x3072.Idx → EReal) {n : Nat} (hn : n < 6144) : nat1 f n = f (ix2 ⟨n / 3072, by omega⟩ ⟨n % 3072, by omega⟩) := dif_pos hn

/-- A row as a function of the channel. -/
def nat0 (f : S18432.Idx → EReal) (k : Nat) : EReal := if h : k < 18432 then f (ix1 ⟨k, h⟩) else 0

theorem nat0_of (f : S18432.Idx → EReal) {k : Nat} (hk : k < 18432) : nat0 f k = f (ix1 ⟨k, hk⟩) := dif_pos hk

/-- The inputs as functions of the token and the channel. -/
def inputs (x : S2x3072x18432.Idx → EReal) (r : S2x3072.Idx → EReal) (g : S18432.Idx → EReal) (dr q k v : S2x3072x18432.Idx → EReal) : Args where
  x := nat3 x
  q := nat3 q
  k := nat3 k
  v := nat3 v
  dr := nat3 dr
  g := nat0 g
  r := nat1 r

/-- The inputs the lines read. -/
def rArgs : Args :=
  inputs (W (Proc.devRef .tc main_arg0)) (W (Proc.devRef .tc main_arg1)) (W (Proc.devRef .tc main_arg2)) (W (Proc.devRef .tc main_arg3))
    (W (Proc.devRef .tc main_arg4)) (W (Proc.devRef .tc main_arg5)) (W (Proc.devRef .tc main_arg6))

/-- The mean the correction takes. -/
def refc (A : Args) (n : Nat) : EReal :=
  Ideal.div (∑ x : Fin 18432, (A.q n x.val + A.k n x.val + A.v n x.val) * A.g x.val * (A.x n x.val * A.r n)) (Ideal.ofBits .f32 1183842304#32)

/-- The gradient of the input. -/
def refd (A : Args) (n k : Nat) : EReal :=
  A.r n * ((A.q n k + A.k n k + A.v n k) * A.g k - A.x n k * A.r n * refc A n) + A.dr n k

/-- The summed gradient times the normalised input. -/
def refp (A : Args) (n k : Nat) : EReal := (A.q n k + A.k n k + A.v n k) * (A.x n k * A.r n)

theorem h_v33 (n : Fin 6144) (k : Fin 18432) : (StableHlo.after headOps W (Proc.devRef .tc main_v33) : S6144x18432.Idx → EReal) (ix2 n k)
    = (refd (rArgs W) n.val k.val : EReal) := by
  simp only [refd, refc, rArgs, inputs, nat3_of _ n.isLt k.isLt, nat3_of _ n.isLt (Fin.isLt _), nat1_of _ n.isLt, nat0_of _ k.isLt, nat0_of _ (Fin.isLt _)]
  after_reads_at

theorem h_v23 (b : Fin 2) (s : Fin 24) (k : Fin 18432) : (StableHlo.after headOps W (Proc.devRef .tc main_v23) : S2x24x18432.Idx → EReal) (ix3 b s k)
    = (∑ a : Fin 128, refp (rArgs W) (b.val * 3072 + s.val * 128 + a.val) k.val : EReal) := by
  have hn : ∀ a : Fin 128, b.val * 3072 + s.val * 128 + a.val < 6144 := fun a => by omega
  simp only [refp, rArgs, inputs, nat3_of _ (hn _) k.isLt, nat1_of _ (hn _)]
  after_reads_at

end Cert.ReferenceIdeal.Read
-- ==== Proof.Scale.lean ====
/- The two scales agree. -/
module

public import proofs.«01_k».proof.Proof.Pay
public import proofs.«01_k».proof.Proof.Chain

@[expose] public section

noncomputable section

namespace Cert.Join

open Idealize.ShloMosaic Cert.KernelIdeal.Body Cert.ReferenceIdeal.Read

/-- The power of two with an exponent field. -/
def pw (e : Nat) : EReal := Ideal.ofBits .f32 (BitVec.ofNat 32 (e * 8388608))

theorem pw_zero : pw 0 = 0 := by
  simp [pw, Ideal.ofBits, Ideal.ieee]

theorem toNat_field {e : Nat} (h : e < 512) : (BitVec.ofNat 32 (e * 8388608)).toNat = e * 8388608 := by
  rw [BitVec.toNat_ofNat, Nat.mod_eq_of_lt]
  calc e * 8388608 < 512 * 8388608 := Nat.mul_lt_mul_of_pos_right h (by norm_num)
    _ = 2 ^ 32 := by norm_num

theorem pw_eq {e : Nat} (h1 : 1 ≤ e) (h2 : e ≤ 254) : pw e = (((2 : ℝ) ^ ((e : ℤ) - 127) : ℝ) : EReal) := by
  have he : ((BitVec.ofNat 32 (e * 8388608)).extractLsb' 23 8).toNat = e := by
    rw [BitVec.extractLsb'_toNat, toNat_field (by omega), Nat.shiftRight_eq_div_pow, show (2:Nat) ^ 23 = 8388608 by norm_num, Nat.mul_div_cancel _ (by norm_num), Nat.mod_eq_of_lt]
    exact lt_of_le_of_lt h2 (by norm_num)
  have hf : ((BitVec.ofNat 32 (e * 8388608)).extractLsb' 0 23).toNat = 0 := by
    rw [BitVec.extractLsb'_toNat, toNat_field (by omega), Nat.shiftRight_eq_div_pow, show (2:Nat) ^ 23 = 8388608 by norm_num, Nat.pow_zero, Nat.div_one, Nat.mul_mod_left]
  have h3 : ((BitVec.ofNat 32 (e * 8388608)).extractLsb' 31 1).toNat = 0 := by
    rw [BitVec.extractLsb'_toNat, toNat_field (by omega), Nat.shiftRight_eq_div_pow, show (2:Nat) ^ 31 = 8388608 * 256 by norm_num, ← Nat.div_div_eq_div_mul, Nat.mul_div_cancel _ (by norm_num), Nat.div_eq_of_lt (by omega)]
  have hs : ((BitVec.ofNat 32 (e * 8388608)).extractLsb' 31 1 == 1#1) = false := by
    rw [beq_eq_false_iff_ne]
    intro h
    rw [h] at h3
    exact absurd h3 (by decide)
  show Ideal.ieee 8 23 (BitVec.ofNat 32 (e * 8388608)) = _
  unfold Ideal.ieee
  simp only [he, hf, hs]
  rw [if_neg (by omega), if_neg (by omega)]
  congr 1
  simp only [Bool.false_eq_true, if_false, one_mul, Nat.add_zero]
  have : ((2 : ℝ) ^ ((e : ℤ) - 127)) = (2 : ℝ) ^ (23 : ℤ) * (2 : ℝ) ^ ((e : ℤ) - 127 - 23) := by
    rw [← zpow_add₀ (by norm_num)]
    congr 1
    ring
  rw [this]
  norm_num

theorem pw_lt {e e' : Nat} (h : e < e') (h' : e' ≤ 254) : pw e < pw e' := by
  rcases Nat.eq_zero_or_pos e with rfl | he
  · rw [pw_zero, pw_eq (by omega) h']
    exact EReal.coe_pos.2 (zpow_pos (by norm_num) _)
  · rw [pw_eq he (by omega), pw_eq (by omega) h', EReal.coe_lt_coe_iff]
    exact zpow_lt_zpow_right₀ (by norm_num) (by omega)

theorem pw_le {e e' : Nat} (h : e ≤ e') (h' : e' ≤ 254) : pw e ≤ pw e' := by
  rcases Nat.lt_or_eq_of_le h with h | rfl
  · exact (pw_lt h h').le
  · exact le_rfl

theorem of_pw_lt {e e' : Nat} (h : pw e < pw e') (he : e ≤ 254) : e < e' := by
  by_contra hn
  exact absurd h (not_lt.2 (pw_le (by omega) he))

theorem div_pw {e : Nat} (h1 : 1 ≤ e) (h2 : e ≤ 253) : Ideal.div 1 (pw e) = pw (254 - e) := by
  have h0 : ((2 : ℝ) ^ ((e : ℤ) - 127)) ≠ 0 := (zpow_pos (by norm_num) _).ne'
  rw [pw_eq h1 (by omega), Ideal.div_coe h0, one_mul, pw_eq (by omega) (by omega)]
  congr 1
  rw [one_div, ← zpow_neg]
  congr 1
  omega

/-- What the bisection keeps: the field is reached, and no field beyond the range left is. -/
def Brk (u : EReal) (f R : Nat) : Prop := (f = 0 ∨ pw f ≤ u) ∧ f + R ≤ 252 ∧ ∀ e, f + R < e → e ≤ 252 → u < pw e

/-- One step of it. -/
theorem brk_step {u : EReal} {f R c R' : Nat} {w k : BitVec 32} (hw : w = BitVec.ofNat 32 (f * 8388608)) (hk : k = BitVec.ofNat 32 (c * 8388608))
    (h : Brk u f R) (hc : c ≤ R) (h1 : R - c ≤ R') (h2 : c ≤ R' + 1) (h3 : R' ≤ R - c ∨ R' < c) (h4 : R' ≤ R - c) :
    ∃ f', stepW u k w = BitVec.ofNat 32 (f' * 8388608) ∧ Brk u f' R' := by
  have hs : IntOp.addi w k = BitVec.ofNat 32 ((f + c) * 8388608) := by
    rw [hw, hk]
    show BitVec.ofNat 32 (f * 8388608) + BitVec.ofNat 32 (c * 8388608) = _
    rw [← BitVec.ofNat_add, Nat.add_mul]
  obtain ⟨ha, hb, hr⟩ := h
  unfold stepW
  rw [hs]
  by_cases hle : pw (f + c) ≤ u
  · refine ⟨f + c, if_pos hle, Or.inr hle, by omega, fun e he h' => hr e (by omega) h'⟩
  · refine ⟨f, (if_neg hle).trans hw, ha, by omega, fun e he h' => ?_⟩
    exact lt_of_lt_of_le (not_le.1 hle) (pw_le (by omega) (by omega))

theorem field (u : EReal) : ∃ f, stepW u 8388608#32 (stepW u 16777216#32 (stepW u 33554432#32 (stepW u 67108864#32 (stepW u 134217728#32 (stepW u 268435456#32 (stepW u 528482304#32 (stepW u 1056964608#32 0#32))))))) = BitVec.ofNat 32 (f * 8388608)
    ∧ (f = 0 ∨ pw f ≤ u) ∧ f ≤ 252 ∧ ∀ e, f < e → e ≤ 252 → u < pw e := by
  obtain ⟨f1, w1, b1⟩ := brk_step (u := u) (f := 0) (R := 252) (c := 126) (R' := 126) (w := 0#32) (k := 1056964608#32) (by decide) (by decide) ⟨Or.inl rfl, by omega, fun e h h' => by omega⟩ (by omega) (by omega) (by omega) (by omega) (by omega)
  obtain ⟨f2, w2, b2⟩ := brk_step (c := 63) (R' := 63) (k := 528482304#32) w1 (by decide) b1 (by omega) (by omega) (by omega) (by omega) (by omega)
  obtain ⟨f3, w3, b3⟩ := brk_step (c := 32) (R' := 31) (k := 268435456#32) w2 (by decide) b2 (by omega) (by omega) (by omega) (by omega) (by omega)
  obtain ⟨f4, w4, b4⟩ := brk_step (c := 16) (R' := 15) (k := 134217728#32) w3 (by decide) b3 (by omega) (by omega) (by omega) (by omega) (by omega)
  obtain ⟨f5, w5, b5⟩ := brk_step (c := 8) (R' := 7) (k := 67108864#32) w4 (by decide) b4 (by omega) (by omega) (by omega) (by omega) (by omega)
  obtain ⟨f6, w6, b6⟩ := brk_step (c := 4) (R' := 3) (k := 33554432#32) w5 (by decide) b5 (by omega) (by omega) (by omega) (by omega) (by omega)
  obtain ⟨f7, w7, b7⟩ := brk_step (c := 2) (R' := 1) (k := 16777216#32) w6 (by decide) b6 (by omega) (by omega) (by omega) (by omega) (by omega)
  obtain ⟨f8, w8, b8, c8, d8⟩ := brk_step (c := 1) (R' := 0) (k := 8388608#32) w7 (by decide) b7 (by omega) (by omega) (by omega) (by omega) (by omega)
  exact ⟨f8, w8, b8, c8, d8⟩

theorem sel_lt (u v a b : EReal) : Scalar.select (FloatOps.cmpf (F := Ideal) (φ := .f32) .olt u v) a b = if u < v then a else b := by
  pointwise

theorem sel_gt (u v a b : EReal) : Scalar.select (FloatOps.cmpf (F := Ideal) (φ := .f32) .ogt u v) a b = if v < u then a else b := by
  pointwise

/-- The word of the scale and the table's scale. -/
theorem scale_eq (u : EReal) (T : Fin 252 → EReal) (hT : ∀ l : Fin 252, T l = pw (l.val + 2)) :
    ∃ s, 1 ≤ s ∧ s ≤ 253 ∧ wordOf u = BitVec.ofNat 32 (s * 8388608) ∧ refScale T u = pw s := by
  obtain ⟨f, hw, hf, hf2, hb⟩ := field u
  unfold wordOf
  simp only [hw]
  unfold refScale
  rw [sel_lt]
  simp only [sel_gt, hT]
  have p1 : Ideal.ofBits .f32 0x00800000#32 = pw 1 := rfl
  have p127 : Ideal.ofBits .f32 0x3F800000#32 = pw 127 := rfl
  have p253 : Ideal.ofBits .f32 0x7E800000#32 = pw 253 := rfl
  rw [p1, p127, p253]
  rcases Nat.eq_zero_or_pos f with rfl | hp
  · exact ⟨127, by omega, by omega, if_pos rfl, if_pos (hb 1 (by omega) (by omega))⟩
  · have hu : pw f ≤ u := hf.resolve_left (by omega)
    refine ⟨f + 1, by omega, by omega, ?_, ?_⟩
    · rw [if_neg]
      · show BitVec.ofNat 32 (f * 8388608) + BitVec.ofNat 32 8388608 = _
        rw [← BitVec.ofNat_add, Nat.add_mul, Nat.one_mul]
      · intro h
        have := congrArg BitVec.toNat h
        rw [toNat_field (by omega)] at this
        have h0 : (0#32 : BitVec 32).toNat = 0 := rfl
        rw [h0] at this
        exact absurd this (Nat.mul_ne_zero (by omega) (by norm_num))
    · rw [if_neg (not_lt.2 ((pw_le hp (by omega)).trans hu))]
      apply le_antisymm
      · rw [Finset.fold_min_le]
        refine Or.inr ⟨⟨f - 1, by omega⟩, Finset.mem_univ _, ?_⟩
        show (if u < pw (f - 1 + 2) then pw (f - 1 + 2) else pw 253) ≤ pw (f + 1)
        rw [show f - 1 + 2 = f + 1 by omega]
        by_cases h : u < pw (f + 1)
        · rw [if_pos h]
        · rw [if_neg h]
          have : ¬ f + 1 ≤ 252 := fun h' => h (hb _ (by omega) h')
          rw [show f + 1 = 253 by omega]
      · rw [Finset.le_fold_min]
        refine ⟨?_, fun l _ => ?_⟩
        · have : Ideal.ofBits .f32 0x7F800000#32 = (⊤ : EReal) := by simp [Ideal.ofBits, Ideal.ieee]
          rw [this]; exact le_top
        · by_cases h : u < pw (l.val + 2)
          · rw [if_pos h]
            have := l.isLt
            exact pw_le (of_pw_lt (hu.trans_lt h) (by omega)) (by omega)
          · rw [if_neg h]; exact pw_le (by omega) (by omega)

theorem scaleK_eq (a : EReal) (T : Fin 252 → EReal) (hT : ∀ l : Fin 252, T l = pw (l.val + 2)) : scaleK a = refScale T (part448 a) := by
  obtain ⟨s, h1, h2, hw, hr⟩ := scale_eq (part448 a) T hT
  rw [hr]
  unfold scaleK
  rw [hw]
  rfl

theorem invK_eq (a : EReal) (T : Fin 252 → EReal) (hT : ∀ l : Fin 252, T l = pw (l.val + 2)) : invK a = Ideal.div 1 (refScale T (part448 a)) := by
  obtain ⟨s, h1, h2, hw, hr⟩ := scale_eq (part448 a) T hT
  rw [hr, div_pw h1 h2]
  unfold invK
  rw [hw]
  show Ideal.ofBits .f32 _ = Ideal.ofBits .f32 _
  refine congrArg (Ideal.ofBits .f32) ?_
  have hs : ∀ w y : BitVec 32, y + w = 2130706432#32 → IntOp.subi 2130706432#32 w = y := by
    intro w y h
    rewrite [← h]
    exact BitVec.add_sub_cancel y w
  refine hs _ _ ?_
  rewrite [← BitVec.ofNat_add, ← Nat.add_mul, Nat.sub_add_cancel (by omega)]
  rfl

end Cert.Join
-- ==== Proof.Ends.lean ====
/- The reference's lines, element by element. -/
module

public import proofs.«01_k».proof.Proof.Chain
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Read

open Idealize.ShloMosaic Idealize.SL.Sem Cert.ReferenceIdeal Cert.ReferenceIdeal.Gen
open TcCoe

variable (W : Valuation τ sig (Elt Ideal))

variable (m : (ℓ : Loc nD τ sig) → Buf (Elt Ideal) ℓ) (c : Dev nD)

open Cert.KernelIdeal.Body (Args)

/-- The inputs in memory. -/
def memArgs : Args := rArgs fun b => m (c, b)

/-- The first table of powers. -/
def tab0 (l : Fin 252) : EReal := (H m c (Proc.devRef .tc main_cst) : S252.Idx → EReal) (ix1 l)

/-- The second. -/
def tab1 (l : Fin 252) : EReal := (H m c (Proc.devRef .tc main_cst_0) : S252.Idx → EReal) (ix1 l)

/-- A token's block's scale. -/
def rowS (T : Fin 252 → EReal) (A : Args) (n s : Nat) : EReal :=
  refScale T (FloatOps.mulf (F := Ideal) (φ := .f32) (Finset.fold max (Ideal.ofBits .f32 0xFF800000#32)
    (fun l : Fin 128 => FloatOps.absf (F := Ideal) (φ := .f32) (refd A n (s * 128 + l.val))) Finset.univ) (Ideal.ofBits .f32 0x3B124925#32))

/-- A channel's block's scale. -/
def colS (T : Fin 252 → EReal) (A : Args) (b k : Nat) : EReal :=
  refScale T (FloatOps.mulf (F := Ideal) (φ := .f32) (Finset.fold max (Ideal.ofBits .f32 0xFF800000#32)
    (fun l : Fin 128 => FloatOps.absf (F := Ideal) (φ := .f32) (refd A (b * 128 + l.val) k)) Finset.univ) (Ideal.ofBits .f32 0x3B124925#32))

/-- The code of a number under a scale. -/
def code (d s : EReal) : EReal :=
  min (Ideal.ofBits .f32 0x43E00000#32) (max (Ideal.ofBits .f32 0xC3E00000#32) (FloatOps.mulf (F := Ideal) (φ := .f32) d (Ideal.div 1 s)))

theorem H_d (n : Fin 6144) (k : Fin 18432) : (H m c (Proc.devRef .tc main_v33) : S6144x18432.Idx → EReal) (ix2 n k) = refd (memArgs m c) n.val k.val :=
  h_v33 (fun b => m (c, b)) n k

theorem kU1_34 : StableHlo.after hostOps0_3 (StableHlo.after hostOps0_2 (StableHlo.after hostOps0_1 (StableHlo.after cmpOps (StableHlo.after partOps (StableHlo.after maxOps W))))) (Proc.devRef .tc main_v34)
    = W (Proc.devRef .tc main_v34) := by
  after_reads_simp

theorem kU2_33 : StableHlo.after hostOps0_5 (StableHlo.after hostOps0_4 (StableHlo.after hostOps0_3 (StableHlo.after hostOps0_2 (StableHlo.after hostOps0_1 (StableHlo.after cmpOps (StableHlo.after partOps (StableHlo.after maxOps (StableHlo.after absOps W)))))))) (Proc.devRef .tc main_v33)
    = W (Proc.devRef .tc main_v33) := by
  after_reads_simp

theorem kU2_cst : StableHlo.after hostOps0_5 (StableHlo.after hostOps0_4 (StableHlo.after hostOps0_3 (StableHlo.after hostOps0_2 (StableHlo.after hostOps0_1 (StableHlo.after cmpOps (StableHlo.after partOps (StableHlo.after maxOps (StableHlo.after absOps W)))))))) (Proc.devRef .tc main_cst_0)
    = W (Proc.devRef .tc main_cst_0) := by
  after_reads_simp

theorem kU2_48 : StableHlo.after hostOps0_5 (StableHlo.after hostOps0_4 W) (Proc.devRef .tc main_v48) = W (Proc.devRef .tc main_v48) := by
  after_reads_simp

theorem kU2_23 : StableHlo.after hostOps0_5 (StableHlo.after hostOps0_4 (StableHlo.after hostOps0_3 (StableHlo.after hostOps0_2 (StableHlo.after hostOps0_1 (StableHlo.after cmpOps (StableHlo.after partOps (StableHlo.after maxOps (StableHlo.after absOps W)))))))) (Proc.devRef .tc main_v23)
    = W (Proc.devRef .tc main_v23) := by
  after_reads_simp

theorem kU2_25 : StableHlo.after hostOps0_5 (StableHlo.after hostOps0_4 (StableHlo.after hostOps0_3 (StableHlo.after hostOps0_2 (StableHlo.after hostOps0_1 (StableHlo.after cmpOps (StableHlo.after partOps (StableHlo.after maxOps (StableHlo.after absOps W)))))))) (Proc.devRef .tc main_v25)
    = W (Proc.devRef .tc main_v25) := by
  after_reads_simp

theorem U1_eq : U1 m c = StableHlo.after hostOps0_3 (StableHlo.after hostOps0_2 (StableHlo.after hostOps0_1 (StableHlo.after cmpOps (StableHlo.after partOps (StableHlo.after maxOps (StableHlo.after absOps (H m c))))))) := by
  unfold U1
  rewrite [U0_eq]
  unfold Hc Hb Ha
  rfl

theorem U2_eq : U2 m c = StableHlo.after hostOps0_5 (StableHlo.after hostOps0_4 (StableHlo.after hostOps0_3 (StableHlo.after hostOps0_2 (StableHlo.after hostOps0_1 (StableHlo.after cmpOps (StableHlo.after partOps (StableHlo.after maxOps (StableHlo.after absOps (H m c))))))))) := by
  unfold U2
  rewrite [U1_eq]
  rfl

theorem U3_eq' : U3 m c = StableHlo.after hostOps0_9 (StableHlo.after hostOps0_8 (StableHlo.after hostOps0_7 (StableHlo.after cmpOps6 (StableHlo.after partOps6 (StableHlo.after maxOps6 (StableHlo.after absOps6 (U2 m c))))))) := by
  rewrite [U3_eq]
  unfold Ud Uc Ub Ua
  rfl

theorem kU4 : ∀ b, b = main_v23 ∨ b = main_v25 ∨ b = main_v33 ∨ b = main_v48 → StableHlo.after hostOps0_12 (StableHlo.after hostOps0_11 (StableHlo.after hostOps0_10 (StableHlo.after hostOps0_9 (StableHlo.after hostOps0_8 (StableHlo.after hostOps0_7 (StableHlo.after cmpOps6 (StableHlo.after partOps6 (StableHlo.after maxOps6 (StableHlo.after absOps6 W))))))))) (Proc.devRef .tc b) = W (Proc.devRef .tc b) := by
  rintro b (rfl | rfl | rfl | rfl) <;> after_reads_simp

theorem kU3_33 : StableHlo.after hostOps0_11 (StableHlo.after hostOps0_10 (StableHlo.after hostOps0_9 (StableHlo.after hostOps0_8 (StableHlo.after hostOps0_7 (StableHlo.after cmpOps6 (StableHlo.after partOps6 (StableHlo.after maxOps6 (StableHlo.after absOps6 W)))))))) (Proc.devRef .tc main_v33) = W (Proc.devRef .tc main_v33) := by
  after_reads_simp

theorem kU4_55 : StableHlo.after hostOps0_12 (StableHlo.after hostOps0_11 (StableHlo.after hostOps0_10 (StableHlo.after hostOps0_9 (StableHlo.after hostOps0_8 (StableHlo.after hostOps0_7 (StableHlo.after cmpOps6 (StableHlo.after partOps6 (StableHlo.after maxOps6 W)))))))) (Proc.devRef .tc main_v55) = W (Proc.devRef .tc main_v55) := by
  after_reads_simp

theorem kU3_56 : StableHlo.after hostOps0_9 (StableHlo.after hostOps0_8 (StableHlo.after hostOps0_7 (StableHlo.after cmpOps6 (StableHlo.after partOps6 (StableHlo.after maxOps6 W))))) (Proc.devRef .tc main_v56) = W (Proc.devRef .tc main_v56) := by
  after_reads_simp

theorem k11_70 : StableHlo.after hostOps0_11 (StableHlo.after hostOps0_10 W) (Proc.devRef .tc main_v70) = W (Proc.devRef .tc main_v70) := by
  after_reads_simp

theorem u1_48 (n : Fin 6144) (s : Fin 144) : (U1 m c (Proc.devRef .tc main_v48) : S6144x144.Idx → EReal) (ix2 n s) = (rowS (tab0 m c) (memArgs m c) n.val s.val : EReal) := by
  rewrite [U1_eq]
  refine (rowScale (H m c) n s).trans ?_
  unfold rowS
  refine congrArg (fun F : Fin 128 → EReal => refScale (tab0 m c) (FloatOps.mulf (F := Ideal) (φ := .f32) (Finset.fold max (Ideal.ofBits .f32 0xFF800000#32) F Finset.univ) (Ideal.ofBits .f32 0x3B124925#32)))
    (funext fun l => ?_)
  exact congrArg (FloatOps.absf (F := Ideal) (φ := .f32)) (H_d m c n _)

theorem u1_34 (n : Fin 6144) (s : Fin 144) (l : Fin 128) : (U1 m c (Proc.devRef .tc main_v34) : S6144x144x128.Idx → EReal) (ix3 n s l) = (refd (memArgs m c) n.val (s.val * 128 + l.val) : EReal) := by
  rewrite [U1_eq, kU1_34]
  exact (r_v34 (H m c) n s l).trans (H_d m c n _)

theorem u2_54 (n : Fin 6144) (s : Fin 144) (l : Fin 128) : (U2 m c (Proc.devRef .tc main_v54) : S6144x144x128.Idx → EReal) (ix3 n s l)
    = (code (refd (memArgs m c) n.val (s.val * 128 + l.val)) (rowS (tab0 m c) (memArgs m c) n.val s.val) : EReal) := by
  unfold U2
  exact (r_v54 (U1 m c) n s l).trans (congrArg₂ code (u1_34 m c n s l) (u1_48 m c n s))

theorem u2_33 (n : Fin 6144) (k : Fin 18432) : (U2 m c (Proc.devRef .tc main_v33) : S6144x18432.Idx → EReal) (ix2 n k) = (refd (memArgs m c) n.val k.val : EReal) := by
  rewrite [U2_eq, kU2_33]
  exact H_d m c n k

theorem u3_70 (b : Fin 48) (k : Fin 18432) : (U3 m c (Proc.devRef .tc main_v70) : S48x18432.Idx → EReal) (ix2 b k) = (colS (tab1 m c) (memArgs m c) b.val k.val : EReal) := by
  rewrite [U3_eq']
  refine (colScale (U2 m c) b k).trans ?_
  unfold colS
  refine congrArg₂ (fun (T : Fin 252 → EReal) (F : Fin 128 → EReal) => refScale T (FloatOps.mulf (F := Ideal) (φ := .f32) (Finset.fold max (Ideal.ofBits .f32 0xFF800000#32) F Finset.univ) (Ideal.ofBits .f32 0x3B124925#32)))
    (funext fun l => ?_) (funext fun l => ?_)
  · rewrite [U2_eq, kU2_cst]
    rfl
  · exact congrArg (FloatOps.absf (F := Ideal) (φ := .f32)) (u2_33 m c _ k)

theorem u3_56 (b : Fin 48) (a : Fin 128) (k : Fin 18432) : (U3 m c (Proc.devRef .tc main_v56) : S48x128x18432.Idx → EReal) (ix3 b a k) = (refd (memArgs m c) (b.val * 128 + a.val) k.val : EReal) := by
  rewrite [U3_eq', kU3_56]
  exact (r_v56 (U2 m c) b a k).trans (u2_33 m c _ k)

/-! The results, by token and channel. -/

theorem v_dx (n : Fin 6144) (k : Fin 18432) : (V m c main_v78 : S6144x18432.Idx → EReal) (ix2 n k) = (refd (memArgs m c) n.val k.val : EReal) := by
  rewrite [V_eq]
  unfold U4
  refine (r_v78 _ n k).trans ?_
  rewrite [U3_eq', kU3_33]
  exact u2_33 m c n k

theorem v_rs (n : Fin 6144) (s : Fin 144) : (V m c main_v48 : S6144x144.Idx → EReal) (ix2 n s) = (rowS (tab0 m c) (memArgs m c) n.val s.val : EReal) := by
  rewrite [V_eq]
  unfold U4
  rewrite [U3_eq', kU4 _ main_v48 (by simp)]
  unfold U2
  rewrite [kU2_48]
  exact u1_48 m c n s

theorem v_rc (n : Fin 6144) (k : Fin 18432) : (V m c main_v55 : S6144x18432.Idx → EReal) (ix2 n k) = (code (refd (memArgs m c) n.val k.val) (rowS (tab0 m c) (memArgs m c) n.val (k.val / 128)) : EReal) := by
  rewrite [V_eq]
  unfold U4
  rewrite [U3_eq', kU4_55]
  refine (r_v55 (U2 m c) n k).trans ((u2_54 m c n _ _).trans ?_)
  have : k.val / 128 * 128 + k.val % 128 = k.val := by omega
  show code (refd (memArgs m c) n.val (k.val / 128 * 128 + k.val % 128)) _ = _
  rw [this]

theorem v_cs (k : Fin 18432) (b : Fin 48) : (V m c main_v79 : S18432x48.Idx → EReal) (ix2 k b) = (colS (tab1 m c) (memArgs m c) b.val k.val : EReal) := by
  rewrite [V_eq]
  unfold U4
  refine (r_v79 _ k b).trans ?_
  rewrite [k11_70]
  exact u3_70 m c b k

theorem v_cc (k : Fin 18432) (n : Fin 6144) : (V m c main_v80 : S18432x6144.Idx → EReal) (ix2 k n) = (code (refd (memArgs m c) n.val k.val) (colS (tab1 m c) (memArgs m c) (n.val / 128) k.val) : EReal) := by
  rewrite [V_eq]
  unfold U4
  refine (r_v80 (U3 m c) k n).trans ((congrArg₂ code (u3_56 m c _ _ k) (u3_70 m c _ k)).trans ?_)
  have : n.val / 128 * 128 + n.val % 128 = n.val := by omega
  show code (refd (memArgs m c) (n.val / 128 * 128 + n.val % 128) k.val) _ = _
  rw [this]

theorem v_dgp (b : Fin 2) (s : Fin 24) (k : Fin 18432) : (V m c main_v23 : S2x24x18432.Idx → EReal) (ix3 b s k)
    = (∑ a : Fin 128, refp (memArgs m c) (b.val * 3072 + s.val * 128 + a.val) k.val : EReal) := by
  rewrite [V_eq]
  unfold U4
  rewrite [U3_eq', kU4 _ main_v23 (by simp), U2_eq, kU2_23]
  exact h_v23 _ b s k

theorem v_dg (k : Fin 18432) : (V m c main_v25 : S1x18432.Idx → EReal) (ix2 0 k)
    = (Ideal.ofBits .f32 0x00000000#32 + ∑ b : Fin 2, ∑ s : Fin 24, ∑ a : Fin 128, refp (memArgs m c) (b.val * 3072 + s.val * 128 + a.val) k.val : EReal) := by
  rewrite [V_eq]
  unfold U4
  rewrite [U3_eq', kU4 _ main_v25 (by simp), U2_eq, kU2_25]
  refine (h_v25 _ k).trans ?_
  exact congrArg (fun t => Ideal.ofBits .f32 0x00000000#32 + t) (Finset.sum_congr rfl fun b _ => Finset.sum_congr rfl fun s _ => h_v23 _ b s k)

/-- Row-major order on one axis. -/
theorem rm252 (l : Fin 252) : (S252.rowMajor (ix1 l)).val = l.val := by
  exact Shape.rowMajor_val_one _

theorem lit0_at : ∀ l : Fin 252, lit0 l = BitVec.ofNat 32 ((l.val + 2) * 8388608) := by
  decide

theorem lit1_at : ∀ l : Fin 252, lit1 l = BitVec.ofNat 32 ((l.val + 2) * 8388608) := by
  decide

theorem tab0_at (l : Fin 252) : tab0 m c l = Ideal.ofBits .f32 (BitVec.ofNat 32 ((l.val + 2) * 8388608)) := by
  unfold tab0 H
  after_reads_simp
  refine congrArg (Ideal.ofBits .f32) ((lit0_at _).trans ?_)
  rw [rm252]

theorem tab1_at (l : Fin 252) : tab1 m c l = Ideal.ofBits .f32 (BitVec.ofNat 32 ((l.val + 2) * 8388608)) := by
  unfold tab1 H
  after_reads_simp
  refine congrArg (Ideal.ofBits .f32) ((lit1_at _).trans ?_)
  rw [rm252]

end Cert.ReferenceIdeal.Read
-- ==== Proof.Algebra.lean ====
/- On real factors the two programs compute the same numbers. -/
module

public import proofs.«01_k».proof.Proof.Scale
public import proofs.«01_k».proof.Proof.Spec
public import proofs.«01_k».proof.Proof.Ends

@[expose] public section

noncomputable section

namespace Cert.Join

open Idealize.ShloMosaic Cert.KernelIdeal.Body Cert.ReferenceIdeal.Read

/-- Every factor is a real number. -/
structure Real (A : Args) : Prop where
  x : ∀ n k, ∃ y : ℝ, A.x n k = (y : EReal)
  q : ∀ n k, ∃ y : ℝ, A.q n k = (y : EReal)
  k : ∀ n k, ∃ y : ℝ, A.k n k = (y : EReal)
  v : ∀ n k, ∃ y : ℝ, A.v n k = (y : EReal)
  g : ∀ k, ∃ y : ℝ, A.g k = (y : EReal)
  r : ∀ n, ∃ y : ℝ, A.r n = (y : EReal)

/-- A range summed block by block. -/
theorem sum_blocks (a b : Nat) (f : Nat → EReal) : ∑ i : Fin a, ∑ j : Fin b, f (b * i.val + j.val) = ∑ x ∈ Finset.range (a * b), f x := by
  rw [Finset.sum_range, ← Fintype.sum_prod_type' (fun (i : Fin a) (j : Fin b) => f (b * i.val + j.val))]
  refine Fintype.sum_equiv finProdFinEquiv _ _ fun p => ?_
  show f (b * p.1.val + p.2.val) = f (p.2.val + b * p.1.val)
  rw [Nat.add_comm]

theorem lane_sum (A : Args) (n l : Nat) : ∀ T, A.lane n l T = ∑ t ∈ Finset.range T, A.p n (128 * t + l) * A.g (128 * t + l)
  | 0 => rfl
  | T + 1 => by rw [Finset.sum_range_succ, ← lane_sum A n l T]; rfl

theorem dg_sum (A : Args) (k : Nat) : ∀ T, A.dg k T = ∑ t ∈ Finset.range T, A.part t k
  | 0 => rfl
  | T + 1 => by rw [Finset.sum_range_succ, ← dg_sum A k T]; rfl

theorem p_eq (A : Args) (n k : Nat) : A.p n k = refp A n k := by
  show (A.q n k + A.k n k + A.v n k) * A.r n * A.x n k = (A.q n k + A.k n k + A.v n k) * (A.x n k * A.r n)
  rw [mul_assoc, mul_comm (A.r n)]

theorem part_eq (A : Args) (b s k : Nat) : A.part (24 * b + s) k = ∑ a : Fin 128, refp A (b * 3072 + s * 128 + a.val) k := by
  unfold Args.part
  refine Finset.sum_congr rfl fun a _ => ?_
  rw [p_eq, show 128 * (24 * b + s) + a.val = b * 3072 + s * 128 + a.val by omega]

theorem dg_eq (A : Args) (k : Nat) : A.dg k 48 = Ideal.ofBits .f32 0x00000000#32 + ∑ b : Fin 2, ∑ s : Fin 24, ∑ a : Fin 128, refp A (b.val * 3072 + s.val * 128 + a.val) k := by
  have h0 : Ideal.ofBits .f32 0x00000000#32 = (0 : EReal) := by simp [Ideal.ofBits, Ideal.ieee]
  rw [h0, zero_add, dg_sum, ← sum_blocks 2 24 (fun t => A.part t k)]
  refine Finset.sum_congr rfl fun b _ => Finset.sum_congr rfl fun s _ => part_eq A b.val s.val k

/-- The sum the correction takes. -/
theorem lanes_eq (A : Args) (n : Nat) : ∑ l : Fin 128, A.lane n l.val 144
    = ∑ x : Fin 18432, (A.q n x.val + A.k n x.val + A.v n x.val) * A.g x.val * (A.x n x.val * A.r n) := by
  have h : ∀ l : Fin 128, A.lane n l.val 144 = ∑ t : Fin 144, A.p n (128 * t.val + l.val) * A.g (128 * t.val + l.val) := fun l => by
    rw [lane_sum, Finset.sum_range]
  rw [Finset.sum_congr rfl fun l _ => h l, Finset.sum_comm, sum_blocks 144 128 (fun x => A.p n x * A.g x),
    show 144 * 128 = 18432 by norm_num, Finset.sum_range]
  refine Finset.sum_congr rfl fun x _ => ?_
  rw [p_eq]
  show (_ : EReal) * (_ * _) * _ = _
  rw [mul_assoc, mul_comm (_ * _) (A.g _), ← mul_assoc]

theorem width : Ideal.ofBits .f32 1183842304#32 = ((18432 : ℝ) : EReal) := by
  simp [Ideal.ofBits, Ideal.ieee, -EReal.coe_mul]
  norm_num

theorem c_eq (A : Args) (n : Nat) : (∑ l : Fin 128, A.lane n l.val 144) * ((1 / 18432 : ℝ) : EReal) = refc A n := by
  rw [lanes_eq]
  unfold refc
  rw [width, Ideal.div_coe (by norm_num)]

theorem sum_real {ι : Type} (s : Finset ι) (f : ι → EReal) (h : ∀ i, ∃ y : ℝ, f i = (y : EReal)) : ∃ y : ℝ, ∑ i ∈ s, f i = (y : EReal) := by
  classical
  induction s using Finset.induction_on with
  | empty => exact ⟨0, by rw [Finset.sum_empty]; rfl⟩
  | insert a s ha ih =>
    obtain ⟨y, hy⟩ := ih
    obtain ⟨z, hz⟩ := h a
    exact ⟨z + y, by rw [Finset.sum_insert ha, hy, hz]; exact (EReal.coe_add _ _).symm⟩

theorem c_real {A : Args} (h : Real A) (n : Nat) : ∃ y : ℝ, refc A n = (y : EReal) := by
  unfold refc
  rw [width, Ideal.div_coe (by norm_num)]
  obtain ⟨y, hy⟩ := sum_real Finset.univ (fun x : Fin 18432 => (A.q n x.val + A.k n x.val + A.v n x.val) * A.g x.val * (A.x n x.val * A.r n)) (fun i => by
    obtain ⟨x, hx⟩ := h.x n i.val
    obtain ⟨q, hq⟩ := h.q n i.val
    obtain ⟨k, hk⟩ := h.k n i.val
    obtain ⟨v, hv⟩ := h.v n i.val
    obtain ⟨g, hg⟩ := h.g i.val
    obtain ⟨r, hr⟩ := h.r n
    refine ⟨(q + k + v) * g * (x * r), ?_⟩
    rw [hx, hq, hk, hv, hg, hr]
    norm_cast)
  rw [hy]
  exact ⟨y * (1 / 18432), (EReal.coe_mul _ _).symm⟩

theorem d_eq {A : Args} (h : Real A) (n k : Nat) : A.d n k = refd A n k := by
  unfold Args.d refd Args.sN Args.e
  rw [c_eq]
  refine congrArg (fun t => t + A.dr n k) ?_
  obtain ⟨c, hc⟩ := c_real h n
  obtain ⟨x, hx⟩ := h.x n k
  obtain ⟨q, hq⟩ := h.q n k
  obtain ⟨u, hu⟩ := h.k n k
  obtain ⟨v, hv⟩ := h.v n k
  obtain ⟨g, hg⟩ := h.g k
  obtain ⟨r, hr⟩ := h.r n
  rw [hc, hx, hq, hu, hv, hg, hr]
  norm_cast
  ring

theorem rmax_eq {A : Args} (h : Real A) (n s : Nat) : part448 (A.rmax n s) = FloatOps.mulf (F := Ideal) (φ := .f32) (Finset.fold max (Ideal.ofBits .f32 0xFF800000#32)
    (fun l : Fin 128 => FloatOps.absf (F := Ideal) (φ := .f32) (refd A n (s * 128 + l.val))) Finset.univ) (Ideal.ofBits .f32 0x3B124925#32) := by
  have : (fun l : Fin 128 => eabs (A.d n (128 * s + l.val))) = fun l : Fin 128 => FloatOps.absf (F := Ideal) (φ := .f32) (refd A n (s * 128 + l.val)) := by
    funext l
    rw [d_eq h, Nat.mul_comm]
  unfold Args.rmax
  rw [this]
  rfl

theorem cmax_eq {A : Args} (h : Real A) (b k : Nat) : part448 (A.cmax b k) = FloatOps.mulf (F := Ideal) (φ := .f32) (Finset.fold max (Ideal.ofBits .f32 0xFF800000#32)
    (fun l : Fin 128 => FloatOps.absf (F := Ideal) (φ := .f32) (refd A (b * 128 + l.val) k)) Finset.univ) (Ideal.ofBits .f32 0x3B124925#32) := by
  have : (fun l : Fin 128 => eabs (A.d (128 * b + l.val) k)) = fun l : Fin 128 => FloatOps.absf (F := Ideal) (φ := .f32) (refd A (b * 128 + l.val) k) := by
    funext l
    rw [d_eq h, Nat.mul_comm]
  unfold Args.cmax
  rw [this]
  rfl

variable {A : Args} (h : Real A) (T : Fin 252 → EReal) (hT : ∀ l : Fin 252, T l = pw (l.val + 2))
include h hT

theorem rs_eq (n s : Nat) : scaleK (A.rmax n s) = rowS T A n s := by
  rw [scaleK_eq _ T hT, rmax_eq h]; rfl

theorem cs_eq (b k : Nat) : scaleK (A.cmax b k) = colS T A b k := by
  rw [scaleK_eq _ T hT, cmax_eq h]; rfl

theorem rc_eq (n k : Nat) : A.rc n k = code (refd A n k) (rowS T A n (k / 128)) := by
  unfold Args.rc
  rw [invK_eq _ T hT, rmax_eq h, d_eq h]; rfl

theorem cc_eq (n k : Nat) : A.cc n k = code (refd A n k) (colS T A (n / 128) k) := by
  unfold Args.cc
  rw [invK_eq _ T hT, cmax_eq h, d_eq h]; rfl

end Cert.Join
-- ==== Proof.Place.lean ====
/- Where the body's loads and stores fall, in coordinates. -/
module

public import proofs.«01_k».proof.Proof.Runs
public import Idealize.ShloMosaic.Lib.Pointwise

@[expose] public section

set_option maxRecDepth 16384

noncomputable section

namespace Cert.KernelIdeal.Body

open Idealize.ShloMosaic Idealize.SL.Sem Cert.KernelIdeal Cert.KernelIdeal.Gen Proof.Tri

/-! ## The grid -/

/-- The point of block `n`, chunk `j`. -/
def pt (n : Fin 49) (j : Fin 8) : grid0.Coords := fun a => match a with
  | ⟨0, _⟩ => n
  | ⟨1, _⟩ => j

theorem eq_pt (i : grid0.Coords) : ∃ n j, i = pt n j :=
  ⟨i 0, i 1, by funext a; match a with
    | ⟨0, _⟩ => rfl
    | ⟨1, _⟩ => rfl⟩

theorem cond1_pt : ∀ (n : Fin 49) (j : Fin 8), k0_cond1 (pt n j) = 1#1 ↔ n.val = 0 ∧ j.val = 0 := by decide +kernel
theorem cond2_pt : ∀ (n : Fin 49) (j : Fin 8), k0_cond2 (pt n j) = 1#1 ↔ n.val < 48 ∧ j.val = 0 := by decide +kernel
theorem cond3_pt : ∀ (n : Fin 49) (j : Fin 8), k0_cond3 (pt n j) = 1#1 ↔ 0 < n.val := by decide +kernel
theorem cond4_pt : ∀ (n : Fin 49) (j : Fin 8), k0_cond4 (pt n j) = 1#1 ↔ n.val < 48 := by decide +kernel
theorem cond5_pt : ∀ (n : Fin 49) (j : Fin 8), cond5 (pt n j) = 1#1 ↔ n.val < 48 ∧ j.val = 7 := by decide +kernel
theorem cond6_pt : ∀ (n : Fin 49) (j : Fin 8), k0_cond6 (pt n j) = 1#1 ↔ 0 < n.val ∧ j.val = 7 := by decide +kernel
theorem cond7_pt : ∀ (n : Fin 49) (j : Fin 8), k0_cond7 (pt n j) = 1#1 ↔ n.val = 48 := by decide +kernel

theorem off1_pt : ∀ (n : Fin 49) (j : Fin 8) (h : n.val < 48), k0_off1 (pt n j) = ![0, 128 * (n.val % 24)] := by decide +kernel
theorem off2_pt : ∀ (n : Fin 49) (j : Fin 8) (h : n.val < 48), k0_off2 (pt n j) = ![1, 128 * (n.val % 24)] := by decide +kernel
theorem off4_pt : ∀ (n : Fin 49) (j : Fin 8) (t : Fin 18), k0_off4 (pt n j) (BitVec.ofNat 32 (128 * t.val)) = ![0, 128 * (18 * j.val + t.val)] := by decide +kernel
theorem off5_pt : ∀ (n : Fin 49) (j : Fin 8) (t : Fin 18), 0 < n.val → k0_off5 (pt n j) (BitVec.ofNat 32 (128 * t.val)) = ![8 * ((n.val - 1) / 8), 128 * (18 * j.val + t.val)] := by decide +kernel
theorem off25_pt : ∀ (n : Fin 49) (j : Fin 8) (t : Fin 18), k0_off25 (pt n j) (BitVec.ofNat 32 (128 * t.val)) = ![0, 0, 128 * (18 * j.val + t.val)] := by decide +kernel
theorem off26_pt : ∀ (n : Fin 49) (j : Fin 8) (t : Fin 18), k0_off26 (pt n j) (BitVec.ofNat 32 (128 * t.val)) = ![0, 128 * (18 * j.val + t.val)] := by decide +kernel
theorem off44_pt : ∀ (n : Fin 49) (j : Fin 8), k0_off44 (pt n j) = ![0, 2304 * j.val] := by decide +kernel
theorem ch_pt : ∀ (n : Fin 49) (j : Fin 8), ch (pt n j) = j.val := by decide +kernel

/-! ## Stores -/

theorem put_at {s : Shape} {α : Type} (r : Rect s) (w : r.shape.Idx → α) (Mk : Finset r.shape.Idx) [DecidableEq r.shape.Idx] (X : s.Idx → α) (y : s.Idx) (x : r.shape.Idx)
    (h : r.emb x = y) : put r w Mk X y = if x ∈ Mk then w x else X y := by
  subst h
  split
  · exact put_emb _ _ _ _ ‹_›
  · refine put_miss _ _ _ _ fun x' hx' h' => ?_
    rw [r.emb.injective h'] at hx'; contradiction

theorem unit_val {s : Shape} {off size : Fin s.rank → Nat} {inb : ∀ a, off a + size a ≤ s.size a} (x : (Rect.unit (s := s) off size inb).shape.Idx) (a : Fin s.rank) :
    ((Rect.unit (s := s) off size inb).emb x a).val = off a + (x a).val := by
  simp [Rect.emb, Rect.unit]

theorem unit_emb_eq {s : Shape} {off size : Fin s.rank → Nat} {inb : ∀ a, off a + size a ≤ s.size a} (x : (Rect.unit (s := s) off size inb).shape.Idx) (y : s.Idx)
    (h : ∀ a, (y a).val = off a + (x a).val) : (Rect.unit (s := s) off size inb).emb x = y :=
  funext fun a => Fin.ext ((unit_val x a).trans (h a).symm)

theorem put_out {s : Shape} {α : Type} {off size : Fin s.rank → Nat} {inb : ∀ a, off a + size a ≤ s.size a} (w : (Rect.unit (s := s) off size inb).shape.Idx → α) (Mk) (X : s.Idx → α) (y : s.Idx)
    (a : Fin s.rank) (h : (y a).val < off a ∨ off a + size a ≤ (y a).val) : put (Rect.unit (s := s) off size inb) w Mk X y = X y := by
  refine put_miss _ _ _ _ fun x _ hx => ?_
  have h1 := unit_val x a
  rw [hx] at h1
  have h2 : (x a).val < size a := (x a).isLt
  omega

end Cert.KernelIdeal.Body
-- ==== Proof.Sched.lean ====
/- The schedule of the grid: which block each window is on at each point, and the points after which an output block is
   written back. -/
module

public import proofs.«01_k».proof.Proof.Place

@[expose] public section

set_option maxRecDepth 16384

noncomputable section

namespace Cert.KernelIdeal.Body

open Idealize.ShloMosaic Idealize.SL.Sem Cert.KernelIdeal Cert.KernelIdeal.Gen Proof.Tri

theorem coords_pt (t : Fin grid0.N) : ∃ (n : Fin 49) (j : Fin 8), grid0.coords t = pt n j ∧ t.val = 8 * n.val + j.val := by
  revert t; decide +kernel

theorem idx0 : ∀ t : Fin grid0.N, t.val < 384 → win0_0.index t = ![t.val / 8, t.val % 8] := by decide +kernel
theorem idx1 : ∀ t : Fin grid0.N, t.val < 384 → win0_1.index t = ![t.val / 8, t.val % 8] := idx0
theorem idx2 : ∀ t : Fin grid0.N, t.val < 384 → win0_2.index t = ![t.val / 8, t.val % 8] := idx0
theorem idx3 : ∀ t : Fin grid0.N, t.val < 384 → win0_3.index t = ![t.val / 8, t.val % 8] := idx0
theorem idx7 : ∀ t : Fin grid0.N, 8 ≤ t.val → win0_7.index t = ![t.val / 8 - 1, t.val % 8] := by decide +kernel
theorem idx4 : ∀ t : Fin grid0.N, 8 ≤ t.val → win0_4.index t = ![t.val / 8 - 1, t.val % 8] := idx7
theorem idx10 : ∀ t : Fin grid0.N, 8 ≤ t.val → win0_10.index t = ![t.val / 8 - 1, t.val % 8] := idx7
theorem idx9 : ∀ t : Fin grid0.N, win0_9.index t = ![min (t.val / 8) 47 / 24, min (t.val / 8) 47 % 24 / 8, 0] := by decide +kernel
theorem idx11 : ∀ t : Fin grid0.N, 8 ≤ t.val → win0_11.index t = ![t.val / 8 - 1, 0] := by decide +kernel
theorem idx12 : ∀ t : Fin grid0.N, 8 ≤ t.val → win0_12.index t = ![t.val % 8, t.val / 8 - 1] := by decide +kernel
theorem idx13 : ∀ t : Fin grid0.N, 384 ≤ t.val → win0_13.index t = ![t.val % 8, 0] := by decide +kernel

theorem flush7 : ∀ t : Fin grid0.N, win0_7.flush t = true ↔ 8 ≤ t.val := by decide +kernel
theorem flush10 : ∀ t : Fin grid0.N, win0_10.flush t = true ↔ 8 ≤ t.val := by decide +kernel
theorem flush12 : ∀ t : Fin grid0.N, win0_12.flush t = true ↔ 8 ≤ t.val := by decide +kernel
theorem flush8 : ∀ t : Fin grid0.N, win0_8.flush t = true ↔ t.val = 391 := by decide +kernel
theorem flush9 : ∀ t : Fin grid0.N, win0_9.flush t = true ↔ (t.val % 64 = 63 ∧ t.val < 383) ∨ t.val = 391 := by decide +kernel
theorem flush11 : ∀ t : Fin grid0.N, win0_11.flush t = true ↔ t.val % 8 = 7 ∧ 8 ≤ t.val := by decide +kernel
theorem flush13 : ∀ t : Fin grid0.N, win0_13.flush t = true ↔ 384 ≤ t.val := by decide +kernel

end Cert.KernelIdeal.Body
-- ==== Proof.Store.lean ====
/- What a store leaves and what a load finds, by coordinates. -/
module

public import proofs.«01_k».proof.Proof.Place
public import proofs.«01_k».proof.Proof.Pay

@[expose] public section

set_option maxRecDepth 16384

noncomputable section

namespace Cert.KernelIdeal.Body

open Idealize.ShloMosaic Idealize.SL.Sem Cert.KernelIdeal Cert.KernelIdeal.Gen Proof.Tri

section
variable {α : Type} {A B C p q r o0 o1 o2 : Nat}

theorem emb2 {off : Fin 2 → Nat} {inb : ∀ a, off a + (![p, q] : Fin 2 → Nat) a ≤ (⟨2, ![A, B]⟩ : Shape).size a} (x : Fin p) (y : Fin q) (a : Fin A) (b : Fin B)
    (hoff : off = ![o0, o1]) (ha : a.val = o0 + x.val) (hb : b.val = o1 + y.val) :
    (Rect.unit (s := ⟨2, ![A, B]⟩) off ![p, q] inb).emb (ix2 x y) = ix2 a b := by
  subst hoff
  exact unit_emb_eq _ _ fun c => match c with
    | ⟨0, _⟩ => ha
    | ⟨1, _⟩ => hb

theorem emb3 {off : Fin 3 → Nat} {inb : ∀ a, off a + (![p, q, r] : Fin 3 → Nat) a ≤ (⟨3, ![A, B, C]⟩ : Shape).size a} (x : Fin p) (y : Fin q) (z : Fin r) (a : Fin A) (b : Fin B) (c : Fin C)
    (hoff : off = ![o0, o1, o2]) (ha : a.val = o0 + x.val) (hb : b.val = o1 + y.val) (hc : c.val = o2 + z.val) :
    (Rect.unit (s := ⟨3, ![A, B, C]⟩) off ![p, q, r] inb).emb (ix3 x y z) = ix3 a b c := by
  subst hoff
  exact unit_emb_eq _ _ fun c => match c with
    | ⟨0, _⟩ => ha
    | ⟨1, _⟩ => hb
    | ⟨2, _⟩ => hc

open Classical in
theorem put2_in {off : Fin 2 → Nat} {inb : ∀ a, off a + (![p, q] : Fin 2 → Nat) a ≤ (⟨2, ![A, B]⟩ : Shape).size a}
    (w : (⟨2, ![p, q]⟩ : Shape).Idx → α) (Mk : Finset (⟨2, ![p, q]⟩ : Shape).Idx) (X : (⟨2, ![A, B]⟩ : Shape).Idx → α) (x : Fin p) (y : Fin q) (a : Fin A) (b : Fin B)
    (hoff : off = ![o0, o1]) (ha : a.val = o0 + x.val) (hb : b.val = o1 + y.val) :
    put (Rect.unit (s := ⟨2, ![A, B]⟩) off ![p, q] inb) w Mk X (ix2 a b) = if ix2 x y ∈ Mk then w (ix2 x y) else X (ix2 a b) :=
  put_at _ _ _ _ _ _ (emb2 x y a b hoff ha hb)

theorem put2_out {off : Fin 2 → Nat} {inb : ∀ a, off a + (![p, q] : Fin 2 → Nat) a ≤ (⟨2, ![A, B]⟩ : Shape).size a}
    (w : (⟨2, ![p, q]⟩ : Shape).Idx → α) (Mk : Finset (⟨2, ![p, q]⟩ : Shape).Idx) (X : (⟨2, ![A, B]⟩ : Shape).Idx → α) (a : Fin A) (b : Fin B)
    (hoff : off = ![o0, o1]) (h : a.val < o0 ∨ o0 + p ≤ a.val ∨ b.val < o1 ∨ o1 + q ≤ b.val) :
    put (Rect.unit (s := ⟨2, ![A, B]⟩) off ![p, q] inb) w Mk X (ix2 a b) = X (ix2 a b) := by
  subst hoff
  rcases h with h | h | h | h
  · exact put_out (s := ⟨2, ![A, B]⟩) _ _ _ _ (0 : Fin 2) (.inl h)
  · exact put_out (s := ⟨2, ![A, B]⟩) _ _ _ _ (0 : Fin 2) (.inr h)
  · exact put_out (s := ⟨2, ![A, B]⟩) _ _ _ _ (1 : Fin 2) (.inl h)
  · exact put_out (s := ⟨2, ![A, B]⟩) _ _ _ _ (1 : Fin 2) (.inr h)

open Classical in
theorem put3_in {off : Fin 3 → Nat} {inb : ∀ a, off a + (![p, q, r] : Fin 3 → Nat) a ≤ (⟨3, ![A, B, C]⟩ : Shape).size a}
    (w : (⟨3, ![p, q, r]⟩ : Shape).Idx → α) (Mk : Finset (⟨3, ![p, q, r]⟩ : Shape).Idx) (X : (⟨3, ![A, B, C]⟩ : Shape).Idx → α) (x : Fin p) (y : Fin q) (z : Fin r) (a : Fin A) (b : Fin B) (c : Fin C)
    (hoff : off = ![o0, o1, o2]) (ha : a.val = o0 + x.val) (hb : b.val = o1 + y.val) (hc : c.val = o2 + z.val) :
    put (Rect.unit (s := ⟨3, ![A, B, C]⟩) off ![p, q, r] inb) w Mk X (ix3 a b c) = if ix3 x y z ∈ Mk then w (ix3 x y z) else X (ix3 a b c) :=
  put_at _ _ _ _ _ _ (emb3 x y z a b c hoff ha hb hc)

theorem put3_out {off : Fin 3 → Nat} {inb : ∀ a, off a + (![p, q, r] : Fin 3 → Nat) a ≤ (⟨3, ![A, B, C]⟩ : Shape).size a}
    (w : (⟨3, ![p, q, r]⟩ : Shape).Idx → α) (Mk : Finset (⟨3, ![p, q, r]⟩ : Shape).Idx) (X : (⟨3, ![A, B, C]⟩ : Shape).Idx → α) (a : Fin A) (b : Fin B) (c : Fin C)
    (hoff : off = ![o0, o1, o2]) (h : a.val < o0 ∨ o0 + p ≤ a.val ∨ b.val < o1 ∨ o1 + q ≤ b.val ∨ c.val < o2 ∨ o2 + r ≤ c.val) :
    put (Rect.unit (s := ⟨3, ![A, B, C]⟩) off ![p, q, r] inb) w Mk X (ix3 a b c) = X (ix3 a b c) := by
  subst hoff
  rcases h with h | h | h | h | h | h
  · exact put_out (s := ⟨3, ![A, B, C]⟩) _ _ _ _ (0 : Fin 3) (.inl h)
  · exact put_out (s := ⟨3, ![A, B, C]⟩) _ _ _ _ (0 : Fin 3) (.inr h)
  · exact put_out (s := ⟨3, ![A, B, C]⟩) _ _ _ _ (1 : Fin 3) (.inl h)
  · exact put_out (s := ⟨3, ![A, B, C]⟩) _ _ _ _ (1 : Fin 3) (.inr h)
  · exact put_out (s := ⟨3, ![A, B, C]⟩) _ _ _ _ (2 : Fin 3) (.inl h)
  · exact put_out (s := ⟨3, ![A, B, C]⟩) _ _ _ _ (2 : Fin 3) (.inr h)

end

/-! ## The tiles' stores -/

section
variable {α : Type} {n : Fin 49} {j : Fin 8} {t : Nat} {ht : t < 18}

theorem rL_emb (a b : Fin 128) : (rL t ht).emb (ix2 a b) = ix2 a ⟨128 * t + b.val, by omega⟩ :=
  emb2 a b _ _ rfl (by simp) rfl

theorem rL_put (w : S128x128.Idx → α) (X : S128x2304.Idx → α) (a : Fin 128) (l : Fin 2304) :
    put (rL t ht) w Finset.univ X (ix2 a l) = if l.val / 128 = t then w (ix2 a ⟨l.val % 128, Nat.mod_lt _ (by decide)⟩) else X (ix2 a l) := by
  split
  · refine (put2_in w _ X a ⟨l.val % 128, Nat.mod_lt _ (by decide)⟩ a l rfl (by simp) (by simp; omega)).trans ?_
    simp
  · exact put2_out w _ X a l rfl (by omega)

theorem rT_put (w : S128x128.Idx → α) (X : S2304x128.Idx → α) (l : Fin 2304) (a : Fin 128) :
    put (rT t ht) w Finset.univ X (ix2 l a) = if l.val / 128 = t then w (ix2 ⟨l.val % 128, Nat.mod_lt _ (by decide)⟩ a) else X (ix2 l a) := by
  split
  · refine (put2_in w _ X ⟨l.val % 128, Nat.mod_lt _ (by decide)⟩ a l a rfl (by simp; omega) (by simp)).trans ?_
    simp
  · exact put2_out w _ X l a rfl (by omega)

theorem rA_put (w : S128x1.Idx → α) (X : S128x128.Idx → α) (a m : Fin 128) :
    put (rA t ht) w Finset.univ X (ix2 a m) = if m.val = t then w (ix2 a 0) else X (ix2 a m) := by
  split
  · refine (put2_in w _ X a 0 a m rfl (by simp) (by simpa)).trans ?_
    simp
  · exact put2_out w _ X a m rfl (by omega)

theorem rW_emb (a b : Fin 128) : rW.emb (ix2 a b) = ix2 a b := emb2 a b a b rfl (by simp) (by simp)

theorem rW_put (w : S128x128.Idx → α) (X : S128x128.Idx → α) (a b : Fin 128) : put rW w Finset.univ X (ix2 a b) = w (ix2 a b) := by
  refine (put2_in w _ X a b a b rfl (by simp) (by simp)).trans ?_
  simp

theorem rG_put (w : S1x18432.Idx → α) (X : S1x18432.Idx → α) (k : Fin 18432) : put rG w Finset.univ X (ix2 0 k) = w (ix2 0 k) := by
  refine (put2_in w _ X 0 k 0 k rfl (by simp) (by simp)).trans ?_
  simp

theorem rCS_put (w : S2304x48.Idx → α) (X : S2304x48.Idx → α) (a : Fin 2304) (b : Fin 48) : put rCS w Finset.univ X (ix2 a b) = w (ix2 a b) := by
  refine (put2_in w _ X a b a b rfl (by simp) (by simp)).trans ?_
  simp

theorem rE_emb (a b : Fin 128) : (rE (pt n j) t ht).emb (ix3 0 a b) = ix3 j a ⟨128 * t + b.val, by omega⟩ :=
  emb3 0 a b j a _ rfl (by rw [ch_pt]; rfl) (by simp) rfl

theorem rE_put (w : S1x128x128.Idx → α) (X : S8x128x2304.Idx → α) (c : Fin 8) (a : Fin 128) (l : Fin 2304) :
    put (rE (pt n j) t ht) w Finset.univ X (ix3 c a l) = if c = j ∧ l.val / 128 = t then w (ix3 0 a ⟨l.val % 128, Nat.mod_lt _ (by decide)⟩) else X (ix3 c a l) := by
  split
  · refine (put3_in w _ X 0 a ⟨l.val % 128, Nat.mod_lt _ (by decide)⟩ c a l rfl (by rw [ch_pt]; simp [*]) (by simp) (by simp; omega)).trans ?_
    simp
  · rename_i h
    have h' : c.val ≠ j.val ∨ l.val / 128 ≠ t := by
      by_contra hc
      push Not at hc
      exact h ⟨Fin.ext hc.1, hc.2⟩
    exact put3_out w _ X c a l (by rw [ch_pt]) (by omega)

theorem rR_put (w : S1x128x128.Idx → α) (X : S8x128x128.Idx → α) (c : Fin 8) (a m : Fin 128) :
    put (rR (pt n j)) w Finset.univ X (ix3 c a m) = if c = j then w (ix3 0 a m) else X (ix3 c a m) := by
  split
  · refine (put3_in w _ X 0 a m c a m rfl (by rw [ch_pt]; simp [*]) (by simp) (by simp)).trans ?_
    simp
  · rename_i h
    have h' : c.val ≠ j.val := fun hc => h (Fin.ext hc)
    exact put3_out w _ X c a m (by rw [ch_pt]) (by omega)

theorem rQ_emb {ht : t < 8} (a : Fin 128) (m : Fin 18) : (rQ t ht).emb (ix3 0 a m) = ix3 ⟨t, ht⟩ a ⟨m.val, by omega⟩ :=
  emb3 0 a m _ a _ rfl (by simp) (by simp) (by simp)

theorem rS_put {ht : t < 8} (w : S128x18.Idx → α) (X : S128x144.Idx → α) (a : Fin 128) (m : Fin 144) :
    put (rS t ht) w Finset.univ X (ix2 a m) = if m.val / 18 = t then w (ix2 a ⟨m.val % 18, Nat.mod_lt _ (by decide)⟩) else X (ix2 a m) := by
  split
  · refine (put2_in w _ X a ⟨m.val % 18, Nat.mod_lt _ (by decide)⟩ a m rfl (by simp) (by simp; omega)).trans ?_
    simp
  · exact put2_out w _ X a m rfl (by omega)

theorem rG3_emb {h3 : k0_cond3 (pt n j) = 1#1} (b : Fin 128) : (rG3 (pt n j) h3 t ht).emb (ix2 0 b) = ix2 0 ⟨2304 * j.val + (128 * t + b.val), by omega⟩ :=
  emb2 0 b 0 _ (off4_pt n j ⟨t, ht⟩) (by simp) (by simp; omega)

theorem rG4_emb {h4 : k0_cond4 (pt n j) = 1#1} (b : Fin 128) : (rG4 (pt n j) h4 t ht).emb (ix2 0 b) = ix2 0 ⟨2304 * j.val + (128 * t + b.val), by omega⟩ :=
  emb2 0 b 0 _ (off26_pt n j ⟨t, ht⟩) (by simp) (by simp; omega)

theorem rG4_put {h4 : k0_cond4 (pt n j) = 1#1} (w : S1x128.Idx → α) (X : S1x18432.Idx → α) (k : Fin 18432) :
    put (rG4 (pt n j) h4 t ht) w Finset.univ X (ix2 0 k) = if k.val / 128 = 18 * j.val + t then w (ix2 0 ⟨k.val % 128, Nat.mod_lt _ (by decide)⟩) else X (ix2 0 k) := by
  split
  · refine (put2_in w _ X 0 ⟨k.val % 128, Nat.mod_lt _ (by decide)⟩ 0 k (off26_pt n j ⟨t, ht⟩) (by simp) (by simp; omega)).trans ?_
    simp
  · exact put2_out w _ X 0 k (off26_pt n j ⟨t, ht⟩) (by simp; omega)

theorem rC3_put {h3 : k0_cond3 (pt n j) = 1#1} (w : S8x128.Idx → α) (X : S48x18432.Idx → α) (s : Fin 48) (k : Fin 18432) :
    put (rC3 (pt n j) h3 t ht) w (IVec.on (k0_pay22 (k0_pay19 (BitVec.ofNat 32 n.val)))) X (ix2 s k)
      = if s.val = n.val - 1 ∧ k.val / 128 = 18 * j.val + t then w (ix2 ⟨s.val % 8, Nat.mod_lt _ (by decide)⟩ ⟨k.val % 128, Nat.mod_lt _ (by decide)⟩) else X (ix2 s k) := by
  have hn : 0 < n.val := (cond3_pt n j).1 h3
  by_cases h : s.val / 8 = (n.val - 1) / 8 ∧ k.val / 128 = 18 * j.val + t
  · refine (put2_in w _ X ⟨s.val % 8, Nat.mod_lt _ (by decide)⟩ ⟨k.val % 128, Nat.mod_lt _ (by decide)⟩ s k (off5_pt n j ⟨t, ht⟩ hn) (by simp; omega) (by simp; omega)).trans ?_
    have hm : (ix2 (⟨s.val % 8, Nat.mod_lt _ (by decide)⟩ : Fin 8) (⟨k.val % 128, Nat.mod_lt _ (by decide)⟩ : Fin 128) ∈ IVec.on (k0_pay22 (k0_pay19 (BitVec.ofNat 32 n.val)))) ↔ s.val % 8 = (n.val - 1) % 8 := by
      rw [← mask_cs n hn ⟨s.val % 8, Nat.mod_lt _ (by decide)⟩ ⟨k.val % 128, Nat.mod_lt _ (by decide)⟩]
      simp [IVec.on]
    exact if_congr (hm.trans ⟨fun h' => ⟨by omega, h.2⟩, fun h' => by omega⟩) rfl rfl
  · rw [if_neg (by omega)]
    exact put2_out w _ X s k (off5_pt n j ⟨t, ht⟩ hn) (by simp; omega)

theorem rP4_put {h4 : k0_cond4 (pt n j) = 1#1} (w : S1x8x128.Idx → α) (X : S1x8x18432.Idx → α) (s : Fin 8) (k : Fin 18432) :
    put (rP4 (pt n j) h4 t ht) w (IVec.on (k0_pay315 (maskP (BitVec.ofNat 32 n.val)))) X (ix3 0 s k)
      = if s.val = n.val % 8 ∧ k.val / 128 = 18 * j.val + t then w (ix3 0 s ⟨k.val % 128, Nat.mod_lt _ (by decide)⟩) else X (ix3 0 s k) := by
  by_cases h : k.val / 128 = 18 * j.val + t
  · refine (put3_in w _ X 0 s ⟨k.val % 128, Nat.mod_lt _ (by decide)⟩ 0 s k (off25_pt n j ⟨t, ht⟩) (by simp) (by simp) (by simp; omega)).trans ?_
    have hm : (ix3 (0 : Fin 1) s (⟨k.val % 128, Nat.mod_lt _ (by decide)⟩ : Fin 128) ∈ IVec.on (k0_pay315 (maskP (BitVec.ofNat 32 n.val)))) ↔ s.val = n.val % 8 := by
      rw [← mask_gp n s ⟨k.val % 128, Nat.mod_lt _ (by decide)⟩]
      simp [IVec.on]
    exact if_congr (hm.trans ⟨fun h' => ⟨h', h⟩, fun h' => h'.1⟩) rfl rfl
  · rw [if_neg (by omega)]
    exact put3_out w _ X 0 s k (off25_pt n j ⟨t, ht⟩) (by simp; omega)

theorem rB1_emb {h2 : k0_cond2 (pt n j) = 1#1} (b : Fin 128) : (rB1 (pt n j) h2).emb (ix2 0 b) = ix2 0 ⟨128 * (n.val % 24) + b.val, by omega⟩ :=
  emb2 0 b 0 _ (off1_pt n j ((cond2_pt n j).1 h2).1) (by simp) (by simp)

theorem rB2_emb {h2 : k0_cond2 (pt n j) = 1#1} (b : Fin 128) : (rB2 (pt n j) h2).emb (ix2 0 b) = ix2 1 ⟨128 * (n.val % 24) + b.val, by omega⟩ :=
  emb2 0 b 1 _ (off2_pt n j ((cond2_pt n j).1 h2).1) (by simp) (by simp)

theorem rK7_emb {h7 : k0_cond7 (pt n j) = 1#1} (s : Fin 48) (l : Fin 2304) : (rK7 (pt n j) h7).emb (ix2 s l) = ix2 s ⟨2304 * j.val + l.val, by omega⟩ :=
  emb2 s l s _ (off44_pt n j) (by simp) (by simp)

end

end Cert.KernelIdeal.Body
-- ==== Proof.Emit.lean ====
/- What the emission of a block leaves. -/
module

public import proofs.«01_k».proof.Proof.Store
public import proofs.«01_k».proof.Proof.Spec
public import proofs.«01_k».proof.Proof.Keep

@[expose] public section

set_option maxRecDepth 16384

noncomputable section

namespace Cert.KernelIdeal.Body

open Idealize.ShloMosaic Idealize.SL.Sem Cert.KernelIdeal Cert.KernelIdeal.Gen Proof.Tri

section
variable (A : Args) {n : Fin 49} {j : Fin 8} {t : Nat} {ht : t < 18} {h3 : k0_cond3 (pt n j) = 1#1}

/-- The tile's gradient. -/
def emD (i : grid0.Coords) (h3 : k0_cond3 i = 1#1) (s : Vec Ideal S128x128 .f32) (t : Nat) (ht : t < 18) (X : Sta Ideal) : FVec Ideal S128x128 .f32 :=
  k0_pay11 s (fun y => X 14 ((rE i t ht).emb y)) (fun y => X 5 ((rG3 i h3 t ht).emb y)) (fun y => X 15 ((rE i t ht).emb y)) (fun y => X 4 ((rL t ht).emb y))

/-- The tile's columns' greatest absolute values. -/
def emU (i : grid0.Coords) (h3 : k0_cond3 i = 1#1) (s : Vec Ideal S128x128 .f32) (t : Nat) (ht : t < 18) (X : Sta Ideal) : FVec Ideal S1x128 .f32 :=
  k0_pay16 s (fun y => X 14 ((rE i t ht).emb y)) (fun y => X 5 ((rG3 i h3 t ht).emb y)) (fun y => X 15 ((rE i t ht).emb y)) (fun y => X 4 ((rL t ht).emb y))

theorem emitS_19 (i : grid0.Coords) (h3 : k0_cond3 i = 1#1) (s : Vec Ideal S128x128 .f32) (t : Nat) (ht : t < 18) (X : Sta Ideal) :
    emitS i h3 s t ht X 19 = put (rL t ht) (k0_pay12 s (fun y => X 14 ((rE i t ht).emb y)) (fun y => X 5 ((rG3 i h3 t ht).emb y)) (fun y => X 15 ((rE i t ht).emb y)) (fun y => X 4 ((rL t ht).emb y))) Finset.univ (X 19) := rfl
theorem emitS_7 (i : grid0.Coords) (h3 : k0_cond3 i = 1#1) (s : Vec Ideal S128x128 .f32) (t : Nat) (ht : t < 18) (X : Sta Ideal) :
    emitS i h3 s t ht X 7 = put (rL t ht) (k0_pay13 s (fun y => X 14 ((rE i t ht).emb y)) (fun y => X 5 ((rG3 i h3 t ht).emb y)) (fun y => X 15 ((rE i t ht).emb y)) (fun y => X 4 ((rL t ht).emb y))) Finset.univ (X 7) := rfl
theorem emitS_20 (i : grid0.Coords) (h3 : k0_cond3 i = 1#1) (s : Vec Ideal S128x128 .f32) (t : Nat) (ht : t < 18) (X : Sta Ideal) :
    emitS i h3 s t ht X 20 = put (rA t ht) (k0_pay15 s (fun y => X 14 ((rE i t ht).emb y)) (fun y => X 5 ((rG3 i h3 t ht).emb y)) (fun y => X 15 ((rE i t ht).emb y)) (fun y => X 4 ((rL t ht).emb y))) Finset.univ (X 20) := rfl
theorem emitS_21 (i : grid0.Coords) (h3 : k0_cond3 i = 1#1) (s : Vec Ideal S128x128 .f32) (t : Nat) (ht : t < 18) (X : Sta Ideal) :
    emitS i h3 s t ht X 21 = put (rC3 i h3 t ht) (k0_pay21 (k0_pay20 (F := Ideal) (k0_pay17 (emU i h3 s t ht X)))) (IVec.on (k0_pay22 (k0_pay19 (BitVec.ofNat 32 (i 0).val)))) (X 21) := rfl
theorem emitS_12 (i : grid0.Coords) (h3 : k0_cond3 i = 1#1) (s : Vec Ideal S128x128 .f32) (t : Nat) (ht : t < 18) (X : Sta Ideal) :
    emitS i h3 s t ht X 12 = put (rT t ht) (k0_pay23 (emD i h3 s t ht X) (k0_pay18 (k0_pay17 (emU i h3 s t ht X)) 2130706432#32)) Finset.univ (X 12) := rfl

/-- What the emission needs. -/
structure EmIn (n : Fin 49) (j : Fin 8) (X : Sta Ideal) : Prop where
  e : ∀ (a : Fin 128) (l : Fin 2304), X 14 (ix3 j a l) = A.e (128 * (n.val - 1) + a.val) (2304 * j.val + l.val)
  x : ∀ (a : Fin 128) (l : Fin 2304), X 15 (ix3 j a l) = A.x (128 * (n.val - 1) + a.val) (2304 * j.val + l.val)
  g : ∀ k : Fin 18432, X 5 (ix2 0 k) = A.g k.val
  dr : ∀ (a : Fin 128) (l : Fin 2304), X 4 (ix2 a l) = A.dr (128 * (n.val - 1) + a.val) (2304 * j.val + l.val)

theorem emD_at {s : Vec Ideal S128x128 .f32} {X : Sta Ideal} (h : EmIn A n j X) (hs : ∀ a l : Fin 128, s (ix2 a l) = A.sN (128 * (n.val - 1) + a.val)) (a b : Fin 128) :
    emD (pt n j) h3 s t ht X (ix2 a b) = A.d (128 * (n.val - 1) + a.val) (2304 * j.val + (128 * t + b.val)) := by
  rw [emD, pay11_at, rE_emb, rG3_emb, rL_emb, h.e, h.x, h.g, h.dr, hs]
  rfl

theorem emU_at {s : Vec Ideal S128x128 .f32} {X : Sta Ideal} (h : EmIn A n j X) (hs : ∀ a l : Fin 128, s (ix2 a l) = A.sN (128 * (n.val - 1) + a.val)) (b : Fin 128) :
    emU (pt n j) h3 s t ht X (ix2 0 b) = part448 (A.cmax (n.val - 1) (2304 * j.val + (128 * t + b.val))) := by
  rw [emU, pay16_at, Args.cmax]
  refine congrArg part448 (congrArg fmax (funext fun a => congrArg eabs ?_))
  exact emD_at A h hs a b

/-- What the tiles below `t` leave. -/
structure Em (n : Fin 49) (j : Fin 8) (X : Sta Ideal) (t : Nat) (Y : Sta Ideal) : Prop where
  keep : ∀ k : Fin 23, k ≠ 19 → k ≠ 7 → k ≠ 20 → k ≠ 21 → k ≠ 12 → Y k = X k
  dxt : ∀ (a : Fin 128) (l : Fin 2304), l.val / 128 < t → Y 19 (ix2 a l) = A.d (128 * (n.val - 1) + a.val) (2304 * j.val + l.val)
  dx : ∀ (a : Fin 128) (l : Fin 2304), l.val / 128 < t → Y 7 (ix2 a l) = A.d (128 * (n.val - 1) + a.val) (2304 * j.val + l.val)
  amax : ∀ (a m : Fin 128), m.val < t → Y 20 (ix2 a m) = A.rmax (128 * (n.val - 1) + a.val) (18 * j.val + m.val)
  cs : ∀ (s : Fin 48) (k : Fin 18432), Y 21 (ix2 s k) = if s.val = n.val - 1 ∧ 18 * j.val ≤ k.val / 128 ∧ k.val / 128 < 18 * j.val + t then scaleK (A.cmax s.val k.val) else X 21 (ix2 s k)
  cc : ∀ (l : Fin 2304) (a : Fin 128), l.val / 128 < t → Y 12 (ix2 l a) = A.cc (128 * (n.val - 1) + a.val) (2304 * j.val + l.val)

theorem em_step {s : Vec Ideal S128x128 .f32} {X Y : Sta Ideal} (h : EmIn A n j X) (hs : ∀ a l : Fin 128, s (ix2 a l) = A.sN (128 * (n.val - 1) + a.val))
    (H : Em A n j X t Y) : Em A n j X (t + 1) (emitS (pt n j) h3 s t ht Y) := by
  have hY : EmIn A n j Y := ⟨by rw [H.keep 14 (by decide) (by decide) (by decide) (by decide) (by decide)]; exact h.e,
    by rw [H.keep 15 (by decide) (by decide) (by decide) (by decide) (by decide)]; exact h.x,
    by rw [H.keep 5 (by decide) (by decide) (by decide) (by decide) (by decide)]; exact h.g,
    by rw [H.keep 4 (by decide) (by decide) (by decide) (by decide) (by decide)]; exact h.dr⟩
  have hd := emD_at A (h3 := h3) (t := t) (ht := ht) hY hs
  have hu := emU_at A (h3 := h3) (t := t) (ht := ht) hY hs
  constructor
  · intro k h1 h2 h3' h4 h5
    exact (emitS_keep _ _ _ _ _ _ ⟨h2, h5, h1, h3', h4⟩).trans (H.keep k h1 h2 h3' h4 h5)
  · intro a l hl
    rw [emitS_19, rL_put]
    split
    · rw [pay12_at]
      refine (hd _ _).trans (congrArg _ ?_)
      simp only; omega
    · exact H.dxt a l (by omega)
  · intro a l hl
    rw [emitS_7, rL_put]
    split
    · rw [pay13_at]
      refine (hd _ _).trans (congrArg _ ?_)
      simp only; omega
    · exact H.dx a l (by omega)
  · intro a m hm
    rw [emitS_20, rA_put]
    split
    · rw [pay15_at, Args.rmax]
      refine congrArg fmax (funext fun b => congrArg eabs ((hd _ _).trans (congrArg _ ?_)))
      omega
    · exact H.amax a m (by omega)
  · intro s' k
    rw [emitS_21]
    refine (rC3_put _ _ s' k).trans ?_
    rw [H.cs]
    split
    · rw [if_pos (by omega), colScale_at, hu, scaleK, show s'.val = n.val - 1 by omega]
      have hk : 2304 * j.val + (128 * t + k.val % 128) = k.val := by omega
      rw [hk]
    · exact if_congr (by omega) rfl rfl
  · intro l a hl
    rw [emitS_12, rT_put]
    split
    · rw [colCode_at, hd, hu, Args.cc, invK, show (128 * (n.val - 1) + a.val) / 128 = n.val - 1 by omega]
      have hk : 2304 * j.val + (128 * t + l.val % 128) = 2304 * j.val + l.val := by omega
      rw [hk]
    · exact H.cc l a (by omega)

theorem em_tiles {s : Vec Ideal S128x128 .f32} {X : Sta Ideal} (h : EmIn A n j X) (hs : ∀ a l : Fin 128, s (ix2 a l) = A.sN (128 * (n.val - 1) + a.val)) :
    ∀ (t : Nat) (ht : t ≤ 18), Em A n j X t (tilesS (emitS (pt n j) h3 s) t ht X)
  | 0, _ => ⟨fun _ _ _ _ _ _ => rfl, fun _ _ h => absurd h (by omega), fun _ _ h => absurd h (by omega), fun _ _ h => absurd h (by omega),
      fun _ _ => (if_neg (by omega)).symm, fun _ _ h => absurd h (by omega)⟩
  | t + 1, ht => em_step A h hs (em_tiles h hs t (by omega))

/-- What the row codes' tiles below `t` leave. -/
theorem row_tiles {X : Sta Ideal} {v : Vec Ideal S128x128 .f32}
    (hd : ∀ (a : Fin 128) (l : Fin 2304), X 19 (ix2 a l) = A.d (128 * (n.val - 1) + a.val) (2304 * j.val + l.val))
    (hv : ∀ (a m : Fin 128), m.val < 18 → v (ix2 a m) = A.rmax (128 * (n.val - 1) + a.val) (18 * j.val + m.val)) :
    ∀ (t : Nat) (ht : t ≤ 18), (∀ k : Fin 23, k ≠ 10 → tilesS (rowS (rowInv v)) t ht X k = X k)
      ∧ ∀ (a : Fin 128) (l : Fin 2304), l.val / 128 < t → tilesS (rowS (rowInv v)) t ht X 10 (ix2 a l) = A.rc (128 * (n.val - 1) + a.val) (2304 * j.val + l.val)
  | 0, _ => ⟨fun _ _ => rfl, fun _ _ h => absurd h (by omega)⟩
  | t + 1, ht => by
    obtain ⟨h1, h2⟩ := row_tiles hd hv t (by omega)
    refine ⟨fun k hk => (Function.update_of_ne hk _ _).trans (h1 k hk), fun a l hl => ?_⟩
    have e10 : tilesS (rowS (rowInv v)) (t + 1) ht X 10 = put (rL t (by omega)) (rowCode (rowInv v) t (by omega) (fun y => tilesS (rowS (rowInv v)) t (by omega) X 19 ((rL t (by omega)).emb y))) Finset.univ (tilesS (rowS (rowInv v)) t (by omega) X 10) := rfl
    rw [e10, rL_put]
    split
    · rw [rowCode_at, rL_emb, h1 19 (by decide), hd, hv _ _ (by simp only; omega), Args.rc]
      have e1 : 2304 * j.val + (128 * t + l.val % 128) = 2304 * j.val + l.val := by omega
      have e2 : (2304 * j.val + l.val) / 128 = 18 * j.val + t := by omega
      rw [e1, e2]
    · exact h2 a l (by omega)

/-- What the emission leaves. -/
structure EmOut (n : Fin 49) (j : Fin 8) (X Y : Sta Ideal) : Prop where
  keep : ∀ k : Fin 23, k ≠ 19 → k ≠ 7 → k ≠ 20 → k ≠ 21 → k ≠ 12 → k ≠ 22 → k ≠ 10 → Y k = X k
  dx : ∀ (a : Fin 128) (l : Fin 2304), Y 7 (ix2 a l) = A.d (128 * (n.val - 1) + a.val) (2304 * j.val + l.val)
  rc : ∀ (a : Fin 128) (l : Fin 2304), Y 10 (ix2 a l) = A.rc (128 * (n.val - 1) + a.val) (2304 * j.val + l.val)
  cc : ∀ (l : Fin 2304) (a : Fin 128), Y 12 (ix2 l a) = A.cc (128 * (n.val - 1) + a.val) (2304 * j.val + l.val)
  cs : ∀ (s : Fin 48) (k : Fin 18432), Y 21 (ix2 s k) = if s.val = n.val - 1 ∧ k.val / 2304 = j.val then scaleK (A.cmax s.val k.val) else X 21 (ix2 s k)
  rs : ∀ (c : Fin 8) (a m : Fin 128), m.val < 18 → Y 22 (ix3 c a m) = if c = j then scaleK (A.rmax (128 * (n.val - 1) + a.val) (18 * j.val + m.val)) else X 22 (ix3 c a m)

theorem row_out {X Y : Sta Ideal} (H : Em A n j X 18 Y) (v : Vec Ideal S128x128 .f32) (hvd : v = fun y => Y 20 (rW.emb y)) :
    EmOut A n j X (tilesS (rowS (rowInv v)) 18 (by decide) (Function.update Y 22 (put (rR (pt n j)) (k0_pay284 (rowScale v)) Finset.univ (Y 22)))) := by
  have hv' : ∀ (a m : Fin 128), m.val < 18 → v (ix2 a m) = A.rmax (128 * (n.val - 1) + a.val) (18 * j.val + m.val) := fun a m hm => by
    rw [hvd]
    show Y 20 (rW.emb (ix2 a m)) = _
    rw [rW_emb]; exact H.amax a m hm
  clear hvd
  generalize hZ : Function.update Y 22 (put (rR (pt n j)) (k0_pay284 (rowScale v)) Finset.univ (Y 22)) = Z
  have hZk : ∀ k : Fin 23, k ≠ 22 → Z k = Y k := fun k hk => by rw [← hZ]; exact Function.update_of_ne hk _ _
  have hZ22 : Z 22 = put (rR (pt n j)) (k0_pay284 (rowScale v)) Finset.univ (Y 22) := by rw [← hZ]; rfl
  clear hZ
  obtain ⟨h1, h2⟩ := row_tiles A (n := n) (j := j) (v := v) (X := Z) (fun a l => by rw [hZk 19 (by decide)]; exact H.dxt a l (by omega)) hv' 18 (by decide)
  generalize tilesS (rowS (rowInv v)) 18 (by decide) Z = W at h1 h2 ⊢
  constructor
  · intro k k1 k2 k3 k4 k5 k6 k7
    rw [h1 k k7, hZk k k6, H.keep k k1 k2 k3 k4 k5]
  · intro a l
    rw [h1 7 (by decide), hZk 7 (by decide)]
    exact H.dx a l (by omega)
  · intro a l
    exact h2 a l (by omega)
  · intro l a
    rw [h1 12 (by decide), hZk 12 (by decide)]
    exact H.cc l a (by omega)
  · intro s k
    rw [h1 21 (by decide), hZk 21 (by decide), H.cs s k]
    exact if_congr (by omega) rfl rfl
  · intro c a m hm
    rw [h1 22 (by decide), hZ22, rR_put, rowScale_at, hv' a m hm, H.keep 22 (by decide) (by decide) (by decide) (by decide) (by decide)]

theorem reg3_out {X : Sta Ideal} (h : EmIn A n j X) (hs : ∀ a l : Fin 128, X 17 (ix2 a l) = A.sN (128 * (n.val - 1) + a.val)) :
    EmOut A n j X (reg3S (pt n j) h3 X) :=
  row_out A (em_tiles A (h3 := h3) (s := fun y => X 17 (rW.emb y)) h (fun a l => by rw [rW_emb]; exact hs a l) 18 (by decide)) _ rfl

end

end Cert.KernelIdeal.Body
-- ==== Proof.Reduce.lean ====
/- What the reduction of a block's chunk leaves. -/
module

public import proofs.«01_k».proof.Proof.Store
public import proofs.«01_k».proof.Proof.Spec
public import proofs.«01_k».proof.Proof.Keep

@[expose] public section

set_option maxRecDepth 16384

noncomputable section

namespace Cert.KernelIdeal.Body

open Idealize.ShloMosaic Idealize.SL.Sem Cert.KernelIdeal Cert.KernelIdeal.Gen Proof.Tri

theorem redS_14 (i : grid0.Coords) (h4 : k0_cond4 i = 1#1) (r : Vec Ideal S128x128 .f32) (t : Nat) (ht : t < 18) (X : Sta Ideal) :
    redS i h4 r t ht X 14 = put (rE i t ht) (k0_pay309 r (fun y => X 1 ((rL t ht).emb y)) (fun y => X 2 ((rL t ht).emb y)) (fun y => X 3 ((rL t ht).emb y))) Finset.univ (X 14) := by
  unfold redS
  dsimp only
  rw [Function.update_of_ne (by decide : (14 : Fin 23) ≠ 8), Function.update_of_ne (by decide : (14 : Fin 23) ≠ 9), Function.update_of_ne (by decide : (14 : Fin 23) ≠ 15), Function.update_self]
  rfl
theorem redS_15 (i : grid0.Coords) (h4 : k0_cond4 i = 1#1) (r : Vec Ideal S128x128 .f32) (t : Nat) (ht : t < 18) (X : Sta Ideal) :
    redS i h4 r t ht X 15 = put (rE i t ht) (k0_pay310 (F := Ideal) (fun y => X 0 ((rL t ht).emb y))) Finset.univ (X 15) := by
  unfold redS
  dsimp only
  rw [Function.update_of_ne (by decide : (15 : Fin 23) ≠ 8), Function.update_of_ne (by decide : (15 : Fin 23) ≠ 9), Function.update_self, Function.update_of_ne (by decide : (15 : Fin 23) ≠ 14)]
  rfl

/-- The tile's part of `dgamma`. -/
def rdP (r : Vec Ideal S128x128 .f32) (t : Nat) (ht : t < 18) (X : Sta Ideal) : FVec Ideal S1x128 .f32 :=
  k0_pay311 r (fun y => X 1 ((rL t ht).emb y)) (fun y => X 2 ((rL t ht).emb y)) (fun y => X 3 ((rL t ht).emb y)) (fun y => X 0 ((rL t ht).emb y))

/-- The tile's products. -/
def rdQ (r : Vec Ideal S128x128 .f32) (t : Nat) (ht : t < 18) (X : Sta Ideal) : FVec Ideal S128x128 .f32 :=
  k0_pay308 r (fun y => X 1 ((rL t ht).emb y)) (fun y => X 2 ((rL t ht).emb y)) (fun y => X 3 ((rL t ht).emb y)) (fun y => X 0 ((rL t ht).emb y))

theorem redS_9 (i : grid0.Coords) (h4 : k0_cond4 i = 1#1) (r : Vec Ideal S128x128 .f32) (t : Nat) (ht : t < 18) (X : Sta Ideal) :
    redS i h4 r t ht X 9 = put (rP4 i h4 t ht) (k0_pay314 (k0_pay313 (rdP r t ht X))) (IVec.on (k0_pay315 (maskP (BitVec.ofNat 32 (i 0).val)))) (X 9) := by
  unfold redS
  dsimp only
  rw [Function.update_of_ne (by decide : (9 : Fin 23) ≠ 8), Function.update_self, Function.update_of_ne (by decide : (9 : Fin 23) ≠ 15), Function.update_of_ne (by decide : (9 : Fin 23) ≠ 14)]
  rfl
theorem redS_8 (i : grid0.Coords) (h4 : k0_cond4 i = 1#1) (r : Vec Ideal S128x128 .f32) (t : Nat) (ht : t < 18) (X : Sta Ideal) :
    redS i h4 r t ht X 8 = put (rG4 i h4 t ht) (k0_pay316 (rdP r t ht X) (fun y => X 8 ((rG4 i h4 t ht).emb y))) Finset.univ (X 8) := by
  unfold redS
  dsimp only
  rw [Function.update_self, Function.update_of_ne (by decide : (8 : Fin 23) ≠ 9), Function.update_of_ne (by decide : (8 : Fin 23) ≠ 15), Function.update_of_ne (by decide : (8 : Fin 23) ≠ 14)]
  rfl

theorem cast_at (c : Vec Ideal S128x128 .f32) (a b : Fin 128) : shapeCast S128x128 c shapeCasts_S128x128_S128x128 (ix2 a b) = c (ix2 a b) := by
  pointwise

section
variable (A : Args) {n : Fin 49} {j : Fin 8} {t : Nat} {ht : t < 18} {h4 : k0_cond4 (pt n j) = 1#1}

/-- What the reduction needs. -/
structure RdIn (n : Fin 49) (j : Fin 8) (X : Sta Ideal) : Prop where
  x : ∀ (a : Fin 128) (l : Fin 2304), X 0 (ix2 a l) = A.x (128 * n.val + a.val) (2304 * j.val + l.val)
  q : ∀ (a : Fin 128) (l : Fin 2304), X 1 (ix2 a l) = A.q (128 * n.val + a.val) (2304 * j.val + l.val)
  k : ∀ (a : Fin 128) (l : Fin 2304), X 2 (ix2 a l) = A.k (128 * n.val + a.val) (2304 * j.val + l.val)
  v : ∀ (a : Fin 128) (l : Fin 2304), X 3 (ix2 a l) = A.v (128 * n.val + a.val) (2304 * j.val + l.val)
  g : ∀ k : Fin 18432, X 5 (ix2 0 k) = A.g k.val

theorem rdP_at {r : Vec Ideal S128x128 .f32} {X : Sta Ideal} (h : RdIn A n j X) (hr : ∀ a l : Fin 128, r (ix2 a l) = A.r (128 * n.val + a.val)) (b : Fin 128) :
    rdP r t ht X (ix2 0 b) = A.part n.val (2304 * j.val + (128 * t + b.val)) := by
  rw [rdP, pay311_at, Args.part]
  refine Finset.sum_congr rfl fun a _ => ?_
  rw [rL_emb, h.x, h.q, h.k, h.v, hr]
  rfl

theorem rdQ_at {r : Vec Ideal S128x128 .f32} {X : Sta Ideal} (h : RdIn A n j X) (hr : ∀ a l : Fin 128, r (ix2 a l) = A.r (128 * n.val + a.val)) (a b : Fin 128) :
    rdQ r t ht X (ix2 a b) = A.p (128 * n.val + a.val) (2304 * j.val + (128 * t + b.val)) := by
  rw [rdQ, pay308_at, rL_emb, h.x, h.q, h.k, h.v, hr]
  rfl

/-- What the tiles below `t` leave. -/
structure Rd (n : Fin 49) (j : Fin 8) (X : Sta Ideal) (t : Nat) (Y : Sta Ideal) : Prop where
  keep : ∀ k : Fin 23, k ≠ 8 → k ≠ 9 → k ≠ 14 → k ≠ 15 → Y k = X k
  e : ∀ (c : Fin 8) (a : Fin 128) (l : Fin 2304), Y 14 (ix3 c a l) = if c = j ∧ l.val / 128 < t then A.e (128 * n.val + a.val) (2304 * j.val + l.val) else X 14 (ix3 c a l)
  x : ∀ (c : Fin 8) (a : Fin 128) (l : Fin 2304), Y 15 (ix3 c a l) = if c = j ∧ l.val / 128 < t then A.x (128 * n.val + a.val) (2304 * j.val + l.val) else X 15 (ix3 c a l)
  gp : ∀ (s : Fin 8) (k : Fin 18432), Y 9 (ix3 0 s k) = if s.val = n.val % 8 ∧ 18 * j.val ≤ k.val / 128 ∧ k.val / 128 < 18 * j.val + t then A.part n.val k.val else X 9 (ix3 0 s k)
  dg : ∀ (k : Fin 18432), Y 8 (ix2 0 k) = if 18 * j.val ≤ k.val / 128 ∧ k.val / 128 < 18 * j.val + t then (show EReal from X 8 (ix2 0 k)) + A.part n.val k.val else X 8 (ix2 0 k)

theorem rd_in {X Y : Sta Ideal} (h : RdIn A n j X) (H : Rd A n j X t Y) : RdIn A n j Y :=
  ⟨by rw [H.keep 0 (by decide) (by decide) (by decide) (by decide)]; exact h.x,
    by rw [H.keep 1 (by decide) (by decide) (by decide) (by decide)]; exact h.q,
    by rw [H.keep 2 (by decide) (by decide) (by decide) (by decide)]; exact h.k,
    by rw [H.keep 3 (by decide) (by decide) (by decide) (by decide)]; exact h.v,
    by rw [H.keep 5 (by decide) (by decide) (by decide) (by decide)]; exact h.g⟩

theorem rd_step {r : Vec Ideal S128x128 .f32} {X Y : Sta Ideal} (h : RdIn A n j X) (hr : ∀ a l : Fin 128, r (ix2 a l) = A.r (128 * n.val + a.val))
    (H : Rd A n j X t Y) : Rd A n j X (t + 1) (redS (pt n j) h4 r t ht Y) := by
  have hY := rd_in A h H
  have hp := rdP_at A (t := t) (ht := ht) hY hr
  constructor
  · intro k h1 h2 h3 h4'
    exact (redS_keep _ _ _ _ _ _ ⟨h1, h2, h3, h4'⟩).trans (H.keep k h1 h2 h3 h4')
  · intro c a l
    rw [redS_14, rE_put]
    split
    · rename_i hc
      rw [if_pos ⟨hc.1, by omega⟩, pay309_at, rL_emb, hY.q, hY.k, hY.v, hr, Args.e]
      have hk : 2304 * j.val + (128 * t + l.val % 128) = 2304 * j.val + l.val := by omega
      simp only [hk]
    · rename_i hc
      rw [H.e]
      refine if_congr ⟨fun h' => ⟨h'.1, by omega⟩, fun h' => ⟨h'.1, ?_⟩⟩ rfl rfl
      have := fun h2 => hc ⟨h'.1, h2⟩
      omega
  · intro c a l
    rw [redS_15, rE_put]
    split
    · rename_i hc
      rw [if_pos ⟨hc.1, by omega⟩, pay310_at, rL_emb, hY.x]
      have hk : 2304 * j.val + (128 * t + l.val % 128) = 2304 * j.val + l.val := by omega
      simp only [hk]
    · rename_i hc
      rw [H.x]
      refine if_congr ⟨fun h' => ⟨h'.1, by omega⟩, fun h' => ⟨h'.1, ?_⟩⟩ rfl rfl
      have := fun h2 => hc ⟨h'.1, h2⟩
      omega
  · intro s k
    rw [redS_9]
    refine (rP4_put _ _ s k).trans ?_
    split
    · rw [if_pos (by omega), pay314_at, hp]
      have hk : 2304 * j.val + (128 * t + k.val % 128) = k.val := by omega
      rw [hk]
    · rw [H.gp]
      exact if_congr (by omega) rfl rfl
  · intro k
    rw [redS_8, rG4_put]
    split
    · rw [if_pos (by omega), pay316_at, hp, rG4_emb]
      have hk : 2304 * j.val + (128 * t + k.val % 128) = k.val := by omega
      simp only [hk]
      rw [H.dg, if_neg (by simp only; omega)]
    · rw [H.dg]
      exact if_congr (by omega) rfl rfl

theorem rd_tiles {r : Vec Ideal S128x128 .f32} {X : Sta Ideal} (h : RdIn A n j X) (hr : ∀ a l : Fin 128, r (ix2 a l) = A.r (128 * n.val + a.val)) :
    ∀ (t : Nat) (ht : t ≤ 18), Rd A n j X t (tilesS (redS (pt n j) h4 r) t ht X)
  | 0, _ => ⟨fun _ _ _ _ _ => rfl, fun _ _ _ => (if_neg (by omega)).symm, fun _ _ _ => (if_neg (by omega)).symm, fun _ _ => (if_neg (by omega)).symm, fun _ => (if_neg (by omega)).symm⟩
  | t + 1, ht => rd_step A h hr (rd_tiles h hr t (by omega))

theorem rd_sum {r c : Vec Ideal S128x128 .f32} {X : Sta Ideal} (h : RdIn A n j X) (hr : ∀ a l : Fin 128, r (ix2 a l) = A.r (128 * n.val + a.val))
    (hc : ∀ a l : Fin 128, c (ix2 a l) = A.lane (128 * n.val + a.val) l.val (18 * j.val)) :
    ∀ (t : Nat) (ht : t ≤ 18) (a l : Fin 128), tilesSum (redS (pt n j) h4 r) (redC (pt n j) h4 r) t ht X c (ix2 a l) = A.lane (128 * n.val + a.val) l.val (18 * j.val + t)
  | 0, _, a, l => hc a l
  | t + 1, ht, a, l => by
    have hY := rd_in A h (rd_tiles A (h4 := h4) h hr t (by omega))
    have e1 : tilesSum (redS (pt n j) h4 r) (redC (pt n j) h4 r) (t + 1) ht X c
      = k0_pay317 (tilesSum (redS (pt n j) h4 r) (redC (pt n j) h4 r) t (by omega) X c) (rdQ r t (by omega) (tilesS (redS (pt n j) h4 r) t (by omega) X))
          (fun y => tilesS (redS (pt n j) h4 r) t (by omega) X 5 ((rG4 (pt n j) h4 t (by omega)).emb y)) := rfl
    rw [e1, pay317_at, rd_sum h hr hc t (by omega) a l, rdQ_at A hY hr, rG4_emb, hY.g]
    have hk : 2304 * j.val + (128 * t + l.val) = 128 * (18 * j.val + t) + l.val := by omega
    simp only [hk]
    rfl

/-- What the reduction leaves. -/
structure RdOut (n : Fin 49) (j : Fin 8) (X Y : Sta Ideal) : Prop where
  keep : ∀ k : Fin 23, k ≠ 8 → k ≠ 9 → k ≠ 14 → k ≠ 15 → k ≠ 18 → Y k = X k
  e : ∀ (c : Fin 8) (a : Fin 128) (l : Fin 2304), Y 14 (ix3 c a l) = if c = j then A.e (128 * n.val + a.val) (2304 * j.val + l.val) else X 14 (ix3 c a l)
  x : ∀ (c : Fin 8) (a : Fin 128) (l : Fin 2304), Y 15 (ix3 c a l) = if c = j then A.x (128 * n.val + a.val) (2304 * j.val + l.val) else X 15 (ix3 c a l)
  gp : ∀ (s : Fin 8) (k : Fin 18432), Y 9 (ix3 0 s k) = if s.val = n.val % 8 ∧ k.val / 2304 = j.val then A.part n.val k.val else X 9 (ix3 0 s k)
  dg : ∀ (k : Fin 18432), Y 8 (ix2 0 k) = if k.val / 2304 = j.val then (show EReal from X 8 (ix2 0 k)) + A.part n.val k.val else X 8 (ix2 0 k)
  c : ∀ a l : Fin 128, Y 18 (ix2 a l) = A.lane (128 * n.val + a.val) l.val (18 * (j.val + 1))

theorem reg4_aux {r c' : Vec Ideal S128x128 .f32} {X Y : Sta Ideal} (H : Rd A n j X 18 Y)
    (hc : ∀ a l : Fin 128, c' (ix2 a l) = A.lane (128 * n.val + a.val) l.val (18 * j.val + 18)) :
    RdOut A n j X (Function.update Y 18 (put rW (shapeCast S128x128 c' shapeCasts_S128x128_S128x128) Finset.univ (Y 18))) := by
  have e18 : Function.update Y 18 (put rW (shapeCast S128x128 c' shapeCasts_S128x128_S128x128) Finset.univ (Y 18)) 18 = put rW (shapeCast S128x128 c' shapeCasts_S128x128_S128x128) Finset.univ (Y 18) := Function.update_self _ _ _
  constructor
  · intro k h1 h2 h3 h4 h5
    rw [Function.update_of_ne h5]
    exact H.keep k h1 h2 h3 h4
  · intro c a l
    rw [Function.update_of_ne (by decide), H.e]
    exact if_congr ⟨fun h => h.1, fun h => ⟨h, by omega⟩⟩ rfl rfl
  · intro c a l
    rw [Function.update_of_ne (by decide), H.x]
    exact if_congr ⟨fun h => h.1, fun h => ⟨h, by omega⟩⟩ rfl rfl
  · intro s k
    rw [Function.update_of_ne (by decide), H.gp]
    exact if_congr (by omega) rfl rfl
  · intro k
    rw [Function.update_of_ne (by decide), H.dg]
    exact if_congr (by omega) rfl rfl
  · intro a l
    rw [e18, rW_put, cast_at, hc]
    rfl

theorem reg4_out {X : Sta Ideal} (h : RdIn A n j X) (hr : ∀ a l : Fin 128, X 16 (ix2 a l) = A.r (128 * n.val + a.val))
    (hc : ∀ a l : Fin 128, X 18 (ix2 a l) = A.lane (128 * n.val + a.val) l.val (18 * j.val)) : RdOut A n j X (reg4S (pt n j) h4 X) := by
  have hr' : ∀ a l : Fin 128, (fun y => X 16 (rW.emb y) : Vec Ideal S128x128 .f32) (ix2 a l) = A.r (128 * n.val + a.val) := fun a l => by
    show X 16 (rW.emb (ix2 a l)) = _
    rw [rW_emb]; exact hr a l
  have hc' : ∀ a l : Fin 128, (fun y => X 18 (rW.emb y) : Vec Ideal S128x128 .f32) (ix2 a l) = A.lane (128 * n.val + a.val) l.val (18 * j.val) := fun a l => by
    show X 18 (rW.emb (ix2 a l)) = _
    rw [rW_emb]; exact hc a l
  exact reg4_aux A (r := fun y => X 16 (rW.emb y)) (rd_tiles A (h4 := h4) h hr' 18 (by decide)) (rd_sum A (h4 := h4) h hr' hc' 18 (by decide))

end

end Cert.KernelIdeal.Body
-- ==== Proof.Point.lean ====
/- What one grid point leaves, from what it finds. -/
module

public import proofs.«01_k».proof.Proof.Emit
public import proofs.«01_k».proof.Proof.Reduce

@[expose] public section

set_option maxRecDepth 16384

noncomputable section

namespace Cert.KernelIdeal.Body

open Idealize.ShloMosaic Idealize.SL.Sem Cert.KernelIdeal Cert.KernelIdeal.Gen Proof.Tri

variable (A : Args)

/-- The inputs that block `n`, chunk `j` finds. -/
structure Ins (n : Fin 49) (j : Fin 8) (X : Sta Ideal) : Prop where
  x : n.val < 48 → ∀ (a : Fin 128) (l : Fin 2304), X 0 (ix2 a l) = A.x (128 * n.val + a.val) (2304 * j.val + l.val)
  q : n.val < 48 → ∀ (a : Fin 128) (l : Fin 2304), X 1 (ix2 a l) = A.q (128 * n.val + a.val) (2304 * j.val + l.val)
  k : n.val < 48 → ∀ (a : Fin 128) (l : Fin 2304), X 2 (ix2 a l) = A.k (128 * n.val + a.val) (2304 * j.val + l.val)
  v : n.val < 48 → ∀ (a : Fin 128) (l : Fin 2304), X 3 (ix2 a l) = A.v (128 * n.val + a.val) (2304 * j.val + l.val)
  dr : 0 < n.val → ∀ (a : Fin 128) (l : Fin 2304), X 4 (ix2 a l) = A.dr (128 * (n.val - 1) + a.val) (2304 * j.val + l.val)
  g : ∀ k : Fin 18432, X 5 (ix2 0 k) = A.g k.val
  r : ∀ (s : Fin 2) (k : Fin 3072), X 6 (ix2 s k) = A.r (3072 * s.val + k.val)

/-- What is known of the scratch before chunk `j` of block `n`, or after its last chunk (`j = 8`). -/
structure Inv (n j : Nat) (X : Sta Ideal) : Prop where
  r : 0 < j → n < 48 → ∀ a l : Fin 128, X 16 (ix2 a l) = A.r (128 * n + a.val)
  c : 0 < j → n < 48 → ∀ a l : Fin 128, X 18 (ix2 a l) = A.lane (128 * n + a.val) l.val (18 * j)
  s : 0 < n → j < 8 → ∀ a l : Fin 128, X 17 (ix2 a l) = A.sN (128 * (n - 1) + a.val)
  s' : n < 48 → j = 8 → ∀ a l : Fin 128, X 17 (ix2 a l) = A.sN (128 * n + a.val)
  e : 0 < n → ∀ (c : Fin 8) (a : Fin 128) (l : Fin 2304), j ≤ c.val → X 14 (ix3 c a l) = A.e (128 * (n - 1) + a.val) (2304 * c.val + l.val)
  e' : n < 48 → ∀ (c : Fin 8) (a : Fin 128) (l : Fin 2304), c.val < j → X 14 (ix3 c a l) = A.e (128 * n + a.val) (2304 * c.val + l.val)
  x : 0 < n → ∀ (c : Fin 8) (a : Fin 128) (l : Fin 2304), j ≤ c.val → X 15 (ix3 c a l) = A.x (128 * (n - 1) + a.val) (2304 * c.val + l.val)
  x' : n < 48 → ∀ (c : Fin 8) (a : Fin 128) (l : Fin 2304), c.val < j → X 15 (ix3 c a l) = A.x (128 * n + a.val) (2304 * c.val + l.val)
  cs : ∀ (s : Fin 48) (k : Fin 18432), s.val + 1 < n ∨ (s.val + 1 = n ∧ k.val / 2304 < j) → X 21 (ix2 s k) = scaleK (A.cmax s.val k.val)
  rs : 0 < n → ∀ (c : Fin 8) (a m : Fin 128), m.val < 18 → c.val < j → X 22 (ix3 c a m) = scaleK (A.rmax (128 * (n - 1) + a.val) (18 * c.val + m.val))

theorem Inv.next {n : Nat} {X : Sta Ideal} (hn : n < 48) (h : Inv A n 8 X) : Inv A (n + 1) 0 X where
  r h0 := absurd h0 (by omega)
  c h0 := absurd h0 (by omega)
  s _ _ := h.s' hn rfl
  s' _ h0 := absurd h0 (by omega)
  e _ c a l _ := h.e' hn c a l c.isLt
  e' _ c a l h0 := absurd h0 (by omega)
  x _ c a l _ := h.x' hn c a l c.isLt
  x' _ c a l h0 := absurd h0 (by omega)
  cs s k h0 := h.cs s k (by omega)
  rs _ c a m _ h0 := absurd h0 (by omega)

/-- `dgamma` before chunk `j` of block `n`. -/
def Dg (n j : Nat) (f : S1x18432.Idx → EReal) : Prop := ∀ k : Fin 18432, f (ix2 0 k) = A.dg k.val (if n < 48 ∧ k.val / 2304 < j then n + 1 else n)

/-- The partial sums before chunk `j` of block `n`. -/
def Gp (n j : Nat) (f : S1x8x18432.Idx → EReal) : Prop :=
  ∀ (s : Fin 8) (k : Fin 18432), n = 48 ∨ s.val < n % 8 ∨ (s.val = n % 8 ∧ k.val / 2304 < j) → f (ix3 0 s k) = A.part (8 * (min n 47 / 8) + s.val) k.val

/-- What is known after a point. -/
structure Post (n : Fin 49) (j : Fin 8) (W : Sta Ideal) : Prop where
  inv : Inv A n.val (j.val + 1) W
  dx : 0 < n.val → ∀ (a : Fin 128) (l : Fin 2304), W 7 (ix2 a l) = A.d (128 * (n.val - 1) + a.val) (2304 * j.val + l.val)
  dg : Dg A n.val (j.val + 1) (W 8)
  gp : Gp A n.val (j.val + 1) (W 9)
  rc : 0 < n.val → ∀ (a : Fin 128) (l : Fin 2304), W 10 (ix2 a l) = A.rc (128 * (n.val - 1) + a.val) (2304 * j.val + l.val)
  rs : 0 < n.val → j.val = 7 → ∀ (a : Fin 128) (m : Fin 144), W 11 (ix2 a m) = scaleK (A.rmax (128 * (n.val - 1) + a.val) m.val)
  cc : 0 < n.val → ∀ (l : Fin 2304) (a : Fin 128), W 12 (ix2 l a) = A.cc (128 * (n.val - 1) + a.val) (2304 * j.val + l.val)
  cs : n.val = 48 → ∀ (l : Fin 2304) (s : Fin 48), W 13 (ix2 l s) = scaleK (A.cmax s.val (2304 * j.val + l.val))

variable {A} {n : Fin 49} {j : Fin 8} {X : Sta Ideal}

theorem reg1_dg (X : Sta Ideal) (k : Fin 18432) : reg1S X 8 (ix2 0 k) = (0 : EReal) := by
  have e8 : reg1S X 8 = put rG (k0_pay1 (F := Ideal)) Finset.univ (X 8) := by
    unfold reg1S
    rw [Function.update_of_ne (by decide : (8 : Fin 23) ≠ 20), Function.update_self]
  rw [e8, rG_put, pay1_at]

theorem reg2_r {h2 : k0_cond2 (pt n j) = 1#1} (h : Ins A n j X) (a l : Fin 128) : reg2S (pt n j) h2 X 16 (ix2 a l) = A.r (128 * n.val + a.val) := by
  have hn := ((cond2_pt n j).1 h2).1
  have e16 : reg2S (pt n j) h2 X 16 = put rW (k0_pay10 (BitVec.ofNat 32 n.val) (fun y => X 6 ((rB1 (pt n j) h2).emb y)) (fun y => X 6 ((rB2 (pt n j) h2).emb y))) Finset.univ (X 16) := by
    unfold reg2S
    rw [Function.update_of_ne (by decide : (16 : Fin 23) ≠ 18), Function.update_self]
    rfl
  rw [e16, rW_put, pay10_at, rB1_emb (t := 0), rB2_emb (t := 0), h.r, h.r]
  split
  · refine congrArg A.r ?_
    simp; omega
  · refine congrArg A.r ?_
    simp; omega

theorem reg2_c {h2 : k0_cond2 (pt n j) = 1#1} (a l : Fin 128) : reg2S (pt n j) h2 X 18 (ix2 a l) = (0 : EReal) := by
  have e18 : reg2S (pt n j) h2 X 18 = put rW (k0_pay3 (F := Ideal)) Finset.univ (X 18) := by
    unfold reg2S
    dsimp only
    rw [Function.update_self, Function.update_of_ne (by decide : (18 : Fin 23) ≠ 16)]
  rw [e18, rW_put, pay3_at]

theorem reg5_s (hr : ∀ a l : Fin 128, X 16 (ix2 a l) = A.r (128 * n.val + a.val)) (hc : ∀ a l : Fin 128, X 18 (ix2 a l) = A.lane (128 * n.val + a.val) l.val 144) (a l : Fin 128) :
    reg5S X 17 (ix2 a l) = A.sN (128 * n.val + a.val) := by
  have e17 : reg5S X 17 = put rW (k0_pay7 (fun y => X 18 (rW.emb y)) (fun y => X 16 (rW.emb y))) Finset.univ (X 17) := by
    unfold reg5S
    rw [Function.update_self]
    rfl
  rw [e17, rW_put, pay7_at]
  simp only [rW_emb, hr, hc]
  rfl

theorem scales_at (X : Sta Ideal) : ∀ (t : Nat) (ht : t ≤ 8) (a : Fin 128) (m : Fin 144), m.val / 18 < t →
    scalesS t ht X 11 (ix2 a m) = X 22 (ix3 (⟨m.val / 18, by omega⟩ : Fin 8) a (⟨m.val % 18, by omega⟩ : Fin 128))
  | 0, _, _, _, h => absurd h (by omega)
  | t + 1, ht, a, m, h => by
    have e11 : scalesS (t + 1) ht X 11 = put (rS t ht) (k0_pay8 (F := Ideal) (fun y => scalesS t (by omega) X 22 ((rQ t ht).emb y))) Finset.univ (scalesS t (by omega) X 11) := rfl
    rw [e11, rS_put]
    split
    · rename_i h'
      rw [pay8_at, rQ_emb, scalesS_keep (by decide : (22 : Fin 23) ≠ 11)]
      subst h'
      rfl
    · exact scales_at X t (by omega) a m (by omega)

theorem reg7_cs {h7 : k0_cond7 (pt n j) = 1#1} (l : Fin 2304) (s : Fin 48) : reg7S (pt n j) h7 X 13 (ix2 l s) = X 21 (ix2 s ⟨2304 * j.val + l.val, by omega⟩) := by
  have e13 : reg7S (pt n j) h7 X 13 = put rCS (k0_pay9 (F := Ideal) (fun y => X 21 ((rK7 (pt n j) h7).emb y))) Finset.univ (X 13) := by
    unfold reg7S
    rw [Function.update_self]
    rfl
  rw [e13, rCS_put, pay9_at, rK7_emb (t := 0)]

/-- After the starts of the grid and of the block. -/
theorem start_out (X1 X2 : Sta Ideal) (e1 : X1 = if h1 : k0_cond1 (pt n j) = 1#1 then reg1S X else X) (e2 : X2 = if h2 : k0_cond2 (pt n j) = 1#1 then reg2S (pt n j) h2 X1 else X1)
    (hin : Ins A n j X) (hI : Inv A n.val j.val X) (hdg : 0 < n.val ∨ 0 < j.val → Dg A n.val j.val (X 8)) :
    (∀ k : Fin 23, k ≠ 8 → k ≠ 20 → k ≠ 16 → k ≠ 18 → X2 k = X k) ∧ Dg A n.val j.val (X2 8)
      ∧ (n.val < 48 → ∀ a l : Fin 128, X2 16 (ix2 a l) = A.r (128 * n.val + a.val)) ∧ (n.val < 48 → ∀ a l : Fin 128, X2 18 (ix2 a l) = A.lane (128 * n.val + a.val) l.val (18 * j.val)) := by
  have k1 : ∀ k : Fin 23, k ≠ 8 → k ≠ 20 → X1 k = X k := fun k h8 h20 => by
    rw [e1]
    split
    · exact reg1S_keep X ⟨h8, h20⟩
    · rfl
  have k2 : ∀ k : Fin 23, k ≠ 16 → k ≠ 18 → X2 k = X1 k := fun k h8 h20 => by
    rw [e2]
    split
    · exact reg2S_keep _ _ X1 ⟨h8, h20⟩
    · rfl
  refine ⟨fun k h8 h20 h16 h18 => (k2 k h16 h18).trans (k1 k h8 h20), ?_, fun hn a l => ?_, fun hn a l => ?_⟩
  · rw [k2 8 (by decide) (by decide)]
    by_cases h1 : k0_cond1 (pt n j) = 1#1
    · obtain ⟨hn, hj⟩ := (cond1_pt n j).1 h1
      intro k
      rw [e1, dif_pos h1, reg1_dg, hn, hj, if_neg (by omega)]
      rfl
    · rw [e1, dif_neg h1]
      refine hdg ?_
      by_contra hc
      exact h1 ((cond1_pt n j).2 ⟨by omega, by omega⟩)
  · by_cases h2 : k0_cond2 (pt n j) = 1#1
    · rw [e2, dif_pos h2]
      refine reg2_r (A := A) ?_ a l
      have q : ∀ k : Fin 23, k.val < 7 → X1 k = X k := fun k hk => k1 k (by rintro rfl; simp at hk) (by rintro rfl; simp at hk)
      exact ⟨by rw [q 0 (by decide)]; exact hin.x, by rw [q 1 (by decide)]; exact hin.q, by rw [q 2 (by decide)]; exact hin.k, by rw [q 3 (by decide)]; exact hin.v,
        by rw [q 4 (by decide)]; exact hin.dr, by rw [q 5 (by decide)]; exact hin.g, by rw [q 6 (by decide)]; exact hin.r⟩
    · rw [e2, dif_neg h2, k1 16 (by decide) (by decide)]
      refine hI.r ?_ hn a l
      by_contra hc
      exact h2 ((cond2_pt n j).2 ⟨hn, by omega⟩)
  · by_cases h2 : k0_cond2 (pt n j) = 1#1
    · obtain ⟨_, hj⟩ := (cond2_pt n j).1 h2
      rw [e2, dif_pos h2, reg2_c, hj]
      rfl
    · rw [e2, dif_neg h2, k1 18 (by decide) (by decide)]
      refine hI.c ?_ hn a l
      by_contra hc
      exact h2 ((cond2_pt n j).2 ⟨hn, by omega⟩)

/-- The emission, if there is one. -/
theorem emit_out (X3 : Sta Ideal) (e3 : X3 = if h3 : k0_cond3 (pt n j) = 1#1 then reg3S (pt n j) h3 X else X)
    (hin : 0 < n.val → EmIn A n j X) (hs : 0 < n.val → ∀ a l : Fin 128, X 17 (ix2 a l) = A.sN (128 * (n.val - 1) + a.val)) :
    (0 < n.val → EmOut A n j X X3) ∧ (∀ k : Fin 23, k ≠ 19 → k ≠ 7 → k ≠ 20 → k ≠ 21 → k ≠ 12 → k ≠ 22 → k ≠ 10 → X3 k = X k) ∧ (n.val = 0 → X3 = X) := by
  by_cases h3 : k0_cond3 (pt n j) = 1#1
  · have hn := (cond3_pt n j).1 h3
    rw [e3, dif_pos h3]
    have h := reg3_out A (h3 := h3) (hin hn) (hs hn)
    exact ⟨fun _ => h, h.keep, fun h0 => absurd h0 (by omega)⟩
  · rw [e3, dif_neg h3]
    exact ⟨fun hn => absurd ((cond3_pt n j).2 hn) h3, fun _ _ _ _ _ _ _ _ => rfl, fun _ => rfl⟩

/-- The reduction, if there is one. -/
theorem red_out (X4 : Sta Ideal) (e4 : X4 = if h4 : k0_cond4 (pt n j) = 1#1 then reg4S (pt n j) h4 X else X)
    (hin : n.val < 48 → RdIn A n j X) (hr : n.val < 48 → ∀ a l : Fin 128, X 16 (ix2 a l) = A.r (128 * n.val + a.val))
    (hc : n.val < 48 → ∀ a l : Fin 128, X 18 (ix2 a l) = A.lane (128 * n.val + a.val) l.val (18 * j.val)) :
    (n.val < 48 → RdOut A n j X X4) ∧ (∀ k : Fin 23, k ≠ 8 → k ≠ 9 → k ≠ 14 → k ≠ 15 → k ≠ 18 → X4 k = X k) ∧ (n.val = 48 → X4 = X) := by
  by_cases h4 : k0_cond4 (pt n j) = 1#1
  · have hn := (cond4_pt n j).1 h4
    rw [e4, dif_pos h4]
    have h := reg4_out A (h4 := h4) (hin hn) (hr hn) (hc hn)
    exact ⟨fun _ => h, h.keep, fun h0 => absurd h0 (by omega)⟩
  · rw [e4, dif_neg h4]
    exact ⟨fun hn => absurd ((cond4_pt n j).2 hn) h4, fun _ _ _ _ _ _ => rfl, fun _ => rfl⟩

/-- The ends of the block and of the grid. -/
theorem end_out (X5 X6 X7 : Sta Ideal) (e5 : X5 = if h5 : cond5 (pt n j) = 1#1 then reg5S X else X) (e6 : X6 = if h6 : k0_cond6 (pt n j) = 1#1 then scalesS 8 (by decide) X5 else X5)
    (e7 : X7 = if h7 : k0_cond7 (pt n j) = 1#1 then reg7S (pt n j) h7 X6 else X6)
    (hr : n.val < 48 → ∀ a l : Fin 128, X 16 (ix2 a l) = A.r (128 * n.val + a.val)) (hc : n.val < 48 → ∀ a l : Fin 128, X 18 (ix2 a l) = A.lane (128 * n.val + a.val) l.val (18 * (j.val + 1))) :
    (∀ k : Fin 23, k ≠ 17 → k ≠ 11 → k ≠ 13 → X7 k = X k) ∧ (j.val < 7 → X7 17 = X 17) ∧ (n.val < 48 → j.val = 7 → ∀ a l : Fin 128, X7 17 (ix2 a l) = A.sN (128 * n.val + a.val))
      ∧ (0 < n.val → j.val = 7 → ∀ (a : Fin 128) (m : Fin 144), X7 11 (ix2 a m) = X 22 (ix3 (⟨m.val / 18, by omega⟩ : Fin 8) a (⟨m.val % 18, by omega⟩ : Fin 128)))
      ∧ (n.val = 48 → ∀ (l : Fin 2304) (s : Fin 48), X7 13 (ix2 l s) = X 21 (ix2 s ⟨2304 * j.val + l.val, by omega⟩)) := by
  have k5 : ∀ k : Fin 23, k ≠ 17 → X5 k = X k := fun k hk => by
    rw [e5]
    split
    · exact reg5S_keep X hk
    · rfl
  have k6 : ∀ k : Fin 23, k ≠ 11 → X6 k = X5 k := fun k hk => by
    rw [e6]
    split
    · exact scalesS_keep hk 8 (by decide) X5
    · rfl
  have k7 : ∀ k : Fin 23, k ≠ 13 → X7 k = X6 k := fun k hk => by
    rw [e7]
    split
    · exact reg7S_keep _ _ X6 hk
    · rfl
  refine ⟨fun k h1 h2 h3 => (k7 k h3).trans ((k6 k h2).trans (k5 k h1)), fun hj => ?_, fun hn hj a l => ?_, fun hn hj a m => ?_, fun hn l s => ?_⟩
  · rw [k7 17 (by decide), k6 17 (by decide), e5, dif_neg fun h5 => by have := ((cond5_pt n j).1 h5).2; omega]
  · rw [k7 17 (by decide), k6 17 (by decide), e5, dif_pos ((cond5_pt n j).2 ⟨hn, hj⟩)]
    refine reg5_s (hr hn) (fun a l => (hc hn a l).trans ?_) a l
    rw [hj]
  · rw [k7 11 (by decide), e6, dif_pos ((cond6_pt n j).2 ⟨hn, hj⟩), scales_at X5 8 (by decide) a m (by omega), k5 22 (by decide)]
  · rw [e7, dif_pos ((cond7_pt n j).2 hn), reg7_cs, k6 21 (by decide), k5 21 (by decide)]

/-- What a point leaves. -/
theorem body_out (hin : Ins A n j X) (hI : Inv A n.val j.val X) (hdg : 0 < n.val ∨ 0 < j.val → Dg A n.val j.val (X 8)) (hgp : Gp A n.val j.val (X 9)) :
    Post A n j (bodyS (pt n j) X) := by
  obtain ⟨X1, e1⟩ : ∃ X1 : Sta Ideal, X1 = if h1 : k0_cond1 (pt n j) = 1#1 then reg1S X else X := ⟨_, rfl⟩
  obtain ⟨X2, e2⟩ : ∃ X2 : Sta Ideal, X2 = if h2 : k0_cond2 (pt n j) = 1#1 then reg2S (pt n j) h2 X1 else X1 := ⟨_, rfl⟩
  obtain ⟨X3, e3⟩ : ∃ X3 : Sta Ideal, X3 = if h3 : k0_cond3 (pt n j) = 1#1 then reg3S (pt n j) h3 X2 else X2 := ⟨_, rfl⟩
  obtain ⟨X4, e4⟩ : ∃ X4 : Sta Ideal, X4 = if h4 : k0_cond4 (pt n j) = 1#1 then reg4S (pt n j) h4 X3 else X3 := ⟨_, rfl⟩
  obtain ⟨X5, e5⟩ : ∃ X5 : Sta Ideal, X5 = if h5 : cond5 (pt n j) = 1#1 then reg5S X4 else X4 := ⟨_, rfl⟩
  obtain ⟨X6, e6⟩ : ∃ X6 : Sta Ideal, X6 = if h6 : k0_cond6 (pt n j) = 1#1 then scalesS 8 (by decide) X5 else X5 := ⟨_, rfl⟩
  obtain ⟨W, e7⟩ : ∃ W : Sta Ideal, W = if h7 : k0_cond7 (pt n j) = 1#1 then reg7S (pt n j) h7 X6 else X6 := ⟨_, rfl⟩
  have eW : bodyS (pt n j) X = W := by
    rw [e7, e6, e5, e4, e3, e2, e1]; rfl
  rw [eW]
  obtain ⟨k2, dg2, r2, c2⟩ := start_out X1 X2 e1 e2 hin hI hdg
  obtain ⟨o3, k3, z3⟩ := emit_out (A := A) X3 e3
    (fun hn => ⟨fun a l => by rw [k2 14 (by decide) (by decide) (by decide) (by decide)]; exact hI.e hn j a l le_rfl,
      fun a l => by rw [k2 15 (by decide) (by decide) (by decide) (by decide)]; exact hI.x hn j a l le_rfl,
      by rw [k2 5 (by decide) (by decide) (by decide) (by decide)]; exact hin.g,
      by rw [k2 4 (by decide) (by decide) (by decide) (by decide)]; exact hin.dr hn⟩)
    (fun hn => by rw [k2 17 (by decide) (by decide) (by decide) (by decide)]; exact hI.s hn j.isLt)
  have q3 : ∀ k : Fin 23, k.val < 7 → X3 k = X k := fun k hk =>
    (k3 k (by rintro rfl; simp at hk) (by rintro rfl; simp at hk) (by rintro rfl; simp at hk) (by rintro rfl; simp at hk) (by rintro rfl; simp at hk) (by rintro rfl; simp at hk) (by rintro rfl; simp at hk)).trans
      (k2 k (by rintro rfl; simp at hk) (by rintro rfl; simp at hk) (by rintro rfl; simp at hk) (by rintro rfl; simp at hk))
  have r3 : n.val < 48 → ∀ a l : Fin 128, X3 16 (ix2 a l) = A.r (128 * n.val + a.val) := by
    rw [k3 16 (by decide) (by decide) (by decide) (by decide) (by decide) (by decide) (by decide)]; exact r2
  have c3 : n.val < 48 → ∀ a l : Fin 128, X3 18 (ix2 a l) = A.lane (128 * n.val + a.val) l.val (18 * j.val) := by
    rw [k3 18 (by decide) (by decide) (by decide) (by decide) (by decide) (by decide) (by decide)]; exact c2
  obtain ⟨o4, k4, z4⟩ := red_out (A := A) X4 e4
    (fun hn => ⟨by rw [q3 0 (by decide)]; exact hin.x hn, by rw [q3 1 (by decide)]; exact hin.q hn, by rw [q3 2 (by decide)]; exact hin.k hn,
      by rw [q3 3 (by decide)]; exact hin.v hn, by rw [q3 5 (by decide)]; exact hin.g⟩) r3 c3
  have r4 : n.val < 48 → ∀ a l : Fin 128, X4 16 (ix2 a l) = A.r (128 * n.val + a.val) := by
    rw [k4 16 (by decide) (by decide) (by decide) (by decide) (by decide)]; exact r3
  obtain ⟨k7, s7, s7', rs7, cs7⟩ := end_out (A := A) (n := n) (j := j) X5 X6 W e5 e6 e7 r4 (fun hn => (o4 hn).c)
  have w8 : W 8 = X4 8 := k7 8 (by decide) (by decide) (by decide)
  have w9 : W 9 = X4 9 := k7 9 (by decide) (by decide) (by decide)
  have w14 : W 14 = X4 14 := k7 14 (by decide) (by decide) (by decide)
  have w15 : W 15 = X4 15 := k7 15 (by decide) (by decide) (by decide)
  have x14 : X3 14 = X 14 := (k3 14 (by decide) (by decide) (by decide) (by decide) (by decide) (by decide) (by decide)).trans (k2 14 (by decide) (by decide) (by decide) (by decide))
  have x15 : X3 15 = X 15 := (k3 15 (by decide) (by decide) (by decide) (by decide) (by decide) (by decide) (by decide)).trans (k2 15 (by decide) (by decide) (by decide) (by decide))
  have x9 : X3 9 = X 9 := (k3 9 (by decide) (by decide) (by decide) (by decide) (by decide) (by decide) (by decide)).trans (k2 9 (by decide) (by decide) (by decide) (by decide))
  have x8 : X3 8 = X2 8 := k3 8 (by decide) (by decide) (by decide) (by decide) (by decide) (by decide) (by decide)
  have x17 : X4 17 = X 17 := (k4 17 (by decide) (by decide) (by decide) (by decide) (by decide)).trans
    ((k3 17 (by decide) (by decide) (by decide) (by decide) (by decide) (by decide) (by decide)).trans (k2 17 (by decide) (by decide) (by decide) (by decide)))
  have x21 : X4 21 = X3 21 := k4 21 (by decide) (by decide) (by decide) (by decide) (by decide)
  have x22 : X4 22 = X3 22 := k4 22 (by decide) (by decide) (by decide) (by decide) (by decide)
  have y21 : X2 21 = X 21 := k2 21 (by decide) (by decide) (by decide) (by decide)
  have y22 : X2 22 = X 22 := k2 22 (by decide) (by decide) (by decide) (by decide)
  -- the scales
  have hcs : ∀ (s : Fin 48) (k : Fin 18432), s.val + 1 < n.val ∨ (s.val + 1 = n.val ∧ k.val / 2304 < j.val + 1) → X4 21 (ix2 s k) = scaleK (A.cmax s.val k.val) := fun s k h => by
    rw [x21, (o3 (by omega)).cs]
    split
    · rfl
    · rw [y21]
      exact hI.cs s k (by omega)
  have hrs : 0 < n.val → ∀ (c : Fin 8) (a m : Fin 128), m.val < 18 → c.val < j.val + 1 → X4 22 (ix3 c a m) = scaleK (A.rmax (128 * (n.val - 1) + a.val) (18 * c.val + m.val)) := fun hn c a m hm hc => by
    rw [x22, (o3 hn).rs c a m hm]
    split
    · rename_i h; rw [h]
    · rename_i h
      rw [y22]
      have : c.val ≠ j.val := fun h' => h (Fin.ext h')
      exact hI.rs hn c a m hm (by omega)
  have e14 : n.val < 48 → ∀ (c : Fin 8) (a : Fin 128) (l : Fin 2304), W 14 (ix3 c a l) = if c = j then A.e (128 * n.val + a.val) (2304 * j.val + l.val) else X 14 (ix3 c a l) := fun hn c a l => by
    rw [w14, (o4 hn).e, x14]
  have e15 : n.val < 48 → ∀ (c : Fin 8) (a : Fin 128) (l : Fin 2304), W 15 (ix3 c a l) = if c = j then A.x (128 * n.val + a.val) (2304 * j.val + l.val) else X 15 (ix3 c a l) := fun hn c a l => by
    rw [w15, (o4 hn).x, x15]
  have n48 : n.val < 48 ∨ n.val = 48 := by omega
  refine ⟨⟨?_, ?_, ?_, ?_, ?_, ?_, ?_, ?_, ?_, ?_⟩, ?_, ?_, ?_, ?_, ?_, ?_, ?_⟩
  · intro _ hn a l
    rw [k7 16 (by decide) (by decide) (by decide)]; exact r4 hn a l
  · intro _ hn a l
    rw [k7 18 (by decide) (by decide) (by decide)]; exact (o4 hn).c a l
  · intro hn hj a l
    rw [s7 (by omega), x17]; exact hI.s hn j.isLt a l
  · intro hn hj a l
    exact s7' hn (by omega) a l
  · intro hn c a l hc
    rcases n48 with h | h
    · rw [e14 h, if_neg (by rintro rfl; omega)]
      exact hI.e hn c a l (by omega)
    · rw [w14, z4 h, x14]
      exact hI.e hn c a l (by omega)
  · intro hn c a l hc
    rw [e14 hn]
    split
    · rename_i h; rw [h]
    · rename_i h
      have : c.val ≠ j.val := fun h' => h (Fin.ext h')
      exact hI.e' hn c a l (by omega)
  · intro hn c a l hc
    rcases n48 with h | h
    · rw [e15 h, if_neg (by rintro rfl; omega)]
      exact hI.x hn c a l (by omega)
    · rw [w15, z4 h, x15]
      exact hI.x hn c a l (by omega)
  · intro hn c a l hc
    rw [e15 hn]
    split
    · rename_i h; rw [h]
    · rename_i h
      have : c.val ≠ j.val := fun h' => h (Fin.ext h')
      exact hI.x' hn c a l (by omega)
  · intro s k h
    rw [k7 21 (by decide) (by decide) (by decide)]; exact hcs s k h
  · intro hn c a m hm hc
    rw [k7 22 (by decide) (by decide) (by decide)]; exact hrs hn c a m hm hc
  · intro hn a l
    rw [k7 7 (by decide) (by decide) (by decide), k4 7 (by decide) (by decide) (by decide) (by decide) (by decide)]; exact (o3 hn).dx a l
  · intro k
    rw [w8]
    rcases n48 with h | h
    · rw [(o4 h).dg, x8]
      have hd := dg2 k
      split
      · rename_i hk
        rw [if_neg (by omega)] at hd
        rw [if_pos ⟨h, by omega⟩]
        exact congrArg (fun u : EReal => u + A.part n.val k.val) hd
      · rename_i hk
        rw [hd]
        exact congrArg _ (if_congr (by omega) rfl rfl)
    · rw [z4 h, x8, dg2 k, if_neg (by omega), if_neg (by omega)]
  · intro s k hs
    rw [w9]
    rcases n48 with h | h
    · rw [(o4 h).gp, x9]
      split
      · rename_i hk
        refine congrArg (fun b => A.part b k.val) ?_
        omega
      · exact hgp s k (by omega)
    · rw [z4 h, x9]
      exact hgp s k (.inl h)
  · intro hn a l
    rw [k7 10 (by decide) (by decide) (by decide), k4 10 (by decide) (by decide) (by decide) (by decide) (by decide)]; exact (o3 hn).rc a l
  · intro hn hj a m
    rw [rs7 hn hj a m, hrs hn _ a _ (by simp only; omega) (by simp only; omega)]
    refine congrArg (fun c => scaleK (A.rmax (128 * (n.val - 1) + a.val) c)) ?_
    simp only; omega
  · intro hn l a
    rw [k7 12 (by decide) (by decide) (by decide), k4 12 (by decide) (by decide) (by decide) (by decide) (by decide)]; exact (o3 hn).cc l a
  · intro hn l s
    rw [cs7 hn l s]
    exact hcs s _ (by simp only; omega)

end Cert.KernelIdeal.Body
-- ==== Proof.Grid.lean ====
/- Every grid point keeps what is known of the windows and the scratch. -/
module

public import proofs.«01_k».proof.Proof.Sched
public import proofs.«01_k».proof.Proof.Point
public import proofs.«01_k».proof.Proof.Frames

@[expose] public section

set_option maxRecDepth 16384

noncomputable section

namespace Cert.KernelIdeal.Body

open Idealize.ShloMosaic Idealize.SL Idealize.SL.RA Idealize.SL.Sem Cert.KernelIdeal Cert.KernelIdeal.Gen Proof.Tri
open Idealize.ShloMosaic.Pipeline (RDat Dat Window)
open TcCoe

/-- A matrix as a function of two numbers. -/
def nat2 {a b : Nat} (f : (Shape.mk 2 ![a, b]).Idx → EReal) (n k : Nat) : EReal :=
  if h : n < a ∧ k < b then f (ix2 ⟨n, h.1⟩ ⟨k, h.2⟩) else 0

theorem nat2_eq {a b : Nat} (f : (Shape.mk 2 ![a, b]).Idx → EReal) (i : (Shape.mk 2 ![a, b]).Idx) (n k : Nat)
    (h0 : (i 0 : Nat) = n) (h1 : (i 1 : Nat) = k) : f i = nat2 f n k := by
  subst h0 h1
  unfold nat2
  rw [dif_pos ⟨(i 0).isLt, (i 1).isLt⟩]
  exact congrArg f (eq_ix2 i)

variable (m : (ℓ : Loc nD τ sig) → Buf (Elt Ideal) ℓ) (ρ : Dev nD → PrngReg)

/-- The inputs in memory. -/
def argsOf (c : Dev nD) : Args where
  x := nat2 (a := 6144) (b := 18432) (V m c main_v0)
  q := nat2 (a := 6144) (b := 18432) (V m c main_v1)
  k := nat2 (a := 6144) (b := 18432) (V m c main_v2)
  v := nat2 (a := 6144) (b := 18432) (V m c main_v3)
  dr := nat2 (a := 6144) (b := 18432) (V m c main_v4)
  g := nat2 (a := 1) (b := 18432) (V m c main_v5) 0
  r n := nat2 (a := 2) (b := 3072) (V m c main_arg1) (n / 3072) (n % 3072)

variable {A : Dev nD → (w : Fin 14) → Fin cfg0.N → ((cfg0.win w).block.Idx → Elt Ideal (cfg0.win w).elt) → Prop} {I : Dev nD → Nat → Scr Ideal → Prop}
variable {m} {c : Dev nD} {t : Fin cfg0.N}

theorem in_x {Y} (h : (rdat m A I c).Finds 0 t Y) (ht : t.val < 384) (a : Fin 128) (l : Fin 2304) :
    Y (ix2 a l) = (argsOf m c).x (128 * (t.val / 8) + a.val) (2304 * (t.val % 8) + l.val) := by
  obtain ⟨d, rfl⟩ := RDat.finds_in_eq_fetched (rdat m A I c) 0 rfl (fun _ _ _ => rfl) (fun t Y X h => h.1 rfl) t _ h
  show (V m c main_v0 : S6144x18432.Idx → EReal) ((win0_0.rect t).emb (ix2 a l)) = _
  refine nat2_eq (a := 6144) (b := 18432) _ _ _ _ ?_ ?_
  · rw [Window.rect_emb_val win0_0 t _ _ rfl, idx0 t ht]; show (t.val / 8) * 128 + a.val = _; omega
  · rw [Window.rect_emb_val win0_0 t _ _ rfl, idx0 t ht]; show t.val % 8 * 2304 + l.val = _; omega

theorem in_q {Y} (h : (rdat m A I c).Finds 1 t Y) (ht : t.val < 384) (a : Fin 128) (l : Fin 2304) :
    Y (ix2 a l) = (argsOf m c).q (128 * (t.val / 8) + a.val) (2304 * (t.val % 8) + l.val) := by
  obtain ⟨d, rfl⟩ := RDat.finds_in_eq_fetched (rdat m A I c) 1 rfl (fun _ _ _ => rfl) (fun t Y X h => h.1 rfl) t _ h
  show (V m c main_v1 : S6144x18432.Idx → EReal) ((win0_1.rect t).emb (ix2 a l)) = _
  refine nat2_eq (a := 6144) (b := 18432) _ _ _ _ ?_ ?_
  · rw [Window.rect_emb_val win0_1 t _ _ rfl, idx1 t ht]; show (t.val / 8) * 128 + a.val = _; omega
  · rw [Window.rect_emb_val win0_1 t _ _ rfl, idx1 t ht]; show t.val % 8 * 2304 + l.val = _; omega

theorem in_k {Y} (h : (rdat m A I c).Finds 2 t Y) (ht : t.val < 384) (a : Fin 128) (l : Fin 2304) :
    Y (ix2 a l) = (argsOf m c).k (128 * (t.val / 8) + a.val) (2304 * (t.val % 8) + l.val) := by
  obtain ⟨d, rfl⟩ := RDat.finds_in_eq_fetched (rdat m A I c) 2 rfl (fun _ _ _ => rfl) (fun t Y X h => h.1 rfl) t _ h
  show (V m c main_v2 : S6144x18432.Idx → EReal) ((win0_2.rect t).emb (ix2 a l)) = _
  refine nat2_eq (a := 6144) (b := 18432) _ _ _ _ ?_ ?_
  · rw [Window.rect_emb_val win0_2 t _ _ rfl, idx2 t ht]; show (t.val / 8) * 128 + a.val = _; omega
  · rw [Window.rect_emb_val win0_2 t _ _ rfl, idx2 t ht]; show t.val % 8 * 2304 + l.val = _; omega

theorem in_v {Y} (h : (rdat m A I c).Finds 3 t Y) (ht : t.val < 384) (a : Fin 128) (l : Fin 2304) :
    Y (ix2 a l) = (argsOf m c).v (128 * (t.val / 8) + a.val) (2304 * (t.val % 8) + l.val) := by
  obtain ⟨d, rfl⟩ := RDat.finds_in_eq_fetched (rdat m A I c) 3 rfl (fun _ _ _ => rfl) (fun t Y X h => h.1 rfl) t _ h
  show (V m c main_v3 : S6144x18432.Idx → EReal) ((win0_3.rect t).emb (ix2 a l)) = _
  refine nat2_eq (a := 6144) (b := 18432) _ _ _ _ ?_ ?_
  · rw [Window.rect_emb_val win0_3 t _ _ rfl, idx3 t ht]; show (t.val / 8) * 128 + a.val = _; omega
  · rw [Window.rect_emb_val win0_3 t _ _ rfl, idx3 t ht]; show t.val % 8 * 2304 + l.val = _; omega

theorem in_dr {Y} (h : (rdat m A I c).Finds 4 t Y) (ht : 8 ≤ t.val) (a : Fin 128) (l : Fin 2304) :
    Y (ix2 a l) = (argsOf m c).dr (128 * (t.val / 8 - 1) + a.val) (2304 * (t.val % 8) + l.val) := by
  obtain ⟨d, rfl⟩ := RDat.finds_in_eq_fetched (rdat m A I c) 4 rfl (fun _ _ _ => rfl) (fun t Y X h => h.1 rfl) t _ h
  show (V m c main_v4 : S6144x18432.Idx → EReal) ((win0_4.rect t).emb (ix2 a l)) = _
  refine nat2_eq (a := 6144) (b := 18432) _ _ _ _ ?_ ?_
  · rw [Window.rect_emb_val win0_4 t _ _ rfl, idx4 t ht]; show (t.val / 8 - 1) * 128 + a.val = _; omega
  · rw [Window.rect_emb_val win0_4 t _ _ rfl, idx4 t ht]; show t.val % 8 * 2304 + l.val = _; omega

theorem in_g {Y} (h : (rdat m A I c).Finds 5 t Y) (k : Fin 18432) : Y (ix2 0 k) = (argsOf m c).g k.val := by
  obtain ⟨d, rfl⟩ := RDat.finds_in_eq_fetched (rdat m A I c) 5 rfl (fun _ _ _ => rfl) (fun t Y X h => h.1 rfl) t _ h
  show (V m c main_v5 : S1x18432.Idx → EReal) ((win0_5.rect t).emb (ix2 0 k)) = _
  refine nat2_eq (a := 1) (b := 18432) _ _ _ _ ?_ ?_
  · rw [Window.rect_emb_val_of_index_zero win0_5 t _ rfl]; rfl
  · rw [Window.rect_emb_val_of_index_zero win0_5 t _ rfl]; rfl

theorem in_r {Y} (h : (rdat m A I c).Finds 6 t Y) (s : Fin 2) (k : Fin 3072) :
    Y (ix2 s k) = (argsOf m c).r (3072 * s.val + k.val) := by
  obtain ⟨d, rfl⟩ := RDat.finds_in_eq_fetched (rdat m A I c) 6 rfl (fun _ _ _ => rfl) (fun t Y X h => h.1 rfl) t _ h
  show (V m c main_arg1 : S2x3072.Idx → EReal) ((win0_6.rect t).emb (ix2 s k)) = _
  refine nat2_eq (a := 2) (b := 3072) _ _ _ _ ?_ ?_
  · rw [Window.rect_emb_val_of_index_zero win0_6 t _ rfl]; show s.val = _; omega
  · rw [Window.rect_emb_val_of_index_zero win0_6 t _ rfl]; show k.val = _; omega

/-- The inputs of a point. -/
theorem ins_of {Y : Win Ideal} {Z : Scr Ideal} (h : ∀ w, (rdat m A I c).Finds w t (Y w)) {n : Fin 49} {j : Fin 8} (ht : t.val = 8 * n.val + j.val) :
    Ins (argsOf m c) n j (join Y Z) := by
  have en : t.val / 8 = n.val := by omega
  have ej : t.val % 8 = j.val := by omega
  constructor
  · intro hn a l; have := in_x (h 0) (by omega) a l; rw [en, ej] at this; exact this
  · intro hn a l; have := in_q (h 1) (by omega) a l; rw [en, ej] at this; exact this
  · intro hn a l; have := in_k (h 2) (by omega) a l; rw [en, ej] at this; exact this
  · intro hn a l; have := in_v (h 3) (by omega) a l; rw [en, ej] at this; exact this
  · intro hn a l; have := in_dr (h 4) (by omega) a l; rw [en, ej] at this; exact this
  · exact in_g (h 5)
  · exact in_r (h 6)

theorem Inv.congr {A : Args} {n j : Nat} {X X' : Sta Ideal} (h : Inv A n j X) (e : ∀ k : Fin 23, 14 ≤ k.val → X' k = X k) : Inv A n j X' where
  r := by rw [e 16 (by decide)]; exact h.r
  c := by rw [e 18 (by decide)]; exact h.c
  s := by rw [e 17 (by decide)]; exact h.s
  s' := by rw [e 17 (by decide)]; exact h.s'
  e := by rw [e 14 (by decide)]; exact h.e
  e' := by rw [e 14 (by decide)]; exact h.e'
  x := by rw [e 15 (by decide)]; exact h.x
  x' := by rw [e 15 (by decide)]; exact h.x'
  cs := by rw [e 21 (by decide)]; exact h.cs
  rs := by rw [e 22 (by decide)]; exact h.rs

theorem join_scr (Y : Win Ideal) (W : Sta Ideal) (k : Fin 23) (hk : 14 ≤ k.val) : join Y (scrOf W) k = W k := by
  match k, hk with
  | ⟨14, _⟩, _ => rfl
  | ⟨15, _⟩, _ => rfl
  | ⟨16, _⟩, _ => rfl
  | ⟨17, _⟩, _ => rfl
  | ⟨18, _⟩, _ => rfl
  | ⟨19, _⟩, _ => rfl
  | ⟨20, _⟩, _ => rfl
  | ⟨21, _⟩, _ => rfl
  | ⟨22, _⟩, _ => rfl
  | ⟨n + 23, h⟩, _ => exact absurd h (by omega)

variable (m)

/-- What is known of the scratch before point `k`. -/
def scrI (c : Dev nD) (k : Nat) (Z : Scr Ideal) : Prop := k < 392 → ∀ Y, Inv (argsOf m c) (k / 8) (k % 8) (join Y Z)

/-- What is known of the windows after point `t`. -/
def winA (c : Dev nD) (w : Fin 14) (t : Fin cfg0.N) : ((cfg0.win w).block.Idx → Elt Ideal (cfg0.win w).elt) → Prop :=
  match w with
  | ⟨7, _⟩ => fun (X : S128x2304.Idx → EReal) => 8 ≤ t.val → ∀ (a : Fin 128) (l : Fin 2304), X (ix2 a l) = (argsOf m c).d (128 * (t.val / 8 - 1) + a.val) (2304 * (t.val % 8) + l.val)
  | ⟨8, _⟩ => fun (X : S1x18432.Idx → EReal) => Dg (argsOf m c) (t.val / 8) (t.val % 8 + 1) X
  | ⟨9, _⟩ => fun (X : S1x8x18432.Idx → EReal) => Gp (argsOf m c) (t.val / 8) (t.val % 8 + 1) X
  | ⟨10, _⟩ => fun (X : S128x2304.Idx → EReal) => 8 ≤ t.val → ∀ (a : Fin 128) (l : Fin 2304), X (ix2 a l) = (argsOf m c).rc (128 * (t.val / 8 - 1) + a.val) (2304 * (t.val % 8) + l.val)
  | ⟨11, _⟩ => fun (X : S128x144.Idx → EReal) => 8 ≤ t.val → t.val % 8 = 7 → ∀ (a : Fin 128) (s : Fin 144), X (ix2 a s) = scaleK ((argsOf m c).rmax (128 * (t.val / 8 - 1) + a.val) s.val)
  | ⟨12, _⟩ => fun (X : S2304x128.Idx → EReal) => 8 ≤ t.val → ∀ (l : Fin 2304) (a : Fin 128), X (ix2 l a) = (argsOf m c).cc (128 * (t.val / 8 - 1) + a.val) (2304 * (t.val % 8) + l.val)
  | ⟨13, _⟩ => fun (X : S2304x48.Idx → EReal) => 384 ≤ t.val → ∀ (l : Fin 2304) (s : Fin 48), X (ix2 l s) = scaleK ((argsOf m c).cmax s.val (2304 * (t.val % 8) + l.val))
  | _ => fun _ => True

variable {m}

theorem dg_of {Y} (h : (rdat m (winA m) (scrI m) c).Finds 8 t Y) {n : Fin 49} {j : Fin 8} (ht : t.val = 8 * n.val + j.val) (h0 : 0 < n.val ∨ 0 < j.val) :
    Dg (argsOf m c) n.val j.val Y := by
  have hN : t.val < 392 := t.isLt
  have h1 : t.val ≠ 0 := by omega
  rcases (RDat.finds_of_pos (rdat m (winA m) (scrI m) c) (w := 8) (rfl : (cfg0.win 8).fetch t = false) h1 Y).1 h with hf | ⟨Y', -, -, hY⟩
  · have := (flush8 ⟨t.val - 1, Nat.lt_of_le_of_lt (Nat.sub_le _ _) t.isLt⟩).1 hf
    simp only at this; omega
  · replace hY : Dg (argsOf m c) ((t.val - 1) / 8) ((t.val - 1) % 8 + 1) Y := hY
    intro k
    have hk := k.isLt
    rw [hY k]
    congr 1
    split <;> split <;> omega

theorem gp_of {Y} (h : (rdat m (winA m) (scrI m) c).Finds 9 t Y) {n : Fin 49} {j : Fin 8} (ht : t.val = 8 * n.val + j.val) :
    Gp (argsOf m c) n.val j.val Y := by
  have hN : t.val < 392 := t.isLt
  intro s k hs
  have hk := k.isLt
  have hs8 := s.isLt
  have h1 : t.val ≠ 0 := by omega
  rcases (RDat.finds_of_pos (rdat m (winA m) (scrI m) c) (w := 9) (rfl : (cfg0.win 9).fetch t = false) h1 Y).1 h with hf | ⟨Y', -, -, hY⟩
  · have := (flush9 ⟨t.val - 1, Nat.lt_of_le_of_lt (Nat.sub_le _ _) t.isLt⟩).1 hf
    simp only at this; omega
  · replace hY : Gp (argsOf m c) ((t.val - 1) / 8) ((t.val - 1) % 8 + 1) Y := hY
    rw [hY s k (by omega)]
    congr 1
    omega

/-- One point keeps what is known. -/
theorem step (m) : Step m (winA m) (scrI m) := by
  intro c t Y Z hY hZ
  obtain ⟨n, j, hc, ht⟩ := coords_pt t
  have hN : t.val < 392 := t.isLt
  have en : t.val / 8 = n.val := by omega
  have ej : t.val % 8 = j.val := by omega
  have hn := n.isLt
  have hj := j.isLt
  have hI : Inv (argsOf m c) n.val j.val (join Y Z) := by
    have := hZ hN Y; rw [en, ej] at this; exact this
  have P := body_out (A := argsOf m c) (ins_of hY ht) hI (fun h0 => dg_of (hY 8) ht h0) (gp_of (hY 9) ht)
  have hin := fun w => winOf_in (grid0.coords t) Y Z w
  rw [hc] at hin ⊢
  revert P hin
  generalize bodyS (pt n j) (join Y Z) = W
  intro P hin
  refine ⟨fun hlt Y' => ?_, fun w => ⟨hin w, ?_⟩⟩
  · refine Inv.congr ?_ (join_scr Y' W)
    by_cases h7 : j.val = 7
    · have e8 : j.val + 1 = 8 := by omega
      have := P.inv; rw [e8] at this
      have hn48 : n.val < 48 := by have : t.val + 1 < 392 := hlt; omega
      have := Inv.next _ hn48 this
      rw [show (t.val + 1) / 8 = n.val + 1 by omega, show (t.val + 1) % 8 = 0 by omega]; exact this
    · rw [show (t.val + 1) / 8 = n.val by omega, show (t.val + 1) % 8 = j.val + 1 by omega]; exact P.inv
  · match w with
    | ⟨0, _⟩ => trivial
    | ⟨1, _⟩ => trivial
    | ⟨2, _⟩ => trivial
    | ⟨3, _⟩ => trivial
    | ⟨4, _⟩ => trivial
    | ⟨5, _⟩ => trivial
    | ⟨6, _⟩ => trivial
    | ⟨7, _⟩ => unfold winA winOf; dsimp only; rw [en, ej]; exact fun h a l => P.dx (by omega) a l
    | ⟨8, _⟩ => unfold winA winOf; dsimp only; rw [en, ej]; exact P.dg
    | ⟨9, _⟩ => unfold winA winOf; dsimp only; rw [en, ej]; exact P.gp
    | ⟨10, _⟩ => unfold winA winOf; dsimp only; rw [en, ej]; exact fun h a l => P.rc (by omega) a l
    | ⟨11, _⟩ => unfold winA winOf; dsimp only; rw [en, ej]; exact fun h h7 a l => P.rs (by omega) h7 a l
    | ⟨12, _⟩ => unfold winA winOf; dsimp only; rw [en, ej]; exact fun h l a => P.cc (by omega) l a
    | ⟨13, _⟩ => unfold winA winOf; dsimp only; rw [ej]; exact fun h l s => P.cs (by omega) l s

theorem scrI_zero (m) (c : Dev nD) (Z : Scr Ideal) : scrI m c 0 Z := fun _ Y => by
  refine ⟨?_, ?_, ?_, ?_, ?_, ?_, ?_, ?_, ?_, ?_⟩ <;> intros <;> omega

end Cert.KernelIdeal.Body
-- ==== Proof.Arrays.lean ====
/- The output arrays after a run of the kernel, element by element. -/
module

public import proofs.«01_k».proof.Proof.Grid
public import Idealize.ShloMosaic.Lib.Pipeline.ArrRel

@[expose] public section

set_option maxRecDepth 16384

noncomputable section

namespace Cert.KernelIdeal.Body

open Idealize.ShloMosaic Idealize.SL Idealize.SL.RA Idealize.SL.Sem Cert.KernelIdeal Cert.KernelIdeal.Gen Proof.Tri
open Idealize.ShloMosaic.Pipeline (RDat Dat Window)
open TcCoe

variable {m : (ℓ : Loc nD τ sig) → Buf (Elt Ideal) ℓ} {r : PUnit × MemSt nD τ sig (Elt Ideal)}

/-- What every write-back has, the array has where a write-back falls. -/
theorem arr_of (h : RDat.FramePost cfg0 (rdat m (winA m) (scrI m)) (V m) r) (c : Dev nD) (w : Fin 14)
    (P : ((cfg0.win w).arr.view.loc (c.tc : Thread nD τ)).2.ty.Idx → Elt Ideal ((cfg0.win w).arr.view.loc (c.tc : Thread nD τ)).2.ty.elt → Prop)
    (hP : ∀ t, (cfg0.win w).flush t = true → ∀ X, winA m c w t X → ∀ y : ((cfg0.win w).xblock (cfg0.grid.coords t)).Idx,
      P (((cfg0.win w).blk t).view.emb y) (_root_.cast (congrArg (Elt Ideal) ((cfg0.win w).blk t).view.elt_eq.symm) ((cfg0.win w).cut (cfg0.grid.coords t) X y)))
    (t : Fin cfg0.N) (hf : (cfg0.win w).flush t = true) (y : ((cfg0.win w).xblock (cfg0.grid.coords t)).Idx) :
    P (((cfg0.win w).blk t).view.emb y) (r.2.mem ((cfg0.win w).arr.view.loc (c.tc : Thread nD τ)) (((cfg0.win w).blk t).view.emb y)) := by
  obtain ⟨after, hl, ha⟩ := RDat.FramePost.exists_exact h c
  have e : r.2.mem ((cfg0.win w).arr.view.loc (c.tc : Thread nD τ)) = ((rdat m (winA m) (scrI m) c).withAfter after).arrAt w cfg0.N := ha w
  rw [e]
  refine Dat.arrAt_forall_of_flushed ((rdat m (winA m) (scrI m) c).withAfter after) w P ?_ cfg0.N t _ t.isLt hf ?_
  · intro t hf y
    obtain ⟨Y, -, -, hA⟩ := hl w t hf
    exact hP t hf _ hA y
  · exact View.emb_mem_set _ _

theorem arr_dx (h : RDat.FramePost cfg0 (rdat m (winA m) (scrI m)) (V m) r) (c : Dev nD) (n : Fin 6144) (k : Fin 18432) :
    (r.2.mem ((c.tc : Thread nD τ).loc main_v6_0) : S6144x18432.Idx → EReal) (ix2 n k) = (argsOf m c).d (n.val) (k.val) := by
  have hn := n.isLt
  have hk := k.isLt
  obtain ⟨t, et⟩ : ∃ t : Fin cfg0.N, t.val = 8 * (n.val / 128 + 1) + k.val / 2304 := ⟨⟨8 * (n.val / 128 + 1) + k.val / 2304, (by omega : _ < 392)⟩, rfl⟩
  have hf : 8 ≤ t.val := by omega
  have key := arr_of h c 7 (fun (i : S6144x18432.Idx) (v : EReal) => v = (argsOf m c).d ((i 0).val) ((i 1).val)) (fun t hf X hA y => by
    have h8 := (flush7 t).1 hf
    have hy0 : (y 0).val < 128 := (y 0).isLt
    have hy1 : (y 1).val < 2304 := (y 1).isLt
    show (X : S128x2304.Idx → EReal) y = (argsOf m c).d (((win0_7.rect t).emb y 0).val) (((win0_7.rect t).emb y 1).val)
    rw [Window.rect_emb_val win0_7 t y 0 rfl, Window.rect_emb_val win0_7 t y 1 rfl, idx7 t h8]
    refine (congrArg (X : S128x2304.Idx → EReal) (eq_ix2 (n0 := 128) (n1 := 2304) y)).trans ((hA h8 (y 0) (y 1)).trans ?_)
    show (argsOf m c).d (128 * (t.val / 8 - 1) + (y 0).val) (2304 * (t.val % 8) + (y 1).val) = (argsOf m c).d ((t.val / 8 - 1) * 128 + (y 0).val) (t.val % 8 * 2304 + (y 1).val)
    simp only [Nat.mul_comm])
    t ((flush7 t).2 hf) (ix2 (⟨n.val % 128, by omega⟩ : Fin 128) (⟨k.val % 2304, by omega⟩ : Fin 2304))
  have ee : (win0_7.rect t).emb (ix2 (⟨n.val % 128, by omega⟩ : Fin 128) (⟨k.val % 2304, by omega⟩ : Fin 2304)) = (ix2 n k : S6144x18432.Idx) := by
    funext x
    apply Fin.ext
    match x with
    | ⟨0, _⟩ => rw [Window.rect_emb_val win0_7 t _ _ rfl, idx7 t (by omega)]; show (t.val / 8 - 1) * 128 + n.val % 128 = n.val; omega
    | ⟨1, _⟩ => rw [Window.rect_emb_val win0_7 t _ _ rfl, idx7 t (by omega)]; show t.val % 8 * 2304 + k.val % 2304 = k.val; omega
  refine (congrArg (r.2.mem ((c.tc : Thread nD τ).loc main_v6_0) : S6144x18432.Idx → EReal) ee.symm).trans (key.trans ?_)
  show (argsOf m c).d (((win0_7.rect t).emb (ix2 _ _) 0).val) (((win0_7.rect t).emb (ix2 _ _) 1).val) = _
  rw [ee]
  rfl

theorem arr_rc (h : RDat.FramePost cfg0 (rdat m (winA m) (scrI m)) (V m) r) (c : Dev nD) (n : Fin 6144) (k : Fin 18432) :
    (r.2.mem ((c.tc : Thread nD τ).loc main_v6_3) : S6144x18432.Idx → EReal) (ix2 n k) = (argsOf m c).rc (n.val) (k.val) := by
  have hn := n.isLt
  have hk := k.isLt
  obtain ⟨t, et⟩ : ∃ t : Fin cfg0.N, t.val = 8 * (n.val / 128 + 1) + k.val / 2304 := ⟨⟨8 * (n.val / 128 + 1) + k.val / 2304, (by omega : _ < 392)⟩, rfl⟩
  have hf : 8 ≤ t.val := by omega
  have key := arr_of h c 10 (fun (i : S6144x18432.Idx) (v : EReal) => v = (argsOf m c).rc ((i 0).val) ((i 1).val)) (fun t hf X hA y => by
    have h8 := (flush10 t).1 hf
    have hy0 : (y 0).val < 128 := (y 0).isLt
    have hy1 : (y 1).val < 2304 := (y 1).isLt
    show (X : S128x2304.Idx → EReal) y = (argsOf m c).rc (((win0_10.rect t).emb y 0).val) (((win0_10.rect t).emb y 1).val)
    rw [Window.rect_emb_val win0_10 t y 0 rfl, Window.rect_emb_val win0_10 t y 1 rfl, idx10 t h8]
    refine (congrArg (X : S128x2304.Idx → EReal) (eq_ix2 (n0 := 128) (n1 := 2304) y)).trans ((hA h8 (y 0) (y 1)).trans ?_)
    show (argsOf m c).rc (128 * (t.val / 8 - 1) + (y 0).val) (2304 * (t.val % 8) + (y 1).val) = (argsOf m c).rc ((t.val / 8 - 1) * 128 + (y 0).val) (t.val % 8 * 2304 + (y 1).val)
    simp only [Nat.mul_comm])
    t ((flush10 t).2 hf) (ix2 (⟨n.val % 128, by omega⟩ : Fin 128) (⟨k.val % 2304, by omega⟩ : Fin 2304))
  have ee : (win0_10.rect t).emb (ix2 (⟨n.val % 128, by omega⟩ : Fin 128) (⟨k.val % 2304, by omega⟩ : Fin 2304)) = (ix2 n k : S6144x18432.Idx) := by
    funext x
    apply Fin.ext
    match x with
    | ⟨0, _⟩ => rw [Window.rect_emb_val win0_10 t _ _ rfl, idx10 t (by omega)]; show (t.val / 8 - 1) * 128 + n.val % 128 = n.val; omega
    | ⟨1, _⟩ => rw [Window.rect_emb_val win0_10 t _ _ rfl, idx10 t (by omega)]; show t.val % 8 * 2304 + k.val % 2304 = k.val; omega
  refine (congrArg (r.2.mem ((c.tc : Thread nD τ).loc main_v6_3) : S6144x18432.Idx → EReal) ee.symm).trans (key.trans ?_)
  show (argsOf m c).rc (((win0_10.rect t).emb (ix2 _ _) 0).val) (((win0_10.rect t).emb (ix2 _ _) 1).val) = _
  rw [ee]
  rfl

theorem arr_rs (h : RDat.FramePost cfg0 (rdat m (winA m) (scrI m)) (V m) r) (c : Dev nD) (n : Fin 6144) (k : Fin 144) :
    (r.2.mem ((c.tc : Thread nD τ).loc main_v6_4) : S6144x144.Idx → EReal) (ix2 n k) = scaleK ((argsOf m c).rmax (n.val) (k.val)) := by
  have hn := n.isLt
  have hk := k.isLt
  obtain ⟨t, et⟩ : ∃ t : Fin cfg0.N, t.val = 8 * (n.val / 128 + 1) + 7 := ⟨⟨8 * (n.val / 128 + 1) + 7, (by omega : _ < 392)⟩, rfl⟩
  have hf : t.val % 8 = 7 ∧ 8 ≤ t.val := by omega
  have key := arr_of h c 11 (fun (i : S6144x144.Idx) (v : EReal) => v = scaleK ((argsOf m c).rmax ((i 0).val) ((i 1).val))) (fun t hf X hA y => by
    have h8 := (flush11 t).1 hf
    have hy0 : (y 0).val < 128 := (y 0).isLt
    have hy1 : (y 1).val < 144 := (y 1).isLt
    show (X : S128x144.Idx → EReal) y = scaleK ((argsOf m c).rmax (((win0_11.rect t).emb y 0).val) (((win0_11.rect t).emb y 1).val))
    rw [Window.rect_emb_val win0_11 t y 0 rfl, Window.rect_emb_val win0_11 t y 1 rfl, idx11 t h8.2]
    refine (congrArg (X : S128x144.Idx → EReal) (eq_ix2 (n0 := 128) (n1 := 144) y)).trans ((hA h8.2 h8.1 (y 0) (y 1)).trans ?_)
    show scaleK ((argsOf m c).rmax (128 * (t.val / 8 - 1) + (y 0).val) ((y 1).val)) = scaleK ((argsOf m c).rmax ((t.val / 8 - 1) * 128 + (y 0).val) (0 * 144 + (y 1).val))
    simp only [Nat.zero_mul, Nat.zero_add]
    simp only [Nat.mul_comm])
    t ((flush11 t).2 hf) (ix2 (⟨n.val % 128, by omega⟩ : Fin 128) (⟨k.val, by omega⟩ : Fin 144))
  have ee : (win0_11.rect t).emb (ix2 (⟨n.val % 128, by omega⟩ : Fin 128) (⟨k.val, by omega⟩ : Fin 144)) = (ix2 n k : S6144x144.Idx) := by
    funext x
    apply Fin.ext
    match x with
    | ⟨0, _⟩ => rw [Window.rect_emb_val win0_11 t _ _ rfl, idx11 t (by omega)]; show (t.val / 8 - 1) * 128 + n.val % 128 = n.val; omega
    | ⟨1, _⟩ => rw [Window.rect_emb_val win0_11 t _ _ rfl, idx11 t (by omega)]; show 0 * 144 + k.val = k.val; omega
  refine (congrArg (r.2.mem ((c.tc : Thread nD τ).loc main_v6_4) : S6144x144.Idx → EReal) ee.symm).trans (key.trans ?_)
  show scaleK ((argsOf m c).rmax (((win0_11.rect t).emb (ix2 _ _) 0).val) (((win0_11.rect t).emb (ix2 _ _) 1).val)) = _
  rw [ee]
  rfl

theorem arr_cc (h : RDat.FramePost cfg0 (rdat m (winA m) (scrI m)) (V m) r) (c : Dev nD) (n : Fin 18432) (k : Fin 6144) :
    (r.2.mem ((c.tc : Thread nD τ).loc main_v6_5) : S18432x6144.Idx → EReal) (ix2 n k) = (argsOf m c).cc (k.val) (n.val) := by
  have hn := n.isLt
  have hk := k.isLt
  obtain ⟨t, et⟩ : ∃ t : Fin cfg0.N, t.val = 8 * (k.val / 128 + 1) + n.val / 2304 := ⟨⟨8 * (k.val / 128 + 1) + n.val / 2304, (by omega : _ < 392)⟩, rfl⟩
  have hf : 8 ≤ t.val := by omega
  have key := arr_of h c 12 (fun (i : S18432x6144.Idx) (v : EReal) => v = (argsOf m c).cc ((i 1).val) ((i 0).val)) (fun t hf X hA y => by
    have h8 := (flush12 t).1 hf
    have hy0 : (y 0).val < 2304 := (y 0).isLt
    have hy1 : (y 1).val < 128 := (y 1).isLt
    show (X : S2304x128.Idx → EReal) y = (argsOf m c).cc (((win0_12.rect t).emb y 1).val) (((win0_12.rect t).emb y 0).val)
    rw [Window.rect_emb_val win0_12 t y 0 rfl, Window.rect_emb_val win0_12 t y 1 rfl, idx12 t h8]
    refine (congrArg (X : S2304x128.Idx → EReal) (eq_ix2 (n0 := 2304) (n1 := 128) y)).trans ((hA h8 (y 0) (y 1)).trans ?_)
    show (argsOf m c).cc (128 * (t.val / 8 - 1) + (y 1).val) (2304 * (t.val % 8) + (y 0).val) = (argsOf m c).cc ((t.val / 8 - 1) * 128 + (y 1).val) (t.val % 8 * 2304 + (y 0).val)
    simp only [Nat.mul_comm])
    t ((flush12 t).2 hf) (ix2 (⟨n.val % 2304, by omega⟩ : Fin 2304) (⟨k.val % 128, by omega⟩ : Fin 128))
  have ee : (win0_12.rect t).emb (ix2 (⟨n.val % 2304, by omega⟩ : Fin 2304) (⟨k.val % 128, by omega⟩ : Fin 128)) = (ix2 n k : S18432x6144.Idx) := by
    funext x
    apply Fin.ext
    match x with
    | ⟨0, _⟩ => rw [Window.rect_emb_val win0_12 t _ _ rfl, idx12 t (by omega)]; show t.val % 8 * 2304 + n.val % 2304 = n.val; omega
    | ⟨1, _⟩ => rw [Window.rect_emb_val win0_12 t _ _ rfl, idx12 t (by omega)]; show (t.val / 8 - 1) * 128 + k.val % 128 = k.val; omega
  refine (congrArg (r.2.mem ((c.tc : Thread nD τ).loc main_v6_5) : S18432x6144.Idx → EReal) ee.symm).trans (key.trans ?_)
  show (argsOf m c).cc (((win0_12.rect t).emb (ix2 _ _) 1).val) (((win0_12.rect t).emb (ix2 _ _) 0).val) = _
  rw [ee]
  rfl

theorem arr_cs (h : RDat.FramePost cfg0 (rdat m (winA m) (scrI m)) (V m) r) (c : Dev nD) (n : Fin 18432) (k : Fin 48) :
    (r.2.mem ((c.tc : Thread nD τ).loc main_v6_6) : S18432x48.Idx → EReal) (ix2 n k) = scaleK ((argsOf m c).cmax (k.val) (n.val)) := by
  have hn := n.isLt
  have hk := k.isLt
  obtain ⟨t, et⟩ : ∃ t : Fin cfg0.N, t.val = 384 + n.val / 2304 := ⟨⟨384 + n.val / 2304, (by omega : _ < 392)⟩, rfl⟩
  have hf : 384 ≤ t.val := by omega
  have key := arr_of h c 13 (fun (i : S18432x48.Idx) (v : EReal) => v = scaleK ((argsOf m c).cmax ((i 1).val) ((i 0).val))) (fun t hf X hA y => by
    have h8 := (flush13 t).1 hf
    have hy0 : (y 0).val < 2304 := (y 0).isLt
    have hy1 : (y 1).val < 48 := (y 1).isLt
    show (X : S2304x48.Idx → EReal) y = scaleK ((argsOf m c).cmax (((win0_13.rect t).emb y 1).val) (((win0_13.rect t).emb y 0).val))
    rw [Window.rect_emb_val win0_13 t y 0 rfl, Window.rect_emb_val win0_13 t y 1 rfl, idx13 t h8]
    refine (congrArg (X : S2304x48.Idx → EReal) (eq_ix2 (n0 := 2304) (n1 := 48) y)).trans ((hA h8 (y 0) (y 1)).trans ?_)
    show scaleK ((argsOf m c).cmax ((y 1).val) (2304 * (t.val % 8) + (y 0).val)) = scaleK ((argsOf m c).cmax (0 * 48 + (y 1).val) (t.val % 8 * 2304 + (y 0).val))
    simp only [Nat.zero_mul, Nat.zero_add]
    simp only [Nat.mul_comm])
    t ((flush13 t).2 hf) (ix2 (⟨n.val % 2304, by omega⟩ : Fin 2304) (⟨k.val, by omega⟩ : Fin 48))
  have ee : (win0_13.rect t).emb (ix2 (⟨n.val % 2304, by omega⟩ : Fin 2304) (⟨k.val, by omega⟩ : Fin 48)) = (ix2 n k : S18432x48.Idx) := by
    funext x
    apply Fin.ext
    match x with
    | ⟨0, _⟩ => rw [Window.rect_emb_val win0_13 t _ _ rfl, idx13 t (by omega)]; show t.val % 8 * 2304 + n.val % 2304 = n.val; omega
    | ⟨1, _⟩ => rw [Window.rect_emb_val win0_13 t _ _ rfl, idx13 t (by omega)]; show 0 * 48 + k.val = k.val; omega
  refine (congrArg (r.2.mem ((c.tc : Thread nD τ).loc main_v6_6) : S18432x48.Idx → EReal) ee.symm).trans (key.trans ?_)
  show scaleK ((argsOf m c).cmax (((win0_13.rect t).emb (ix2 _ _) 1).val) (((win0_13.rect t).emb (ix2 _ _) 0).val)) = _
  rw [ee]
  rfl

theorem arr_dg (h : RDat.FramePost cfg0 (rdat m (winA m) (scrI m)) (V m) r) (c : Dev nD) (k : Fin 18432) :
    (r.2.mem ((c.tc : Thread nD τ).loc main_v6_1) : S1x18432.Idx → EReal) (ix2 0 k) = (argsOf m c).dg k.val 48 := by
  have key := arr_of h c 8 (fun (i : S1x18432.Idx) (v : EReal) => v = (argsOf m c).dg (i 1).val 48) (fun t hf X hA y => by
    have h8 := (flush8 t).1 hf
    have hy1 : (y 1).val < 18432 := (y 1).isLt
    show (X : S1x18432.Idx → EReal) y = (argsOf m c).dg ((win0_8.rect t).emb y 1).val 48
    rw [Window.rect_emb_val_of_index_zero win0_8 t 1 rfl y]
    have e0 : y = (ix2 0 (y 1) : S1x18432.Idx) := (eq_ix2 (n0 := 1) (n1 := 18432) y).trans (congrArg (fun u : Fin 1 => (ix2 u (y 1) : S1x18432.Idx)) (Subsingleton.elim _ _))
    refine (congrArg (X : S1x18432.Idx → EReal) e0).trans (((hA : Dg _ _ _ _) (y 1)).trans ?_)
    congr 1
    split <;> omega)
    ⟨391, (by omega : 391 < 392)⟩ ((flush8 _).2 rfl) (ix2 (0 : Fin 1) k)
  have ee : (win0_8.rect ⟨391, (by omega : 391 < 392)⟩).emb (ix2 (0 : Fin 1) k) = (ix2 0 k : S1x18432.Idx) := by
    funext x
    apply Fin.ext
    match x with
    | ⟨0, _⟩ => rw [Window.rect_emb_val_of_index_zero win0_8 _ _ rfl]
    | ⟨1, _⟩ => rw [Window.rect_emb_val_of_index_zero win0_8 _ _ rfl]
  refine (congrArg (r.2.mem ((c.tc : Thread nD τ).loc main_v6_1) : S1x18432.Idx → EReal) ee.symm).trans (key.trans ?_)
  show (argsOf m c).dg ((win0_8.rect _).emb (ix2 _ _) 1).val 48 = _
  rw [ee]
  rfl

theorem arr_dgp (h : RDat.FramePost cfg0 (rdat m (winA m) (scrI m)) (V m) r) (c : Dev nD) (b : Fin 2) (s : Fin 24) (k : Fin 18432) :
    (r.2.mem ((c.tc : Thread nD τ).loc main_v6_2) : S2x24x18432.Idx → EReal) (ix3 b s k) = (argsOf m c).part (24 * b.val + s.val) k.val := by
  have hb := b.isLt
  have hs := s.isLt
  have hk := k.isLt
  obtain ⟨t, et⟩ : ∃ t : Fin cfg0.N, t.val = if b.val = 1 ∧ 16 ≤ s.val then 391 else 64 * (3 * b.val + s.val / 8) + 63 :=
    ⟨⟨if b.val = 1 ∧ 16 ≤ s.val then 391 else 64 * (3 * b.val + s.val / 8) + 63, (by split <;> omega : _ < 392)⟩, rfl⟩
  have hf : (t.val % 64 = 63 ∧ t.val < 383) ∨ t.val = 391 := by split at et <;> omega
  have hg : min (t.val / 8) 47 / 24 = b.val ∧ min (t.val / 8) 47 % 24 / 8 = s.val / 8 := by split at et <;> omega
  have key := arr_of h c 9 (fun (i : S2x24x18432.Idx) (v : EReal) => v = (argsOf m c).part (24 * (i 0).val + (i 1).val) (i 2).val) (fun t hf X hA y => by
    have h8 := (flush9 t).1 hf
    have hy0 : (y 0).val < 1 := (y 0).isLt
    have hy1 : (y 1).val < 8 := (y 1).isLt
    have hy2 : (y 2).val < 18432 := (y 2).isLt
    have hN : t.val < 392 := t.isLt
    show (X : S1x8x18432.Idx → EReal) y = (argsOf m c).part (24 * ((win0_9.rect t).emb y 0).val + ((win0_9.rect t).emb y 1).val) ((win0_9.rect t).emb y 2).val
    rw [Window.rect_emb_val win0_9 t y 0 rfl, Window.rect_emb_val win0_9 t y 1 rfl, Window.rect_emb_val win0_9 t y 2 rfl, idx9 t]
    have e0 : y = (ix3 0 (y 1) (y 2) : S1x8x18432.Idx) := (eq_ix3 (n0 := 1) (n1 := 8) (n2 := 18432) y).trans (congrArg (fun u : Fin 1 => (ix3 u (y 1) (y 2) : S1x8x18432.Idx)) (Subsingleton.elim _ _))
    refine (congrArg (X : S1x8x18432.Idx → EReal) e0).trans (((hA : Gp _ _ _ _) (y 1) (y 2) (by omega)).trans ?_)
    show (argsOf m c).part (8 * (min (t.val / 8) 47 / 8) + (y 1).val) (y 2).val = (argsOf m c).part (24 * (min (t.val / 8) 47 / 24 * 1 + (y 0).val) + (min (t.val / 8) 47 % 24 / 8 * 8 + (y 1).val)) (0 * 18432 + (y 2).val)
    congr 1 <;> omega)
    t ((flush9 t).2 hf) (ix3 (0 : Fin 1) (⟨s.val % 8, by omega⟩ : Fin 8) k)
  have ee : (win0_9.rect t).emb (ix3 (0 : Fin 1) (⟨s.val % 8, by omega⟩ : Fin 8) k) = (ix3 b s k : S2x24x18432.Idx) := by
    funext x
    apply Fin.ext
    match x with
    | ⟨0, _⟩ => rw [Window.rect_emb_val win0_9 t _ _ rfl, idx9 t]; show min (t.val / 8) 47 / 24 * 1 + 0 = b.val; omega
    | ⟨1, _⟩ => rw [Window.rect_emb_val win0_9 t _ _ rfl, idx9 t]; show min (t.val / 8) 47 % 24 / 8 * 8 + s.val % 8 = s.val; omega
    | ⟨2, _⟩ => rw [Window.rect_emb_val win0_9 t _ _ rfl, idx9 t]; show 0 * 18432 + k.val = k.val; omega
  refine (congrArg (r.2.mem ((c.tc : Thread nD τ).loc main_v6_2) : S2x24x18432.Idx → EReal) ee.symm).trans (key.trans ?_)
  show (argsOf m c).part (24 * ((win0_9.rect t).emb (ix3 _ _ _) 0).val + ((win0_9.rect t).emb (ix3 _ _ _) 1).val) ((win0_9.rect t).emb (ix3 _ _ _) 2).val = _
  rw [ee]
  rfl

end Cert.KernelIdeal.Body
-- ==== Proof.Codes.lean ====
/- The reference's lines, element by element. -/
module

public import proofs.«01_k».proof.Proof.Ends
public import proofs.«01_k».proof.Proof.Spec
public import Idealize.ShloMosaic.Lib.StableHlo.ReadAt
public import Idealize.ShloMosaic.Lib.Pointwise

@[expose] public section

set_option maxRecDepth 16384

noncomputable section

namespace Cert.ReferenceIdeal.Read

open Idealize.ShloMosaic Idealize.SL.Sem Cert.ReferenceIdeal Cert.ReferenceIdeal.Gen
open TcCoe

variable (W : Valuation τ sig (Elt Ideal))

variable (m : (ℓ : Loc nD τ sig) → Buf (Elt Ideal) ℓ) (c : Dev nD)

open Idealize.ShloMosaic.Pipeline (Dat Window)
open Cert.ReferenceIdeal.Value

/-- The one grid point. -/
def t0 : Fin cfg0.N := ⟨0, by decide⟩

theorem emb2 (n : Fin 6144) (k : Fin 18432) : (win0_2.rect t0).emb (ix2 n k) = (ix2 n k : S6144x18432.Idx) := by
  funext x
  apply Fin.ext
  match x with
  | ⟨0, _⟩ => exact Window.rect_emb_val_of_index_zero win0_2 t0 0 rfl (ix2 n k)
  | ⟨1, _⟩ => exact Window.rect_emb_val_of_index_zero win0_2 t0 1 rfl (ix2 n k)

theorem emb0 (n : Fin 6144) (k : Fin 18432) : (win0_0.rect t0).emb (ix2 n k) = (ix2 n k : S6144x18432.Idx) := by
  funext x
  apply Fin.ext
  match x with
  | ⟨0, _⟩ => exact Window.rect_emb_val_of_index_zero win0_0 t0 0 rfl (ix2 n k)
  | ⟨1, _⟩ => exact Window.rect_emb_val_of_index_zero win0_0 t0 1 rfl (ix2 n k)

theorem emb3 (k : Fin 18432) (n : Fin 6144) : (win0_3.rect t0).emb (ix2 k n) = (ix2 k n : S18432x6144.Idx) := by
  funext x
  apply Fin.ext
  match x with
  | ⟨0, _⟩ => exact Window.rect_emb_val_of_index_zero win0_3 t0 0 rfl (ix2 k n)
  | ⟨1, _⟩ => exact Window.rect_emb_val_of_index_zero win0_3 t0 1 rfl (ix2 k n)

theorem emb1 (k : Fin 18432) (n : Fin 6144) : (win0_1.rect t0).emb (ix2 k n) = (ix2 k n : S18432x6144.Idx) := by
  funext x
  apply Fin.ext
  match x with
  | ⟨0, _⟩ => exact Window.rect_emb_val_of_index_zero win0_1 t0 0 rfl (ix2 k n)
  | ⟨1, _⟩ => exact Window.rect_emb_val_of_index_zero win0_1 t0 1 rfl (ix2 k n)

theorem in0 (n : Fin 6144) (k : Fin 18432) : (iblk m c 0 t0 : S6144x18432.Idx → EReal) (ix2 n k) = (V m c main_v55 : S6144x18432.Idx → EReal) (ix2 n k) :=
  congrArg (V m c main_v55 : S6144x18432.Idx → EReal) (emb0 n k)

theorem in1 (k : Fin 18432) (n : Fin 6144) : (iblk m c 1 t0 : S18432x6144.Idx → EReal) (ix2 k n) = (V m c main_v80 : S18432x6144.Idx → EReal) (ix2 k n) :=
  congrArg (V m c main_v80 : S18432x6144.Idx → EReal) (emb1 k n)

theorem e2_at (P0 : Vec Ideal S6144x18432 .f32) (P1 : Vec Ideal S18432x6144 .f32) (n : Fin 6144) (k : Fin 18432) : (out0_2 P0 P1 : S6144x18432.Idx → EReal) (ix2 n k) = P0 (ix2 n k) := by
  refine (canon2_eq _ _).trans ?_
  show P0 _ = P0 _
  refine congrArg P0 ?_
  funext x
  apply Fin.ext
  match x with
  | ⟨0, _⟩ => show 0 + 1 * n.val = n.val; omega
  | ⟨1, _⟩ => show 0 + 1 * k.val = k.val; omega

theorem e3_at (P0 : Vec Ideal S6144x18432 .f32) (P1 : Vec Ideal S18432x6144 .f32) (k : Fin 18432) (n : Fin 6144) : (out0_3 P0 P1 : S18432x6144.Idx → EReal) (ix2 k n) = P1 (ix2 k n) := by
  refine (canon3_eq _ _).trans ?_
  show P1 _ = P1 _
  refine congrArg P1 ?_
  funext x
  apply Fin.ext
  match x with
  | ⟨0, _⟩ => show 0 + 1 * k.val = k.val; omega
  | ⟨1, _⟩ => show 0 + 1 * n.val = n.val; omega

theorem a2 (n : Fin 6144) (k : Fin 18432) : ((dats m 0 c).arrAt 2 cfg0.N : S6144x18432.Idx → EReal) (ix2 n k) = (V m c main_v55 : S6144x18432.Idx → EReal) (ix2 n k) := by
  have h := Dat.arrAt_emb_eq_flushed (dats m 0 c) 2 disjoint2 t0 (flush0_2 t0) (ix2 n k : S6144x18432.Idx)
  refine (congrArg ((dats m 0 c).arrAt 2 cfg0.N : S6144x18432.Idx → EReal) (emb2 n k).symm).trans (h.trans ?_)
  rw [flushed2]
  have e := (e2_at (iblk m c 0 t0) (iblk m c 1 t0) n k).trans (in0 m c n k)
  revert e
  generalize out0_2 (iblk m c 0 t0) (iblk m c 1 t0) = X
  exact fun e => e

theorem a3 (k : Fin 18432) (n : Fin 6144) : ((dats m 0 c).arrAt 3 cfg0.N : S18432x6144.Idx → EReal) (ix2 k n) = (V m c main_v80 : S18432x6144.Idx → EReal) (ix2 k n) := by
  have h := Dat.arrAt_emb_eq_flushed (dats m 0 c) 3 disjoint3 t0 (flush0_3 t0) (ix2 k n : S18432x6144.Idx)
  refine (congrArg ((dats m 0 c).arrAt 3 cfg0.N : S18432x6144.Idx → EReal) (emb3 k n).symm).trans (h.trans ?_)
  rw [flushed3]
  have e := (e3_at (iblk m c 0 t0) (iblk m c 1 t0) k n).trans (in1 m c k n)
  revert e
  generalize out0_3 (iblk m c 0 t0) (iblk m c 1 t0) = X
  exact fun e => e

end Cert.ReferenceIdeal.Read
-- ==== Proof.Inputs.lean ====
/- The two programs read the same inputs. -/
module

public import proofs.«01_k».proof.Proof.Grid
public import proofs.«01_k».proof.Proof.Chain

@[expose] public section

set_option maxRecDepth 16384

noncomputable section

namespace Cert.Join

open Idealize.ShloMosaic Idealize.SL.Sem Cert.KernelIdeal Cert.KernelIdeal.Gen
open TcCoe

variable (W : Valuation τ sig (Elt Ideal))

theorem k_v0 (n : Fin 6144) (k : Fin 18432) : (StableHlo.after hostOps0 W (Proc.devRef .tc main_v0) : S6144x18432.Idx → EReal) (ix2 n k)
    = (W (Proc.devRef .tc main_arg0) : S2x3072x18432.Idx → EReal) (ix3 ⟨n.val / 3072, by omega⟩ ⟨n.val % 3072, by omega⟩ k) := by
  after_reads_at

theorem k_v1 (n : Fin 6144) (k : Fin 18432) : (StableHlo.after hostOps0 W (Proc.devRef .tc main_v1) : S6144x18432.Idx → EReal) (ix2 n k)
    = (W (Proc.devRef .tc main_arg4) : S2x3072x18432.Idx → EReal) (ix3 ⟨n.val / 3072, by omega⟩ ⟨n.val % 3072, by omega⟩ k) := by
  after_reads_at

theorem k_v2 (n : Fin 6144) (k : Fin 18432) : (StableHlo.after hostOps0 W (Proc.devRef .tc main_v2) : S6144x18432.Idx → EReal) (ix2 n k)
    = (W (Proc.devRef .tc main_arg5) : S2x3072x18432.Idx → EReal) (ix3 ⟨n.val / 3072, by omega⟩ ⟨n.val % 3072, by omega⟩ k) := by
  after_reads_at

theorem k_v3 (n : Fin 6144) (k : Fin 18432) : (StableHlo.after hostOps0 W (Proc.devRef .tc main_v3) : S6144x18432.Idx → EReal) (ix2 n k)
    = (W (Proc.devRef .tc main_arg6) : S2x3072x18432.Idx → EReal) (ix3 ⟨n.val / 3072, by omega⟩ ⟨n.val % 3072, by omega⟩ k) := by
  after_reads_at

theorem k_v4 (n : Fin 6144) (k : Fin 18432) : (StableHlo.after hostOps0 W (Proc.devRef .tc main_v4) : S6144x18432.Idx → EReal) (ix2 n k)
    = (W (Proc.devRef .tc main_arg3) : S2x3072x18432.Idx → EReal) (ix3 ⟨n.val / 3072, by omega⟩ ⟨n.val % 3072, by omega⟩ k) := by
  after_reads_at

theorem k_v5 (k : Fin 18432) : (StableHlo.after hostOps0 W (Proc.devRef .tc main_v5) : S1x18432.Idx → EReal) (ix2 0 k)
    = (W (Proc.devRef .tc main_arg2) : S18432.Idx → EReal) (ix1 k) := by
  after_reads_at

theorem nat2_nat3 (f : S6144x18432.Idx → EReal) (f' : S2x3072x18432.Idx → EReal)
    (h : ∀ (n : Fin 6144) (k : Fin 18432), f (ix2 n k) = f' (ix3 ⟨n.val / 3072, by omega⟩ ⟨n.val % 3072, by omega⟩ k)) :
    Cert.KernelIdeal.Body.nat2 (a := 6144) (b := 18432) f = Cert.ReferenceIdeal.Read.nat3 f' := by
  funext n k
  unfold Cert.KernelIdeal.Body.nat2 Cert.ReferenceIdeal.Read.nat3
  by_cases hh : n < 6144 ∧ k < 18432
  · rw [dif_pos hh, dif_pos hh]
    exact h ⟨n, hh.1⟩ ⟨k, hh.2⟩
  · rw [dif_neg hh, dif_neg hh]

theorem mk_eq {x x' q q' k k' v v' dr dr' : Nat → Nat → EReal} {g g' r r' : Nat → EReal} (hx : x = x') (hq : q = q') (hk : k = k') (hv : v = v')
    (hd : dr = dr') (hg : g = g') (hr : r = r') : Cert.KernelIdeal.Body.Args.mk x q k v dr g r = Cert.KernelIdeal.Body.Args.mk x' q' k' v' dr' g' r' := by
  rw [hx, hq, hk, hv, hd, hg, hr]

variable (m : (ℓ : Loc nD τ sig) → Buf (Elt Ideal) ℓ) (c : Dev nD)

theorem args_eq : Cert.KernelIdeal.Body.argsOf m c
    = Cert.ReferenceIdeal.Read.inputs (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  unfold Cert.KernelIdeal.Body.argsOf Cert.ReferenceIdeal.Read.inputs
  have hx := nat2_nat3 _ _ (k_v0 (fun b => m (c, b)))
  have hq := nat2_nat3 _ _ (k_v1 (fun b => m (c, b)))
  have hk := nat2_nat3 _ _ (k_v2 (fun b => m (c, b)))
  have hv := nat2_nat3 _ _ (k_v3 (fun b => m (c, b)))
  have hd := nat2_nat3 _ _ (k_v4 (fun b => m (c, b)))
  have hg : Cert.KernelIdeal.Body.nat2 (a := 1) (b := 18432) (V m c main_v5) 0 = Cert.ReferenceIdeal.Read.nat0 (m ((c : Thread nD τ).loc main_arg2)) := by
    funext k
    unfold Cert.KernelIdeal.Body.nat2 Cert.ReferenceIdeal.Read.nat0
    by_cases hh : k < 18432
    · rw [dif_pos ⟨Nat.one_pos, hh⟩, dif_pos hh]
      exact k_v5 (fun b => m (c, b)) ⟨k, hh⟩
    · rw [dif_neg (fun h => hh h.2), dif_neg hh]
  have hr : (fun n => Cert.KernelIdeal.Body.nat2 (a := 2) (b := 3072) (V m c main_arg1) (n / 3072) (n % 3072)) = Cert.ReferenceIdeal.Read.nat1 (m ((c : Thread nD τ).loc main_arg1)) := by
    rw [V_main_arg1]
    funext n
    unfold Cert.KernelIdeal.Body.nat2 Cert.ReferenceIdeal.Read.nat1
    by_cases hh : n < 6144
    · rw [dif_pos ⟨by omega, by omega⟩, dif_pos hh]
    · rw [dif_neg (fun h => hh (by omega)), dif_neg hh]
  exact mk_eq hx hq hk hv hd hg hr

end Cert.Join
-- ==== Proof.Outs.lean ====
/- The results of either program, as functions of the inputs. -/
module

public import proofs.«01_k».proof.Proof.Algebra
public import proofs.«01_k».proof.Proof.Arrays
public import proofs.«01_k».proof.Proof.Codes
public import proofs.«01_k».proof.Proof.Inputs

@[expose] public section

noncomputable section

namespace Cert.Join

open Idealize.ShloMosaic Idealize.SL.Sem Cert.ReferenceIdeal.Read
open TcCoe

abbrev Args := Cert.KernelIdeal.Body.Args

theorem ext2 {a b : Nat} {f g : (⟨2, ![a, b]⟩ : Shape).Idx → EReal} (h : ∀ (n : Fin a) (k : Fin b), f (ix2 n k) = g (ix2 n k)) : f = g := by
  funext i
  rw [eq_ix2 i]
  exact h _ _

theorem ext3 {a b c : Nat} {f g : (⟨3, ![a, b, c]⟩ : Shape).Idx → EReal} (h : ∀ (n : Fin a) (s : Fin b) (k : Fin c), f (ix3 n s k) = g (ix3 n s k)) : f = g := by
  funext i
  rw [eq_ix3 i]
  exact h _ _ _

/-- The table of powers. -/
def T (l : Fin 252) : EReal := pw (l.val + 2)

variable (A : Args)

def o0 (i : (⟨2, ![6144, 18432]⟩ : Shape).Idx) : EReal := refd A (i 0).val (i 1).val
def o1 (i : (⟨2, ![1, 18432]⟩ : Shape).Idx) : EReal :=
  Ideal.ofBits .f32 0x00000000#32 + ∑ b : Fin 2, ∑ s : Fin 24, ∑ a : Fin 128, refp A (b.val * 3072 + s.val * 128 + a.val) (i 1).val
def o2 (i : (⟨3, ![2, 24, 18432]⟩ : Shape).Idx) : EReal := ∑ a : Fin 128, refp A ((i 0).val * 3072 + (i 1).val * 128 + a.val) (i 2).val
def o3 (i : (⟨2, ![6144, 18432]⟩ : Shape).Idx) : EReal := code (refd A (i 0).val (i 1).val) (rowS T A (i 0).val ((i 1).val / 128))
def o4 (i : (⟨2, ![6144, 144]⟩ : Shape).Idx) : EReal := rowS T A (i 0).val (i 1).val
def o5 (i : (⟨2, ![18432, 6144]⟩ : Shape).Idx) : EReal := code (refd A (i 1).val (i 0).val) (colS T A ((i 1).val / 128) (i 0).val)
def o6 (i : (⟨2, ![18432, 48]⟩ : Shape).Idx) : EReal := colS T A (i 1).val (i 0).val

section Kernel
open Idealize.ShloMosaic.Pipeline Cert.KernelIdeal Cert.KernelIdeal.Gen Cert.KernelIdeal.Body

variable {m : (ℓ : Loc nD τ sig) → Buf (Elt Ideal) ℓ} {r : PUnit × MemSt nD τ sig (Elt Ideal)}

theorem kernel_outs (h : RDat.FramePost cfg0 (rdat m (winA m) (scrI m)) (V m) r) (c : Dev nD) (hA : Real (argsOf m c)) :
    r.2.mem ((c.tc : Thread nD τ).loc main_v6_0) = o0 (argsOf m c)
      ∧ r.2.mem ((c.tc : Thread nD τ).loc main_v6_1) = o1 (argsOf m c)
      ∧ r.2.mem ((c.tc : Thread nD τ).loc main_v6_2) = o2 (argsOf m c)
      ∧ r.2.mem ((c.tc : Thread nD τ).loc main_v6_3) = o3 (argsOf m c)
      ∧ r.2.mem ((c.tc : Thread nD τ).loc main_v6_4) = o4 (argsOf m c)
      ∧ r.2.mem ((c.tc : Thread nD τ).loc main_v6_5) = o5 (argsOf m c)
      ∧ r.2.mem ((c.tc : Thread nD τ).loc main_v6_6) = o6 (argsOf m c) := by
  have h0 := fun n k => (arr_dx h c n k).trans (d_eq hA _ _)
  have h1 := fun k => (arr_dg h c k).trans (dg_eq _ _)
  have h2 := fun b s k => (arr_dgp h c b s k).trans (part_eq _ _ _ _)
  have h3 := fun n k => (arr_rc h c n k).trans (rc_eq hA T (fun _ => rfl) _ _)
  have h4 := fun n k => (arr_rs h c n k).trans (rs_eq hA T (fun _ => rfl) _ _)
  have h5 := fun n k => (arr_cc h c n k).trans (cc_eq hA T (fun _ => rfl) _ _)
  have h6 := fun n k => (arr_cs h c n k).trans (cs_eq hA T (fun _ => rfl) _ _)
  generalize argsOf m c = A at *
  refine ⟨ext2 (a := 6144) (b := 18432) h0, ext2 (a := 1) (b := 18432) (fun n k => ?_), ext3 (a := 2) (b := 24) (c := 18432) h2, ext2 (a := 6144) (b := 18432) h3,
    ext2 (a := 6144) (b := 144) h4, ext2 (a := 18432) (b := 6144) h5, ext2 (a := 18432) (b := 48) h6⟩
  rw [Subsingleton.elim n 0]
  exact h1 k

end Kernel

section Reference
open Cert.ReferenceIdeal Cert.ReferenceIdeal.Gen

variable {m : (ℓ : Loc nD τ sig) → Buf (Elt Ideal) ℓ} {r : PUnit × MemSt nD τ sig (Elt Ideal)}

theorem tab0_eq (c : Dev nD) : tab0 m c = T := funext fun l => tab0_at m c l
theorem tab1_eq (c : Dev nD) : tab1 m c = T := funext fun l => tab1_at m c l

theorem reference_outs (h : Pipeline.FramePost cfgs (dats m) 0 (V m) r) (c : Dev nD) :
    r.2.mem ((c.tc : Thread nD τ).loc main_v78) = o0 (memArgs m c)
      ∧ r.2.mem ((c.tc : Thread nD τ).loc main_v25) = o1 (memArgs m c)
      ∧ r.2.mem ((c.tc : Thread nD τ).loc main_v23) = o2 (memArgs m c)
      ∧ r.2.mem ((c.tc : Thread nD τ).loc main_v81_0) = o3 (memArgs m c)
      ∧ r.2.mem ((c.tc : Thread nD τ).loc main_v48) = o4 (memArgs m c)
      ∧ r.2.mem ((c.tc : Thread nD τ).loc main_v81_1) = o5 (memArgs m c)
      ∧ r.2.mem ((c.tc : Thread nD τ).loc main_v79) = o6 (memArgs m c) := by
  have e0 := (h c).2 main_v78 (Pipeline.mem_restRefs_of main_v78 (by decide) (by decide))
  have e1 := (h c).2 main_v25 (Pipeline.mem_restRefs_of main_v25 (by decide) (by decide))
  have e2 := (h c).2 main_v23 (Pipeline.mem_restRefs_of main_v23 (by decide) (by decide))
  have e4 := (h c).2 main_v48 (Pipeline.mem_restRefs_of main_v48 (by decide) (by decide))
  have e6 := (h c).2 main_v79 (Pipeline.mem_restRefs_of main_v79 (by decide) (by decide))
  have e3 := Value.post2 m r h c
  have e5 := Value.post3 m r h c
  have h0 := v_dx m c
  have h1 := v_dg m c
  have h2 := v_dgp m c
  have h3 := fun n k => (a2 m c n k).trans (v_rc m c n k)
  have h4 := v_rs m c
  have h5 := fun k n => (a3 m c k n).trans (v_cc m c k n)
  have h6 := v_cs m c
  rw [tab0_eq] at h3 h4
  rw [tab1_eq] at h5 h6
  generalize memArgs m c = A at *
  refine ⟨e0.trans (ext2 (a := 6144) (b := 18432) h0), e1.trans (ext2 (a := 1) (b := 18432) (fun n k => ?_)), e2.trans (ext3 (a := 2) (b := 24) (c := 18432) h2),
    e3.trans (ext2 (a := 6144) (b := 18432) h3), e4.trans (ext2 (a := 6144) (b := 144) h4), e5.trans (ext2 (a := 18432) (b := 6144) h5), e6.trans (ext2 (a := 18432) (b := 48) h6)⟩
  rw [Subsingleton.elim n 0]
  exact h1 k

end Reference

end Cert.Join
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Value
public import proofs.«01_k».proof.Proof.Frames
public import proofs.«01_k».proof.Proof.BitsFrames
public import proofs.«01_k».proof.Proof.Finite
public import proofs.«01_k».proof.Proof.Outs
public import Idealize.ShloMosaic.Adequacy
public import Idealize.ShloMosaic.Init

@[expose] public section

noncomputable section

namespace Cert.Proof

open Idealize.ShloMosaic Idealize.SL.Sem Cert.Join

/-- The one named constant is the reciprocal of the row length. -/
theorem preserves : Cert.preserves_Kernel_KernelIdeal :=
  IdealRules.named_const.statement Cert.KernelIdeal.κ "inv_d" .f32 0x38638E39#32 ((1 / 18432 : ℝ) : EReal) rfl

/-- The precondition makes every factor a real number. -/
theorem real_inputs {x dr q k v : (⟨3, ![2, 3072, 18432]⟩ : Shape).Idx → EReal} {r : (⟨2, ![2, 3072]⟩ : Shape).Idx → EReal} {g : (⟨1, ![18432]⟩ : Shape).Idx → EReal}
    (hr : ∀ i, ∃ y : ℝ, r i = (y : EReal)) (hg : ∀ i, ∃ y : ℝ, g i = (y : EReal)) (hx : ∀ i, ∃ y : ℝ, x i = (y : EReal)) (hq : ∀ i, ∃ y : ℝ, q i = (y : EReal))
    (hk : ∀ i, ∃ y : ℝ, k i = (y : EReal)) (hv : ∀ i, ∃ y : ℝ, v i = (y : EReal)) : Join.Real (Cert.ReferenceIdeal.Read.inputs x r g dr q k v) := by
  have h3 : ∀ {f : (⟨3, ![2, 3072, 18432]⟩ : Shape).Idx → EReal}, (∀ i, ∃ y : ℝ, f i = (y : EReal)) → ∀ n k, ∃ y : ℝ, Cert.ReferenceIdeal.Read.nat3 f n k = (y : EReal) := by
    intro f hf n k
    unfold Cert.ReferenceIdeal.Read.nat3
    split
    · exact hf _
    · exact ⟨0, rfl⟩
  refine ⟨h3 hx, h3 hq, h3 hk, h3 hv, fun k => ?_, fun n => ?_⟩
  · show ∃ y : ℝ, Cert.ReferenceIdeal.Read.nat0 g k = (y : EReal)
    unfold Cert.ReferenceIdeal.Read.nat0
    split
    · exact hg _
    · exact ⟨0, rfl⟩
  · show ∃ y : ℝ, Cert.ReferenceIdeal.Read.nat1 r n = (y : EReal)
    unfold Cert.ReferenceIdeal.Read.nat1
    split
    · exact hr _
    · exact ⟨0, rfl⟩

/-- On finite factors the kernel and the reference leave the same seven arrays. -/
theorem algebraic : Cert.algebraic_KernelIdeal_ReferenceIdeal_pre_finite (hPre_finite := Cert.Pre_finite.facts) := by
  intro m ρ m' ρ' hp hm
  have hA : ∀ c, Join.Real (Cert.KernelIdeal.Body.argsOf m c) := by
    intro c
    obtain ⟨hr, hg, hx, hq, hk, hv⟩ := Cert.Pre_finite.reals (hp c)
    rw [args_eq]
    exact real_inputs hr hg hx hq hk hv
  have he : ∀ c, Cert.ReferenceIdeal.Read.memArgs m' c = Cert.KernelIdeal.Body.argsOf m c := by
    intro c
    obtain ⟨h0, h1, h2, h3, h4, h5, h6⟩ := hm c
    rw [args_eq, ← h0, ← h1, ← h2, ← h3, ← h4, ← h5, ← h6]
    rfl
  refine ⟨fun c => o0 (Cert.KernelIdeal.Body.argsOf m c), fun c => o1 (Cert.KernelIdeal.Body.argsOf m c), fun c => o2 (Cert.KernelIdeal.Body.argsOf m c),
    fun c => o3 (Cert.KernelIdeal.Body.argsOf m c), fun c => o4 (Cert.KernelIdeal.Body.argsOf m c), fun c => o5 (Cert.KernelIdeal.Body.argsOf m c),
    fun c => o6 (Cert.KernelIdeal.Body.argsOf m c), ?_, ?_⟩
  · refine (θ_run _ _ _).mono (fun r h c => ?_) (Cert.KernelIdeal.Body.run ρ (Cert.KernelIdeal.Body.step m) (Cert.KernelIdeal.Body.scrI_zero m))
    obtain ⟨h0, h1, h2, h3, h4, h5, h6⟩ := kernel_outs h.1 c (hA c)
    exact ⟨h0, h1, h2, h3, h4, h5, h6, Cert.KernelIdeal.Body.args_of m h.1 c⟩
  · refine (θ_run _ _ _).mono (fun r h c => ?_) (Cert.ReferenceIdeal.Gen.run_main m' ρ')
    obtain ⟨h0, h1, h2, h3, h4, h5, h6⟩ := reference_outs h c
    rw [he c] at h0 h1 h2 h3 h4 h5 h6
    exact ⟨h0, h1, h2, h3, h4, h5, h6, Cert.ReferenceIdeal.Value.kept_main_arg0 m' r h c, Cert.ReferenceIdeal.Value.kept_main_arg1 m' r h c,
      Cert.ReferenceIdeal.Value.kept_main_arg2 m' r h c, Cert.ReferenceIdeal.Value.kept_main_arg3 m' r h c, Cert.ReferenceIdeal.Value.kept_main_arg4 m' r h c,
      Cert.ReferenceIdeal.Value.kept_main_arg5 m' r h c, Cert.ReferenceIdeal.Value.kept_main_arg6 m' r h c⟩

theorem claim : Cert.Claim :=
  ⟨Cert.Kernel.Gen.facts, Cert.KernelIdeal.Gen.facts, Cert.ReferenceIdeal.Gen.facts, Cert.Pre_finite.facts,
    fun m ρ _ => Cert.Kernel.Body.frame m ρ,
    fun m ρ _ => Cert.KernelIdeal.Body.frame m ρ,
    fun m ρ _ => Cert.KernelIdeal.Body.frame m ρ,
    fun m ρ _ => Cert.ReferenceIdeal.Gen.frame m ρ,
    fun m ρ _ => Cert.ReferenceIdeal.Gen.frame m ρ,
    preserves,
    algebraic⟩

end Cert.Proof

end
